-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite [hPre_finite : Cert.Pre_finite.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite [hPre_finite : Cert.Pre_finite.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite [hKernel12Ideal : Cert.Kernel12Ideal.Facts] [hPre_finite : Cert.Pre_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite [hReference12Ideal : Cert.Reference12Ideal.Facts] [hPre_finite : Cert.Pre_finite.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  IdealRules.named_const.Statement Cert.Kernel12Ideal.κ "mask" .f32 0xF149F2CA#32 ⊥

def algebraic_Kernel12Ideal_Reference12Ideal_pre_finite [hKernel12Ideal : Cert.Kernel12Ideal.Facts] [hReference12Ideal : Cert.Reference12Ideal.Facts] [hPre_finite : Cert.Pre_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v11)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v68) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_usable : Cert.Pre_usable.Facts) (hPre_finite : Cert.Pre_finite.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite (hKernel12Ideal := hKernel12Ideal) (hPre_finite := hPre_finite)
    ∧ quiescent_Reference12Ideal (hReference12Ideal := hReference12Ideal)
    ∧ quiescent_Reference12Ideal_pre_finite (hReference12Ideal := hReference12Ideal) (hPre_finite := hPre_finite)
    ∧ preserves_Kernel_KernelIdeal
    ∧ algebraic_KernelIdeal_ReferenceIdeal_pre_usable (hKernelIdeal := hKernelIdeal) (hReferenceIdeal := hReferenceIdeal) (hPre_usable := hPre_usable)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite (hKernel12Ideal := hKernel12Ideal) (hReference12Ideal := hReference12Ideal) (hPre_finite := hPre_finite)
-- ==== Pre_finite.lean ====
abbrev S16384x4096 : Shape := ⟨2, ![16384, 4096]⟩
abbrev S16384x2048 : Shape := ⟨2, ![16384, 2048]⟩
abbrev S16384x128 : Shape := ⟨2, ![16384, 128]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x2048 .f32) (main_arg2 : FVec F S16384x2048 .f32) (main_arg3 : FVec F S16384x128 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Pre_usable.lean ====
abbrev S16384x4096 : Shape := ⟨2, ![16384, 4096]⟩
abbrev S4x4x4096x64 : Shape := ⟨4, ![4, 4, 4096, 64]⟩
abbrev S15408x4096 : Shape := ⟨2, ![15408, 4096]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S_ : Shape := ⟨0, ![]⟩
abbrev S4096x64 : Shape := ⟨2, ![4096, 64]⟩
abbrev S1x1x4096x64 : Shape := ⟨4, ![1, 1, 4096, 64]⟩

class Facts : Prop where
  bcast_S4096_S4096x1_0 : S4096.BroadcastsInDim S4096x1 (![0] : Fin 1 → Fin S4096x1.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S4096x64_0_1 : S1x64.BroadcastsInDim S4096x64 (![0, 1] : Fin 2 → Fin S4096x64.rank)
  bcast_S4096x1_S4096x64_0_1 : S4096x1.BroadcastsInDim S4096x64 (![0, 1] : Fin 2 → Fin S4096x64.rank)
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4x4x4096x64 : S_.BroadcastsInDim S4x4x4096x64 (![] : Fin 0 → Fin S4x4x4096x64.rank)
  bcast_S4096x64_S1x1x4096x64_2_3 : S4096x64.BroadcastsInDim S1x1x4096x64 (![2, 3] : Fin 2 → Fin S1x1x4096x64.rank)
  bcast_S1x1x4096x64_S4x4x4096x64_0_1_2_3 : S1x1x4096x64.BroadcastsInDim S4x4x4096x64 (![0, 1, 2, 3] : Fin 4 → Fin S4x4x4096x64.rank)
  reducesTo_S4x4x4096x64_S_d0_1_2_3 : S4x4x4096x64.ReducesTo [0, 1, 2, 3] S_

variable [Facts]

def fn_part1 {F : FTy → Type} [FloatOps F] (main_arg1 : IVec S4x4x4096x64 32) (main_v14 : IVec S4096x64 1) (main_v18 : IVec S_ 1) (main_c_2 : IVec S_ 32) : IVec S_ 1 :=
  let main_v19 : IVec S4x4x4096x64 32 := broadcastInDim S4x4x4096x64 ![] bcast_S_S4x4x4096x64 main_c_2
  let main_v20 : IVec S4x4x4096x64 1 := cmpi .ne main_arg1 main_v19
  let main_v21 : IVec S4096x64 1 := noti main_v14
  let main_v22 : IVec S1x1x4096x64 1 := broadcastInDim S1x1x4096x64 ![2, 3] bcast_S4096x64_S1x1x4096x64_2_3 main_v21
  let main_v23 : IVec S4x4x4096x64 1 := broadcastInDim S4x4x4096x64 ![0, 1, 2, 3] bcast_S1x1x4096x64_S4x4x4096x64_0_1_2_3 main_v22
  let main_v24 : IVec S4x4x4096x64 1 := ori main_v20 main_v23
  let main_c_3 : IVec S_ 1 := constantI S_ 1 1#1
  let main_v25 : IVec S_ 1 := (fun x v => Host.reduce IntOp.andi x v reducesTo_S4x4x4096x64_S_d0_1_2_3 h_S_) main_v24 main_c_3
  let main_v26 : IVec S_ 1 := andi main_v18 main_v25
  main_v26

def fn {F : FTy → Type} [FloatOps F] (main_arg0 : FVec F S16384x4096 .f32) (main_arg1 : IVec S4x4x4096x64 32) (main_arg2 : FVec F S15408x4096 .f32) : IVec S_ 1 :=
  let main_v0 : IVec S4096 32 := iotaInDim S4096 32 0
  let main_v1 : IVec S4096x1 32 := broadcastInDim S4096x1 ![0] bcast_S4096_S4096x1_0 main_v0
  let main_v2 : IVec S64 32 := iotaInDim S64 32 0
  let main_v3 : IVec S1x64 32 := broadcastInDim S1x64 ![1] bcast_S64_S1x64_1 main_v2
  let main_c : IVec S_ 32 := constantI S_ 32 64#32
  let main_v4 : IVec S1x64 32 := broadcastInDim S1x64 ![] bcast_S_S1x64 main_c
  let main_v5 : IVec S1x64 32 := muli main_v4 main_v3
  let main_v6 : IVec S4096x64 32 := broadcastInDim S4096x64 ![0, 1] bcast_S1x64_S4096x64_0_1 main_v5
  let main_v7 : IVec S4096x64 32 := broadcastInDim S4096x64 ![0, 1] bcast_S4096x1_S4096x64_0_1 main_v1
  let main_v8 : IVec S4096x64 1 := cmpi .sle main_v6 main_v7
  let main_c_0 : IVec S_ 32 := constantI S_ 32 64#32
  let main_v9 : IVec S1x64 32 := broadcastInDim S1x64 ![] bcast_S_S1x64 main_c_0
  let main_v10 : IVec S1x64 32 := addi main_v5 main_v9
  let main_v11 : IVec S4096x64 32 := broadcastInDim S4096x64 ![0, 1] bcast_S4096x1_S4096x64_0_1 main_v1
  let main_v12 : IVec S4096x64 32 := broadcastInDim S4096x64 ![0, 1] bcast_S1x64_S4096x64_0_1 main_v10
  let main_v13 : IVec S4096x64 1 := cmpi .slt main_v11 main_v12
  let main_v14 : IVec S4096x64 1 := andi main_v8 main_v13
  let main_v15 : FVec F S16384x4096 .f32 := Host.absf main_arg0
  let main_cst : FVec F S_ .f32 := constant S_ .f32 0x7F800000#32
  let main_v16 : FVec F S16384x4096 .f32 := broadcastInDim S16384x4096 ![] bcast_S_S16384x4096 main_cst
  let main_v17 : IVec S16384x4096 1 := cmpf .olt main_v15 main_v16
  let main_c_1 : IVec S_ 1 := constantI S_ 1 1#1
  let main_v18 : IVec S_ 1 := (fun x v => Host.reduce IntOp.andi x v reducesTo_S16384x4096_S_d0_1 h_S_) main_v17 main_c_1
  let main_c_2 : IVec S_ 32 := constantI S_ 32 0#32
  fn_part1 (F := F) main_arg1 main_v14 main_v18 main_c_2
-- ==== Kernel.lean ====
abbrev S16384x4096 : Shape := ⟨2, ![16384, 4096]⟩
abbrev S4x4x4096x64 : Shape := ⟨4, ![4, 4, 4096, 64]⟩
abbrev S15408x4096 : Shape := ⟨2, ![15408, 4096]⟩
abbrev S_ : Shape := ⟨0, ![]⟩
abbrev S1x4096 : Shape := ⟨2, ![1, 4096]⟩
abbrev S4x4x4096x128 : Shape := ⟨4, ![4, 4, 4096, 128]⟩
abbrev S16384x2048 : Shape := ⟨2, ![16384, 2048]⟩
abbrev S8192x4096 : Shape := ⟨2, ![8192, 4096]⟩
abbrev S512x512 : Shape := ⟨2, ![512, 512]⟩
abbrev S4096x128 : Shape := ⟨2, ![4096, 128]⟩
abbrev S1x1x512x128 : Shape := ⟨4, ![1, 1, 512, 128]⟩
abbrev S64x4096 : Shape := ⟨2, ![64, 4096]⟩
abbrev S4x512x256 : Shape := ⟨3, ![4, 512, 256]⟩
abbrev S4x512x128 : Shape := ⟨3, ![4, 512, 128]⟩
abbrev S4x512x2048 : Shape := ⟨3, ![4, 512, 2048]⟩
abbrev S512x128 : Shape := ⟨2, ![512, 128]⟩
abbrev S1x512x128 : Shape := ⟨3, ![1, 512, 128]⟩
abbrev S2048x128 : Shape := ⟨2, ![2048, 128]⟩
abbrev S2048x256 : Shape := ⟨2, ![2048, 256]⟩
abbrev S1x512x256 : Shape := ⟨3, ![1, 512, 256]⟩
abbrev S512x256 : Shape := ⟨2, ![512, 256]⟩
abbrev S512x2048 : Shape := ⟨2, ![512, 2048]⟩
abbrev S1x512x2048 : Shape := ⟨3, ![1, 512, 2048]⟩
abbrev S1x64x2048 : Shape := ⟨3, ![1, 64, 2048]⟩
abbrev S64x2048 : Shape := ⟨2, ![64, 2048]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S1x256x256 : Shape := ⟨3, ![1, 256, 256]⟩
abbrev S256x256 : Shape := ⟨2, ![256, 256]⟩
abbrev S256x512 : Shape := ⟨2, ![256, 512]⟩
abbrev S1x256x512 : Shape := ⟨3, ![1, 256, 512]⟩
abbrev S64x256 : Shape := ⟨2, ![64, 256]⟩
abbrev S1x64x256 : Shape := ⟨3, ![1, 64, 256]⟩
abbrev S64x512 : Shape := ⟨2, ![64, 512]⟩
abbrev S1x64x512 : Shape := ⟨3, ![1, 64, 512]⟩
abbrev S1x256x128 : Shape := ⟨3, ![1, 256, 128]⟩
abbrev S256x128 : Shape := ⟨2, ![256, 128]⟩
abbrev S1024x128 : Shape := ⟨2, ![1024, 128]⟩
abbrev S1024x256 : Shape := ⟨2, ![1024, 256]⟩
abbrev S768x256 : Shape := ⟨2, ![768, 256]⟩
abbrev S256x768 : Shape := ⟨2, ![256, 768]⟩
abbrev S1x256x768 : Shape := ⟨3, ![1, 256, 768]⟩
abbrev S256x1024 : Shape := ⟨2, ![256, 1024]⟩
abbrev S1x256x1024 : Shape := ⟨3, ![1, 256, 1024]⟩
abbrev S1536x128 : Shape := ⟨2, ![1536, 128]⟩
abbrev S1536x256 : Shape := ⟨2, ![1536, 256]⟩
abbrev S1280x256 : Shape := ⟨2, ![1280, 256]⟩
abbrev S256x1280 : Shape := ⟨2, ![256, 1280]⟩
abbrev S1x256x1280 : Shape := ⟨3, ![1, 256, 1280]⟩
abbrev S256x1536 : Shape := ⟨2, ![256, 1536]⟩
abbrev S1x256x1536 : Shape := ⟨3, ![1, 256, 1536]⟩
abbrev S1x64x1024 : Shape := ⟨3, ![1, 64, 1024]⟩
abbrev S64x1024 : Shape := ⟨2, ![64, 1024]⟩
abbrev S1792x256 : Shape := ⟨2, ![1792, 256]⟩
abbrev S256x1792 : Shape := ⟨2, ![256, 1792]⟩
abbrev S1x256x1792 : Shape := ⟨3, ![1, 256, 1792]⟩
abbrev S256x2048 : Shape := ⟨2, ![256, 2048]⟩
abbrev S1x256x2048 : Shape := ⟨3, ![1, 256, 2048]⟩
abbrev S1x64x1536 : Shape := ⟨3, ![1, 64, 1536]⟩
abbrev S64x1536 : Shape := ⟨2, ![64, 1536]⟩

abbrev nBuf : Space → Nat
  | .hbm => 36
  | .vmem => 20
  | .smem => 0
  | _ => 0

abbrev bufTy : (tb : Table) → Fin (tcTables nBuf tb) → BufTy
  | .hbm, ⟨0, _⟩ => ⟨S16384x4096, .f32⟩
  | .hbm, ⟨1, _⟩ => ⟨S4x4x4096x64, .i32⟩
  | .hbm, ⟨2, _⟩ => ⟨S15408x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x4096, .i32⟩
  | .hbm, ⟨11, _⟩ => ⟨S_, .i32⟩
  | .hbm, ⟨12, _⟩ => ⟨S1x4096, .i32⟩
  | .hbm, ⟨13, _⟩ => ⟨S1x4096, .i1⟩
  | .hbm, ⟨14, _⟩ => ⟨S_, .f32⟩
  | .hbm, ⟨15, _⟩ => ⟨S_, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x4096, .bf16⟩
  | .hbm, ⟨22, _⟩ => ⟨S_, .i32⟩
  | .hbm, ⟨23, _⟩ => ⟨S4x4x4096x64, .i32⟩
  | .hbm, ⟨24, _⟩ => ⟨S4x4x4096x64, .i1⟩
  | .hbm, ⟨25, _⟩ => ⟨S_, .f32⟩
  | .hbm, ⟨26, _⟩ => ⟨S_, .f32⟩
  | .hbm, ⟨27, _⟩ => ⟨S4x4x4096x64, .f32⟩
  | .hbm, ⟨28, _⟩ => ⟨S4x4x4096x64, .f32⟩
  | .hbm, ⟨29, _⟩ => ⟨S4x4x4096x64, .f32⟩
  | .hbm, ⟨30, _⟩ => ⟨S4x4x4096x64, .bf16⟩
  | .hbm, ⟨31, _⟩ => ⟨S_, .i32⟩
  | .hbm, ⟨32, _⟩ => ⟨S_, .bf16⟩
  | .hbm, ⟨33, _⟩ => ⟨S4x4x4096x128, .bf16⟩
  | .hbm, ⟨34, _⟩ => ⟨S16384x2048, .f32⟩
  | .hbm, ⟨35, _⟩ => ⟨S8192x4096, .bf16⟩
  | .local _ .vmem, ⟨0, _⟩ => ⟨S512x512, .bf16⟩
  | .local _ .vmem, ⟨1, _⟩ => ⟨S512x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x1x512x128, .bf16⟩
  | .local _ .vmem, ⟨7, _⟩ => ⟨S1x1x512x128, .bf16⟩
  | .local _ .vmem, ⟨8, _⟩ => ⟨S64x4096, .f32⟩
  | .local _ .vmem, ⟨9, _⟩ => ⟨S64x4096, .f32⟩
  | .local _ .vmem, ⟨10, _⟩ => ⟨S512x512, .f32⟩
  | .local _ .vmem, ⟨11, _⟩ => ⟨S512x512, .f32⟩
  | .local _ .vmem, ⟨12, _⟩ => ⟨S64x4096, .bf16⟩
  | .local _ .vmem, ⟨13, _⟩ => ⟨S64x4096, .bf16⟩
  | .local _ .vmem, ⟨14, _⟩ => ⟨S4x512x256, .bf16⟩
  | .local _ .vmem, ⟨15, _⟩ => ⟨S4x512x128, .f32⟩
  | .local _ .vmem, ⟨16, _⟩ => ⟨S4x512x256, .f32⟩
  | .local _ .vmem, ⟨17, _⟩ => ⟨S4x512x2048, .f32⟩
  | .local _ .vmem, ⟨18, _⟩ => ⟨S4x512x2048, .bf16⟩
  | .local _ .vmem, ⟨19, _⟩ => ⟨S4x512x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_cst_5 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_v14 : Ref sig .tc := ⟨.hbm, 30, rfl⟩
abbrev main_c_6 : Ref sig .tc := ⟨.hbm, 31, rfl⟩
abbrev main_call2_v0 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let c7216_i32 : BitVec 32 := 7216#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c8_i32 : BitVec 32 := 8#32
  let v2 : BitVec 32 := Scalar.muli v1 c8_i32
  let arg2 : BitVec 32 := BitVec.ofNat 32 (i 2).val
  let v3 : BitVec 32 := Scalar.addi v2 arg2
  let c64_i32 : BitVec 32 := 64#32
  let v4 : BitVec 32 := Scalar.muli v3 c64_i32
  let v5 : BitVec 32 := Scalar.addi c7216_i32 v4
  v5
@[reducible] def k0_t1_loop (i : grid0.Coords) : Scf.Loop 32 :=
  let c0_i32_57 : BitVec 32 := 0#32
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let v68 : BitVec 32 := Scalar.subi v67 c0_i32_57
  let c1_i32_58 : BitVec 32 := 1#32
  let v70 : BitVec 32 := Scalar.divsi v68 c1_i32_58
  let v71 : BitVec 32 := Scalar.muli v70 c1_i32_58
  let v72 : BitVec 32 := Scalar.addi c0_i32_57 v71
  let c1_i32_59 : BitVec 32 := 1#32
  ⟨c0_i32_57, v72, c1_i32_59⟩
def k0_mult2 (i : grid0.Coords) (k0_t1 : Fin (k0_t1_loop i).trips) : BitVec 32 :=
  let c4_i32_123 : BitVec 32 := 4#32
  let c0_i32_57 : BitVec 32 := 0#32
  let c1_i32_59 : BitVec 32 := 1#32
  let arg16 : BitVec 32 := Scf.iv c0_i32_57 c1_i32_59 k0_t1
  let v149 : BitVec 32 := Scalar.muli c4_i32_123 arg16
  let c512_i32 : BitVec 32 := 512#32
  let v150 : BitVec 32 := Scalar.muli v149 c512_i32
  v150
def k0_off1 (i : grid0.Coords) (k0_t1 : Fin (k0_t1_loop i).trips) : Fin 2 → Nat :=
  let c4_i32_123 : BitVec 32 := 4#32
  let c0_i32_57 : BitVec 32 := 0#32
  let c1_i32_59 : BitVec 32 := 1#32
  let arg16 : BitVec 32 := Scf.iv c0_i32_57 c1_i32_59 k0_t1
  let v149 : BitVec 32 := Scalar.muli c4_i32_123 arg16
  let c512_i32 : BitVec 32 := 512#32
  let v150 : BitVec 32 := Scalar.muli v149 c512_i32
  let v151 : BitVec 32 := v150
  let v202 : Index := Scalar.indexCast v151
  let c0_139 : Index := 0#32
  ![v202.toNat, 0]
@[reducible] def k0_t2_loop (i : grid0.Coords) : Scf.Loop 32 :=
  let c0_i32_57 : BitVec 32 := 0#32
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let v68 : BitVec 32 := Scalar.subi v67 c0_i32_57
  let c1_i32_58 : BitVec 32 := 1#32
  let v70 : BitVec 32 := Scalar.divsi v68 c1_i32_58
  let v71 : BitVec 32 := Scalar.muli v70 c1_i32_58
  let v72 : BitVec 32 := Scalar.addi c0_i32_57 v71
  let v69 : BitVec 32 := Scalar.addi c0_i32_57 v68
  let c1_i32_60 : BitVec 32 := 1#32
  ⟨v72, v69, c1_i32_60⟩
def k0_mult3 (i : grid0.Coords) (k0_t2 : Fin (k0_t2_loop i).trips) : BitVec 32 :=
  let c4_i32_123 : BitVec 32 := 4#32
  let c0_i32_57 : BitVec 32 := 0#32
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let v68 : BitVec 32 := Scalar.subi v67 c0_i32_57
  let c1_i32_58 : BitVec 32 := 1#32
  let v70 : BitVec 32 := Scalar.divsi v68 c1_i32_58
  let v71 : BitVec 32 := Scalar.muli v70 c1_i32_58
  let v72 : BitVec 32 := Scalar.addi c0_i32_57 v71
  let c1_i32_60 : BitVec 32 := 1#32
  let arg16 : BitVec 32 := Scf.iv v72 c1_i32_60 k0_t2
  let v149 : BitVec 32 := Scalar.muli c4_i32_123 arg16
  let c512_i32 : BitVec 32 := 512#32
  let v150 : BitVec 32 := Scalar.muli v149 c512_i32
  v150
def k0_off2 (i : grid0.Coords) (k0_t2 : Fin (k0_t2_loop i).trips) : Fin 2 → Nat :=
  let c4_i32_123 : BitVec 32 := 4#32
  let c0_i32_57 : BitVec 32 := 0#32
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let v68 : BitVec 32 := Scalar.subi v67 c0_i32_57
  let c1_i32_58 : BitVec 32 := 1#32
  let v70 : BitVec 32 := Scalar.divsi v68 c1_i32_58
  let v71 : BitVec 32 := Scalar.muli v70 c1_i32_58
  let v72 : BitVec 32 := Scalar.addi c0_i32_57 v71
  let c1_i32_60 : BitVec 32 := 1#32
  let arg16 : BitVec 32 := Scf.iv v72 c1_i32_60 k0_t2
  let v149 : BitVec 32 := Scalar.muli c4_i32_123 arg16
  let c512_i32 : BitVec 32 := 512#32
  let v150 : BitVec 32 := Scalar.muli v149 c512_i32
  let v151 : BitVec 32 := v150
  let v202 : Index := Scalar.indexCast v151
  let c0_139 : Index := 0#32
  ![v202.toNat, 0]
def k0_cond1 (i : grid0.Coords) : BitVec 1 :=
  let arg2 : BitVec 32 := BitVec.ofNat 32 (i 2).val
  let c4_i32_61 : BitVec 32 := 4#32
  let c0_i32_62 : BitVec 32 := 0#32
  let v73 : BitVec 1 := Scalar.cmpi .eq c4_i32_61 c0_i32_62
  let c1_i32_63 : BitVec 32 := 1#32
  let v74 : BitVec 32 := Scalar.select v73 c1_i32_63 c4_i32_61
  let v75 : BitVec 32 := Scalar.remsi arg2 v74
  let c0_i32_65 : BitVec 32 := 0#32
  let v77 : BitVec 1 := Scalar.cmpi .slt v75 c0_i32_65
  let c0_i32_66 : BitVec 32 := 0#32
  let v78 : BitVec 1 := Scalar.cmpi .slt v74 c0_i32_66
  let v79 : BitVec 1 := Scalar.xori v77 v78
  let c0_i32_64 : BitVec 32 := 0#32
  let v76 : BitVec 1 := Scalar.cmpi .ne v75 c0_i32_64
  let v80 : BitVec 1 := Scalar.andi v79 v76
  let v81 : BitVec 32 := Scalar.addi v75 v74
  let v82 : BitVec 32 := Scalar.select v80 v81 v75
  let c0_i32_67 : BitVec 32 := 0#32
  let v83 : BitVec 1 := Scalar.cmpi .eq v82 c0_i32_67
  let v84 : BitVec 32 := Scalar.extui v83
  let c0_i32_68 : BitVec 32 := 0#32
  let v85 : BitVec 1 := Scalar.cmpi .ne v84 c0_i32_68
  v85

def k0_mult4 (i : grid0.Coords) : BitVec 32 :=
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let c4_i32_123 : BitVec 32 := 4#32
  let v149 : BitVec 32 := Scalar.muli v67 c4_i32_123
  let c512_i32 : BitVec 32 := 512#32
  let v150 : BitVec 32 := Scalar.muli v149 c512_i32
  v150
def k0_off3 (i : grid0.Coords) : Fin 2 → Nat :=
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let c4_i32_123 : BitVec 32 := 4#32
  let v149 : BitVec 32 := Scalar.muli v67 c4_i32_123
  let c512_i32 : BitVec 32 := 512#32
  let v150 : BitVec 32 := Scalar.muli v149 c512_i32
  let v151 : BitVec 32 := v150
  let v202 : Index := Scalar.indexCast v151
  let c0_139 : Index := 0#32
  ![v202.toNat, 0]
def k0_cond2 (i : grid0.Coords) : BitVec 1 :=
  let arg2 : BitVec 32 := BitVec.ofNat 32 (i 2).val
  let c4_i32_69 : BitVec 32 := 4#32
  let c0_i32_70 : BitVec 32 := 0#32
  let v86 : BitVec 1 := Scalar.cmpi .eq c4_i32_69 c0_i32_70
  let c1_i32_71 : BitVec 32 := 1#32
  let v87 : BitVec 32 := Scalar.select v86 c1_i32_71 c4_i32_69
  let v88 : BitVec 32 := Scalar.remsi arg2 v87
  let c0_i32_73 : BitVec 32 := 0#32
  let v90 : BitVec 1 := Scalar.cmpi .slt v88 c0_i32_73
  let c0_i32_74 : BitVec 32 := 0#32
  let v91 : BitVec 1 := Scalar.cmpi .slt v87 c0_i32_74
  let v92 : BitVec 1 := Scalar.xori v90 v91
  let c0_i32_72 : BitVec 32 := 0#32
  let v89 : BitVec 1 := Scalar.cmpi .ne v88 c0_i32_72
  let v93 : BitVec 1 := Scalar.andi v92 v89
  let v94 : BitVec 32 := Scalar.addi v88 v87
  let v95 : BitVec 32 := Scalar.select v93 v94 v88
  let c1_i32_75 : BitVec 32 := 1#32
  let v96 : BitVec 1 := Scalar.cmpi .eq v95 c1_i32_75
  let v97 : BitVec 32 := Scalar.extui v96
  let c0_i32_76 : BitVec 32 := 0#32
  let v98 : BitVec 1 := Scalar.cmpi .ne v97 c0_i32_76
  v98

def k0_mult5 (i : grid0.Coords) : BitVec 32 :=
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let c4_i32_123 : BitVec 32 := 4#32
  let v149 : BitVec 32 := Scalar.muli v67 c4_i32_123
  let c512_i32 : BitVec 32 := 512#32
  let v150 : BitVec 32 := Scalar.muli v149 c512_i32
  v150
def k0_off4 (i : grid0.Coords) : Fin 2 → Nat :=
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let c4_i32_123 : BitVec 32 := 4#32
  let v149 : BitVec 32 := Scalar.muli v67 c4_i32_123
  let c512_i32 : BitVec 32 := 512#32
  let v150 : BitVec 32 := Scalar.muli v149 c512_i32
  let v151 : BitVec 32 := v150
  let v202 : Index := Scalar.indexCast v151
  let c0_139 : Index := 0#32
  ![v202.toNat, 0]
def k0_cond3 (i : grid0.Coords) : BitVec 1 :=
  let arg2 : BitVec 32 := BitVec.ofNat 32 (i 2).val
  let c4_i32_77 : BitVec 32 := 4#32
  let c0_i32_78 : BitVec 32 := 0#32
  let v99 : BitVec 1 := Scalar.cmpi .eq c4_i32_77 c0_i32_78
  let c1_i32_79 : BitVec 32 := 1#32
  let v100 : BitVec 32 := Scalar.select v99 c1_i32_79 c4_i32_77
  let v101 : BitVec 32 := Scalar.remsi arg2 v100
  let c0_i32_81 : BitVec 32 := 0#32
  let v103 : BitVec 1 := Scalar.cmpi .slt v101 c0_i32_81
  let c0_i32_82 : BitVec 32 := 0#32
  let v104 : BitVec 1 := Scalar.cmpi .slt v100 c0_i32_82
  let v105 : BitVec 1 := Scalar.xori v103 v104
  let c0_i32_80 : BitVec 32 := 0#32
  let v102 : BitVec 1 := Scalar.cmpi .ne v101 c0_i32_80
  let v106 : BitVec 1 := Scalar.andi v105 v102
  let v107 : BitVec 32 := Scalar.addi v101 v100
  let v108 : BitVec 32 := Scalar.select v106 v107 v101
  let c2_i32 : BitVec 32 := 2#32
  let v109 : BitVec 1 := Scalar.cmpi .eq v108 c2_i32
  let v110 : BitVec 32 := Scalar.extui v109
  let c0_i32_83 : BitVec 32 := 0#32
  let v111 : BitVec 1 := Scalar.cmpi .ne v110 c0_i32_83
  v111

def k0_mult6 (i : grid0.Coords) : BitVec 32 :=
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let c4_i32_123 : BitVec 32 := 4#32
  let v149 : BitVec 32 := Scalar.muli v67 c4_i32_123
  let c512_i32 : BitVec 32 := 512#32
  let v150 : BitVec 32 := Scalar.muli v149 c512_i32
  v150
def k0_off5 (i : grid0.Coords) : Fin 2 → Nat :=
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let c4_i32_123 : BitVec 32 := 4#32
  let v149 : BitVec 32 := Scalar.muli v67 c4_i32_123
  let c512_i32 : BitVec 32 := 512#32
  let v150 : BitVec 32 := Scalar.muli v149 c512_i32
  let v151 : BitVec 32 := v150
  let v202 : Index := Scalar.indexCast v151
  let c0_139 : Index := 0#32
  ![v202.toNat, 0]
def k0_cond4 (i : grid0.Coords) : BitVec 1 :=
  let arg2 : BitVec 32 := BitVec.ofNat 32 (i 2).val
  let c4_i32_84 : BitVec 32 := 4#32
  let c0_i32_85 : BitVec 32 := 0#32
  let v112 : BitVec 1 := Scalar.cmpi .eq c4_i32_84 c0_i32_85
  let c1_i32_86 : BitVec 32 := 1#32
  let v113 : BitVec 32 := Scalar.select v112 c1_i32_86 c4_i32_84
  let v114 : BitVec 32 := Scalar.remsi arg2 v113
  let c0_i32_88 : BitVec 32 := 0#32
  let v116 : BitVec 1 := Scalar.cmpi .slt v114 c0_i32_88
  let c0_i32_89 : BitVec 32 := 0#32
  let v117 : BitVec 1 := Scalar.cmpi .slt v113 c0_i32_89
  let v118 : BitVec 1 := Scalar.xori v116 v117
  let c0_i32_87 : BitVec 32 := 0#32
  let v115 : BitVec 1 := Scalar.cmpi .ne v114 c0_i32_87
  let v119 : BitVec 1 := Scalar.andi v118 v115
  let v120 : BitVec 32 := Scalar.addi v114 v113
  let v121 : BitVec 32 := Scalar.select v119 v120 v114
  let c3_i32 : BitVec 32 := 3#32
  let v122 : BitVec 1 := Scalar.cmpi .eq v121 c3_i32
  let v123 : BitVec 32 := Scalar.extui v122
  let c0_i32_90 : BitVec 32 := 0#32
  let v124 : BitVec 1 := Scalar.cmpi .ne v123 c0_i32_90
  v124

def k0_mult7 (i : grid0.Coords) : BitVec 32 :=
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let c4_i32_123 : BitVec 32 := 4#32
  let v149 : BitVec 32 := Scalar.muli v67 c4_i32_123
  let c512_i32 : BitVec 32 := 512#32
  let v150 : BitVec 32 := Scalar.muli v149 c512_i32
  v150
def k0_off6 (i : grid0.Coords) : Fin 2 → Nat :=
  let arg2 : BitVec 32 := BitVec.ofNat 32 (i 2).val
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c4_i32 : BitVec 32 := 4#32
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let v51 : BitVec 32 := Scalar.divsi arg2 c4_i32
  let c1_i32 : BitVec 32 := 1#32
  let v66 : BitVec 32 := Scalar.subi v51 c1_i32
  let v67 : BitVec 32 := Scalar.select v65 v66 v51
  let c4_i32_123 : BitVec 32 := 4#32
  let v149 : BitVec 32 := Scalar.muli v67 c4_i32_123
  let c512_i32 : BitVec 32 := 512#32
  let v150 : BitVec 32 := Scalar.muli v149 c512_i32
  let v151 : BitVec 32 := v150
  let v202 : Index := Scalar.indexCast v151
  let c0_139 : Index := 0#32
  ![v202.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c64_i32 : BitVec 32 := 64#32
  let v4 : BitVec 32 := Scalar.muli v3 c64_i32
  let c7216_i32 : BitVec 32 := 7216#32
  let v5 : BitVec 32 := Scalar.addi c7216_i32 v4
  let v6 : BitVec 32 := v5
  let c0_i32 : BitVec 32 := 0#32
  let c0_i32_0 : BitVec 32 := 0#32
  ![v6.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x4096 : Shape := ⟨2, ![16384, 4096]⟩
abbrev S4x4x4096x64 : Shape := ⟨4, ![4, 4, 4096, 64]⟩
abbrev S15408x4096 : Shape := ⟨2, ![15408, 4096]⟩
abbrev S4x4096x4096 : Shape := ⟨3, ![4, 4096, 4096]⟩
abbrev S4x4096x2048 : Shape := ⟨3, ![4, 4096, 2048]⟩
abbrev S4x4096x512 : Shape := ⟨3, ![4, 4096, 512]⟩
abbrev S4x4096x4x4x128 : Shape := ⟨5, ![4, 4096, 4, 4, 128]⟩
abbrev S_ : Shape := ⟨0, ![]⟩
abbrev S4x4096x4x128 : Shape := ⟨4, ![4, 4096, 4, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x4096x64x64 : Shape := ⟨5, ![4, 4, 4096, 64, 64]⟩
abbrev S4x4x4096x4096 : Shape := ⟨4, ![4, 4, 4096, 4096]⟩
abbrev S1x1x4096x4096 : Shape := ⟨4, ![1, 1, 4096, 4096]⟩
abbrev S4x4x4096x4096x4 : Shape := ⟨5, ![4, 4, 4096, 4096, 4]⟩
abbrev S4x4x4x4096x4096 : Shape := ⟨5, ![4, 4, 4, 4096, 4096]⟩
abbrev S4x4x1x4096x4096 : Shape := ⟨5, ![4, 4, 1, 4096, 4096]⟩
abbrev S4x4x4x4096 : Shape := ⟨4, ![4, 4, 4, 4096]⟩
abbrev S4x4x4x4096x1 : Shape := ⟨5, ![4, 4, 4, 4096, 1]⟩
abbrev S4x4x128x4x4096 : Shape := ⟨5, ![4, 4, 128, 4, 4096]⟩
abbrev S16384x2048 : Shape := ⟨2, ![16384, 2048]⟩
abbrev S8192x4096 : Shape := ⟨2, ![8192, 4096]⟩

abbrev nBuf : Space → Nat
  | .hbm => 57
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4x4096x64, .i32⟩
  | .hbm, ⟨2, _⟩ => ⟨S15408x4096, .f32⟩
  | .hbm, ⟨3, _⟩ => ⟨S4x4096x4096, .f32⟩
  | .hbm, ⟨4, _⟩ => ⟨S4x4096x2048, .f32⟩
  | .hbm, ⟨5, _⟩ => ⟨S4x4096x512, .f32⟩
  | .hbm, ⟨6, _⟩ => ⟨S4x4096x512, .f32⟩
  | .hbm, ⟨7, _⟩ => ⟨S4x4096x512, .f32⟩
  | .hbm, ⟨8, _⟩ => ⟨S4x4096x512, .f32⟩
  | .hbm, ⟨9, _⟩ => ⟨S4x4096x4x4x128, .f32⟩
  | .hbm, ⟨10, _⟩ => ⟨S_, .f32⟩
  | .hbm, ⟨11, _⟩ => ⟨S_, .f32⟩
  | .hbm, ⟨12, _⟩ => ⟨S4x4096x4x4x128, .f32⟩
  | .hbm, ⟨13, _⟩ => ⟨S4x4096x4x4x128, .f32⟩
  | .hbm, ⟨14, _⟩ => ⟨S4x4096x4x128, .f32⟩
  | .hbm, ⟨15, _⟩ => ⟨S4x4096x4x128, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S4x4x4096x64x64, .i32⟩
  | .hbm, ⟨23, _⟩ => ⟨S4x4x4096x4096, .i32⟩
  | .hbm, ⟨24, _⟩ => ⟨S_, .i32⟩
  | .hbm, ⟨25, _⟩ => ⟨S4x4x4096x4096, .i32⟩
  | .hbm, ⟨26, _⟩ => ⟨S4x4x4096x4096, .i1⟩
  | .hbm, ⟨27, _⟩ => ⟨S1x1x4096x4096, .i1⟩
  | .hbm, ⟨28, _⟩ => ⟨S4x4x4096x4096, .i1⟩
  | .hbm, ⟨29, _⟩ => ⟨S4x4x4096x4096, .i1⟩
  | .hbm, ⟨30, _⟩ => ⟨S4x4x4096x4096x4, .f32⟩
  | .hbm, ⟨31, _⟩ => ⟨S4x4x4x4096x4096, .f32⟩
  | .hbm, ⟨32, _⟩ => ⟨S4x4x1x4096x4096, .i1⟩
  | .hbm, ⟨33, _⟩ => ⟨S_, .f32⟩
  | .hbm, ⟨34, _⟩ => ⟨S_, .f32⟩
  | .hbm, ⟨35, _⟩ => ⟨S4x4x4x4096x4096, .i1⟩
  | .hbm, ⟨36, _⟩ => ⟨S4x4x4x4096x4096, .f32⟩
  | .hbm, ⟨37, _⟩ => ⟨S4x4x4x4096x4096, .f32⟩
  | .hbm, ⟨38, _⟩ => ⟨S_, .f32⟩
  | .hbm, ⟨39, _⟩ => ⟨S4x4x4x4096, .f32⟩
  | .hbm, ⟨40, _⟩ => ⟨S_, .f32⟩
  | .hbm, ⟨41, _⟩ => ⟨S4x4x4x4096, .f32⟩
  | .hbm, ⟨42, _⟩ => ⟨S4x4x4x4096, .f32⟩
  | .hbm, ⟨43, _⟩ => ⟨S4x4x4x4096x1, .f32⟩
  | .hbm, ⟨44, _⟩ => ⟨S4x4x4x4096x4096, .f32⟩
  | .hbm, ⟨45, _⟩ => ⟨S4x4x4x4096x4096, .f32⟩
  | .hbm, ⟨46, _⟩ => ⟨S4x4x4x4096x4096, .f32⟩
  | .hbm, ⟨47, _⟩ => ⟨S_, .f32⟩
  | .hbm, ⟨48, _⟩ => ⟨S4x4x4x4096, .f32⟩
  | .hbm, ⟨49, _⟩ => ⟨S4x4x4x4096x1, .f32⟩
  | .hbm, ⟨50, _⟩ => ⟨S4x4x4x4096x4096, .f32⟩
  | .hbm, ⟨51, _⟩ => ⟨S4x4x4x4096x4096, .f32⟩
  | .hbm, ⟨52, _⟩ => ⟨S4x4x128x4x4096, .f32⟩
  | .hbm, ⟨53, _⟩ => ⟨S4x4096x4x4x128, .f32⟩
  | .hbm, ⟨54, _⟩ => ⟨S16384x2048, .f32⟩
  | .hbm, ⟨55, _⟩ => ⟨S8192x4096, .f32⟩
  | .hbm, ⟨56, _⟩ => ⟨S8192x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel2.lean ====
abbrev S16384x4096 : Shape := ⟨2, ![16384, 4096]⟩
abbrev S4096x11008 : Shape := ⟨2, ![4096, 11008]⟩
abbrev S11008x4096 : Shape := ⟨2, ![11008, 4096]⟩
abbrev S16384x11008 : Shape := ⟨2, ![16384, 11008]⟩
abbrev S2048x4096 : Shape := ⟨2, ![2048, 4096]⟩
abbrev S4096x256 : Shape := ⟨2, ![4096, 256]⟩
abbrev S32x4096 : Shape := ⟨2, ![32, 4096]⟩
abbrev S2048x256 : Shape := ⟨2, ![2048, 256]⟩

abbrev nBuf : Space → Nat
  | .hbm => 7
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S16384x4096, .bf16⟩
  | .hbm, ⟨5, _⟩ => ⟨S16384x11008, .bf16⟩
  | .hbm, ⟨6, _⟩ => ⟨S11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S32x4096, .f32⟩
  | .local _ .vmem, ⟨7, _⟩ => ⟨S32x4096, .f32⟩
  | .local _ .vmem, ⟨8, _⟩ => ⟨S2048x256, .bf16⟩
  | .local _ .vmem, ⟨9, _⟩ => ⟨S2048x256, .bf16⟩
  | .local _ .vmem, ⟨10, _⟩ => ⟨S32x4096, .bf16⟩
  | .local _ .vmem, ⟨11, _⟩ => ⟨S32x4096, .bf16⟩
  | .local _ .vmem, ⟨12, _⟩ => ⟨S4096x256, .bf16⟩
  | .local _ .vmem, ⟨13, _⟩ => ⟨S4096x256, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x4096 : Shape := ⟨2, ![16384, 4096]⟩
abbrev S4096x11008 : Shape := ⟨2, ![4096, 11008]⟩
abbrev S11008x4096 : Shape := ⟨2, ![11008, 4096]⟩
abbrev S16384x11008 : Shape := ⟨2, ![16384, 11008]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S16384x11008, .f32⟩
  | .hbm, ⟨5, _⟩ => ⟨S16384x11008, .f32⟩
  | .hbm, ⟨6, _⟩ => ⟨S16384x11008, .f32⟩
  | .hbm, ⟨7, _⟩ => ⟨S_, .f32⟩
  | .hbm, ⟨8, _⟩ => ⟨S16384x11008, .f32⟩
  | .hbm, ⟨9, _⟩ => ⟨S16384x11008, .f32⟩
  | .hbm, ⟨10, _⟩ => ⟨S_, .f32⟩
  | .hbm, ⟨11, _⟩ => ⟨S16384x11008, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S16384x11008, .bf16⟩
  | .hbm, ⟨17, _⟩ => ⟨S11008x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel3.lean ====
abbrev S16384x4096 : Shape := ⟨2, ![16384, 4096]⟩
abbrev S16384x2048 : Shape := ⟨2, ![16384, 2048]⟩
abbrev S4096x15408 : Shape := ⟨2, ![4096, 15408]⟩
abbrev S2048x4096 : Shape := ⟨2, ![2048, 4096]⟩
abbrev S15408x4096 : Shape := ⟨2, ![15408, 4096]⟩
abbrev S8192x4096 : Shape := ⟨2, ![8192, 4096]⟩
abbrev S512x4096 : Shape := ⟨2, ![512, 4096]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 15
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S16384x2048, .f32⟩
  | .hbm, ⟨2, _⟩ => ⟨S16384x2048, .f32⟩
  | .hbm, ⟨3, _⟩ => ⟨S4096x15408, .f32⟩
  | .hbm, ⟨4, _⟩ => ⟨S2048x4096, .f32⟩
  | .hbm, ⟨5, _⟩ => ⟨S2048x4096, .f32⟩
  | .hbm, ⟨6, _⟩ => ⟨S15408x4096, .f32⟩
  | .hbm, ⟨7, _⟩ => ⟨S8192x4096, .f32⟩
  | .hbm, ⟨8, _⟩ => ⟨S8192x4096, .bf16⟩
  | .hbm, ⟨9, _⟩ => ⟨S16384x4096, .bf16⟩
  | .hbm, ⟨10, _⟩ => ⟨S16384x2048, .bf16⟩
  | .hbm, ⟨11, _⟩ => ⟨S16384x2048, .bf16⟩
  | .hbm, ⟨12, _⟩ => ⟨S2048x4096, .bf16⟩
  | .hbm, ⟨13, _⟩ => ⟨S2048x4096, .bf16⟩
  | .hbm, ⟨14, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x512, .bf16⟩
  | .local _ .vmem, ⟨15, _⟩ => ⟨S512x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16384x4096 : Shape := ⟨2, ![16384, 4096]⟩
abbrev S16384x2048 : Shape := ⟨2, ![16384, 2048]⟩
abbrev S4096x15408 : Shape := ⟨2, ![4096, 15408]⟩
abbrev S2048x4096 : Shape := ⟨2, ![2048, 4096]⟩
abbrev S4096x8192 : Shape := ⟨2, ![4096, 8192]⟩
abbrev S16384x8192 : Shape := ⟨2, ![16384, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x2048, .f32⟩
  | .hbm, ⟨2, _⟩ => ⟨S16384x2048, .f32⟩
  | .hbm, ⟨3, _⟩ => ⟨S4096x15408, .f32⟩
  | .hbm, ⟨4, _⟩ => ⟨S2048x4096, .f32⟩
  | .hbm, ⟨5, _⟩ => ⟨S2048x4096, .f32⟩
  | .hbm, ⟨6, _⟩ => ⟨S4096x8192, .f32⟩
  | .hbm, ⟨7, _⟩ => ⟨S16384x8192, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel4.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x11008, .f32⟩
  | .hbm, ⟨1, _⟩ => ⟨S11008x4096, .f32⟩
  | .hbm, ⟨2, _⟩ => ⟨S16384x11008, .bf16⟩
  | .hbm, ⟨3, _⟩ => ⟨S11008x4096, .bf16⟩
  | .hbm, ⟨4, _⟩ => ⟨S16384x4096, .bf16⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .bf16⟩
  | .local _ .vmem, ⟨5, _⟩ => ⟨S512x512, .bf16⟩
  | _, _ => ⟨S16384x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x11008, .f32⟩
  | .hbm, ⟨1, _⟩ => ⟨S11008x4096, .f32⟩
  | .hbm, ⟨2, _⟩ => ⟨S16384x4096, .f32⟩
  | .hbm, ⟨3, _⟩ => ⟨S16384x4096, .bf16⟩
  | _, _ => ⟨S16384x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S16384x4096, .bf16⟩
  | .hbm, ⟨4, _⟩ => ⟨S1x4096, .f32⟩
  | .hbm, ⟨5, _⟩ => ⟨S16384x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S16384x4096 : Shape := ⟨2, ![16384, 4096]⟩
abbrev S4096x4096 : Shape := ⟨2, ![4096, 4096]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .bf16⟩
  | .hbm, ⟨3, _⟩ => ⟨S16384x4096, .bf16⟩
  | .local _ .vmem, ⟨0, _⟩ => ⟨S2048x4096, .bf16⟩
  | .local _ .vmem, ⟨1, _⟩ => ⟨S2048x4096, .bf16⟩
  | .local _ .vmem, ⟨2, _⟩ => ⟨S4096x512, .f32⟩
  | .local _ .vmem, ⟨3, _⟩ => ⟨S4096x512, .f32⟩
  | .local _ .vmem, ⟨4, _⟩ => ⟨S2048x512, .bf16⟩
  | .local _ .vmem, ⟨5, _⟩ => ⟨S2048x512, .bf16⟩
  | .local _ .vmem, ⟨6, _⟩ => ⟨S4096x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x4096 : Shape := ⟨2, ![16384, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S16384x4096, .bf16⟩
  | .hbm, ⟨5, _⟩ => ⟨S1x4096, .f32⟩
  | .hbm, ⟨6, _⟩ => ⟨S1x4096, .f32⟩
  | .hbm, ⟨7, _⟩ => ⟨S16384x4096, .f32⟩
  | .hbm, ⟨8, _⟩ => ⟨S16384x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel8.lean ====
abbrev S16384x4096 : Shape := ⟨2, ![16384, 4096]⟩
abbrev S4096x15408 : Shape := ⟨2, ![4096, 15408]⟩
abbrev S15408x4096 : Shape := ⟨2, ![15408, 4096]⟩
abbrev S16384x3072 : Shape := ⟨2, ![16384, 3072]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x15408, .f32⟩
  | .hbm, ⟨2, _⟩ => ⟨S16384x4096, .bf16⟩
  | .hbm, ⟨3, _⟩ => ⟨S15408x4096, .f32⟩
  | .hbm, ⟨4, _⟩ => ⟨S16384x3072, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c8_i32 : BitVec 32 := 8#32
  let v2 : BitVec 32 := Scalar.addi v1 c8_i32
  let v3 : BitVec 32 := Scalar.select v0 arg0 v2
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x4096 : Shape := ⟨2, ![16384, 4096]⟩
abbrev S4096x15408 : Shape := ⟨2, ![4096, 15408]⟩
abbrev S4096x2048 : Shape := ⟨2, ![4096, 2048]⟩
abbrev S16384x2048 : Shape := ⟨2, ![16384, 2048]⟩
abbrev S4096x1024 : Shape := ⟨2, ![4096, 1024]⟩
abbrev S16384x1024 : Shape := ⟨2, ![16384, 1024]⟩
abbrev S16384x3072 : Shape := ⟨2, ![16384, 3072]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x15408, .f32⟩
  | .hbm, ⟨2, _⟩ => ⟨S4096x2048, .f32⟩
  | .hbm, ⟨3, _⟩ => ⟨S16384x2048, .f32⟩
  | .hbm, ⟨4, _⟩ => ⟨S4096x1024, .f32⟩
  | .hbm, ⟨5, _⟩ => ⟨S16384x1024, .f32⟩
  | .hbm, ⟨6, _⟩ => ⟨S16384x3072, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S16384x4096 : Shape := ⟨2, ![16384, 4096]⟩
abbrev S4096x15408 : Shape := ⟨2, ![4096, 15408]⟩
abbrev S15408x4096 : Shape := ⟨2, ![15408, 4096]⟩
abbrev S2048x4096 : Shape := ⟨2, ![2048, 4096]⟩
abbrev S512x4096 : Shape := ⟨2, ![512, 4096]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x15408, .f32⟩
  | .hbm, ⟨2, _⟩ => ⟨S16384x4096, .bf16⟩
  | .hbm, ⟨3, _⟩ => ⟨S15408x4096, .f32⟩
  | .hbm, ⟨4, _⟩ => ⟨S16384x4096, .bf16⟩
  | .local _ .vmem, ⟨0, _⟩ => ⟨S2048x4096, .bf16⟩
  | .local _ .vmem, ⟨1, _⟩ => ⟨S2048x4096, .bf16⟩
  | .local _ .vmem, ⟨2, _⟩ => ⟨S512x4096, .f32⟩
  | .local _ .vmem, ⟨3, _⟩ => ⟨S512x4096, .f32⟩
  | .local _ .vmem, ⟨4, _⟩ => ⟨S2048x512, .bf16⟩
  | .local _ .vmem, ⟨5, _⟩ => ⟨S2048x512, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.addi arg0 c4_i32_0
  let c4_i32_1 : BitVec 32 := 4#32
  let v2 : BitVec 32 := Scalar.subi arg0 c4_i32_1
  let c10_i32 : BitVec 32 := 10#32
  let v3 : BitVec 32 := Scalar.addi v2 c10_i32
  let v4 : BitVec 32 := Scalar.select v0 v1 v3
  let c0_i32 : BitVec 32 := 0#32
  let c0_i32_2 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16384x4096 : Shape := ⟨2, ![16384, 4096]⟩
abbrev S4096x15408 : Shape := ⟨2, ![4096, 15408]⟩
abbrev S4096x2048 : Shape := ⟨2, ![4096, 2048]⟩
abbrev S16384x2048 : Shape := ⟨2, ![16384, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x15408, .f32⟩
  | .hbm, ⟨2, _⟩ => ⟨S4096x2048, .f32⟩
  | .hbm, ⟨3, _⟩ => ⟨S16384x2048, .f32⟩
  | .hbm, ⟨4, _⟩ => ⟨S_, .f32⟩
  | .hbm, ⟨5, _⟩ => ⟨S16384x2048, .f32⟩
  | .hbm, ⟨6, _⟩ => ⟨S16384x2048, .f32⟩
  | .hbm, ⟨7, _⟩ => ⟨S4096x2048, .f32⟩
  | .hbm, ⟨8, _⟩ => ⟨S16384x2048, .f32⟩
  | .hbm, ⟨9, _⟩ => ⟨S16384x4096, .f32⟩
  | .hbm, ⟨10, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S16384x4096 : Shape := ⟨2, ![16384, 4096]⟩
abbrev S4096 : Shape := ⟨1, ![4096]⟩
abbrev S4096x15408 : Shape := ⟨2, ![4096, 15408]⟩
abbrev S15408x4096 : Shape := ⟨2, ![15408, 4096]⟩
abbrev S1x4096 : Shape := ⟨2, ![1, 4096]⟩
abbrev S16384x128 : Shape := ⟨2, ![16384, 128]⟩
abbrev S256x4096 : Shape := ⟨2, ![256, 4096]⟩
abbrev S128x4096 : Shape := ⟨2, ![128, 4096]⟩
abbrev S256x128 : Shape := ⟨2, ![256, 128]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x15408, .f32⟩
  | .hbm, ⟨3, _⟩ => ⟨S15408x4096, .f32⟩
  | .hbm, ⟨4, _⟩ => ⟨S1x4096, .f32⟩
  | .hbm, ⟨5, _⟩ => ⟨S16384x4096, .bf16⟩
  | .hbm, ⟨6, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S128x4096, .f32⟩
  | .local _ .vmem, ⟨4, _⟩ => ⟨S256x4096, .bf16⟩
  | .local _ .vmem, ⟨5, _⟩ => ⟨S256x4096, .bf16⟩
  | .local _ .vmem, ⟨6, _⟩ => ⟨S256x128, .f32⟩
  | .local _ .vmem, ⟨7, _⟩ => ⟨S256x128, .f32⟩
  | .local _ .vmem, ⟨8, _⟩ => ⟨S128x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c56_i32 : BitVec 32 := 56#32
  let c0_i32 : BitVec 32 := 0#32
  let c0_i32_0 : BitVec 32 := 0#32
  ![c56_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S16384x4096 : Shape := ⟨2, ![16384, 4096]⟩
abbrev S4096 : Shape := ⟨1, ![4096]⟩
abbrev S4096x15408 : Shape := ⟨2, ![4096, 15408]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4096x128 : Shape := ⟨2, ![4096, 128]⟩
abbrev S16384x128 : Shape := ⟨2, ![16384, 128]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x15408, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .bf16⟩
  | .hbm, ⟨20, _⟩ => ⟨S4096x128, .f32⟩
  | .hbm, ⟨21, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel11.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S1x2048, .f32⟩
  | .hbm, ⟨5, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c1024_i32 : BitVec 32 := 1024#32
  let v11 : BitVec 32 := Scalar.muli arg1 c1024_i32
  v11
def k0_off1 (i : grid0.Coords) : Fin 2 → Nat :=
  let c0_6 : Index := 0#32
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  ![0, v13.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S1x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel12.lean ====
abbrev S16384x4096 : Shape := ⟨2, ![16384, 4096]⟩
abbrev S16384x2048 : Shape := ⟨2, ![16384, 2048]⟩
abbrev S16384x128 : Shape := ⟨2, ![16384, 128]⟩
abbrev S_ : Shape := ⟨0, ![]⟩
abbrev S1x4096 : Shape := ⟨2, ![1, 4096]⟩
abbrev S512x512 : Shape := ⟨2, ![512, 512]⟩
abbrev S512x128 : Shape := ⟨2, ![512, 128]⟩
abbrev S512x256 : Shape := ⟨2, ![512, 256]⟩
abbrev S256x256 : Shape := ⟨2, ![256, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 24
  | .vmem => 18
  | .smem => 0
  | _ => 0

abbrev bufTy : (tb : Table) → Fin (tcTables nBuf tb) → BufTy
  | .hbm, ⟨0, _⟩ => ⟨S16384x4096, .f32⟩
  | .hbm, ⟨1, _⟩ => ⟨S16384x2048, .f32⟩
  | .hbm, ⟨2, _⟩ => ⟨S16384x2048, .f32⟩
  | .hbm, ⟨3, _⟩ => ⟨S16384x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x4096, .i32⟩
  | .hbm, ⟨12, _⟩ => ⟨S_, .i32⟩
  | .hbm, ⟨13, _⟩ => ⟨S1x4096, .i32⟩
  | .hbm, ⟨14, _⟩ => ⟨S1x4096, .i1⟩
  | .hbm, ⟨15, _⟩ => ⟨S_, .f32⟩
  | .hbm, ⟨16, _⟩ => ⟨S_, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S16384x4096, .bf16⟩
  | .hbm, ⟨23, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c24_i32 : BitVec 32 := 24#32
  let v4 : BitVec 32 := Scalar.addi c24_i32 arg1
  let c0_i32_0 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c28_i32 : BitVec 32 := 28#32
  let v2 : BitVec 32 := Scalar.addi c28_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c28_i32 : BitVec 32 := 28#32
  let v4 : BitVec 32 := Scalar.addi c28_i32 arg1
  let c0_i32_0 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel12Ideal.lean ====
variable {F : FTy → Type} [FloatOps F] [Named F]
def κ : String → Option EReal := fun
  | "mask" => some ⊥
  | _ => none
-- ==== Reference12Ideal.lean ====
abbrev S16384x4096 : Shape := ⟨2, ![16384, 4096]⟩
abbrev S16384x2048 : Shape := ⟨2, ![16384, 2048]⟩
abbrev S16384x128 : Shape := ⟨2, ![16384, 128]⟩
abbrev S4x4096x4096 : Shape := ⟨3, ![4, 4096, 4096]⟩
abbrev S4x4096x2048 : Shape := ⟨3, ![4, 4096, 2048]⟩
abbrev S4x4096x512 : Shape := ⟨3, ![4, 4096, 512]⟩
abbrev S4x4096x4x4x128 : Shape := ⟨5, ![4, 4096, 4, 4, 128]⟩
abbrev S_ : Shape := ⟨0, ![]⟩
abbrev S4x4096x4x128 : Shape := ⟨4, ![4, 4096, 4, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x4096x4096x4 : Shape := ⟨5, ![4, 4, 4096, 4096, 4]⟩
abbrev S4x4x4x4096x4096 : Shape := ⟨5, ![4, 4, 4, 4096, 4096]⟩
abbrev S1x1x1x4096x4096 : Shape := ⟨5, ![1, 1, 1, 4096, 4096]⟩
abbrev S4x4x4x4096 : Shape := ⟨4, ![4, 4, 4, 4096]⟩
abbrev S4x4x4x4096x1 : Shape := ⟨5, ![4, 4, 4, 4096, 1]⟩
abbrev S4x4x128x4x4096 : Shape := ⟨5, ![4, 4, 128, 4, 4096]⟩
abbrev S16384x48 : Shape := ⟨2, ![16384, 48]⟩
abbrev S4x4096x3x4x4x1 : Shape := ⟨6, ![4, 4096, 3, 4, 4, 1]⟩
abbrev S4x4096x1x4x4x1 : Shape := ⟨6, ![4, 4096, 1, 4, 4, 1]⟩
abbrev S4x4096x4x4x1 : Shape := ⟨5, ![4, 4096, 4, 4, 1]⟩

abbrev nBuf : Space → Nat
  | .hbm => 84
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x2048, .f32⟩
  | .hbm, ⟨2, _⟩ => ⟨S16384x2048, .f32⟩
  | .hbm, ⟨3, _⟩ => ⟨S16384x128, .f32⟩
  | .hbm, ⟨4, _⟩ => ⟨S4x4096x4096, .f32⟩
  | .hbm, ⟨5, _⟩ => ⟨S4x4096x2048, .f32⟩
  | .hbm, ⟨6, _⟩ => ⟨S4x4096x512, .f32⟩
  | .hbm, ⟨7, _⟩ => ⟨S4x4096x512, .f32⟩
  | .hbm, ⟨8, _⟩ => ⟨S4x4096x512, .f32⟩
  | .hbm, ⟨9, _⟩ => ⟨S4x4096x512, .f32⟩
  | .hbm, ⟨10, _⟩ => ⟨S4x4096x4x4x128, .f32⟩
  | .hbm, ⟨11, _⟩ => ⟨S_, .f32⟩
  | .hbm, ⟨12, _⟩ => ⟨S_, .f32⟩
  | .hbm, ⟨13, _⟩ => ⟨S4x4096x4x4x128, .f32⟩
  | .hbm, ⟨14, _⟩ => ⟨S4x4096x4x4x128, .f32⟩
  | .hbm, ⟨15, _⟩ => ⟨S4x4096x4x128, .f32⟩
  | .hbm, ⟨16, _⟩ => ⟨S4x4096x4x128, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x1, .i32⟩
  | .hbm, ⟨24, _⟩ => ⟨S1x4096, .i32⟩
  | .hbm, ⟨25, _⟩ => ⟨S_, .i32⟩
  | .hbm, ⟨26, _⟩ => ⟨S1x4096, .i32⟩
  | .hbm, ⟨27, _⟩ => ⟨S1x4096, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S4096x4096, .i1⟩
  | .hbm, ⟨32, _⟩ => ⟨S4x4x4096x4096x4, .f32⟩
  | .hbm, ⟨33, _⟩ => ⟨S4x4x4x4096x4096, .f32⟩
  | .hbm, ⟨34, _⟩ => ⟨S1x1x1x4096x4096, .i1⟩
  | .hbm, ⟨35, _⟩ => ⟨S_, .f32⟩
  | .hbm, ⟨36, _⟩ => ⟨S_, .f32⟩
  | .hbm, ⟨37, _⟩ => ⟨S4x4x4x4096x4096, .i1⟩
  | .hbm, ⟨38, _⟩ => ⟨S4x4x4x4096x4096, .f32⟩
  | .hbm, ⟨39, _⟩ => ⟨S4x4x4x4096x4096, .f32⟩
  | .hbm, ⟨40, _⟩ => ⟨S_, .f32⟩
  | .hbm, ⟨41, _⟩ => ⟨S4x4x4x4096, .f32⟩
  | .hbm, ⟨42, _⟩ => ⟨S_, .f32⟩
  | .hbm, ⟨43, _⟩ => ⟨S4x4x4x4096, .f32⟩
  | .hbm, ⟨44, _⟩ => ⟨S4x4x4x4096, .f32⟩
  | .hbm, ⟨45, _⟩ => ⟨S4x4x4x4096x1, .f32⟩
  | .hbm, ⟨46, _⟩ => ⟨S4x4x4x4096x4096, .f32⟩
  | .hbm, ⟨47, _⟩ => ⟨S4x4x4x4096x4096, .f32⟩
  | .hbm, ⟨48, _⟩ => ⟨S4x4x4x4096x4096, .f32⟩
  | .hbm, ⟨49, _⟩ => ⟨S_, .f32⟩
  | .hbm, ⟨50, _⟩ => ⟨S4x4x4x4096, .f32⟩
  | .hbm, ⟨51, _⟩ => ⟨S4x4x4x4096x1, .f32⟩
  | .hbm, ⟨52, _⟩ => ⟨S4x4x4x4096x4096, .f32⟩
  | .hbm, ⟨53, _⟩ => ⟨S4x4x4x4096x4096, .f32⟩
  | .hbm, ⟨54, _⟩ => ⟨S4x4x128x4x4096, .f32⟩
  | .hbm, ⟨55, _⟩ => ⟨S4x4096x4x4x128, .f32⟩
  | .hbm, ⟨56, _⟩ => ⟨S16384x48, .f32⟩
  | .hbm, ⟨57, _⟩ => ⟨S16384x48, .f32⟩
  | .hbm, ⟨58, _⟩ => ⟨S16384x48, .f32⟩
  | .hbm, ⟨59, _⟩ => ⟨S_, .f32⟩
  | .hbm, ⟨60, _⟩ => ⟨S16384x48, .f32⟩
  | .hbm, ⟨61, _⟩ => ⟨S16384x48, .f32⟩
  | .hbm, ⟨62, _⟩ => ⟨S_, .f32⟩
  | .hbm, ⟨63, _⟩ => ⟨S16384x48, .f32⟩
  | .hbm, ⟨64, _⟩ => ⟨S16384x48, .f32⟩
  | .hbm, ⟨65, _⟩ => ⟨S4x4096x3x4x4x1, .f32⟩
  | .hbm, ⟨66, _⟩ => ⟨S4x4096x4x4x128, .f32⟩
  | .hbm, ⟨67, _⟩ => ⟨S4x4096x4x4x128, .f32⟩
  | .hbm, ⟨68, _⟩ => ⟨S4x4096x1x4x4x1, .f32⟩
  | .hbm, ⟨69, _⟩ => ⟨S4x4096x4x4x1, .f32⟩
  | .hbm, ⟨70, _⟩ => ⟨S4x4096x4x4x128, .f32⟩
  | .hbm, ⟨71, _⟩ => ⟨S4x4096x4x4x128, .f32⟩
  | .hbm, ⟨72, _⟩ => ⟨S4x4096x1x4x4x1, .f32⟩
  | .hbm, ⟨73, _⟩ => ⟨S4x4096x4x4x1, .f32⟩
  | .hbm, ⟨74, _⟩ => ⟨S4x4096x4x4x128, .f32⟩
  | .hbm, ⟨75, _⟩ => ⟨S4x4096x4x4x128, .f32⟩
  | .hbm, ⟨76, _⟩ => ⟨S4x4096x4x4x128, .f32⟩
  | .hbm, ⟨77, _⟩ => ⟨S4x4096x1x4x4x1, .f32⟩
  | .hbm, ⟨78, _⟩ => ⟨S4x4096x4x4x1, .f32⟩
  | .hbm, ⟨79, _⟩ => ⟨S4x4096x4x4x128, .f32⟩
  | .hbm, ⟨80, _⟩ => ⟨S4x4096x4x4x128, .f32⟩
  | .hbm, ⟨81, _⟩ => ⟨S4x4096x4x4x128, .f32⟩
  | .hbm, ⟨82, _⟩ => ⟨S16384x2048, .f32⟩
  | .hbm, ⟨83, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩

abbrev nD : Nat := 1
abbrev τ : Topo := Topo.v7x

variable {F : FTy → Type} [FloatOps F]
-- ==== Proof.Tile.lean ====
/-
  The selected-attention kernel's work written once for symbolic sizes: the score block, the softmax row
  block, the value block, and the tile made of them, as programs over the kernel's buffers.
-/
module

public import proofs.«01_k».proof.Proof.Gen.KernelIdeal.Skeleton

@[expose] public section

set_option maxRecDepth 16384

noncomputable section

namespace Cert.Proof

open Cert.KernelIdeal Cert.KernelIdeal.Gen
open Idealize.ShloMosaic Idealize.SL.Sem

variable {F : FTy → Type} [FloatOps F] [Named F]

/-- Programs of the kernel's core over float values `F`. -/
abbrev PG (F : FTy → Type) := Prog (TpuEff nD τ sig (Elt F) Λ₀ .tc)

/-- The kernel's buffers: five inputs, two outputs, six scratches, each a whole memref. -/
structure Bufs where
  q : Memref sig .tc .vmem S512x512 .bf16
  hq : q.IsWhole
  k : Memref sig .tc .vmem S4096x128 .bf16
  hk : k.IsWhole
  v : Memref sig .tc .vmem S4096x128 .bf16
  hv : v.IsWhole
  b : Memref sig .tc .vmem S1x1x512x128 .bf16
  hb : b.IsWhole
  w : Memref sig .tc .vmem S64x4096 .f32
  hw : w.IsWhole
  o : Memref sig .tc .vmem S512x512 .f32
  ho : o.IsWhole
  wg : Memref sig .tc .vmem S64x4096 .bf16
  hwg : wg.IsWhole
  qa : Memref sig .tc .vmem S4x512x256 .bf16
  hqa : qa.IsWhole
  m : Memref sig .tc .vmem S4x512x128 .f32
  hm : m.IsWhole
  acc : Memref sig .tc .vmem S4x512x256 .f32
  hacc : acc.IsWhole
  s : Memref sig .tc .vmem S4x512x2048 .f32
  hs : s.IsWhole
  p : Memref sig .tc .vmem S4x512x2048 .bf16
  hp : p.IsWhole
  al : Memref sig .tc .vmem S4x512x128 .f32
  hal : al.IsWhole

/-- One block of `r` rows and `w` lanes, with the head axis and without. -/
abbrev R1 (r w : Nat) : Shape := ⟨3, ![1, r, w]⟩
abbrev R2 (r w : Nat) : Shape := ⟨2, ![r, w]⟩

/-- A load at offsets `off` of sizes `size`. -/
abbrev ldp {S : Shape} {e : EltTy} (M : Memref sig .tc .vmem S e) (off size : Fin S.rank → Nat)
    (inb : ∀ a, off a + size a ≤ S.size a) (hp : 0 < (Shape.mk S.rank size).numel) : PG F (Vec F ⟨S.rank, size⟩ e) :=
  Prog.lift (.load M (Rect.unit (s := S) off size inb).toLoadRect (View.loadsAt_vmem hp))

/-- An unmasked store at offsets `off` of sizes `size`. -/
abbrev stp {S : Shape} {e : EltTy} (M : Memref sig .tc .vmem S e) (off size : Fin S.rank → Nat)
    (inb : ∀ a, off a + size a ≤ S.size a) (x : Vec F ⟨S.rank, size⟩ e)
    (hs : (M.access (Rect.unit (s := S) off size inb)).Stores Finset.univ) : PG F PUnit :=
  Prog.lift (.store M (Rect.unit (s := S) off size inb) x Finset.univ hs (.inl rfl))

theorem inb3 {A B C h r d a b : Nat} (h0 : h + 1 ≤ A) (h1 : r + a ≤ B) (h2 : d + b ≤ C) :
    ∀ x, (![h, r, d] : Fin 3 → Nat) x + (![1, a, b] : Fin 3 → Nat) x ≤ (⟨3, ![A, B, C]⟩ : Shape).size x := by
  intro x; fin_cases x <;> simpa

theorem pos3 {a b : Nat} (h1 : 0 < a) (h2 : 0 < b) : 0 < (Shape.mk 3 ![1, a, b]).numel := by
  simp [Shape.numel, Fin.prod_univ_succ, h1, h2]

theorem st_f32 {S : Shape} (M : Memref sig .tc .vmem S .f32) (r : Rect S) (h : 0 < r.shape.numel) :
    (M.access r).Stores Finset.univ := View.stores_vmem_bits_univ h rfl

theorem st_bf16 {S : Shape} (M : Memref sig .tc .vmem S .bf16) (hM : M.IsWhole) (r : Rect S) (h : 0 < r.shape.numel)
    (hr : r.PackedRows (EltTy.packing .bf16)) : (M.access r).Stores Finset.univ :=
  View.stores_vmem h (hM.storeExact_slice rfl _ hr) (fun _ => rfl)

theorem packed3 {A B C h r d a b : Nat} (inb : ∀ x, (![h, r, d] : Fin 3 → Nat) x + (![1, a, b] : Fin 3 → Nat) x ≤ (⟨3, ![A, B, C]⟩ : Shape).size x)
    (h1 : 2 ∣ r) (h2 : 2 ∣ a) :
    (Rect.unit (s := (⟨3, ![A, B, C]⟩ : Shape)) ![h, r, d] ![1, a, b] inb).PackedRows (EltTy.packing .bf16) :=
  have e : EltTy.packing .bf16 = 2 := by decide
  .inr ⟨le_of_eq_of_le rfl (by decide : 2 ≤ 3), rfl, .inl ⟨by rw [e]; exact h1, by rw [e]; exact h2⟩⟩

theorem sc31 (a b : Nat) : (R1 a b).ShapeCasts (R2 a b) := by
  simp [Shape.ShapeCasts, Shape.numel, Fin.prod_univ_succ]
theorem sc13 (a b : Nat) : (R2 a b).ShapeCasts (R1 a b) := by
  simp [Shape.ShapeCasts, Shape.numel, Fin.prod_univ_succ]

/-! ## The arithmetic of one block -/

/-- What the shapes of a row block `w = 128 n` lanes wide need. -/
structure WEv (w n : Nat) : Prop where
  red : (R2 64 w).Reduces [1] S64
  cat : ∀ f : (s : Shape) × (s.Idx → F .f32), f.1 = S64x128 → Shape.Concatenates ((List.replicate n f).map (·.1)) (R2 64 w) 1
  pos : 0 < w
  i0 : (R2 64 w).Iotas .tc 32 [0]
  i1 : (R2 64 w).Iotas .tc 32 [1]

/-- A row-block of lanes repeated `n` times along the lanes. -/
abbrev laneTile (w n : Nat) (h : WEv (F := F) w n) (x : FVec F S64x128 .f32) : FVec F (R2 64 w) .f32 :=
  concatenate (R2 64 w) 1 (List.replicate n ⟨S64x128, x⟩) (h.cat ⟨S64x128, x⟩ rfl)

/-- The running maximum joined with a piece's row maxima. -/
abbrev mNext (w n : Nat) (h : WEv (F := F) w n) (mp : FVec F S64x128 .f32) (s : FVec F (R2 64 w) .f32) : FVec F S64x128 .f32 :=
  maximumf mp (broadcastTo S64x128 (shapeCast S64x1 (multiReduction .maximumf [1] S64 s 0xFF800000#32 h.red (.inl rfl) rfl)
    shapeCasts_S64_S64x1) broadcasts_S64x1_S64x128)

/-- The weights of a piece. -/
abbrev wExp (w n : Nat) (h : WEv (F := F) w n) (s : FVec F (R2 64 w) .f32) (mn : FVec F S64x128 .f32) : FVec F (R2 64 w) .bf16 :=
  truncf .bf16 (exp2 (subf s (laneTile w n h mn))) bitsLt_bf16_f32

/-- The diagonal piece with the keys after the row's own position masked. -/
abbrev causal (w n : Nat) (h : WEv (F := F) w n) (r : Nat) (s : FVec F (R2 64 w) .f32) : FVec F (R2 64 w) .f32 :=
  select (cmpi .sle (iota .tc (R2 64 w) 32 [1] h.i1) (addi (iota .tc (R2 64 w) 32 [0] h.i0) (broadcast (R2 64 w) (BitVec.ofNat 32 (64 * r)))))
    s (broadcast (R2 64 w) (Named.named κ "mask" 0xF149F2CA#32))

variable (B : Bufs)

/-- Storing the weights of a piece at lanes `d ..`. -/
abbrev putW (h r w n d : Nat) (hh : h < 4) (hr : r < 8) (hd : d + w ≤ 2048) (ev : WEv (F := F) w n)
    (s : FVec F (R2 64 w) .f32) (mn : FVec F S64x128 .f32) : PG F PUnit := do
  let _ ← ldp B.p ![h, 64 * r, d] ![1, 64, w] (inb3 (by omega) (by omega) hd) (pos3 (by decide) ev.pos)
  stp B.p ![h, 64 * r, d] ![1, 64, w] (inb3 (by omega) (by omega) hd) (shapeCast (R1 64 w) (wExp w n ev s mn) (sc13 64 w))
    (st_bf16 B.p B.hp _ (pos3 (by decide) ev.pos) (packed3 _ (Dvd.dvd.mul_right (by decide) r) (by decide)))

/-- Storing the correction factor and the new maximum. -/
abbrev putM (h r : Nat) (hh : h < 4) (hr : r < 8) (mp mn : FVec F S64x128 .f32) : PG F PUnit := do
  let _ ← ldp B.al ![h, 64 * r, 0] ![1, 64, 128] (inb3 (by omega) (by omega) (by decide)) (pos3 (by decide) (by decide))
  stp B.al ![h, 64 * r, 0] ![1, 64, 128] (inb3 (by omega) (by omega) (by decide)) (shapeCast (R1 64 128) (exp2 (subf mp mn)) (sc13 64 128))
    (st_f32 B.al _ (pos3 (by decide) (by decide)))
  let _ ← ldp B.m ![h, 64 * r, 0] ![1, 64, 128] (inb3 (by omega) (by omega) (by decide)) (pos3 (by decide) (by decide))
  stp B.m ![h, 64 * r, 0] ![1, 64, 128] (inb3 (by omega) (by omega) (by decide)) (shapeCast (R1 64 128) mn (sc13 64 128))
    (st_f32 B.m _ (pos3 (by decide) (by decide)))

/-- The row block `r` of head `h`: one unmasked piece. -/
def smFull (h r w n : Nat) (hh : h < 4) (hr : r < 8) (hd : 0 + w ≤ 2048) (ev : WEv (F := F) w n) : PG F PUnit := do
  let s ← ldp B.s ![h, 64 * r, 0] ![1, 64, w] (inb3 (by omega) (by omega) hd) (pos3 (by decide) ev.pos)
  let mp ← ldp B.m ![h, 64 * r, 0] ![1, 64, 128] (inb3 (by omega) (by omega) (by decide)) (pos3 (by decide) (by decide))
  putW B h r w n 0 hh hr hd ev (shapeCast (R2 64 w) s (sc31 64 w))
    (mNext w n ev (shapeCast S64x128 mp (sc31 64 128)) (shapeCast (R2 64 w) s (sc31 64 w)))
  putM B h r hh hr (shapeCast S64x128 mp (sc31 64 128))
    (mNext w n ev (shapeCast S64x128 mp (sc31 64 128)) (shapeCast (R2 64 w) s (sc31 64 w)))

/-- The row block `r` of head `h`: one masked piece. -/
def smMask (h r w n : Nat) (hh : h < 4) (hr : r < 8) (hd : 0 + w ≤ 2048) (ev : WEv (F := F) w n) : PG F PUnit := do
  let s ← ldp B.s ![h, 64 * r, 0] ![1, 64, w] (inb3 (by omega) (by omega) hd) (pos3 (by decide) ev.pos)
  let mp ← ldp B.m ![h, 64 * r, 0] ![1, 64, 128] (inb3 (by omega) (by omega) (by decide)) (pos3 (by decide) (by decide))
  putW B h r w n 0 hh hr hd ev (causal w n ev r (shapeCast (R2 64 w) s (sc31 64 w)))
    (mNext w n ev (shapeCast S64x128 mp (sc31 64 128)) (causal w n ev r (shapeCast (R2 64 w) s (sc31 64 w))))
  putM B h r hh hr (shapeCast S64x128 mp (sc31 64 128))
    (mNext w n ev (shapeCast S64x128 mp (sc31 64 128)) (causal w n ev r (shapeCast (R2 64 w) s (sc31 64 w))))

/-- The row block `r` of head `h`: an unmasked piece of `w'` lanes, then a masked one of `w`. -/
def smTwo (h r w' n' w n : Nat) (hh : h < 4) (hr : r < 8) (hd : w' + w ≤ 2048) (ev' : WEv (F := F) w' n') (ev : WEv (F := F) w n) : PG F PUnit := do
  let s' ← ldp B.s ![h, 64 * r, 0] ![1, 64, w'] (inb3 (by omega) (by omega) (by omega)) (pos3 (by decide) ev'.pos)
  let s ← ldp B.s ![h, 64 * r, w'] ![1, 64, w] (inb3 (by omega) (by omega) hd) (pos3 (by decide) ev.pos)
  let mp ← ldp B.m ![h, 64 * r, 0] ![1, 64, 128] (inb3 (by omega) (by omega) (by decide)) (pos3 (by decide) (by decide))
  putW B h r w' n' 0 hh hr (by omega) ev' (shapeCast (R2 64 w') s' (sc31 64 w'))
    (mNext w n ev (mNext w' n' ev' (shapeCast S64x128 mp (sc31 64 128)) (shapeCast (R2 64 w') s' (sc31 64 w'))) (causal w n ev r (shapeCast (R2 64 w) s (sc31 64 w))))
  putW B h r w n w' hh hr hd ev (causal w n ev r (shapeCast (R2 64 w) s (sc31 64 w)))
    (mNext w n ev (mNext w' n' ev' (shapeCast S64x128 mp (sc31 64 128)) (shapeCast (R2 64 w') s' (sc31 64 w'))) (causal w n ev r (shapeCast (R2 64 w) s (sc31 64 w))))
  putM B h r hh hr (shapeCast S64x128 mp (sc31 64 128))
    (mNext w n ev (mNext w' n' ev' (shapeCast S64x128 mp (sc31 64 128)) (shapeCast (R2 64 w') s' (sc31 64 w'))) (causal w n ev r (shapeCast (R2 64 w) s (sc31 64 w))))

/-! ## Keys and values of a tile -/

/-- The number of a key's selection block, as the kernel computes it: `base + lane / 64` by a division toward zero
    corrected to the floor. -/
abbrev keyBlk (nk : Nat) (kb : BitVec 32) (i0 : (R2 nk 128).Iotas .tc 32 [0]) : IVec (R2 nk 128) 32 :=
  addi (broadcast (R2 nk 128) kb)
    (select (andi (cmpi .ne (subi (extui 32 (cmpi .sgt (iota .tc (R2 nk 128) 32 [0] i0) (broadcast (R2 nk 128) 0#32)) natLt_1_32)
        (extui 32 (cmpi .slt (iota .tc (R2 nk 128) 32 [0] i0) (broadcast (R2 nk 128) 0#32)) natLt_1_32))
        (broadcast (R2 nk 128) (Scalar.subi (Scalar.extui (Scalar.cmpi .sgt 64#32 0#32)) (Scalar.extui (Scalar.cmpi .slt 64#32 0#32)))))
      (cmpi .ne (remsi (iota .tc (R2 nk 128) 32 [0] i0) (broadcast (R2 nk 128) 64#32)) (broadcast (R2 nk 128) 0#32)))
      (subi (divsi (iota .tc (R2 nk 128) 32 [0] i0) (broadcast (R2 nk 128) 64#32)) (broadcast (R2 nk 128) 1#32))
      (divsi (iota .tc (R2 nk 128) 32 [0] i0) (broadcast (R2 nk 128) 64#32)))

/-- The block number of the tile's first key: its position over 64, floored. -/
abbrev blkOf (k0 : BitVec 32) : BitVec 32 :=
  Scalar.select (Scalar.andi
      (Scalar.cmpi .ne (Scalar.subi (Scalar.extui (Scalar.cmpi .sgt k0 0#32)) (Scalar.extui (Scalar.cmpi .slt k0 0#32)))
        (Scalar.subi (Scalar.extui (Scalar.cmpi .sgt 64#32 0#32)) (Scalar.extui (Scalar.cmpi .slt 64#32 0#32))))
      (Scalar.cmpi .ne (Scalar.remsi k0 64#32) 0#32))
    (Scalar.subi (Scalar.divsi k0 64#32) 1#32) (Scalar.divsi k0 64#32)

/-- What the shapes of a tile of `nk` keys need. -/
structure KEv (nk : Nat) : Prop where
  i0 : (R2 nk 128).Iotas .tc 32 [0]
  i1 : (R2 nk 128).Iotas .tc 32 [1]
  pos : 0 < nk
  sc : (R2 nk 128).ShapeCasts (R2 nk 128)
  cat : ∀ f g : (s : Shape) × (s.Idx → F .bf16), f.1 = R2 nk 128 → g.1 = R2 nk 128 → Shape.Concatenates ([f, g].map (·.1)) (R2 nk 256) 1

/-- Each key row beside the indicator of its selection block. -/
abbrev kAug (nk : Nat) (ev : KEv (F := F) nk) (kb : BitVec 32) (k : FVec F (R2 nk 128) .bf16) : FVec F (R2 nk 256) .bf16 :=
  concatenate (R2 nk 256) 1 [⟨R2 nk 128, shapeCast (R2 nk 128) k ev.sc⟩,
    ⟨R2 nk 128, truncf .bf16 (select (cmpi .eq (iota .tc (R2 nk 128) 32 [1] ev.i1) (keyBlk nk kb ev.i0))
      (broadcast (R2 nk 128) (Scalar.ofBits .f32 0x3F800000#32)) (broadcast (R2 nk 128) (Scalar.ofBits .f32 0x00000000#32))) bitsLt_bf16_f32⟩]
    (ev.cat _ _ rfl rfl)

/-- Each value row beside ones. -/
abbrev vAug (nk : Nat) (ev : KEv (F := F) nk) (v : FVec F (R2 nk 128) .bf16) : FVec F (R2 nk 256) .bf16 :=
  concatenate (R2 nk 256) 1 [⟨R2 nk 128, shapeCast (R2 nk 128) v ev.sc⟩,
    ⟨R2 nk 128, broadcast (R2 nk 128) (Scalar.ofBits .bf16 0x3F80#16)⟩] (ev.cat _ _ rfl rfl)

/-- What the shapes of a block of `rr` rows against `nk` keys need. -/
structure DEv (rr nk : Nat) : Prop where
  pr : 0 < rr
  pk : 0 < nk
  two : 2 ∣ rr
  cat : ∀ f : (s : Shape) × (s.Idx → F .f32), f.1 = R2 rr 128 → Shape.Concatenates ([f, f].map (·.1)) (R2 rr 256) 1

/-- The scores of rows `r0 .. r0 + rr` of head `h` against `nk` keys. -/
def scores (h r0 rr nk : Nat) (hh : h < 4) (hr : r0 + rr ≤ 512) (hk : 0 + nk ≤ 2048) (ev : DEv (F := F) rr nk) (ka : FVec F (R2 nk 256) .bf16) : PG F PUnit := do
  let qa ← ldp B.qa ![h, r0, 0] ![1, rr, 256] (inb3 (by omega) hr (by decide)) (pos3 ev.pr (by decide))
  let _ ← ldp B.s ![h, r0, 0] ![1, rr, nk] (inb3 (by omega) hr hk) (pos3 ev.pr ev.pk)
  stp B.s ![h, r0, 0] ![1, rr, nk] (inb3 (by omega) hr hk)
    (shapeCast (R1 rr nk) (matmul (DotDims.transposedRhs rr 256 nk) none (shapeCast (R2 rr 256) qa (sc31 rr 256)) ka (constant (R2 rr nk) .f32 0x00000000#32)) (sc13 rr nk))
    (st_f32 B.s _ (pos3 ev.pr ev.pk))

/-- The weighted values of rows `r0 .. r0 + rr` of head `h` added to the accumulator. -/
def values (h r0 rr nk : Nat) (hh : h < 4) (hr : r0 + rr ≤ 512) (hk : 0 + nk ≤ 2048) (ev : DEv (F := F) rr nk) (va : FVec F (R2 nk 256) .bf16) : PG F PUnit := do
  let al ← ldp B.al ![h, r0, 0] ![1, rr, 128] (inb3 (by omega) hr (by decide)) (pos3 ev.pr (by decide))
  let acc ← ldp B.acc ![h, r0, 0] ![1, rr, 256] (inb3 (by omega) hr (by decide)) (pos3 ev.pr (by decide))
  let p ← ldp B.p ![h, r0, 0] ![1, rr, nk] (inb3 (by omega) hr hk) (pos3 ev.pr ev.pk)
  let _ ← ldp B.acc ![h, r0, 0] ![1, rr, 256] (inb3 (by omega) hr (by decide)) (pos3 ev.pr (by decide))
  stp B.acc ![h, r0, 0] ![1, rr, 256] (inb3 (by omega) hr (by decide))
    (shapeCast (R1 rr 256) (addf
      (mulf (concatenate (R2 rr 256) 1 [⟨R2 rr 128, shapeCast (R2 rr 128) al (sc31 rr 128)⟩, ⟨R2 rr 128, shapeCast (R2 rr 128) al (sc31 rr 128)⟩] (ev.cat _ rfl))
        (shapeCast (R2 rr 256) acc (sc31 rr 256)))
      (matmul (DotDims.plain rr nk 256) none (shapeCast (R2 rr nk) p (sc31 rr nk)) va (constant (R2 rr 256) .f32 0x00000000#32))) (sc13 rr 256))
    (st_f32 B.acc _ (pos3 ev.pr (by decide)))

/-- The same for each of the four heads, in order. -/
abbrev heads (f : (h : Nat) → h < 4 → PG F PUnit) : PG F PUnit := do
  f 0 (by decide); f 1 (by decide); f 2 (by decide); f 3 (by decide)

/-- The same for the first four row blocks, and for the last four. -/
abbrev rowsLo (f : (r : Nat) → r < 8 → PG F PUnit) : PG F PUnit := do
  f 0 (by decide); f 1 (by decide); f 2 (by decide); f 3 (by decide)
abbrev rowsHi (f : (r : Nat) → r < 8 → PG F PUnit) : PG F PUnit := do
  f 4 (by decide); f 5 (by decide); f 6 (by decide); f 7 (by decide)

/-- A tile of `nk` keys below the diagonal: `k0` the position of its first key, `off` where its rows begin. -/
def tileFull (nk n : Nat) (hk : 0 + nk ≤ 2048) (evw : WEv (F := F) nk n) (evk : KEv (F := F) nk) (evd : DEv (F := F) 512 nk)
    (k0 : BitVec 32) (off : Fin 2 → Nat) (inb : ∀ a, off a + (![nk, 128] : Fin 2 → Nat) a ≤ S4096x128.size a)
    (pos : 0 < (Shape.mk 2 ![nk, 128]).numel) : PG F PUnit := do
  let k ← ldp B.k off ![nk, 128] inb pos
  let v ← ldp B.v off ![nk, 128] inb pos
  heads fun h hh => scores B h 0 512 nk hh (by decide) hk evd (kAug nk evk (blkOf k0) k)
  heads fun h hh => do
    rowsLo fun r hr => smFull B h r nk n hh hr hk evw
    rowsHi fun r hr => smFull B h r nk n hh hr hk evw
  heads fun h hh => values B h 0 512 nk hh (by decide) hk evd (vAug nk evk v)

theorem wev (w n : Nat) (h1 : 2 ≤ n) (h2 : 128 * n = w) : WEv (F := F) w n where
  red := ⟨(by decide : (R2 64 128).Reduces [1] S64).1, Nat.one_pos, fun b => by fin_cases b; rfl⟩
  cat f hf := by
    refine ⟨by simpa using h1, ?_, ?_⟩
    · intro s hs
      obtain ⟨g, hg, rfl⟩ := List.mem_map.mp hs
      rw [List.eq_of_mem_replicate hg, hf]
      refine ⟨rfl, fun b hb => ?_⟩
      fin_cases b
      · rfl
      · exact absurd rfl hb
    · simp [hf]; omega
  pos := by omega
  i0 := ⟨List.nodup_singleton _, fun _ => ⟨.inr rfl, le_refl 2⟩, fun h => absurd rfl h⟩
  i1 := ⟨List.nodup_singleton _, fun _ => ⟨.inr rfl, le_refl 2⟩, fun h => absurd rfl h⟩

theorem kev (nk : Nat) (h : 0 < nk) : KEv (F := F) nk where
  i0 := ⟨List.nodup_singleton _, fun _ => ⟨.inr rfl, le_refl 2⟩, fun h => absurd rfl h⟩
  i1 := ⟨List.nodup_singleton _, fun _ => ⟨.inr rfl, le_refl 2⟩, fun h => absurd rfl h⟩
  pos := h
  sc := rfl
  cat f g hf hg := by
    refine ⟨by simp, ?_, ?_⟩
    · intro s hs
      simp only [List.map_cons, List.map_nil, List.mem_cons, List.mem_nil_iff, or_false, hf, hg, or_self] at hs
      subst hs
      refine ⟨rfl, fun b hb => ?_⟩
      fin_cases b
      · rfl
      · exact absurd rfl hb
    · simp [hf, hg]

theorem dev (rr nk : Nat) (h1 : 0 < rr) (h2 : 0 < nk) (h3 : 2 ∣ rr) : DEv (F := F) rr nk where
  pr := h1
  pk := h2
  two := h3
  cat f hf := by
    refine ⟨by simp, ?_, ?_⟩
    · intro s hs
      simp only [List.map_cons, List.map_nil, List.mem_cons, List.mem_nil_iff, or_false, hf, or_self] at hs
      subst hs
      refine ⟨rfl, fun b hb => ?_⟩
      fin_cases b
      · rfl
      · exact absurd rfl hb
    · simp [hf]

/-! ## The diagonal tiles -/

/-- The first `nk` of a tile's rows. -/
abbrev firstRows (m nk : Nat) (h : (R2 m 256).Slices ![0, 0] (R2 nk 256)) (x : FVec F (R2 m 256) .bf16) : FVec F (R2 nk 256) .bf16 :=
  extractStridedSlice (R2 nk 256) ![0, 0] x h

theorem slc (m nk : Nat) (h : nk ≤ m) : (R2 m 256).Slices ![0, 0] (R2 nk 256) :=
  ⟨rfl, fun a => by
    fin_cases a
    · simpa using h
    · simp⟩

/-- The diagonal tile of 512 keys: rows 0 to 255 against the first 256, rows 256 to 511 against all. -/
def tileDiag1 (k0 : BitVec 32) (off : Fin 2 → Nat) (inb : ∀ a, off a + (![512, 128] : Fin 2 → Nat) a ≤ S4096x128.size a)
    (pos : 0 < (Shape.mk 2 ![512, 128]).numel) : PG F PUnit := do
  let k ← ldp B.k off ![512, 128] inb pos
  let v ← ldp B.v off ![512, 128] inb pos
  heads fun h hh => do
    scores B h 0 256 256 hh (by decide) (by decide) (dev 256 256 (by decide) (by decide) (by decide))
      (firstRows 512 256 (slc 512 256 (by decide)) (kAug 512 (kev 512 (by decide)) (blkOf k0) k))
    scores B h 256 256 512 hh (by decide) (by decide) (dev 256 512 (by decide) (by decide) (by decide))
      (kAug 512 (kev 512 (by decide)) (blkOf k0) k)
  heads fun h hh => do
    rowsLo fun r hr => smMask B h r 256 2 hh hr (by decide) (wev 256 2 (by decide) (by decide))
    rowsHi fun r hr => smMask B h r 512 4 hh hr (by decide) (wev 512 4 (by decide) (by decide))
  heads fun h hh => do
    values B h 0 256 256 hh (by decide) (by decide) (dev 256 256 (by decide) (by decide) (by decide))
      (firstRows 512 256 (slc 512 256 (by decide)) (vAug 512 (kev 512 (by decide)) v))
    values B h 256 256 512 hh (by decide) (by decide) (dev 256 512 (by decide) (by decide) (by decide))
      (vAug 512 (kev 512 (by decide)) v)

/-- The diagonal tile of `512 + d0` keys, `d0 = 128 n0` of them below the diagonal block. -/
def tileDiag (d0 n0 : Nat) (h1 : 2 ≤ n0) (h2 : 128 * n0 = d0) (h3 : d0 ≤ 1536) (k0 : BitVec 32) (off : Fin 2 → Nat)
    (inb : ∀ a, off a + (![d0 + 512, 128] : Fin 2 → Nat) a ≤ S4096x128.size a)
    (pos : 0 < (Shape.mk 2 ![d0 + 512, 128]).numel) : PG F PUnit := do
  let k ← ldp B.k off ![d0 + 512, 128] inb pos
  let v ← ldp B.v off ![d0 + 512, 128] inb pos
  heads fun h hh => do
    scores B h 0 256 (d0 + 256) hh (by decide) (by omega) (dev 256 (d0 + 256) (by decide) (by omega) (by decide))
      (firstRows (d0 + 512) (d0 + 256) (slc (d0 + 512) (d0 + 256) (by omega)) (kAug (d0 + 512) (kev (d0 + 512) (by omega)) (blkOf k0) k))
    scores B h 256 256 (d0 + 512) hh (by decide) (by omega) (dev 256 (d0 + 512) (by decide) (by omega) (by decide))
      (kAug (d0 + 512) (kev (d0 + 512) (by omega)) (blkOf k0) k)
  heads fun h hh => do
    rowsLo fun r hr => smTwo B h r d0 n0 256 2 hh hr (by omega) (wev d0 n0 h1 h2) (wev 256 2 (by decide) (by decide))
    rowsHi fun r hr => smTwo B h r d0 n0 512 4 hh hr (by omega) (wev d0 n0 h1 h2) (wev 512 4 (by decide) (by decide))
  heads fun h hh => do
    values B h 0 256 (d0 + 256) hh (by decide) (by omega) (dev 256 (d0 + 256) (by decide) (by omega) (by decide))
      (firstRows (d0 + 512) (d0 + 256) (slc (d0 + 512) (d0 + 256) (by omega)) (vAug (d0 + 512) (kev (d0 + 512) (by omega)) v))
    values B h 256 256 (d0 + 512) hh (by decide) (by omega) (dev 256 (d0 + 512) (by decide) (by omega) (by decide))
      (vAug (d0 + 512) (kev (d0 + 512) (by omega)) v)

/-! ## Start and end of a grid point -/

/-- The weight rows cast, the running maximum and the accumulator reset. -/
def init0 : PG F PUnit := do
  let w ← ldp B.w ![0, 0] S64x4096.size inb_S64x4096_S64x4096_0_0 h_S64x4096
  let _ ← ldp B.wg ![0, 0] S64x4096.size inb_S64x4096_S64x4096_0_0 h_S64x4096
  stp B.wg ![0, 0] S64x4096.size inb_S64x4096_S64x4096_0_0 (truncf .bf16 w bitsLt_bf16_f32)
    (st_bf16 B.wg B.hwg _ h_S64x4096 (by decide))
  let _ ← ldp B.m ![0, 0, 0] S4x512x128.size inb_S4x512x128_S4x512x128_0_0_0 h_S4x512x128
  stp B.m ![0, 0, 0] S4x512x128.size inb_S4x512x128_S4x512x128_0_0_0
    (shapeCast S4x512x128 (broadcast S4x512x128 (Named.named κ "mask" 0xF149F2CA#32 : F .f32)) shapeCasts_S4x512x128_S4x512x128)
    (st_f32 B.m _ h_S4x512x128)
  let _ ← ldp B.acc ![0, 0, 0] S4x512x256.size inb_S4x512x256_S4x512x256_0_0_0 h_S4x512x256
  stp B.acc ![0, 0, 0] S4x512x256.size inb_S4x512x256_S4x512x256_0_0_0
    (shapeCast S4x512x256 (broadcast S4x512x256 (Scalar.ofBits .f32 0x00000000#32 : F .f32)) shapeCasts_S4x512x256_S4x512x256)
    (st_f32 B.acc _ h_S4x512x256)

theorem inbq {d : Nat} (h : d + 128 ≤ 512) : ∀ x, (![0, d] : Fin 2 → Nat) x + (![512, 128] : Fin 2 → Nat) x ≤ S512x512.size x := by
  intro x
  fin_cases x
  · simp
  · simpa using (by omega : d ≤ 384)

/-- Head `h`'s queries beside the bias rows. -/
def initH (h : Nat) (hh : h < 4) : PG F PUnit := do
  let q ← ldp B.q ![0, 128 * h] ![512, 128] (inbq (by omega)) h_S512x128
  let _ ← ldp B.qa ![h, 0, 0] ![1, 512, 128] (inb3 (by omega) (by decide) (by decide)) (pos3 (by decide) (by decide))
  stp B.qa ![h, 0, 0] ![1, 512, 128] (inb3 (by omega) (by decide) (by decide))
    (shapeCast (R1 512 128) (shapeCast S512x128 q shapeCasts_S512x128_S512x128) (sc13 512 128))
    (st_bf16 B.qa B.hqa _ (pos3 (by decide) (by decide)) (packed3 _ (by decide) (by decide)))
  let b ← ldp B.b ![0, 0, 0, 0] S1x1x512x128.size inb_S1x1x512x128_S1x1x512x128_0_0_0_0 h_S1x1x512x128
  let _ ← ldp B.qa ![h, 0, 128] ![1, 512, 128] (inb3 (by omega) (by decide) (by decide)) (pos3 (by decide) (by decide))
  stp B.qa ![h, 0, 128] ![1, 512, 128] (inb3 (by omega) (by decide) (by decide))
    (shapeCast (R1 512 128) (shapeCast S512x128 b shapeCasts_S1x1x512x128_S512x128) (sc13 512 128))
    (st_bf16 B.qa B.hqa _ (pos3 (by decide) (by decide)) (packed3 _ (by decide) (by decide)))

/-- Head `h`'s accumulated values, -/
def finA (h : Nat) (hh : h < 4) : PG F (FVec F S512x128 .f32) := do
  let a ← ldp B.acc ![h, 0, 0] ![1, 512, 128] (inb3 (by omega) (by decide) (by decide)) (pos3 (by decide) (by decide))
  pure (shapeCast S512x128 a (sc31 512 128))

/-- divided by the accumulated weights and stored. -/
def finB (h : Nat) (hh : h < 4) (a : FVec F S512x128 .f32) : PG F PUnit := do
  let l ← ldp B.acc ![h, 0, 128] ![1, 512, 128] (inb3 (by omega) (by decide) (by decide)) (pos3 (by decide) (by decide))
  let _ ← ldp B.o ![0, 128 * h] ![512, 128] (inbq (by omega)) h_S512x128
  stp B.o ![0, 128 * h] ![512, 128] (inbq (by omega)) (divf a (shapeCast S512x128 l (sc31 512 128)))
    (st_f32 B.o _ h_S512x128)

/-! ## The body -/

def init : PG F PUnit := do
  init0 B
  heads fun h hh => initH B h hh

/-- The tiles below the diagonal group. -/
def mid1 (i : grid0.Coords) (arg2 : BitVec 32) : PG F (Σ' (v67 : BitVec 32), BitVec 32) := do
  let c128_51 : Index := 128#32
  let c4_i32 : BitVec 32 := 4#32
  let v51 : BitVec 32 := Scalar.divsi arg2 c4_i32
  let c0_i32 : BitVec 32 := 0#32
  let v52 : BitVec 1 := Scalar.cmpi .sgt arg2 c0_i32
  let v53 : BitVec 32 := Scalar.extui v52
  let c0_i32_52 : BitVec 32 := 0#32
  let v54 : BitVec 1 := Scalar.cmpi .slt arg2 c0_i32_52
  let v55 : BitVec 32 := Scalar.extui v54
  let v56 : BitVec 32 := Scalar.subi v53 v55
  let c0_i32_53 : BitVec 32 := 0#32
  let v57 : BitVec 1 := Scalar.cmpi .sgt c4_i32 c0_i32_53
  let v58 : BitVec 32 := Scalar.extui v57
  let c0_i32_54 : BitVec 32 := 0#32
  let v59 : BitVec 1 := Scalar.cmpi .slt c4_i32 c0_i32_54
  let v60 : BitVec 32 := Scalar.extui v59
  let v61 : BitVec 32 := Scalar.subi v58 v60
  let v62 : BitVec 1 := Scalar.cmpi .ne v56 v61
  let v63 : BitVec 32 := Scalar.remsi arg2 c4_i32
  let c0_i32_55 : BitVec 32 := 0#32
  let v64 : BitVec 1 := Scalar.cmpi .ne v63 c0_i32_55
  let v65 : BitVec 1 := Scalar.andi v62 v64
  let c1_i32 : BitVec 32 := 1#32
  let v66 : BitVec 32 := Scalar.subi v51 c1_i32
  let v67 : BitVec 32 := Scalar.select v65 v66 v51
  let c0_i32_56 : BitVec 32 := 0#32
  let c0_i32_57 : BitVec 32 := 0#32
  let v68 : BitVec 32 := Scalar.subi v67 c0_i32_57
  let v69 : BitVec 32 := Scalar.addi c0_i32_57 v68
  let c1_i32_58 : BitVec 32 := 1#32
  let v70 : BitVec 32 := Scalar.divsi v68 c1_i32_58
  let v71 : BitVec 32 := Scalar.muli v70 c1_i32_58
  let v72 : BitVec 32 := Scalar.addi c0_i32_57 v71
  let c1_i32_59 : BitVec 32 := 1#32
  Scf.Loop.for (k0_t1_loop i) (k0_t1_ok i) ⟨⟩ fun t _ =>
    tileFull B 2048 16 (by decide) (wev 2048 16 (by decide) (by decide)) (kev 2048 (by decide)) (dev 512 2048 (by decide) (by decide) (by decide))
      (Scalar.muli (Scalar.muli 4#32 (Scf.iv 0#32 1#32 t)) 512#32) (k0_off1 i t) (k0_off1_inb i t) h_S2048x128
  Scf.Loop.for (k0_t2_loop i) (k0_t2_ok i) ⟨⟩ fun t _ =>
    tileFull B 2048 16 (by decide) (wev 2048 16 (by decide) (by decide)) (kev 2048 (by decide)) (dev 512 2048 (by decide) (by decide) (by decide))
      (Scalar.muli (Scalar.muli 4#32 (Scf.iv v72 1#32 t)) 512#32) (k0_off2 i t) (k0_off2_inb i t) h_S2048x128
  let c4_i32_61 : BitVec 32 := 4#32
  let c0_i32_62 : BitVec 32 := 0#32
  let v73 : BitVec 1 := Scalar.cmpi .eq c4_i32_61 c0_i32_62
  let c1_i32_63 : BitVec 32 := 1#32
  let v74 : BitVec 32 := Scalar.select v73 c1_i32_63 c4_i32_61
  let v75 : BitVec 32 := Scalar.remsi arg2 v74
  let c0_i32_64 : BitVec 32 := 0#32
  let v76 : BitVec 1 := Scalar.cmpi .ne v75 c0_i32_64
  let c0_i32_65 : BitVec 32 := 0#32
  let v77 : BitVec 1 := Scalar.cmpi .slt v75 c0_i32_65
  let c0_i32_66 : BitVec 32 := 0#32
  let v78 : BitVec 1 := Scalar.cmpi .slt v74 c0_i32_66
  let v79 : BitVec 1 := Scalar.xori v77 v78
  let v80 : BitVec 1 := Scalar.andi v79 v76
  let v81 : BitVec 32 := Scalar.addi v75 v74
  let v82 : BitVec 32 := Scalar.select v80 v81 v75
  let c0_i32_67 : BitVec 32 := 0#32
  let v83 : BitVec 1 := Scalar.cmpi .eq v82 c0_i32_67
  let v84 : BitVec 32 := Scalar.extui v83
  pure ⟨v67, v84⟩

/-- The diagonal tile of the grid point, where its group has one, two or three row blocks; -/
def mid2 (i : grid0.Coords) (arg2 v67 v84 : BitVec 32) : PG F (Σ' (v113 : BitVec 32) (v114 : BitVec 32) (v115 : BitVec 1), BitVec 1) := do
  let c0_i32_68 : BitVec 32 := 0#32
  let v85 : BitVec 1 := Scalar.cmpi .ne v84 c0_i32_68
  if k0_h1 : k0_cond1 i = 1#1 then tileDiag1 B (Scalar.muli (Scalar.muli v67 4#32) 512#32) (k0_off3 i) (k0_off3_inb i k0_h1) h_S512x128
  else pure ⟨⟩
  let c4_i32_69 : BitVec 32 := 4#32
  let c0_i32_70 : BitVec 32 := 0#32
  let v86 : BitVec 1 := Scalar.cmpi .eq c4_i32_69 c0_i32_70
  let c1_i32_71 : BitVec 32 := 1#32
  let v87 : BitVec 32 := Scalar.select v86 c1_i32_71 c4_i32_69
  let v88 : BitVec 32 := Scalar.remsi arg2 v87
  let c0_i32_72 : BitVec 32 := 0#32
  let v89 : BitVec 1 := Scalar.cmpi .ne v88 c0_i32_72
  let c0_i32_73 : BitVec 32 := 0#32
  let v90 : BitVec 1 := Scalar.cmpi .slt v88 c0_i32_73
  let c0_i32_74 : BitVec 32 := 0#32
  let v91 : BitVec 1 := Scalar.cmpi .slt v87 c0_i32_74
  let v92 : BitVec 1 := Scalar.xori v90 v91
  let v93 : BitVec 1 := Scalar.andi v92 v89
  let v94 : BitVec 32 := Scalar.addi v88 v87
  let v95 : BitVec 32 := Scalar.select v93 v94 v88
  let c1_i32_75 : BitVec 32 := 1#32
  let v96 : BitVec 1 := Scalar.cmpi .eq v95 c1_i32_75
  let v97 : BitVec 32 := Scalar.extui v96
  let c0_i32_76 : BitVec 32 := 0#32
  let v98 : BitVec 1 := Scalar.cmpi .ne v97 c0_i32_76
  if k0_h2 : k0_cond2 i = 1#1 then tileDiag B 512 4 (by decide) (by decide) (by decide) (Scalar.muli (Scalar.muli v67 4#32) 512#32) (k0_off4 i) (k0_off4_inb i k0_h2) h_S1024x128
  else pure ⟨⟩
  let c4_i32_77 : BitVec 32 := 4#32
  let c0_i32_78 : BitVec 32 := 0#32
  let v99 : BitVec 1 := Scalar.cmpi .eq c4_i32_77 c0_i32_78
  let c1_i32_79 : BitVec 32 := 1#32
  let v100 : BitVec 32 := Scalar.select v99 c1_i32_79 c4_i32_77
  let v101 : BitVec 32 := Scalar.remsi arg2 v100
  let c0_i32_80 : BitVec 32 := 0#32
  let v102 : BitVec 1 := Scalar.cmpi .ne v101 c0_i32_80
  let c0_i32_81 : BitVec 32 := 0#32
  let v103 : BitVec 1 := Scalar.cmpi .slt v101 c0_i32_81
  let c0_i32_82 : BitVec 32 := 0#32
  let v104 : BitVec 1 := Scalar.cmpi .slt v100 c0_i32_82
  let v105 : BitVec 1 := Scalar.xori v103 v104
  let v106 : BitVec 1 := Scalar.andi v105 v102
  let v107 : BitVec 32 := Scalar.addi v101 v100
  let v108 : BitVec 32 := Scalar.select v106 v107 v101
  let c2_i32 : BitVec 32 := 2#32
  let v109 : BitVec 1 := Scalar.cmpi .eq v108 c2_i32
  let v110 : BitVec 32 := Scalar.extui v109
  let c0_i32_83 : BitVec 32 := 0#32
  let v111 : BitVec 1 := Scalar.cmpi .ne v110 c0_i32_83
  if k0_h3 : k0_cond3 i = 1#1 then tileDiag B 1024 8 (by decide) (by decide) (by decide) (Scalar.muli (Scalar.muli v67 4#32) 512#32) (k0_off5 i) (k0_off5_inb i k0_h3) h_S1536x128
  else pure ⟨⟩
  let c4_i32_84 : BitVec 32 := 4#32
  let c0_i32_85 : BitVec 32 := 0#32
  let v112 : BitVec 1 := Scalar.cmpi .eq c4_i32_84 c0_i32_85
  let c1_i32_86 : BitVec 32 := 1#32
  let v113 : BitVec 32 := Scalar.select v112 c1_i32_86 c4_i32_84
  let v114 : BitVec 32 := Scalar.remsi arg2 v113
  let c0_i32_87 : BitVec 32 := 0#32
  let v115 : BitVec 1 := Scalar.cmpi .ne v114 c0_i32_87
  let c0_i32_88 : BitVec 32 := 0#32
  let v116 : BitVec 1 := Scalar.cmpi .slt v114 c0_i32_88
  let c0_i32_89 : BitVec 32 := 0#32
  let v117 : BitVec 1 := Scalar.cmpi .slt v113 c0_i32_89
  let v118 : BitVec 1 := Scalar.xori v116 v117
  pure ⟨v113, v114, v115, v118⟩

/-- four; then the results of the first three heads and the last head's accumulated values. -/
def mid3 (i : grid0.Coords) (v67 v113 v114 : BitVec 32) (v115 v118 : BitVec 1) : PG F (FVec F S512x128 .f32) := do
  let v119 : BitVec 1 := Scalar.andi v118 v115
  let v120 : BitVec 32 := Scalar.addi v114 v113
  let v121 : BitVec 32 := Scalar.select v119 v120 v114
  let c3_i32 : BitVec 32 := 3#32
  let v122 : BitVec 1 := Scalar.cmpi .eq v121 c3_i32
  let v123 : BitVec 32 := Scalar.extui v122
  let c0_i32_90 : BitVec 32 := 0#32
  let v124 : BitVec 1 := Scalar.cmpi .ne v123 c0_i32_90
  if k0_h4 : k0_cond4 i = 1#1 then tileDiag B 1536 12 (by decide) (by decide) (by decide) (Scalar.muli (Scalar.muli v67 4#32) 512#32) (k0_off6 i) (k0_off6_inb i k0_h4) h_S2048x128
  else pure ⟨⟩
  let a ← finA B 0 (by decide)
  finB B 0 (by decide) a
  let a ← finA B 1 (by decide)
  finB B 1 (by decide) a
  let a ← finA B 2 (by decide)
  finB B 2 (by decide) a
  finA B 3 (by decide)

/-- The kernel's body. -/
def body (i : grid0.Coords) : PG F PUnit := do
  init B
  let ⟨v67, v84⟩ ← mid1 B i (BitVec.ofNat 32 (i 2).val)
  let ⟨v113, v114, v115, v118⟩ ← mid2 B i (BitVec.ofNat 32 (i 2).val) v67 v84
  let a ← mid3 B i v67 v113 v114 v115 v118
  finB B 3 (by decide) a

end Cert.Proof

end
-- ==== Proof.Runs.lean ====
/-
  The buffers' contents as one state, and what it is for a program of loads and stores over them to run from a state
  with a given outcome: the rules for a load, a store and a sequence.
-/
module

public import proofs.«01_k».proof.Proof.Tile
public import proofs.«01_k».proof.Proof.Gen.KernelIdeal.Frame
public import Idealize.ShloMosaic.Lib.Claim
public import Idealize.ShloMosaic.Lib.VecWindow
public import Idealize.ShloMosaic.Lib.Pipeline.TableIdle

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the thirteen buffers hold. -/
structure St (F : FTy → Type) where
  q : Vec F S512x512 .bf16
  k : Vec F S4096x128 .bf16
  v : Vec F S4096x128 .bf16
  b : Vec F S1x1x512x128 .bf16
  w : Vec F S64x4096 .f32
  o : Vec F S512x512 .f32
  wg : Vec F S64x4096 .bf16
  qa : Vec F S4x512x256 .bf16
  m : Vec F S4x512x128 .f32
  acc : Vec F S4x512x256 .f32
  s : Vec F S4x512x2048 .f32
  p : Vec F S4x512x2048 .bf16
  al : Vec F S4x512x128 .f32

variable (c : Dev nD) (B : Bufs)

/-- The buffers owned at a state's contents. -/
def Res (σ : St F) : sProp 𝕄 :=
  iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al)

/-- A program runs from a state to an outcome `Q` of its result and the state it leaves. -/
def Tr {α : Type} (p : PG F α) (Q : α → St F → Prop) (σ : St F) : Prop :=
  ∀ (R : sProp 𝕄) (Φ : α → sProp 𝕄), (∀ a σ', Q a σ' → iprop(Res c B σ' ∗ R) ⊢ Φ a) →
    iprop(Res c B σ ∗ R) ⊢ wp frame (wpE (defs₀ (F := F)) Variants.none (c : Thread nD τ) none) Set.univ p Φ

variable {c B}

theorem Tr.ret {α : Type} {a : α} {Q : α → St F → Prop} {σ : St F} (h : Q a σ) : Tr c B (pure a) Q σ := fun R Φ H =>
  (H a σ h).trans fupd_intro

theorem Tr.bind {α β : Type} {p : PG F α} {k : α → PG F β} {Q : β → St F → Prop} {σ : St F}
    (h : Tr c B p (fun a σ' => Tr c B (k a) Q σ') σ) : Tr c B (p >>= k) Q σ := fun R Φ H => by
  rw [wp_bind]
  exact h R _ fun a σ' hq => hq R Φ H

theorem Tr.mono {α : Type} {p : PG F α} {Q Q' : α → St F → Prop} {σ : St F} (h : Tr c B p Q σ) (hq : ∀ a σ', Q a σ' → Q' a σ') :
    Tr c B p Q' σ := fun R Φ H => h R Φ fun a σ' h' => H a σ' (hq a σ' h')

/-- A load of one buffer. -/
theorem ld_one {S : Shape} {e : EltTy} (c : Dev nD) (M : Memref sig .tc .vmem S e) (X : Vec F S e) (off size : Fin S.rank → Nat)
    (inb : ∀ a, off a + size a ≤ S.size a) (hp : 0 < (Shape.mk S.rank size).numel) (R : sProp 𝕄) (Φ : Vec F ⟨S.rank, size⟩ e → sProp 𝕄)
    (H : iprop(owns (c : Thread nD τ) M fullShare X ∗ R) ⊢ Φ (VecWindow.window X off size inb)) :
    iprop(owns (c : Thread nD τ) M fullShare X ∗ R)
      ⊢ wp frame (wpE (defs₀ (F := F)) Variants.none (c : Thread nD τ) none) Set.univ (ldp M off size inb hp) Φ := by
  refine BIBase.Entails.trans (sep_mono_left (rep_of_owns (c : Thread nD τ) M fullShare X)) ?_
  iintro ⟨H1, HR⟩
  iapply (wp_load Variants.none (c : Thread nD τ) none Set.univ (m := M) (S := M.view.set) (View.setOn_subset_set _ _)) $$ H1
  iintro H1
  rw [View.readAt_rep_unit _ _ inb rfl inb]
  iapply (le_wp_ret _ _ _ _ _)
  iapply H
  isplitl [H1]
  · iapply (owns_of_rep (c : Thread nD τ) M fullShare X) $$ H1
  · iexact HR

/-- A store to one buffer. -/
theorem st_one {S : Shape} {e : EltTy} (c : Dev nD) (M : Memref sig .tc .vmem S e) (X : Vec F S e) (off size : Fin S.rank → Nat)
    (inb : ∀ a, off a + size a ≤ S.size a) (x : Vec F ⟨S.rank, size⟩ e)
    (hs : (M.access (Rect.unit (s := S) off size inb)).Stores Finset.univ) (R : sProp 𝕄) (Φ : PUnit → sProp 𝕄)
    (H : iprop(owns (c : Thread nD τ) M fullShare (VecWindow.put X off size x) ∗ R) ⊢ Φ ⟨⟩) :
    iprop(owns (c : Thread nD τ) M fullShare X ∗ R)
      ⊢ wp frame (wpE (defs₀ (F := F)) Variants.none (c : Thread nD τ) none) Set.univ (stp M off size inb x hs) Φ := by
  refine BIBase.Entails.trans (sep_mono_left (rep_of_owns (c : Thread nD τ) M fullShare X)) ?_
  iintro ⟨H1, HR⟩
  iapply (wp_store Variants.none (c : Thread nD τ) none Set.univ (m := M) (r := Rect.unit (s := S) off size inb) (w := x) (Mk := Finset.univ) (hx := hs) (hm := .inl rfl) (S := M.view.set) (f := M.view.rep X) ((View.setOn_subset_set _ _).trans (View.set_slice_subset M.view (Rect.unit (s := S) off size inb)))) $$ H1
  iintro H1
  iapply (le_wp_ret _ _ _ _ _)
  iapply H
  isplitl [H1]
  · iapply (owns_of_rep (c : Thread nD τ) M fullShare _)
    iapply (pointsTo_rep_of_read (c : Thread nD τ) M _ fullShare _ (View.read_writes_rep_unit M.view X inb x rfl))
    iexact H1
  · iexact HR

theorem Tr.ld_q {off size : Fin (Shape.rank S512x512) → Nat} {inb : ∀ a, off a + size a ≤ Shape.size S512x512 a} {hp : 0 < (Shape.mk _ size).numel}
    {Q : Vec F ⟨_, size⟩ .bf16 → St F → Prop} {σ : St F} (h : Q (VecWindow.window σ.q off size inb) σ) :
    Tr c B (ldp B.q off size inb hp) Q σ := fun R Φ H => by
  refine BIBase.Entails.trans ?_ (ld_one c B.q σ.q off size inb hp iprop(owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hm]; · iexact Hm
    isplitl [Hacc]; · iexact Hacc
    isplitl [Hs]; · iexact Hs
    isplitl [Hp]; · iexact Hp
    isplitl [Hal]; · iexact Hal
    iexact HR
  · unfold Res
    iintro ⟨Hq, Hk, Hv, Hb, Hw, Ho, Hwg, Hqa, Hm, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_k {off size : Fin (Shape.rank S4096x128) → Nat} {inb : ∀ a, off a + size a ≤ Shape.size S4096x128 a} {hp : 0 < (Shape.mk _ size).numel}
    {Q : Vec F ⟨_, size⟩ .bf16 → St F → Prop} {σ : St F} (h : Q (VecWindow.window σ.k off size inb) σ) :
    Tr c B (ldp B.k off size inb hp) Q σ := fun R Φ H => by
  refine BIBase.Entails.trans ?_ (ld_one c B.k σ.k off size inb hp iprop(owns (c : Thread nD τ) B.q fullShare σ.q ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hk]; · iexact Hk
    isplitl [Hq]; · iexact Hq
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hm]; · iexact Hm
    isplitl [Hacc]; · iexact Hacc
    isplitl [Hs]; · iexact Hs
    isplitl [Hp]; · iexact Hp
    isplitl [Hal]; · iexact Hal
    iexact HR
  · unfold Res
    iintro ⟨Hk, Hq, Hv, Hb, Hw, Ho, Hwg, Hqa, Hm, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_v {off size : Fin (Shape.rank S4096x128) → Nat} {inb : ∀ a, off a + size a ≤ Shape.size S4096x128 a} {hp : 0 < (Shape.mk _ size).numel}
    {Q : Vec F ⟨_, size⟩ .bf16 → St F → Prop} {σ : St F} (h : Q (VecWindow.window σ.v off size inb) σ) :
    Tr c B (ldp B.v off size inb hp) Q σ := fun R Φ H => by
  refine BIBase.Entails.trans ?_ (ld_one c B.v σ.v off size inb hp iprop(owns (c : Thread nD τ) B.q fullShare σ.q ∗ owns (c : Thread nD τ) B.k fullShare σ.k ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hv]; · iexact Hv
    isplitl [Hq]; · iexact Hq
    isplitl [Hk]; · iexact Hk
    isplitl [Hb]; · iexact Hb
    isplitl [Hw]; · iexact Hw
    isplitl [Ho]; · iexact Ho
    isplitl [Hwg]; · iexact Hwg
    isplitl [Hqa]; · iexact Hqa
    isplitl [Hm]; · iexact Hm
    isplitl [Hacc]; · iexact Hacc
    isplitl [Hs]; · iexact Hs
    isplitl [Hp]; · iexact Hp
    isplitl [Hal]; · iexact Hal
    iexact HR
  · unfold Res
    iintro ⟨Hv, Hq, Hk, Hb, Hw, Ho, Hwg, Hqa, Hm, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_b {off size : Fin (Shape.rank S1x1x512x128) → Nat} {inb : ∀ a, off a + size a ≤ Shape.size S1x1x512x128 a} {hp : 0 < (Shape.mk _ size).numel}
    {Q : Vec F ⟨_, size⟩ .bf16 → St F → Prop} {σ : St F} (h : Q (VecWindow.window σ.b off size inb) σ) :
    Tr c B (ldp B.b off size inb hp) Q σ := fun R Φ H => by
  refine BIBase.Entails.trans ?_ (ld_one c B.b σ.b off size inb hp iprop(owns (c : Thread nD τ) B.q fullShare σ.q ∗ owns (c : Thread nD τ) B.k fullShare σ.k ∗ owns (c : Thread nD τ) B.v fullShare σ.v ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hb]; · iexact Hb
    isplitl [Hq]; · iexact Hq
    isplitl [Hk]; · iexact Hk
    isplitl [Hv]; · iexact Hv
    isplitl [Hw]; · iexact Hw
    isplitl [Ho]; · iexact Ho
    isplitl [Hwg]; · iexact Hwg
    isplitl [Hqa]; · iexact Hqa
    isplitl [Hm]; · iexact Hm
    isplitl [Hacc]; · iexact Hacc
    isplitl [Hs]; · iexact Hs
    isplitl [Hp]; · iexact Hp
    isplitl [Hal]; · iexact Hal
    iexact HR
  · unfold Res
    iintro ⟨Hb, Hq, Hk, Hv, Hw, Ho, Hwg, Hqa, Hm, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_w {off size : Fin (Shape.rank S64x4096) → Nat} {inb : ∀ a, off a + size a ≤ Shape.size S64x4096 a} {hp : 0 < (Shape.mk _ size).numel}
    {Q : Vec F ⟨_, size⟩ .f32 → St F → Prop} {σ : St F} (h : Q (VecWindow.window σ.w off size inb) σ) :
    Tr c B (ldp B.w off size inb hp) Q σ := fun R Φ H => by
  refine BIBase.Entails.trans ?_ (ld_one c B.w σ.w off size inb hp iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hw]; · iexact Hw
    isplitl [Hq]; · iexact Hq
    isplitl [Hk]; · iexact Hk
    isplitl [Hv]; · iexact Hv
    isplitl [Hb]; · iexact Hb
    isplitl [Ho]; · iexact Ho
    isplitl [Hwg]; · iexact Hwg
    isplitl [Hqa]; · iexact Hqa
    isplitl [Hm]; · iexact Hm
    isplitl [Hacc]; · iexact Hacc
    isplitl [Hs]; · iexact Hs
    isplitl [Hp]; · iexact Hp
    isplitl [Hal]; · iexact Hal
    iexact HR
  · unfold Res
    iintro ⟨Hw, Hq, Hk, Hv, Hb, Ho, Hwg, Hqa, Hm, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_o {off size : Fin (Shape.rank S512x512) → Nat} {inb : ∀ a, off a + size a ≤ Shape.size S512x512 a} {hp : 0 < (Shape.mk _ size).numel}
    {Q : Vec F ⟨_, size⟩ .f32 → St F → Prop} {σ : St F} (h : Q (VecWindow.window σ.o off size inb) σ) :
    Tr c B (ldp B.o off size inb hp) Q σ := fun R Φ H => by
  refine BIBase.Entails.trans ?_ (ld_one c B.o σ.o off size inb hp iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Ho]; · iexact Ho
    isplitl [Hq]; · iexact Hq
    isplitl [Hk]; · iexact Hk
    isplitl [Hv]; · iexact Hv
    isplitl [Hb]; · iexact Hb
    isplitl [Hw]; · iexact Hw
    isplitl [Hwg]; · iexact Hwg
    isplitl [Hqa]; · iexact Hqa
    isplitl [Hm]; · iexact Hm
    isplitl [Hacc]; · iexact Hacc
    isplitl [Hs]; · iexact Hs
    isplitl [Hp]; · iexact Hp
    isplitl [Hal]; · iexact Hal
    iexact HR
  · unfold Res
    iintro ⟨Ho, Hq, Hk, Hv, Hb, Hw, Hwg, Hqa, Hm, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_wg {off size : Fin (Shape.rank S64x4096) → Nat} {inb : ∀ a, off a + size a ≤ Shape.size S64x4096 a} {hp : 0 < (Shape.mk _ size).numel}
    {Q : Vec F ⟨_, size⟩ .bf16 → St F → Prop} {σ : St F} (h : Q (VecWindow.window σ.wg off size inb) σ) :
    Tr c B (ldp B.wg off size inb hp) Q σ := fun R Φ H => by
  refine BIBase.Entails.trans ?_ (ld_one c B.wg σ.wg off size inb hp iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hwg]; · iexact Hwg
    isplitl [Hq]; · iexact Hq
    isplitl [Hk]; · iexact Hk
    isplitl [Hv]; · iexact Hv
    isplitl [Hb]; · iexact Hb
    isplitl [Hw]; · iexact Hw
    isplitl [Ho]; · iexact Ho
    isplitl [Hqa]; · iexact Hqa
    isplitl [Hm]; · iexact Hm
    isplitl [Hacc]; · iexact Hacc
    isplitl [Hs]; · iexact Hs
    isplitl [Hp]; · iexact Hp
    isplitl [Hal]; · iexact Hal
    iexact HR
  · unfold Res
    iintro ⟨Hwg, Hq, Hk, Hv, Hb, Hw, Ho, Hqa, Hm, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_qa {off size : Fin (Shape.rank S4x512x256) → Nat} {inb : ∀ a, off a + size a ≤ Shape.size S4x512x256 a} {hp : 0 < (Shape.mk _ size).numel}
    {Q : Vec F ⟨_, size⟩ .bf16 → St F → Prop} {σ : St F} (h : Q (VecWindow.window σ.qa off size inb) σ) :
    Tr c B (ldp B.qa off size inb hp) Q σ := fun R Φ H => by
  refine BIBase.Entails.trans ?_ (ld_one c B.qa σ.qa off size inb hp iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hqa]; · iexact Hqa
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hm]; · iexact Hm
    isplitl [Hacc]; · iexact Hacc
    isplitl [Hs]; · iexact Hs
    isplitl [Hp]; · iexact Hp
    isplitl [Hal]; · iexact Hal
    iexact HR
  · unfold Res
    iintro ⟨Hqa, Hq, Hk, Hv, Hb, Hw, Ho, Hwg, Hm, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_m {off size : Fin (Shape.rank S4x512x128) → Nat} {inb : ∀ a, off a + size a ≤ Shape.size S4x512x128 a} {hp : 0 < (Shape.mk _ size).numel}
    {Q : Vec F ⟨_, size⟩ .f32 → St F → Prop} {σ : St F} (h : Q (VecWindow.window σ.m off size inb) σ) :
    Tr c B (ldp B.m off size inb hp) Q σ := fun R Φ H => by
  refine BIBase.Entails.trans ?_ (ld_one c B.m σ.m off size inb hp iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hm]; · iexact Hm
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hacc]; · iexact Hacc
    isplitl [Hs]; · iexact Hs
    isplitl [Hp]; · iexact Hp
    isplitl [Hal]; · iexact Hal
    iexact HR
  · unfold Res
    iintro ⟨Hm, Hq, Hk, Hv, Hb, Hw, Ho, Hwg, Hqa, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_acc {off size : Fin (Shape.rank S4x512x256) → Nat} {inb : ∀ a, off a + size a ≤ Shape.size S4x512x256 a} {hp : 0 < (Shape.mk _ size).numel}
    {Q : Vec F ⟨_, size⟩ .f32 → St F → Prop} {σ : St F} (h : Q (VecWindow.window σ.acc off size inb) σ) :
    Tr c B (ldp B.acc off size inb hp) Q σ := fun R Φ H => by
  refine BIBase.Entails.trans ?_ (ld_one c B.acc σ.acc off size inb hp iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.s fullShare σ.s ∗ owns (c : Thread nD τ) B.p fullShare σ.p ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hacc]; · iexact Hacc
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hm]; · iexact Hm
    isplitl [Hs]; · iexact Hs
    isplitl [Hp]; · iexact Hp
    isplitl [Hal]; · iexact Hal
    iexact HR
  · unfold Res
    iintro ⟨Hacc, Hq, Hk, Hv, Hb, Hw, Ho, Hwg, Hqa, Hm, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_s {off size : Fin (Shape.rank S4x512x2048) → Nat} {inb : ∀ a, off a + size a ≤ Shape.size S4x512x2048 a} {hp : 0 < (Shape.mk _ size).numel}
    {Q : Vec F ⟨_, size⟩ .f32 → St F → Prop} {σ : St F} (h : Q (VecWindow.window σ.s off size inb) σ) :
    Tr c B (ldp B.s off size inb hp) Q σ := fun R Φ H => by
  refine BIBase.Entails.trans ?_ (ld_one c B.s σ.s off size inb hp iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.p fullShare σ.p ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hs]; · iexact Hs
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hm]; · iexact Hm
    isplitl [Hacc]; · iexact Hacc
    isplitl [Hp]; · iexact Hp
    isplitl [Hal]; · iexact Hal
    iexact HR
  · unfold Res
    iintro ⟨Hs, Hq, Hk, Hv, Hb, Hw, Ho, Hwg, Hqa, Hm, Hacc, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_p {off size : Fin (Shape.rank S4x512x2048) → Nat} {inb : ∀ a, off a + size a ≤ Shape.size S4x512x2048 a} {hp : 0 < (Shape.mk _ size).numel}
    {Q : Vec F ⟨_, size⟩ .bf16 → St F → Prop} {σ : St F} (h : Q (VecWindow.window σ.p off size inb) σ) :
    Tr c B (ldp B.p off size inb hp) Q σ := fun R Φ H => by
  refine BIBase.Entails.trans ?_ (ld_one c B.p σ.p off size inb hp iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.al fullShare σ.al ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hp]; · iexact Hp
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hm]; · iexact Hm
    isplitl [Hacc]; · iexact Hacc
    isplitl [Hs]; · iexact Hs
    isplitl [Hal]; · iexact Hal
    iexact HR
  · unfold Res
    iintro ⟨Hp, Hq, Hk, Hv, Hb, Hw, Ho, Hwg, Hqa, Hm, Hacc, Hs, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.ld_al {off size : Fin (Shape.rank S4x512x128) → Nat} {inb : ∀ a, off a + size a ≤ Shape.size S4x512x128 a} {hp : 0 < (Shape.mk _ size).numel}
    {Q : Vec F ⟨_, size⟩ .f32 → St F → Prop} {σ : St F} (h : Q (VecWindow.window σ.al off size inb) σ) :
    Tr c B (ldp B.al off size inb hp) Q σ := fun R Φ H => by
  refine BIBase.Entails.trans ?_ (ld_one c B.al σ.al off size inb hp iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ R) Φ (BIBase.Entails.trans ?_ (H _ σ h)))
  · unfold Res
    iintro ⟨⟨Hq, Hk, Hv, Hb, Hw, Ho, Hwg, Hqa, Hm, Hacc, Hs, Hp, Hal⟩, HR⟩
    isplitl [Hal]; · iexact Hal
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hm]; · iexact Hm
    isplitl [Hacc]; · iexact Hacc
    isplitl [Hs]; · iexact Hs
    isplitl [Hp]; · iexact Hp
    iexact HR
  · unfold Res
    iintro ⟨Hal, Hq, Hk, Hv, Hb, Hw, Ho, Hwg, Hqa, Hm, Hacc, Hs, Hp, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.st_o {off size : Fin (Shape.rank S512x512) → Nat} {inb : ∀ a, off a + size a ≤ Shape.size S512x512 a} {x : Vec F ⟨_, size⟩ .f32}
    {hs : (B.o.access (Rect.unit (s := S512x512) off size inb)).Stores Finset.univ}
    {Q : PUnit → St F → Prop} {σ : St F} (h : Q ⟨⟩ { σ with o := VecWindow.put σ.o off size x }) :
    Tr c B (stp B.o off size inb x hs) Q σ := fun R Φ H => by
  refine BIBase.Entails.trans ?_ (st_one c B.o σ.o off size inb x hs iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ _ h)))
  · unfold Res
    iintro ⟨⟨Hq, Hk, Hv, Hb, Hw, Ho, Hwg, Hqa, Hm, Hacc, Hs, Hp, Hal⟩, HR⟩
    isplitl [Ho]; · iexact Ho
    isplitl [Hq]; · iexact Hq
    isplitl [Hk]; · iexact Hk
    isplitl [Hv]; · iexact Hv
    isplitl [Hb]; · iexact Hb
    isplitl [Hw]; · iexact Hw
    isplitl [Hwg]; · iexact Hwg
    isplitl [Hqa]; · iexact Hqa
    isplitl [Hm]; · iexact Hm
    isplitl [Hacc]; · iexact Hacc
    isplitl [Hs]; · iexact Hs
    isplitl [Hp]; · iexact Hp
    isplitl [Hal]; · iexact Hal
    iexact HR
  · unfold Res
    iintro ⟨Ho, Hq, Hk, Hv, Hb, Hw, Hwg, Hqa, Hm, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.st_wg {off size : Fin (Shape.rank S64x4096) → Nat} {inb : ∀ a, off a + size a ≤ Shape.size S64x4096 a} {x : Vec F ⟨_, size⟩ .bf16}
    {hs : (B.wg.access (Rect.unit (s := S64x4096) off size inb)).Stores Finset.univ}
    {Q : PUnit → St F → Prop} {σ : St F} (h : Q ⟨⟩ { σ with wg := VecWindow.put σ.wg off size x }) :
    Tr c B (stp B.wg off size inb x hs) Q σ := fun R Φ H => by
  refine BIBase.Entails.trans ?_ (st_one c B.wg σ.wg off size inb x hs iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ _ h)))
  · unfold Res
    iintro ⟨⟨Hq, Hk, Hv, Hb, Hw, Ho, Hwg, Hqa, Hm, Hacc, Hs, Hp, Hal⟩, HR⟩
    isplitl [Hwg]; · iexact Hwg
    isplitl [Hq]; · iexact Hq
    isplitl [Hk]; · iexact Hk
    isplitl [Hv]; · iexact Hv
    isplitl [Hb]; · iexact Hb
    isplitl [Hw]; · iexact Hw
    isplitl [Ho]; · iexact Ho
    isplitl [Hqa]; · iexact Hqa
    isplitl [Hm]; · iexact Hm
    isplitl [Hacc]; · iexact Hacc
    isplitl [Hs]; · iexact Hs
    isplitl [Hp]; · iexact Hp
    isplitl [Hal]; · iexact Hal
    iexact HR
  · unfold Res
    iintro ⟨Hwg, Hq, Hk, Hv, Hb, Hw, Ho, Hqa, Hm, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.st_qa {off size : Fin (Shape.rank S4x512x256) → Nat} {inb : ∀ a, off a + size a ≤ Shape.size S4x512x256 a} {x : Vec F ⟨_, size⟩ .bf16}
    {hs : (B.qa.access (Rect.unit (s := S4x512x256) off size inb)).Stores Finset.univ}
    {Q : PUnit → St F → Prop} {σ : St F} (h : Q ⟨⟩ { σ with qa := VecWindow.put σ.qa off size x }) :
    Tr c B (stp B.qa off size inb x hs) Q σ := fun R Φ H => by
  refine BIBase.Entails.trans ?_ (st_one c B.qa σ.qa off size inb x hs iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.m fullShare σ.m ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ _ h)))
  · unfold Res
    iintro ⟨⟨Hq, Hk, Hv, Hb, Hw, Ho, Hwg, Hqa, Hm, Hacc, Hs, Hp, Hal⟩, HR⟩
    isplitl [Hqa]; · iexact Hqa
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hm]; · iexact Hm
    isplitl [Hacc]; · iexact Hacc
    isplitl [Hs]; · iexact Hs
    isplitl [Hp]; · iexact Hp
    isplitl [Hal]; · iexact Hal
    iexact HR
  · unfold Res
    iintro ⟨Hqa, Hq, Hk, Hv, Hb, Hw, Ho, Hwg, Hm, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.st_m {off size : Fin (Shape.rank S4x512x128) → Nat} {inb : ∀ a, off a + size a ≤ Shape.size S4x512x128 a} {x : Vec F ⟨_, size⟩ .f32}
    {hs : (B.m.access (Rect.unit (s := S4x512x128) off size inb)).Stores Finset.univ}
    {Q : PUnit → St F → Prop} {σ : St F} (h : Q ⟨⟩ { σ with m := VecWindow.put σ.m off size x }) :
    Tr c B (stp B.m off size inb x hs) Q σ := fun R Φ H => by
  refine BIBase.Entails.trans ?_ (st_one c B.m σ.m off size inb x hs iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.acc fullShare σ.acc ∗ owns (c : Thread nD τ) B.s fullShare σ.s ∗ owns (c : Thread nD τ) B.p fullShare σ.p ∗ owns (c : Thread nD τ) B.al fullShare σ.al ∗ R) Φ (BIBase.Entails.trans ?_ (H _ _ h)))
  · unfold Res
    iintro ⟨⟨Hq, Hk, Hv, Hb, Hw, Ho, Hwg, Hqa, Hm, Hacc, Hs, Hp, Hal⟩, HR⟩
    isplitl [Hm]; · iexact Hm
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hacc]; · iexact Hacc
    isplitl [Hs]; · iexact Hs
    isplitl [Hp]; · iexact Hp
    isplitl [Hal]; · iexact Hal
    iexact HR
  · unfold Res
    iintro ⟨Hm, Hq, Hk, Hv, Hb, Hw, Ho, Hwg, Hqa, Hacc, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.st_acc {off size : Fin (Shape.rank S4x512x256) → Nat} {inb : ∀ a, off a + size a ≤ Shape.size S4x512x256 a} {x : Vec F ⟨_, size⟩ .f32}
    {hs : (B.acc.access (Rect.unit (s := S4x512x256) off size inb)).Stores Finset.univ}
    {Q : PUnit → St F → Prop} {σ : St F} (h : Q ⟨⟩ { σ with acc := VecWindow.put σ.acc off size x }) :
    Tr c B (stp B.acc off size inb x hs) Q σ := fun R Φ H => by
  refine BIBase.Entails.trans ?_ (st_one c B.acc σ.acc off size inb x hs iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.s fullShare σ.s ∗ owns (c : Thread nD τ) B.p fullShare σ.p ∗ owns (c : Thread nD τ) B.al fullShare σ.al ∗ R) Φ (BIBase.Entails.trans ?_ (H _ _ h)))
  · unfold Res
    iintro ⟨⟨Hq, Hk, Hv, Hb, Hw, Ho, Hwg, Hqa, Hm, Hacc, Hs, Hp, Hal⟩, HR⟩
    isplitl [Hacc]; · iexact Hacc
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hm]; · iexact Hm
    isplitl [Hs]; · iexact Hs
    isplitl [Hp]; · iexact Hp
    isplitl [Hal]; · iexact Hal
    iexact HR
  · unfold Res
    iintro ⟨Hacc, Hq, Hk, Hv, Hb, Hw, Ho, Hwg, Hqa, Hm, Hs, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.st_s {off size : Fin (Shape.rank S4x512x2048) → Nat} {inb : ∀ a, off a + size a ≤ Shape.size S4x512x2048 a} {x : Vec F ⟨_, size⟩ .f32}
    {hs : (B.s.access (Rect.unit (s := S4x512x2048) off size inb)).Stores Finset.univ}
    {Q : PUnit → St F → Prop} {σ : St F} (h : Q ⟨⟩ { σ with s := VecWindow.put σ.s off size x }) :
    Tr c B (stp B.s off size inb x hs) Q σ := fun R Φ H => by
  refine BIBase.Entails.trans ?_ (st_one c B.s σ.s off size inb x hs iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.p fullShare σ.p ∗ owns (c : Thread nD τ) B.al fullShare σ.al ∗ R) Φ (BIBase.Entails.trans ?_ (H _ _ h)))
  · unfold Res
    iintro ⟨⟨Hq, Hk, Hv, Hb, Hw, Ho, Hwg, Hqa, Hm, Hacc, Hs, Hp, Hal⟩, HR⟩
    isplitl [Hs]; · iexact Hs
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hm]; · iexact Hm
    isplitl [Hacc]; · iexact Hacc
    isplitl [Hp]; · iexact Hp
    isplitl [Hal]; · iexact Hal
    iexact HR
  · unfold Res
    iintro ⟨Hs, Hq, Hk, Hv, Hb, Hw, Ho, Hwg, Hqa, Hm, Hacc, Hp, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.st_p {off size : Fin (Shape.rank S4x512x2048) → Nat} {inb : ∀ a, off a + size a ≤ Shape.size S4x512x2048 a} {x : Vec F ⟨_, size⟩ .bf16}
    {hs : (B.p.access (Rect.unit (s := S4x512x2048) off size inb)).Stores Finset.univ}
    {Q : PUnit → St F → Prop} {σ : St F} (h : Q ⟨⟩ { σ with p := VecWindow.put σ.p off size x }) :
    Tr c B (stp B.p off size inb x hs) Q σ := fun R Φ H => by
  refine BIBase.Entails.trans ?_ (st_one c B.p σ.p off size inb x hs iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.al fullShare σ.al ∗ R) Φ (BIBase.Entails.trans ?_ (H _ _ h)))
  · unfold Res
    iintro ⟨⟨Hq, Hk, Hv, Hb, Hw, Ho, Hwg, Hqa, Hm, Hacc, Hs, Hp, Hal⟩, HR⟩
    isplitl [Hp]; · iexact Hp
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hm]; · iexact Hm
    isplitl [Hacc]; · iexact Hacc
    isplitl [Hs]; · iexact Hs
    isplitl [Hal]; · iexact Hal
    iexact HR
  · unfold Res
    iintro ⟨Hp, Hq, Hk, Hv, Hb, Hw, Ho, Hwg, Hqa, Hm, Hacc, Hs, Hal, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

theorem Tr.st_al {off size : Fin (Shape.rank S4x512x128) → Nat} {inb : ∀ a, off a + size a ≤ Shape.size S4x512x128 a} {x : Vec F ⟨_, size⟩ .f32}
    {hs : (B.al.access (Rect.unit (s := S4x512x128) off size inb)).Stores Finset.univ}
    {Q : PUnit → St F → Prop} {σ : St F} (h : Q ⟨⟩ { σ with al := VecWindow.put σ.al off size x }) :
    Tr c B (stp B.al off size inb x hs) Q σ := fun R Φ H => by
  refine BIBase.Entails.trans ?_ (st_one c B.al σ.al off size inb x hs iprop(owns (c : Thread nD τ) B.q fullShare σ.q ∗ owns (c : Thread nD τ) B.k fullShare σ.k ∗ owns (c : Thread nD τ) B.v fullShare σ.v ∗ owns (c : Thread nD τ) B.b fullShare σ.b ∗ owns (c : Thread nD τ) B.w fullShare σ.w ∗ owns (c : Thread nD τ) B.o fullShare σ.o ∗ owns (c : Thread nD τ) B.wg fullShare σ.wg ∗ owns (c : Thread nD τ) B.qa fullShare σ.qa ∗ owns (c : Thread nD τ) B.m fullShare σ.m ∗ owns (c : Thread nD τ) B.acc fullShare σ.acc ∗ owns (c : Thread nD τ) B.s fullShare σ.s ∗ owns (c : Thread nD τ) B.p fullShare σ.p ∗ R) Φ (BIBase.Entails.trans ?_ (H _ _ h)))
  · unfold Res
    iintro ⟨⟨Hq, Hk, Hv, Hb, Hw, Ho, Hwg, Hqa, Hm, Hacc, Hs, Hp, Hal⟩, HR⟩
    isplitl [Hal]; · iexact Hal
    isplitl [Hq]; · iexact Hq
    isplitl [Hk]; · iexact Hk
    isplitl [Hv]; · iexact Hv
    isplitl [Hb]; · iexact Hb
    isplitl [Hw]; · iexact Hw
    isplitl [Ho]; · iexact Ho
    isplitl [Hwg]; · iexact Hwg
    isplitl [Hqa]; · iexact Hqa
    isplitl [Hm]; · iexact Hm
    isplitl [Hacc]; · iexact Hacc
    isplitl [Hs]; · iexact Hs
    isplitl [Hp]; · iexact Hp
    iexact HR
  · unfold Res
    iintro ⟨Hal, Hq, Hk, Hv, Hb, Hw, Ho, Hwg, Hqa, Hm, Hacc, Hs, Hp, HR⟩
    isplitr [HR]
    · isplitl [Hq]; · iexact Hq
      isplitl [Hk]; · iexact Hk
      isplitl [Hv]; · iexact Hv
      isplitl [Hb]; · iexact Hb
      isplitl [Hw]; · iexact Hw
      isplitl [Ho]; · iexact Ho
      isplitl [Hwg]; · iexact Hwg
      isplitl [Hqa]; · iexact Hqa
      isplitl [Hm]; · iexact Hm
      isplitl [Hacc]; · iexact Hacc
      isplitl [Hs]; · iexact Hs
      isplitl [Hp]; · iexact Hp
      iexact Hal
    · iexact HR

end Cert.Proof

end
-- ==== Proof.Steps.lean ====
/-
  What each block of the kernel's work makes of the buffers' contents, as functions of the state, and that the blocks
  run to them.
-/
module

public import proofs.«01_k».proof.Proof.Runs

@[expose] public section

set_option maxRecDepth 16384

noncomputable section

namespace Cert.Proof

open Cert.KernelIdeal Cert.KernelIdeal.Gen
open Idealize.ShloMosaic Idealize.SL.Sem
open VecWindow (window put)

variable {F : FTy → Type} [FloatOps F] [Named F]

variable {c : Dev nD} {B : Bufs}

/-- A program without a result that takes every state `σ` to `f σ`. -/
def Does (c : Dev nD) (B : Bufs) (p : PG F PUnit) (f : St F → St F) : Prop :=
  ∀ (Q : PUnit → St F → Prop) (σ : St F), Q ⟨⟩ (f σ) → Tr c B p Q σ

theorem Does.seq {p p' : PG F PUnit} {f f' : St F → St F} (h : Does c B p f) (h' : Does c B p' f') :
    Does c B (p >>= fun _ => p') (fun σ => f' (f σ)) := fun Q σ hq =>
  Tr.bind (h _ σ (h' Q _ hq))

/-! ## The functions -/

/-- The row block `r` of head `h`, one unmasked piece. -/
def smFullS (h r w n : Nat) (hh : h < 4) (hr : r < 8) (hd : 0 + w ≤ 2048) (ev : WEv (F := F) w n) (σ : St F) : St F :=
  let s := shapeCast (R2 64 w) (window σ.s ![h, 64 * r, 0] ![1, 64, w] (inb3 (by omega) (by omega) hd)) (sc31 64 w)
  let mp := shapeCast S64x128 (window σ.m ![h, 64 * r, 0] ![1, 64, 128] (inb3 (by omega) (by omega) (by decide))) (sc31 64 128)
  let mn := mNext w n ev mp s
  { σ with
    p := put σ.p ![h, 64 * r, 0] ![1, 64, w] (shapeCast (R1 64 w) (wExp w n ev s mn) (sc13 64 w))
    al := put σ.al ![h, 64 * r, 0] ![1, 64, 128] (shapeCast (R1 64 128) (exp2 (subf mp mn)) (sc13 64 128))
    m := put σ.m ![h, 64 * r, 0] ![1, 64, 128] (shapeCast (R1 64 128) mn (sc13 64 128)) }

/-- The row block `r` of head `h`, one masked piece. -/
def smMaskS (h r w n : Nat) (hh : h < 4) (hr : r < 8) (hd : 0 + w ≤ 2048) (ev : WEv (F := F) w n) (σ : St F) : St F :=
  let s := causal w n ev r (shapeCast (R2 64 w) (window σ.s ![h, 64 * r, 0] ![1, 64, w] (inb3 (by omega) (by omega) hd)) (sc31 64 w))
  let mp := shapeCast S64x128 (window σ.m ![h, 64 * r, 0] ![1, 64, 128] (inb3 (by omega) (by omega) (by decide))) (sc31 64 128)
  let mn := mNext w n ev mp s
  { σ with
    p := put σ.p ![h, 64 * r, 0] ![1, 64, w] (shapeCast (R1 64 w) (wExp w n ev s mn) (sc13 64 w))
    al := put σ.al ![h, 64 * r, 0] ![1, 64, 128] (shapeCast (R1 64 128) (exp2 (subf mp mn)) (sc13 64 128))
    m := put σ.m ![h, 64 * r, 0] ![1, 64, 128] (shapeCast (R1 64 128) mn (sc13 64 128)) }

/-- The row block `r` of head `h`, an unmasked piece and a masked one. -/
def smTwoS (h r w' n' w n : Nat) (hh : h < 4) (hr : r < 8) (hd : w' + w ≤ 2048) (ev' : WEv (F := F) w' n') (ev : WEv (F := F) w n)
    (σ : St F) : St F :=
  let s' := shapeCast (R2 64 w') (window σ.s ![h, 64 * r, 0] ![1, 64, w'] (inb3 (by omega) (by omega) (by omega))) (sc31 64 w')
  let s := causal w n ev r (shapeCast (R2 64 w) (window σ.s ![h, 64 * r, w'] ![1, 64, w] (inb3 (by omega) (by omega) hd)) (sc31 64 w))
  let mp := shapeCast S64x128 (window σ.m ![h, 64 * r, 0] ![1, 64, 128] (inb3 (by omega) (by omega) (by decide))) (sc31 64 128)
  let mn := mNext w n ev (mNext w' n' ev' mp s') s
  { σ with
    p := put (put σ.p ![h, 64 * r, 0] ![1, 64, w'] (shapeCast (R1 64 w') (wExp w' n' ev' s' mn) (sc13 64 w')))
      ![h, 64 * r, w'] ![1, 64, w] (shapeCast (R1 64 w) (wExp w n ev s mn) (sc13 64 w))
    al := put σ.al ![h, 64 * r, 0] ![1, 64, 128] (shapeCast (R1 64 128) (exp2 (subf mp mn)) (sc13 64 128))
    m := put σ.m ![h, 64 * r, 0] ![1, 64, 128] (shapeCast (R1 64 128) mn (sc13 64 128)) }

/-- The scores of a block of rows. -/
def scoresS (h r0 rr nk : Nat) (hh : h < 4) (hr : r0 + rr ≤ 512) (hk : 0 + nk ≤ 2048) (ev : DEv (F := F) rr nk)
    (ka : FVec F (R2 nk 256) .bf16) (σ : St F) : St F :=
  { σ with
    s := put σ.s ![h, r0, 0] ![1, rr, nk] (shapeCast (R1 rr nk) (matmul (DotDims.transposedRhs rr 256 nk) none
      (shapeCast (R2 rr 256) (window σ.qa ![h, r0, 0] ![1, rr, 256] (inb3 (by omega) hr (by decide))) (sc31 rr 256)) ka
      (constant (R2 rr nk) .f32 0x00000000#32)) (sc13 rr nk)) }

/-- The weighted values of a block of rows added. -/
def valuesS (h r0 rr nk : Nat) (hh : h < 4) (hr : r0 + rr ≤ 512) (hk : 0 + nk ≤ 2048) (ev : DEv (F := F) rr nk)
    (va : FVec F (R2 nk 256) .bf16) (σ : St F) : St F :=
  let al := shapeCast (R2 rr 128) (window σ.al ![h, r0, 0] ![1, rr, 128] (inb3 (by omega) hr (by decide))) (sc31 rr 128)
  { σ with
    acc := put σ.acc ![h, r0, 0] ![1, rr, 256] (shapeCast (R1 rr 256) (addf
      (mulf (concatenate (R2 rr 256) 1 [⟨R2 rr 128, al⟩, ⟨R2 rr 128, al⟩] (ev.cat _ rfl))
        (shapeCast (R2 rr 256) (window σ.acc ![h, r0, 0] ![1, rr, 256] (inb3 (by omega) hr (by decide))) (sc31 rr 256)))
      (matmul (DotDims.plain rr nk 256) none (shapeCast (R2 rr nk) (window σ.p ![h, r0, 0] ![1, rr, nk] (inb3 (by omega) hr hk)) (sc31 rr nk)) va
        (constant (R2 rr 256) .f32 0x00000000#32))) (sc13 rr 256)) }

def headsS (f : (h : Nat) → h < 4 → St F → St F) (σ : St F) : St F :=
  f 3 (by decide) (f 2 (by decide) (f 1 (by decide) (f 0 (by decide) σ)))
def rowsLoS (f : (r : Nat) → r < 8 → St F → St F) (σ : St F) : St F :=
  f 3 (by decide) (f 2 (by decide) (f 1 (by decide) (f 0 (by decide) σ)))
def rowsHiS (f : (r : Nat) → r < 8 → St F → St F) (σ : St F) : St F :=
  f 7 (by decide) (f 6 (by decide) (f 5 (by decide) (f 4 (by decide) σ)))

/-- The scores of a tile, all rows against all its keys; -/
def scoresF (nk : Nat) (hk : 0 + nk ≤ 2048) (evd : DEv (F := F) 512 nk) (ka : FVec F (R2 nk 256) .bf16) (h : Nat) (hh : h < 4) (σ : St F) : St F :=
  scoresS h 0 512 nk hh (by decide) hk evd ka σ
/-- its weights, the running maximum brought up; -/
def softF (nk n : Nat) (hk : 0 + nk ≤ 2048) (evw : WEv (F := F) nk n) (h : Nat) (hh : h < 4) (σ : St F) : St F :=
  rowsHiS (fun r hr => smFullS h r nk n hh hr hk evw) (rowsLoS (fun r hr => smFullS h r nk n hh hr hk evw) σ)
/-- its values added. -/
def valuesF (nk : Nat) (hk : 0 + nk ≤ 2048) (evd : DEv (F := F) 512 nk) (va : FVec F (R2 nk 256) .bf16) (h : Nat) (hh : h < 4) (σ : St F) : St F :=
  valuesS h 0 512 nk hh (by decide) hk evd va σ

/-- A tile of `nk` keys below the diagonal. -/
def tileFullS (nk n : Nat) (hk : 0 + nk ≤ 2048) (evw : WEv (F := F) nk n) (evk : KEv (F := F) nk) (evd : DEv (F := F) 512 nk)
    (k0 : BitVec 32) (off : Fin 2 → Nat) (inb : ∀ a, off a + (![nk, 128] : Fin 2 → Nat) a ≤ S4096x128.size a) (σ : St F) : St F :=
  headsS (valuesF nk hk evd (vAug nk evk (window σ.v off ![nk, 128] inb : Vec F (R2 nk 128) .bf16))) (headsS (softF nk n hk evw)
    (headsS (scoresF nk hk evd (kAug nk evk (blkOf k0) (window σ.k off ![nk, 128] inb : Vec F (R2 nk 128) .bf16))) σ))

/-- The scores of a diagonal tile of `nk` keys: the first half of the rows against the first `nl` keys, the second half against all; -/
def scoresD (nl nk : Nat) (hl : nl ≤ nk) (hk : nk ≤ 2048) (hp : 0 < nl) (ka : FVec F (R2 nk 256) .bf16) (h : Nat) (hh : h < 4) (σ : St F) : St F :=
  scoresS h 256 256 nk hh (by decide) (by omega) (dev 256 nk (by decide) (by omega) (by decide)) ka
    (scoresS h 0 256 nl hh (by decide) (by omega) (dev 256 nl (by decide) (by omega) (by decide)) (firstRows nk nl (slc nk nl hl) ka) σ)
/-- its weights where nothing lies before the masked piece; -/
def softD1 (h : Nat) (hh : h < 4) (σ : St F) : St F :=
  rowsHiS (fun r hr => smMaskS h r 512 4 hh hr (by decide) (wev 512 4 (by decide) (by decide)))
    (rowsLoS (fun r hr => smMaskS h r 256 2 hh hr (by decide) (wev 256 2 (by decide) (by decide))) σ)
/-- its weights where `d0` keys lie before the masked piece; -/
def softD (d0 n0 : Nat) (h1 : 2 ≤ n0) (h2 : 128 * n0 = d0) (h3 : d0 ≤ 1536) (h : Nat) (hh : h < 4) (σ : St F) : St F :=
  rowsHiS (fun r hr => smTwoS h r d0 n0 512 4 hh hr (by omega) (wev d0 n0 h1 h2) (wev 512 4 (by decide) (by decide)))
    (rowsLoS (fun r hr => smTwoS h r d0 n0 256 2 hh hr (by omega) (wev d0 n0 h1 h2) (wev 256 2 (by decide) (by decide))) σ)
/-- its values added. -/
def valuesD (nl nk : Nat) (hl : nl ≤ nk) (hk : nk ≤ 2048) (hp : 0 < nl) (va : FVec F (R2 nk 256) .bf16) (h : Nat) (hh : h < 4) (σ : St F) : St F :=
  valuesS h 256 256 nk hh (by decide) (by omega) (dev 256 nk (by decide) (by omega) (by decide)) va
    (valuesS h 0 256 nl hh (by decide) (by omega) (dev 256 nl (by decide) (by omega) (by decide)) (firstRows nk nl (slc nk nl hl) va) σ)

/-- The diagonal tile of 512 keys. -/
def tileDiag1S (k0 : BitVec 32) (off : Fin 2 → Nat) (inb : ∀ a, off a + (![512, 128] : Fin 2 → Nat) a ≤ S4096x128.size a)
    (σ : St F) : St F :=
  headsS (valuesD 256 512 (by decide) (by decide) (by decide) (vAug 512 (kev 512 (by decide)) (window σ.v off ![512, 128] inb : Vec F (R2 512 128) .bf16)))
    (headsS softD1 (headsS (scoresD 256 512 (by decide) (by decide) (by decide)
      (kAug 512 (kev 512 (by decide)) (blkOf k0) (window σ.k off ![512, 128] inb : Vec F (R2 512 128) .bf16))) σ))

/-- The diagonal tile of `d0 + 512` keys. -/
def tileDiagS (d0 n0 : Nat) (h1 : 2 ≤ n0) (h2 : 128 * n0 = d0) (h3 : d0 ≤ 1536) (k0 : BitVec 32) (off : Fin 2 → Nat)
    (inb : ∀ a, off a + (![d0 + 512, 128] : Fin 2 → Nat) a ≤ S4096x128.size a) (σ : St F) : St F :=
  headsS (valuesD (d0 + 256) (d0 + 512) (by omega) (by omega) (by omega)
      (vAug (d0 + 512) (kev (d0 + 512) (by omega)) (window σ.v off ![d0 + 512, 128] inb : Vec F (R2 (d0 + 512) 128) .bf16)))
    (headsS (softD d0 n0 h1 h2 h3) (headsS (scoresD (d0 + 256) (d0 + 512) (by omega) (by omega) (by omega)
      (kAug (d0 + 512) (kev (d0 + 512) (by omega)) (blkOf k0) (window σ.k off ![d0 + 512, 128] inb : Vec F (R2 (d0 + 512) 128) .bf16))) σ))

def init0S (σ : St F) : St F :=
  { σ with
    wg := put σ.wg ![0, 0] S64x4096.size (truncf .bf16 (window σ.w ![0, 0] S64x4096.size inb_S64x4096_S64x4096_0_0 : Vec F S64x4096 .f32) bitsLt_bf16_f32)
    m := put σ.m ![0, 0, 0] S4x512x128.size
      (shapeCast S4x512x128 (broadcast S4x512x128 (Named.named κ "mask" 0xF149F2CA#32 : F .f32)) shapeCasts_S4x512x128_S4x512x128)
    acc := put σ.acc ![0, 0, 0] S4x512x256.size
      (shapeCast S4x512x256 (broadcast S4x512x256 (Scalar.ofBits .f32 0x00000000#32 : F .f32)) shapeCasts_S4x512x256_S4x512x256) }

def initHS (h : Nat) (hh : h < 4) (σ : St F) : St F :=
  { σ with
    qa := put (put σ.qa ![h, 0, 0] ![1, 512, 128] (shapeCast (R1 512 128) (shapeCast S512x128
        (window σ.q ![0, 128 * h] ![512, 128] (inbq (by omega)) : Vec F S512x128 .bf16) shapeCasts_S512x128_S512x128) (sc13 512 128)))
      ![h, 0, 128] ![1, 512, 128] (shapeCast (R1 512 128) (shapeCast S512x128
        (window σ.b ![0, 0, 0, 0] S1x1x512x128.size inb_S1x1x512x128_S1x1x512x128_0_0_0_0 : Vec F S1x1x512x128 .bf16) shapeCasts_S1x1x512x128_S512x128) (sc13 512 128)) }

def initS (σ : St F) : St F := headsS (fun h hh => initHS h hh) (init0S σ)

/-- Head `h`'s accumulated values in a state, -/
def finAV (h : Nat) (hh : h < 4) (σ : St F) : FVec F S512x128 .f32 :=
  shapeCast S512x128 (window σ.acc ![h, 0, 0] ![1, 512, 128] (inb3 (by omega) (by decide) (by decide))) (sc31 512 128)

def finBS (h : Nat) (hh : h < 4) (a : FVec F S512x128 .f32) (σ : St F) : St F :=
  { σ with
    o := put σ.o ![0, 128 * h] ![512, 128]
      (divf a (shapeCast S512x128 (window σ.acc ![h, 0, 128] ![1, 512, 128] (inb3 (by omega) (by decide) (by decide))) (sc31 512 128))) }

def finS (h : Nat) (hh : h < 4) (σ : St F) : St F := finBS h hh (finAV h hh σ) σ

/-! ## The blocks run to them -/

theorem smFull_does (h r w n : Nat) (hh : h < 4) (hr : r < 8) (hd : 0 + w ≤ 2048) (ev : WEv (F := F) w n) :
    Does c B (smFull B h r w n hh hr hd ev) (smFullS h r w n hh hr hd ev) := fun Q σ hq => by
  unfold smFull putW putM
  refine Tr.bind (Tr.ld_s (Tr.bind (Tr.ld_m (Tr.bind (Tr.bind (Tr.ld_p (Tr.st_p ?_)))))))
  exact Tr.bind (Tr.ld_al (Tr.bind (Tr.st_al (Tr.bind (Tr.ld_m (Tr.st_m hq))))))

theorem smMask_does (h r w n : Nat) (hh : h < 4) (hr : r < 8) (hd : 0 + w ≤ 2048) (ev : WEv (F := F) w n) :
    Does c B (smMask B h r w n hh hr hd ev) (smMaskS h r w n hh hr hd ev) := fun Q σ hq => by
  unfold smMask putW putM
  refine Tr.bind (Tr.ld_s (Tr.bind (Tr.ld_m (Tr.bind (Tr.bind (Tr.ld_p (Tr.st_p ?_)))))))
  exact Tr.bind (Tr.ld_al (Tr.bind (Tr.st_al (Tr.bind (Tr.ld_m (Tr.st_m hq))))))

theorem smTwo_does (h r w' n' w n : Nat) (hh : h < 4) (hr : r < 8) (hd : w' + w ≤ 2048) (ev' : WEv (F := F) w' n') (ev : WEv (F := F) w n) :
    Does c B (smTwo B h r w' n' w n hh hr hd ev' ev) (smTwoS h r w' n' w n hh hr hd ev' ev) := fun Q σ hq => by
  unfold smTwo putW putM
  refine Tr.bind (Tr.ld_s (Tr.bind (Tr.ld_s (Tr.bind (Tr.ld_m (Tr.bind (Tr.bind (Tr.ld_p (Tr.st_p ?_)))))))))
  refine Tr.bind (Tr.bind (Tr.ld_p (Tr.st_p ?_)))
  exact Tr.bind (Tr.ld_al (Tr.bind (Tr.st_al (Tr.bind (Tr.ld_m (Tr.st_m hq))))))

theorem scores_does (h r0 rr nk : Nat) (hh : h < 4) (hr : r0 + rr ≤ 512) (hk : 0 + nk ≤ 2048) (ev : DEv (F := F) rr nk)
    (ka : FVec F (R2 nk 256) .bf16) :
    Does c B (scores B h r0 rr nk hh hr hk ev ka) (scoresS h r0 rr nk hh hr hk ev ka) := fun Q σ hq => by
  unfold scores
  exact Tr.bind (Tr.ld_qa (Tr.bind (Tr.ld_s (Tr.st_s hq))))

theorem values_does (h r0 rr nk : Nat) (hh : h < 4) (hr : r0 + rr ≤ 512) (hk : 0 + nk ≤ 2048) (ev : DEv (F := F) rr nk)
    (va : FVec F (R2 nk 256) .bf16) :
    Does c B (values B h r0 rr nk hh hr hk ev va) (valuesS h r0 rr nk hh hr hk ev va) := fun Q σ hq => by
  unfold values
  exact Tr.bind (Tr.ld_al (Tr.bind (Tr.ld_acc (Tr.bind (Tr.ld_p (Tr.bind (Tr.ld_acc (Tr.st_acc hq))))))))

theorem heads_does {f : (h : Nat) → h < 4 → PG F PUnit} {g : (h : Nat) → h < 4 → St F → St F} (H : ∀ h hh, Does c B (f h hh) (g h hh)) :
    Does c B (heads f) (headsS g) :=
  (H 0 _).seq ((H 1 _).seq ((H 2 _).seq (H 3 _)))
theorem rowsLo_does {f : (h : Nat) → h < 8 → PG F PUnit} {g : (h : Nat) → h < 8 → St F → St F} (H : ∀ h hh, Does c B (f h hh) (g h hh)) :
    Does c B (rowsLo f) (rowsLoS g) :=
  (H 0 _).seq ((H 1 _).seq ((H 2 _).seq (H 3 _)))
theorem rowsHi_does {f : (h : Nat) → h < 8 → PG F PUnit} {g : (h : Nat) → h < 8 → St F → St F} (H : ∀ h hh, Does c B (f h hh) (g h hh)) :
    Does c B (rowsHi f) (rowsHiS g) :=
  (H 4 _).seq ((H 5 _).seq ((H 6 _).seq (H 7 _)))

theorem tileFull_does (nk n : Nat) (hk : 0 + nk ≤ 2048) (evw : WEv (F := F) nk n) (evk : KEv (F := F) nk) (evd : DEv (F := F) 512 nk)
    (k0 : BitVec 32) (off : Fin 2 → Nat) (inb : ∀ a, off a + (![nk, 128] : Fin 2 → Nat) a ≤ S4096x128.size a)
    (pos : 0 < (Shape.mk 2 ![nk, 128]).numel) :
    Does c B (tileFull B nk n hk evw evk evd k0 off inb pos) (tileFullS nk n hk evw evk evd k0 off inb) := fun Q σ hq => by
  unfold tileFull
  refine Tr.bind (Tr.ld_k (Tr.bind (Tr.ld_v ?_)))
  exact ((heads_does fun h hh => scores_does h 0 512 nk hh _ hk evd _).seq
    ((heads_does fun h hh => (rowsLo_does fun r hr => smFull_does h r nk n hh hr hk evw).seq (rowsHi_does fun r hr => smFull_does h r nk n hh hr hk evw)).seq
      (heads_does fun h hh => values_does h 0 512 nk hh _ hk evd _))) Q σ hq

theorem tileDiag1_does (k0 : BitVec 32) (off : Fin 2 → Nat) (inb : ∀ a, off a + (![512, 128] : Fin 2 → Nat) a ≤ S4096x128.size a)
    (pos : 0 < (Shape.mk 2 ![512, 128]).numel) :
    Does (F := F) c B (tileDiag1 B k0 off inb pos) (tileDiag1S k0 off inb) := fun Q σ hq => by
  unfold tileDiag1
  refine Tr.bind (Tr.ld_k (Tr.bind (Tr.ld_v ?_)))
  exact ((heads_does fun h hh => (scores_does h 0 256 256 hh _ _ _ _).seq (scores_does h 256 256 512 hh _ _ _ _)).seq
    ((heads_does fun h hh => (rowsLo_does fun r hr => smMask_does h r 256 2 hh hr _ _).seq (rowsHi_does fun r hr => smMask_does h r 512 4 hh hr _ _)).seq
      (heads_does fun h hh => (values_does h 0 256 256 hh _ _ _ _).seq (values_does h 256 256 512 hh _ _ _ _)))) Q σ hq

theorem tileDiag_does (d0 n0 : Nat) (h1 : 2 ≤ n0) (h2 : 128 * n0 = d0) (h3 : d0 ≤ 1536) (k0 : BitVec 32) (off : Fin 2 → Nat)
    (inb : ∀ a, off a + (![d0 + 512, 128] : Fin 2 → Nat) a ≤ S4096x128.size a) (pos : 0 < (Shape.mk 2 ![d0 + 512, 128]).numel) :
    Does (F := F) c B (tileDiag B d0 n0 h1 h2 h3 k0 off inb pos) (tileDiagS d0 n0 h1 h2 h3 k0 off inb) := fun Q σ hq => by
  unfold tileDiag
  refine Tr.bind (Tr.ld_k (Tr.bind (Tr.ld_v ?_)))
  exact ((heads_does fun h hh => (scores_does h 0 256 (d0 + 256) hh _ _ _ _).seq (scores_does h 256 256 (d0 + 512) hh _ _ _ _)).seq
    ((heads_does fun h hh => (rowsLo_does fun r hr => smTwo_does h r d0 n0 256 2 hh hr _ _ _).seq (rowsHi_does fun r hr => smTwo_does h r d0 n0 512 4 hh hr _ _ _)).seq
      (heads_does fun h hh => (values_does h 0 256 (d0 + 256) hh _ _ _ _).seq (values_does h 256 256 (d0 + 512) hh _ _ _ _)))) Q σ hq

theorem init0_does : Does (F := F) c B (init0 B) init0S := fun Q σ hq => by
  unfold init0
  refine Tr.bind (Tr.ld_w (Tr.bind (Tr.ld_wg (Tr.bind (Tr.st_wg (Tr.bind (Tr.ld_m (Tr.bind (Tr.st_m ?_)))))))))
  exact Tr.bind (Tr.ld_acc (Tr.st_acc hq))

theorem initH_does (h : Nat) (hh : h < 4) : Does (F := F) c B (initH B h hh) (initHS h hh) := fun Q σ hq => by
  unfold initH
  exact Tr.bind (Tr.ld_q (Tr.bind (Tr.ld_qa (Tr.bind (Tr.st_qa (Tr.bind (Tr.ld_b (Tr.bind (Tr.ld_qa (Tr.st_qa hq))))))))))

theorem init_does : Does (F := F) c B (init B) initS :=
  init0_does.seq (heads_does fun h hh => initH_does h hh)

theorem finA_tr (h : Nat) (hh : h < 4) (Q : FVec F S512x128 .f32 → St F → Prop) (σ : St F) (hq : Q (finAV h hh σ) σ) :
    Tr c B (finA B h hh) Q σ := by
  unfold finA
  exact Tr.bind (Tr.ld_acc (Tr.ret hq))

theorem finB_does (h : Nat) (hh : h < 4) (a : FVec F S512x128 .f32) : Does (F := F) c B (finB B h hh a) (finBS h hh a) := fun Q σ hq => by
  unfold finB
  exact Tr.bind (Tr.ld_acc (Tr.bind (Tr.ld_o (Tr.st_o hq))))

end Cert.Proof

end
-- ==== Proof.Bridge.lean ====
/-
  Two programs that begin with the same operation are equal when what follows is.
-/
module

public import proofs.«01_k».proof.Proof.Tile

@[expose] public section

set_option maxRecDepth 16384

noncomputable section

namespace Cert.Proof

open Cert.KernelIdeal Cert.KernelIdeal.Gen
open Idealize.ShloMosaic Idealize.SL.Sem

theorem have_cg {α β : Sort _} {a a' : α} {f f' : α → β} (h₁ : a = a') (h₂ : ∀ x, f x = f' x) :
    (have x := a; f x) = (have x := a'; f' x) := by subst h₁; exact h₂ a

theorem op_cg {F : FTy → Type} {α β : Type} {e : TpuEff nD τ sig (Elt F) Λ₀ .tc β} {k k' : β → PG F α} (h : ∀ v, k v = k' v) :
    (Prog.op e k : PG F α) = Prog.op e k' := by rw [funext h]

theorem bind_congr' {F : FTy → Type} {α β : Type} {p p' : PG F α} {k k' : α → PG F β} (hp : p = p') (hk : ∀ x, k x = k' x) :
    (p >>= k) = (p' >>= k') := by
  subst hp; rw [funext hk]

theorem for_congr' {F : FTy → Type} {w : Nat} {l : Scf.Loop w} {ok : l.OK} {f g : Fin l.trips → PUnit → PG F PUnit} (h : ∀ t x, f t x = g t x) :
    Scf.Loop.for l ok ⟨⟩ f = Scf.Loop.for l ok ⟨⟩ g := by
  rw [funext fun t => funext (h t)]

theorem dite_congr' {F : FTy → Type} {c : Prop} {inst : Decidable c} {α : Type} {a a' : c → PG F α} {b b' : ¬ c → PG F α} (ha : ∀ h, a h = a' h) (hb : ∀ h, b h = b' h) :
    (if h : c then a h else b h) = (if h : c then a' h else b' h) := by
  rw [funext ha, funext hb]

end Cert.Proof

end
-- ==== Proof.B1.lean ====
module

public import proofs.«01_k».proof.Proof.Bridge

@[expose] public section

set_option maxRecDepth 16384

noncomputable section

namespace Cert.Proof

open Cert.KernelIdeal Cert.KernelIdeal.Gen
open Idealize.ShloMosaic Idealize.SL.Sem

variable {F : FTy → Type} [FloatOps F] [Named F]

/-- The start of a grid point. -/
theorem start_eq (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) {α : Type} (X : BitVec 32 → PG F α) :
    (k0_part225 (F := F) i arg3 harg3 arg4 harg4 arg5 harg5 arg6 harg6 arg7 harg7 arg8 harg8 arg9 harg9 arg10 harg10 arg11 harg11 arg12 harg12 arg13 harg13 arg14 harg14 arg15 harg15 >>= fun x => k0_part226 i arg3 harg3 arg4 harg4 arg5 harg5 arg6 harg6 arg7 harg7 arg8 harg8 arg9 harg9 arg10 harg10 arg11 harg11 arg12 harg12 arg13 harg13 arg14 harg14 arg15 harg15 x.2 >>= fun v47 =>
      ldp arg10 ![3, 0, 128] ![1, 512, 128] (inb3 (by omega) (by decide) (by decide)) (pos3 (by decide) (by decide)) >>= fun _ =>
      stp arg10 ![3, 0, 128] ![1, 512, 128] (inb3 (by omega) (by decide) (by decide)) (shapeCast (R1 512 128) v47 (sc13 512 128))
        (st_bf16 arg10 harg10 _ (pos3 (by decide) (by decide)) (packed3 _ (by decide) (by decide))) >>= fun _ => X x.1)
    = (init ⟨arg3, harg3, arg4, harg4, arg5, harg5, arg6, harg6, arg7, harg7, arg8, harg8, arg9, harg9, arg10, harg10, arg11, harg11, arg12, harg12, arg13, harg13, arg14, harg14, arg15, harg15⟩ >>= fun _ => X (BitVec.ofNat 32 (i 2).val)) := by
  rfl

end Cert.Proof

end
-- ==== Proof.B2.lean ====
module

public import proofs.«01_k».proof.Proof.Bridge

@[expose] public section

set_option maxRecDepth 16384

noncomputable section

namespace Cert.Proof

open Cert.KernelIdeal Cert.KernelIdeal.Gen
open Idealize.ShloMosaic Idealize.SL.Sem

variable {F : FTy → Type} [FloatOps F] [Named F]

/-- The last store of the start, with the tiles below the diagonal group after it. -/
theorem part227_eq (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (arg2 : BitVec 32) (v47 : FVec F S512x128 .bf16) :
    (k0_part227 (F := F) i arg3 harg3 arg4 harg4 arg5 harg5 arg6 harg6 arg7 harg7 arg8 harg8 arg9 harg9 arg10 harg10 arg11 harg11 arg12 harg12 arg13 harg13 arg14 harg14 arg15 harg15 arg2 v47) = (do
      let _ ← ldp arg10 ![3, 0, 128] ![1, 512, 128] (inb3 (by omega) (by decide) (by decide)) (pos3 (by decide) (by decide))
      stp arg10 ![3, 0, 128] ![1, 512, 128] (inb3 (by omega) (by decide) (by decide)) (shapeCast (R1 512 128) v47 (sc13 512 128))
        (st_bf16 arg10 harg10 _ (pos3 (by decide) (by decide)) (packed3 _ (by decide) (by decide)))
      mid1 ⟨arg3, harg3, arg4, harg4, arg5, harg5, arg6, harg6, arg7, harg7, arg8, harg8, arg9, harg9, arg10, harg10, arg11, harg11, arg12, harg12, arg13, harg13, arg14, harg14, arg15, harg15⟩ i arg2) := by
  unfold k0_part227 mid1
  refine bind_congr' rfl fun v => bind_congr' rfl fun _ => bind_congr' (for_congr' fun t x => ?_) fun _ => bind_congr' (for_congr' fun t x => ?_) fun _ => ?_
  · rfl
  · rfl
  · rfl

end Cert.Proof

end
-- ==== Proof.B3.lean ====
module

public import proofs.«01_k».proof.Proof.Bridge

@[expose] public section

set_option maxRecDepth 16384

noncomputable section

namespace Cert.Proof

open Cert.KernelIdeal Cert.KernelIdeal.Gen
open Idealize.ShloMosaic Idealize.SL.Sem

variable {F : FTy → Type} [FloatOps F] [Named F]

set_option maxHeartbeats 1000000 in
theorem part228_case2 (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (arg2 v67 v84 : BitVec 32) (h1 : ¬ k0_cond1 i = 1#1) (h2 : k0_cond2 i = 1#1) (h3 : ¬ k0_cond3 i = 1#1) :
    ∃ x, (k0_part228 (F := F) i arg3 harg3 arg4 harg4 arg5 harg5 arg6 harg6 arg7 harg7 arg8 harg8 arg9 harg9 arg10 harg10 arg11 harg11 arg12 harg12 arg13 harg13 arg14 harg14 arg15 harg15 arg2 v67 v84) = (tileDiag ⟨arg3, harg3, arg4, harg4, arg5, harg5, arg6, harg6, arg7, harg7, arg8, harg8, arg9, harg9, arg10, harg10, arg11, harg11, arg12, harg12, arg13, harg13, arg14, harg14, arg15, harg15⟩ 512 4 (by decide) (by decide) (by decide) (Scalar.muli (Scalar.muli v67 4#32) 512#32) (k0_off4 i) (k0_off4_inb i h2) h_S1024x128 >>= fun _ => pure x) := by
  apply Exists.intro
  unfold k0_part228
  simp only [dif_neg h1, dif_pos h2, dif_neg h3]
  repeat refine op_cg fun _ => ?_
  rfl

set_option maxHeartbeats 1000000 in
theorem part228_case3 (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (arg2 v67 v84 : BitVec 32) (h1 : ¬ k0_cond1 i = 1#1) (h2 : ¬ k0_cond2 i = 1#1) (h3 : k0_cond3 i = 1#1) :
    ∃ x, (k0_part228 (F := F) i arg3 harg3 arg4 harg4 arg5 harg5 arg6 harg6 arg7 harg7 arg8 harg8 arg9 harg9 arg10 harg10 arg11 harg11 arg12 harg12 arg13 harg13 arg14 harg14 arg15 harg15 arg2 v67 v84) = (tileDiag ⟨arg3, harg3, arg4, harg4, arg5, harg5, arg6, harg6, arg7, harg7, arg8, harg8, arg9, harg9, arg10, harg10, arg11, harg11, arg12, harg12, arg13, harg13, arg14, harg14, arg15, harg15⟩ 1024 8 (by decide) (by decide) (by decide) (Scalar.muli (Scalar.muli v67 4#32) 512#32) (k0_off5 i) (k0_off5_inb i h3) h_S1536x128 >>= fun _ => pure x) := by
  apply Exists.intro
  unfold k0_part228
  simp only [dif_neg h1, dif_neg h2, dif_pos h3]
  repeat refine op_cg fun _ => ?_
  rfl

set_option maxHeartbeats 1000000 in
theorem part228_case4 (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (arg2 v67 v84 : BitVec 32) (h1 : ¬ k0_cond1 i = 1#1) (h2 : ¬ k0_cond2 i = 1#1) (h3 : ¬ k0_cond3 i = 1#1) :
    ∃ x, (k0_part228 (F := F) i arg3 harg3 arg4 harg4 arg5 harg5 arg6 harg6 arg7 harg7 arg8 harg8 arg9 harg9 arg10 harg10 arg11 harg11 arg12 harg12 arg13 harg13 arg14 harg14 arg15 harg15 arg2 v67 v84) = ((pure PUnit.unit : PG F PUnit) >>= fun _ => pure x) := by
  apply Exists.intro
  unfold k0_part228
  simp only [dif_neg h1, dif_neg h2, dif_neg h3]
  repeat refine op_cg fun _ => ?_
  rfl

end Cert.Proof

end
-- ==== Proof.B4.lean ====
module

public import proofs.«01_k».proof.Proof.Bridge

@[expose] public section

set_option maxRecDepth 16384

noncomputable section

namespace Cert.Proof

open Cert.KernelIdeal Cert.KernelIdeal.Gen
open Idealize.ShloMosaic Idealize.SL.Sem

variable {F : FTy → Type} [FloatOps F] [Named F]

set_option maxHeartbeats 4000000 in
theorem part229_eq (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (v67 v113 v114 : BitVec 32) (v115 v118 : BitVec 1) :
    (k0_part229 (F := F) i arg3 harg3 arg4 harg4 arg5 harg5 arg6 harg6 arg7 harg7 arg8 harg8 arg9 harg9 arg10 harg10 arg11 harg11 arg12 harg12 arg13 harg13 arg14 harg14 arg15 harg15 v67 v113 v114 v115 v118) = mid3 ⟨arg3, harg3, arg4, harg4, arg5, harg5, arg6, harg6, arg7, harg7, arg8, harg8, arg9, harg9, arg10, harg10, arg11, harg11, arg12, harg12, arg13, harg13, arg14, harg14, arg15, harg15⟩ i v67 v113 v114 v115 v118 := by
  unfold k0_part229 mid3
  refine have_cg rfl fun _ => have_cg rfl fun _ => have_cg rfl fun _ => have_cg rfl fun _ => have_cg rfl fun _ => have_cg rfl fun _ => have_cg rfl fun _ => have_cg rfl fun _ => have_cg ?_ fun jp => dite_congr' (fun h => ?_) fun _ => rfl
  · rfl
  · repeat refine op_cg fun _ => ?_
    rfl

end Cert.Proof

end
-- ==== Proof.B5.lean ====
module

public import proofs.«01_k».proof.Proof.Bridge

@[expose] public section

set_option maxRecDepth 200000

noncomputable section

namespace Cert.Proof

open Cert.KernelIdeal Cert.KernelIdeal.Gen
open Idealize.ShloMosaic Idealize.SL.Sem

variable {F : FTy → Type} [FloatOps F] [Named F]

set_option maxHeartbeats 8000000 in
theorem part228_case1 (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (arg2 v67 v84 : BitVec 32) (h1 : k0_cond1 i = 1#1) (h2 : ¬ k0_cond2 i = 1#1) (h3 : ¬ k0_cond3 i = 1#1) :
    ∃ x, (k0_part228 (F := F) i arg3 harg3 arg4 harg4 arg5 harg5 arg6 harg6 arg7 harg7 arg8 harg8 arg9 harg9 arg10 harg10 arg11 harg11 arg12 harg12 arg13 harg13 arg14 harg14 arg15 harg15 arg2 v67 v84) = (tileDiag1 ⟨arg3, harg3, arg4, harg4, arg5, harg5, arg6, harg6, arg7, harg7, arg8, harg8, arg9, harg9, arg10, harg10, arg11, harg11, arg12, harg12, arg13, harg13, arg14, harg14, arg15, harg15⟩ (Scalar.muli (Scalar.muli v67 4#32) 512#32) (k0_off3 i) (k0_off3_inb i h1) h_S512x128 >>= fun _ => pure x) := by
  apply Exists.intro
  unfold k0_part228
  simp only [dif_pos h1, dif_neg h2, dif_neg h3]
  iterate 170 refine op_cg fun _ => ?_
  repeat (refine op_cg fun _ => ?_; (try dsimp only))

end Cert.Proof

end
-- ==== Proof.Body.lean ====
/-
  The kernel's body runs to one function of the buffers' contents.
-/
module

public import proofs.«01_k».proof.Proof.Steps
public import proofs.«01_k».proof.Proof.B1
public import proofs.«01_k».proof.Proof.B2
public import proofs.«01_k».proof.Proof.B3
public import proofs.«01_k».proof.Proof.B4
public import proofs.«01_k».proof.Proof.B5
public import Idealize.ShloMosaic.Lib.Pipeline.TableIdle

@[expose] public section

set_option maxRecDepth 16384

noncomputable section

namespace Cert.Proof

open Cert.KernelIdeal Cert.KernelIdeal.Gen
open Idealize.ShloMosaic Idealize.SL.Sem
open VecWindow (window put)

variable {F : FTy → Type} [FloatOps F] [Named F]

variable {c : Dev nD} {B : Bufs}

/-! ## The grid's third coordinate -/

theorem i2_lt (i : grid0.Coords) : (i 2).val < 8 := (i 2).isLt

theorem trips1_lo (i : grid0.Coords) (h : (i 2).val < 4) : (k0_t1_loop i).trips = 0 := by
  unfold k0_t1_loop; revert h; generalize (i 2) = x; revert x; decide +kernel
theorem trips1_hi (i : grid0.Coords) (h : ¬ (i 2).val < 4) : (k0_t1_loop i).trips = 1 := by
  unfold k0_t1_loop; revert h; generalize (i 2) = x; revert x; decide +kernel
theorem trips2 (i : grid0.Coords) : (k0_t2_loop i).trips = 0 := by
  unfold k0_t2_loop; generalize (i 2) = x; revert x; decide +kernel

theorem cond1_iff (i : grid0.Coords) : k0_cond1 i = 1#1 ↔ (i 2).val % 4 = 0 := by
  unfold k0_cond1; generalize (i 2) = x; revert x; decide +kernel
theorem cond2_iff (i : grid0.Coords) : k0_cond2 i = 1#1 ↔ (i 2).val % 4 = 1 := by
  unfold k0_cond2; generalize (i 2) = x; revert x; decide +kernel
theorem cond3_iff (i : grid0.Coords) : k0_cond3 i = 1#1 ↔ (i 2).val % 4 = 2 := by
  unfold k0_cond3; generalize (i 2) = x; revert x; decide +kernel
theorem cond4_iff (i : grid0.Coords) : k0_cond4 i = 1#1 ↔ (i 2).val % 4 = 3 := by
  unfold k0_cond4; generalize (i 2) = x; revert x; decide +kernel

theorem off3_eq (i : grid0.Coords) : k0_off3 i = ![2048 * ((i 2).val / 4), 0] := by
  unfold k0_off3; generalize (i 2) = x; revert x; decide +kernel
theorem off4_eq (i : grid0.Coords) : k0_off4 i = ![2048 * ((i 2).val / 4), 0] := by
  unfold k0_off4; generalize (i 2) = x; revert x; decide +kernel
theorem off5_eq (i : grid0.Coords) : k0_off5 i = ![2048 * ((i 2).val / 4), 0] := by
  unfold k0_off5; generalize (i 2) = x; revert x; decide +kernel
theorem off6_eq (i : grid0.Coords) : k0_off6 i = ![2048 * ((i 2).val / 4), 0] := by
  unfold k0_off6; generalize (i 2) = x; revert x; decide +kernel

theorem k0_eq (i : grid0.Coords) : Scalar.muli (Scalar.muli (BitVec.ofNat 32 ((i 2).val / 4)) 4#32) 512#32
    = BitVec.ofNat 32 (2048 * ((i 2).val / 4)) := by
  generalize (i 2) = x; revert x; decide +kernel

/-! ## The tiles of a grid point -/

theorem inbG {x n : Nat} (hx : x < 8) (hn : n ≤ 2048) :
    ∀ a, (![2048 * (x / 4), 0] : Fin 2 → Nat) a + (![n, 128] : Fin 2 → Nat) a ≤ S4096x128.size a := by
  intro a
  fin_cases a
  · show 2048 * (x / 4) + n ≤ 4096
    omega
  · show 0 + 128 ≤ 128
    omega

/-- The tile below the diagonal group. -/
def fullS (σ : St F) : St F :=
  tileFullS 2048 16 (by decide) (wev 2048 16 (by decide) (by decide)) (kev 2048 (by decide)) (dev 512 2048 (by decide) (by decide) (by decide))
    0#32 ![0, 0] (inbG (x := 0) (by decide) (by decide)) σ

/-- The diagonal tile of row block `x`. -/
def diagS (x : Nat) (hx : x < 8) (σ : St F) : St F :=
  if x % 4 = 0 then tileDiag1S (BitVec.ofNat 32 (2048 * (x / 4))) ![2048 * (x / 4), 0] (inbG hx (by decide)) σ
  else if x % 4 = 1 then
    tileDiagS 512 4 (by decide) (by decide) (by decide) (BitVec.ofNat 32 (2048 * (x / 4))) ![2048 * (x / 4), 0] (inbG hx (by decide)) σ
  else if x % 4 = 2 then
    tileDiagS 1024 8 (by decide) (by decide) (by decide) (BitVec.ofNat 32 (2048 * (x / 4))) ![2048 * (x / 4), 0] (inbG hx (by decide)) σ
  else
    tileDiagS 1536 12 (by decide) (by decide) (by decide) (BitVec.ofNat 32 (2048 * (x / 4))) ![2048 * (x / 4), 0] (inbG hx (by decide)) σ

/-- What the body of row block `x` makes of the buffers' contents. -/
def bodyS (x : Nat) (hx : x < 8) (σ : St F) : St F :=
  headsS (fun h hh => finS h hh) (diagS x hx (if x < 4 then initS σ else fullS (initS σ)))

theorem mid1_tr (i : grid0.Coords) (Q : (Σ' (v67 : BitVec 32), BitVec 32) → St F → Prop) (σ : St F)
    (hq : ∀ a : Σ' (v67 : BitVec 32), BitVec 32, a.1 = BitVec.ofNat 32 ((i 2).val / 4) → Q a (if (i 2).val < 4 then σ else fullS σ)) :
    Tr c B (mid1 B i (BitVec.ofNat 32 (i 2).val)) Q σ := by
  have hv : ∀ a, Tr c B (pure a : PG F (Σ' (v67 : BitVec 32), BitVec 32)) (fun b σ => b = a ∧ σ = (if (i 2).val < 4 then σ else fullS σ)) σ → True :=
    fun _ _ => trivial
  unfold mid1
  dsimp only
  rw [Scf.for_trips0_bind (k0_t2_loop i) _ (trips2 i)]
  by_cases h : (i 2).val < 4
  · rw [Scf.for_trips0_bind (k0_t1_loop i) _ (trips1_lo i h)]
    rw [if_pos h] at hq
    refine Tr.ret (hq _ ?_)
    generalize (i 2) = x; revert x; decide +kernel
  · rw [Scf.for_trips1_bind (k0_t1_loop i) _ (trips1_hi i h)]
    rw [if_neg h] at hq
    have hoff : k0_off1 i ⟨0, by rw [trips1_hi i h]; decide⟩ = ![0, 0] := rfl
    refine Tr.bind (tileFull_does _ _ _ _ _ _ _ _ _ _ _ _ (Tr.ret ?_))
    refine hq _ ?_
    generalize (i 2) = x; revert x; decide +kernel

theorem part228_tr (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (v67 v84 : BitVec 32)
    (hv : v67 = BitVec.ofNat 32 ((i 2).val / 4)) (h4 : (i 2).val % 4 ≠ 3)
    (Q : (Σ' (v113 : BitVec 32) (v114 : BitVec 32) (v115 : BitVec 1), BitVec 1) → St F → Prop) (σ : St F)
    (hq : ∀ a, Q a (diagS (i 2).val (i2_lt i) σ)) :
    Tr c ⟨arg3, harg3, arg4, harg4, arg5, harg5, arg6, harg6, arg7, harg7, arg8, harg8, arg9, harg9, arg10, harg10, arg11, harg11, arg12, harg12, arg13, harg13, arg14, harg14, arg15, harg15⟩ (k0_part228 (F := F) i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) v67 v84) Q σ := by
  subst hv
  unfold diagS at hq
  by_cases h1 : (i 2).val % 4 = 0
  · obtain ⟨x, hx⟩ := part228_case1 (F := F) i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (BitVec.ofNat 32 ((i 2).val / 4)) v84
      ((cond1_iff i).2 h1) (fun e => by have := (cond2_iff i).1 e; omega) (fun e => by have := (cond3_iff i).1 e; omega)
    rw [hx]
    simp only [off3_eq, k0_eq]
    refine Tr.bind (tileDiag1_does _ _ _ _ _ _ (Tr.ret ?_))
    have := hq x
    rw [if_pos h1] at this
    exact this
  · by_cases h2 : (i 2).val % 4 = 1
    · obtain ⟨x, hx⟩ := part228_case2 (F := F) i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (BitVec.ofNat 32 ((i 2).val / 4)) v84
        (fun e => by have := (cond1_iff i).1 e; omega) ((cond2_iff i).2 h2) (fun e => by have := (cond3_iff i).1 e; omega)
      rw [hx]
      simp only [off4_eq, k0_eq]
      refine Tr.bind (tileDiag_does _ _ _ _ _ _ _ _ _ _ _ (Tr.ret ?_))
      have := hq x
      rw [if_neg h1, if_pos h2] at this
      exact this
    · have h3 : (i 2).val % 4 = 2 := by omega
      obtain ⟨x, hx⟩ := part228_case3 (F := F) i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (BitVec.ofNat 32 ((i 2).val / 4)) v84
        (fun e => by have := (cond1_iff i).1 e; omega) (fun e => by have := (cond2_iff i).1 e; omega) ((cond3_iff i).2 h3)
      rw [hx]
      simp only [off5_eq, k0_eq]
      refine Tr.bind (tileDiag_does _ _ _ _ _ _ _ _ _ _ _ (Tr.ret ?_))
      have := hq x
      rw [if_neg h1, if_neg h2, if_pos h3] at this
      exact this

theorem part228_tr4 (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (v67 v84 : BitVec 32)
    (h4 : (i 2).val % 4 = 3)
    (Q : (Σ' (v113 : BitVec 32) (v114 : BitVec 32) (v115 : BitVec 1), BitVec 1) → St F → Prop) (σ : St F)
    (hq : ∀ a, Q a σ) :
    Tr c ⟨arg3, harg3, arg4, harg4, arg5, harg5, arg6, harg6, arg7, harg7, arg8, harg8, arg9, harg9, arg10, harg10, arg11, harg11, arg12, harg12, arg13, harg13, arg14, harg14, arg15, harg15⟩ (k0_part228 (F := F) i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) v67 v84) Q σ := by
  obtain ⟨x, hx⟩ := part228_case4 (F := F) i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) v67 v84
      (fun e => by have := (cond1_iff i).1 e; omega) (fun e => by have := (cond2_iff i).1 e; omega) (fun e => by have := (cond3_iff i).1 e; omega)
  rw [hx]
  exact Tr.bind (Tr.ret (Tr.ret (hq x)))

/-- The state the heads' results are written from. -/
def preS (x : Nat) (hx : x < 8) (σ : St F) : St F := diagS x hx σ

theorem fins_tr (Q : FVec F S512x128 .f32 → St F → Prop) (σ : St F)
    (hq : Q (finAV 3 (by decide) σ) (finS 2 (by decide) (finS 1 (by decide) (finS 0 (by decide) σ)))) :
    Tr c B (do
      let a ← finA B 0 (by decide)
      finB B 0 (by decide) a
      let a ← finA B 1 (by decide)
      finB B 1 (by decide) a
      let a ← finA B 2 (by decide)
      finB B 2 (by decide) a
      finA B 3 (by decide)) Q σ := by
  refine Tr.bind (finA_tr 0 _ _ _ (Tr.bind (finB_does 0 _ _ _ _ ?_)))
  refine Tr.bind (finA_tr 1 _ _ _ (Tr.bind (finB_does 1 _ _ _ _ ?_)))
  refine Tr.bind (finA_tr 2 _ _ _ (Tr.bind (finB_does 2 _ _ _ _ ?_)))
  exact finA_tr 3 _ _ _ hq

theorem mid3_tr (i : grid0.Coords) (v67 v113 v114 : BitVec 32) (v115 v118 : BitVec 1) (h4 : (i 2).val % 4 ≠ 3)
    (Q : FVec F S512x128 .f32 → St F → Prop) (σ : St F)
    (hq : Q (finAV 3 (by decide) σ) (finS 2 (by decide) (finS 1 (by decide) (finS 0 (by decide) σ)))) :
    Tr c B (mid3 B i v67 v113 v114 v115 v118) Q σ := by
  unfold mid3
  dsimp only
  rw [dif_neg (fun e => h4 ((cond4_iff i).1 e))]
  exact fins_tr Q σ hq

theorem mid3_tr4 (i : grid0.Coords) (v67 v113 v114 : BitVec 32) (v115 v118 : BitVec 1) (hv : v67 = BitVec.ofNat 32 ((i 2).val / 4))
    (h4 : (i 2).val % 4 = 3)
    (Q : FVec F S512x128 .f32 → St F → Prop) (σ σ' : St F) (hσ : diagS (i 2).val (i2_lt i) σ = σ')
    (hq : Q (finAV 3 (by decide) σ') (finS 2 (by decide) (finS 1 (by decide) (finS 0 (by decide) σ')))) :
    Tr c B (mid3 B i v67 v113 v114 v115 v118) Q σ := by
  subst hv
  unfold diagS at hσ
  rw [if_neg (by omega), if_neg (by omega), if_neg (by omega)] at hσ
  subst hσ
  unfold mid3
  dsimp only
  rw [dif_pos ((cond4_iff i).2 h4)]
  simp only [off6_eq, k0_eq]
  exact Tr.bind (tileDiag_does _ _ _ _ _ _ _ _ _ _ _ (fins_tr Q _ hq))

/-- The body of a grid point runs to `bodyS`. -/
theorem body_tr (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole)
    (Q : PUnit → St F → Prop) (σ : St F) (hq : Q ⟨⟩ (bodyS (i 2).val (i2_lt i) σ)) :
    Tr c ⟨arg3, harg3, arg4, harg4, arg5, harg5, arg6, harg6, arg7, harg7, arg8, harg8, arg9, harg9, arg10, harg10, arg11, harg11, arg12, harg12, arg13, harg13, arg14, harg14, arg15, harg15⟩ (cc0_nsa_sel_attn (F := F) i arg3 harg3 arg4 harg4 arg5 harg5 arg6 harg6 arg7 harg7 arg8 harg8 arg9 harg9 arg10 harg10 arg11 harg11 arg12 harg12 arg13 harg13 arg14 harg14 arg15 harg15) Q σ := by
  unfold cc0_nsa_sel_attn
  simp only [part227_eq, part229_eq]
  refine cast (congrArg (fun p => Tr c ⟨arg3, harg3, arg4, harg4, arg5, harg5, arg6, harg6, arg7, harg7, arg8, harg8, arg9, harg9, arg10, harg10, arg11, harg11, arg12, harg12, arg13, harg13, arg14, harg14, arg15, harg15⟩ p Q σ) (start_eq i arg3 harg3 arg4 harg4 arg5 harg5 arg6 harg6 arg7 harg7 arg8 harg8 arg9 harg9 arg10 harg10 arg11 harg11 arg12 harg12 arg13 harg13 arg14 harg14 arg15 harg15 (fun arg2 => mid1 ⟨arg3, harg3, arg4, harg4, arg5, harg5, arg6, harg6, arg7, harg7, arg8, harg8, arg9, harg9, arg10, harg10, arg11, harg11, arg12, harg12, arg13, harg13, arg14, harg14, arg15, harg15⟩ i arg2 >>= fun y => k0_part228 (F := F) i arg3 harg3 arg4 harg4 arg5 harg5 arg6 harg6 arg7 harg7 arg8 harg8 arg9 harg9 arg10 harg10 arg11 harg11 arg12 harg12 arg13 harg13 arg14 harg14 arg15 harg15 arg2 y.1 y.2 >>= fun z =>
      mid3 ⟨arg3, harg3, arg4, harg4, arg5, harg5, arg6, harg6, arg7, harg7, arg8, harg8, arg9, harg9, arg10, harg10, arg11, harg11, arg12, harg12, arg13, harg13, arg14, harg14, arg15, harg15⟩ i y.1 z.1 z.2.1 z.2.2.1 z.2.2.2 >>= fun a => finB ⟨arg3, harg3, arg4, harg4, arg5, harg5, arg6, harg6, arg7, harg7, arg8, harg8, arg9, harg9, arg10, harg10, arg11, harg11, arg12, harg12, arg13, harg13, arg14, harg14, arg15, harg15⟩ 3 (by decide) a)).symm) ?_
  refine Tr.bind (init_does _ _ (Tr.bind (mid1_tr i _ _ fun a ha => ?_)))
  by_cases h4 : (i 2).val % 4 = 3
  · refine Tr.bind (part228_tr4 i arg3 harg3 arg4 harg4 arg5 harg5 arg6 harg6 arg7 harg7 arg8 harg8 arg9 harg9 arg10 harg10 arg11 harg11 arg12 harg12 arg13 harg13 arg14 harg14 arg15 harg15 _ _ h4 _ _ fun z => ?_)
    exact Tr.bind (mid3_tr4 i _ _ _ _ _ ha h4 _ _ _ rfl (finB_does 3 _ _ _ _ hq))
  · refine Tr.bind (part228_tr i arg3 harg3 arg4 harg4 arg5 harg5 arg6 harg6 arg7 harg7 arg8 harg8 arg9 harg9 arg10 harg10 arg11 harg11 arg12 harg12 arg13 harg13 arg14 harg14 arg15 harg15 _ _ ha h4 _ _ fun z => ?_)
    exact Tr.bind (mid3_tr i _ _ _ _ _ h4 _ _ (finB_does 3 _ _ _ _ hq))

end Cert.Proof

end
-- ==== Proof.Keep.lean ====
/-
  The blocks of the kernel's work leave the inputs' buffers as they were.
-/
module

public import proofs.«01_k».proof.Proof.Body

@[expose] public section

set_option maxRecDepth 16384

noncomputable section

namespace Cert.Proof

open Cert.KernelIdeal Cert.KernelIdeal.Gen
open Idealize.ShloMosaic Idealize.SL.Sem
open VecWindow (window put)

variable {F : FTy → Type} [FloatOps F] [Named F]

/-- The inputs' buffers. -/
abbrev ins (σ : St F) := (σ.q, σ.k, σ.v, σ.b, σ.w)

/-- `f` leaves what `g` reads. -/
def Keeps {α : Type} (g : St F → α) (f : St F → St F) : Prop := ∀ σ, g (f σ) = g σ

variable {α : Type} {g : St F → α}

theorem Keeps.comp {f f' : St F → St F} (h' : Keeps g f') (h : Keeps g f) : Keeps g (fun σ => f' (f σ)) :=
  fun σ => (h' _).trans (h σ)
theorem headsS_keeps {f : (h : Nat) → h < 4 → St F → St F} (H : ∀ h hh, Keeps g (f h hh)) : Keeps g (headsS f) :=
  (H 3 _).comp ((H 2 _).comp ((H 1 _).comp (H 0 _)))
theorem rowsLoS_keeps {f : (r : Nat) → r < 8 → St F → St F} (H : ∀ r hr, Keeps g (f r hr)) : Keeps g (rowsLoS f) :=
  (H 3 _).comp ((H 2 _).comp ((H 1 _).comp (H 0 _)))
theorem rowsHiS_keeps {f : (r : Nat) → r < 8 → St F → St F} (H : ∀ r hr, Keeps g (f r hr)) : Keeps g (rowsHiS f) :=
  (H 7 _).comp ((H 6 _).comp ((H 5 _).comp (H 4 _)))

/-- What the tiles leave: the inputs, the copied weights, the queries with their bias and the result. -/
abbrev kept (σ : St F) := (ins σ, σ.wg, σ.qa, σ.o)

/-- The state apart from the scores, the weights, the running maximum and the rescaling, -/
abbrev noSoft (σ : St F) := (kept σ, σ.acc)

theorem smFullS_keeps (h r w n : Nat) (hh : h < 4) (hr : r < 8) (hd : 0 + w ≤ 2048) (ev : WEv (F := F) w n) :
    Keeps (fun σ => (noSoft σ, σ.s)) (smFullS h r w n hh hr hd ev) := fun _ => rfl
theorem smMaskS_keeps (h r w n : Nat) (hh : h < 4) (hr : r < 8) (hd : 0 + w ≤ 2048) (ev : WEv (F := F) w n) :
    Keeps (fun σ => (noSoft σ, σ.s)) (smMaskS h r w n hh hr hd ev) := fun _ => rfl
theorem smTwoS_keeps (h r w' n' w n : Nat) (hh : h < 4) (hr : r < 8) (hd : w' + w ≤ 2048) (ev' : WEv (F := F) w' n') (ev : WEv (F := F) w n) :
    Keeps (fun σ => (noSoft σ, σ.s)) (smTwoS h r w' n' w n hh hr hd ev' ev) := fun _ => rfl
theorem scoresS_keeps (h r0 rr nk : Nat) (hh : h < 4) (hr : r0 + rr ≤ 512) (hk : 0 + nk ≤ 2048) (ev : DEv (F := F) rr nk)
    (ka : FVec F (R2 nk 256) .bf16) : Keeps (fun σ => (noSoft σ, σ.m, σ.p, σ.al)) (scoresS h r0 rr nk hh hr hk ev ka) := fun _ => rfl
theorem valuesS_keeps (h r0 rr nk : Nat) (hh : h < 4) (hr : r0 + rr ≤ 512) (hk : 0 + nk ≤ 2048) (ev : DEv (F := F) rr nk)
    (va : FVec F (R2 nk 256) .bf16) : Keeps (fun σ => (kept σ, σ.m, σ.p, σ.al, σ.s)) (valuesS h r0 rr nk hh hr hk ev va) := fun _ => rfl

theorem softF_keeps1 (nk n : Nat) (hk : 0 + nk ≤ 2048) (evw : WEv (F := F) nk n) (h : Nat) (hh : h < 4) :
    Keeps (F := F) (fun σ => (noSoft σ, σ.s)) (softF nk n hk evw h hh) := fun σ => by
  unfold softF
  rw [rowsHiS_keeps (g := fun σ => (noSoft σ, σ.s)) (f := fun r hr => smFullS h r nk n hh hr hk evw) fun r hr σ => rfl]
  rw [rowsLoS_keeps (g := fun σ => (noSoft σ, σ.s)) (f := fun r hr => smFullS h r nk n hh hr hk evw) fun r hr σ => rfl]
theorem softF_keeps (nk n : Nat) (hk : 0 + nk ≤ 2048) (evw : WEv (F := F) nk n) : Keeps (F := F) (fun σ => (noSoft σ, σ.s)) (headsS (softF nk n hk evw )) :=
  headsS_keeps (f := softF nk n hk evw ) fun h hh => softF_keeps1 nk n hk evw h hh
theorem softD1_keeps1 (h : Nat) (hh : h < 4) :
    Keeps (F := F) (fun σ => (noSoft σ, σ.s)) (softD1 h hh) := fun σ => by
  unfold softD1
  rw [rowsHiS_keeps (g := fun σ => (noSoft σ, σ.s)) (f := fun r hr => smMaskS h r 512 4 hh hr (by decide) (wev 512 4 (by decide) (by decide))) fun r hr σ => rfl]
  rw [rowsLoS_keeps (g := fun σ => (noSoft σ, σ.s)) (f := fun r hr => smMaskS h r 256 2 hh hr (by decide) (wev 256 2 (by decide) (by decide))) fun r hr σ => rfl]
theorem softD1_keeps : Keeps (F := F) (fun σ => (noSoft σ, σ.s)) (headsS (softD1 )) :=
  headsS_keeps (f := softD1 ) fun h hh => softD1_keeps1 h hh
theorem softD_keeps1 (d0 n0 : Nat) (h1 : 2 ≤ n0) (h2 : 128 * n0 = d0) (h3 : d0 ≤ 1536) (h : Nat) (hh : h < 4) :
    Keeps (F := F) (fun σ => (noSoft σ, σ.s)) (softD d0 n0 h1 h2 h3 h hh) := fun σ => by
  unfold softD
  rw [rowsHiS_keeps (g := fun σ => (noSoft σ, σ.s)) (f := fun r hr => smTwoS h r d0 n0 512 4 hh hr (by omega) (wev d0 n0 h1 h2) (wev 512 4 (by decide) (by decide))) fun r hr σ => rfl]
  rw [rowsLoS_keeps (g := fun σ => (noSoft σ, σ.s)) (f := fun r hr => smTwoS h r d0 n0 256 2 hh hr (by omega) (wev d0 n0 h1 h2) (wev 256 2 (by decide) (by decide))) fun r hr σ => rfl]
theorem softD_keeps (d0 n0 : Nat) (h1 : 2 ≤ n0) (h2 : 128 * n0 = d0) (h3 : d0 ≤ 1536) : Keeps (F := F) (fun σ => (noSoft σ, σ.s)) (headsS (softD d0 n0 h1 h2 h3 )) :=
  headsS_keeps (f := softD d0 n0 h1 h2 h3 ) fun h hh => softD_keeps1 d0 n0 h1 h2 h3 h hh
theorem scoresF_keeps (nk : Nat) (hk : 0 + nk ≤ 2048) (evd : DEv (F := F) 512 nk) (ka : FVec F (R2 nk 256) .bf16) : Keeps (fun σ => (noSoft σ, σ.m, σ.p, σ.al)) (headsS (scoresF nk hk evd ka)) :=
  headsS_keeps (f := scoresF nk hk evd ka) fun h hh σ => rfl
theorem scoresD_keeps (nl nk : Nat) (hl : nl ≤ nk) (hk : nk ≤ 2048) (hp : 0 < nl) (ka : FVec F (R2 nk 256) .bf16) : Keeps (fun σ => (noSoft σ, σ.m, σ.p, σ.al)) (headsS (scoresD nl nk hl hk hp ka)) :=
  headsS_keeps (f := scoresD nl nk hl hk hp ka) fun h hh σ => rfl
theorem valuesF_keeps (nk : Nat) (hk : 0 + nk ≤ 2048) (evd : DEv (F := F) 512 nk) (ka : FVec F (R2 nk 256) .bf16) : Keeps (fun σ => (kept σ, σ.m, σ.p, σ.al, σ.s)) (headsS (valuesF nk hk evd ka)) :=
  headsS_keeps (f := valuesF nk hk evd ka) fun h hh σ => rfl
theorem valuesD_keeps (nl nk : Nat) (hl : nl ≤ nk) (hk : nk ≤ 2048) (hp : 0 < nl) (ka : FVec F (R2 nk 256) .bf16) : Keeps (fun σ => (kept σ, σ.m, σ.p, σ.al, σ.s)) (headsS (valuesD nl nk hl hk hp ka)) :=
  headsS_keeps (f := valuesD nl nk hl hk hp ka) fun h hh σ => rfl

theorem kept_of {β γ : Type} {p : St F → β} {q : St F → γ} {f : St F → St F} (h : Keeps (fun σ => (p σ, q σ)) f) : Keeps p f :=
  fun σ => congrArg Prod.fst (h σ)

theorem tileFullS_keeps (nk n : Nat) (hk : 0 + nk ≤ 2048) (evw : WEv (F := F) nk n) (evk : KEv (F := F) nk) (evd : DEv (F := F) 512 nk)
    (k0 : BitVec 32) (off : Fin 2 → Nat) (inb : ∀ a, off a + (![nk, 128] : Fin 2 → Nat) a ≤ S4096x128.size a) :
    Keeps kept (tileFullS nk n hk evw evk evd k0 off inb) := fun σ => by
  unfold tileFullS
  exact (kept_of (valuesF_keeps _ _ _ _) _).trans ((kept_of (kept_of (softF_keeps _ _ _ _)) _).trans (kept_of (kept_of (scoresF_keeps _ _ _ _)) _))

theorem tileDiag1S_keeps (k0 : BitVec 32) (off : Fin 2 → Nat) (inb : ∀ a, off a + (![512, 128] : Fin 2 → Nat) a ≤ S4096x128.size a) :
    Keeps (F := F) kept (tileDiag1S k0 off inb) := fun σ => by
  unfold tileDiag1S
  exact (kept_of (valuesD_keeps _ _ _ _ _ _) _).trans ((kept_of (kept_of softD1_keeps) _).trans (kept_of (kept_of (scoresD_keeps _ _ _ _ _ _)) _))

theorem tileDiagS_keeps (d0 n0 : Nat) (h1 : 2 ≤ n0) (h2 : 128 * n0 = d0) (h3 : d0 ≤ 1536) (k0 : BitVec 32) (off : Fin 2 → Nat)
    (inb : ∀ a, off a + (![d0 + 512, 128] : Fin 2 → Nat) a ≤ S4096x128.size a) :
    Keeps (F := F) kept (tileDiagS d0 n0 h1 h2 h3 k0 off inb) := fun σ => by
  unfold tileDiagS
  exact (kept_of (valuesD_keeps _ _ _ _ _ _) _).trans ((kept_of (kept_of (softD_keeps _ _ _ _ _)) _).trans (kept_of (kept_of (scoresD_keeps _ _ _ _ _ _)) _))

theorem fullS_keeps : Keeps (F := F) kept fullS := tileFullS_keeps _ _ _ _ _ _ _ _ _

theorem diagS_keeps (x : Nat) (hx : x < 8) : Keeps (F := F) kept (diagS x hx) := fun σ => by
  unfold diagS
  split_ifs
  · exact tileDiag1S_keeps _ _ _ σ
  · exact tileDiagS_keeps _ _ _ _ _ _ _ _ σ
  · exact tileDiagS_keeps _ _ _ _ _ _ _ _ σ
  · exact tileDiagS_keeps _ _ _ _ _ _ _ _ σ

theorem initS_keeps : Keeps (F := F) ins initS := fun σ => by
  unfold initS
  refine (headsS_keeps (g := ins) (f := fun h hh => initHS h hh) (fun h hh => ?_) _).trans ?_
  · exact fun σ => rfl
  · rfl

/-- What the results' stores leave. -/
theorem finS_keeps (h : Nat) (hh : h < 4) : Keeps (F := F) (fun σ => (ins σ, σ.wg, σ.acc)) (finS h hh) := fun σ => rfl

theorem ins_kept {f : St F → St F} (h : Keeps kept f) : Keeps ins f := fun σ => congrArg (fun x => x.1) (h σ)

theorem bodyS_ins (x : Nat) (hx : x < 8) : Keeps (F := F) ins (bodyS x hx) := fun σ => by
  unfold bodyS
  refine (headsS_keeps (g := ins) (f := fun h hh => finS h hh) (fun h hh => ?_) _).trans ((ins_kept (diagS_keeps x hx) _).trans ?_)
  · exact fun σ => rfl
  split_ifs
  · exact initS_keeps σ
  · rw [ins_kept fullS_keeps]; exact initS_keeps σ

theorem bodyS_q (x : Nat) (hx : x < 8) (σ : St F) : (bodyS x hx σ).q = σ.q := congrArg (fun x => x.1) (bodyS_ins x hx σ)
theorem bodyS_k (x : Nat) (hx : x < 8) (σ : St F) : (bodyS x hx σ).k = σ.k := congrArg (fun x => x.2.1) (bodyS_ins x hx σ)
theorem bodyS_v (x : Nat) (hx : x < 8) (σ : St F) : (bodyS x hx σ).v = σ.v := congrArg (fun x => x.2.2.1) (bodyS_ins x hx σ)
theorem bodyS_b (x : Nat) (hx : x < 8) (σ : St F) : (bodyS x hx σ).b = σ.b := congrArg (fun x => x.2.2.2.1) (bodyS_ins x hx σ)
theorem bodyS_w (x : Nat) (hx : x < 8) (σ : St F) : (bodyS x hx σ).w = σ.w := congrArg (fun x => x.2.2.2.2) (bodyS_ins x hx σ)

end Cert.Proof

end
-- ==== Proof.Run.lean ====
/-
  The kernel's run, at any float values: one point's body over the staging buffers, the pipeline's proof data with the
  results left unsaid, and the frame.
-/
module

public import proofs.«01_k».proof.Proof.Keep
public import proofs.«01_k».proof.Proof.Gen.KernelIdeal.Frame
public import Idealize.ShloMosaic.Lib.Claim

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of a point. -/
abbrev bufsAt (t : Fin cfg0.N) : Bufs :=
  ⟨win0_0.stage (cfg0.slots t 0), hstage0_0 ((cfg0.slots t 0).cast nbuf0_0), win0_1.stage (cfg0.slots t 1), hstage0_1 ((cfg0.slots t 1).cast nbuf0_1),
   win0_2.stage (cfg0.slots t 2), hstage0_2 ((cfg0.slots t 2).cast nbuf0_2), win0_3.stage (cfg0.slots t 3), hstage0_3 ((cfg0.slots t 3).cast nbuf0_3),
   win0_4.stage (cfg0.slots t 4), hstage0_4 ((cfg0.slots t 4).cast nbuf0_4), win0_5.stage (cfg0.slots t 5), hstage0_5 ((cfg0.slots t 5).cast nbuf0_5),
   win0_6.stage (cfg0.slots t 6), hstage0_6 ((cfg0.slots t 6).cast nbuf0_6),
   Memref.whole cc0_scratch0, Memref.isWhole_whole _, Memref.whole cc0_scratch1, Memref.isWhole_whole _, Memref.whole cc0_scratch2, Memref.isWhole_whole _,
   Memref.whole cc0_scratch3, Memref.isWhole_whole _, Memref.whole cc0_scratch4, Memref.isWhole_whole _, Memref.whole cc0_scratch5, Memref.isWhole_whole _⟩

/-- The third grid coordinate of a point. -/
abbrev rowB (t : Fin cfg0.N) : Nat := ((grid0.coords t) 2).val

/-- A point's body from the whole buffers' contents. -/
theorem body_run (c : Dev nD) (t : Fin cfg0.N) (σ : St F) (K : PUnit → sProp 𝕄) :
    iprop(Res c (bufsAt t) σ ∗ (Res c (bufsAt t) (bodyS (rowB t) (i2_lt _) σ) -∗ K ⟨⟩))
      ⊢ wp frame (wpE (defs₀ (F := F)) Variants.none (c : Thread nD τ) none) Set.univ (bodyAt0 t) K :=
  body_tr (c := c) (grid0.coords t) _ _ _ _ _ _ _ _ _ _ _ _ _ _ _ _ _ _ _ _ _ _ _ _ _ _
    (fun _ σ' => σ' = bodyS (rowB t) (i2_lt _) σ) σ rfl _ K (fun a σ' h => by
      subst h
      iintro ⟨H, Hk⟩
      iapply Hk
      iexact H)

/-- A point's body over the staging buffers and the scratch buffers at any contents: the results are those of `bodyS` from
    some contents with the inputs' blocks. -/
theorem body_point (c : Dev nD) (t : Fin cfg0.N) (x0 : Vec F S512x512 .bf16) (x1 x2 : Vec F S4096x128 .bf16) (x3 : Vec F S1x1x512x128 .bf16)
    (x4 : Vec F S64x4096 .f32) (R : sProp 𝕄) (K : PUnit → sProp 𝕄)
    (h : ∀ σ : St F, σ.q = x0 → σ.k = x1 → σ.v = x2 → σ.b = x3 → σ.w = x4 →
      iprop(Pipeline.scopedRest (Ix := Unit) (Name := ℕ) (U := UR sig nD τ) (Lvl := ℕ) (Val := Elt F) spec0 c
        ∗ owns (c : Thread nD τ) (win0_0.stage (cfg0.slots t 0)) fullShare x0 ∗ owns (c : Thread nD τ) (win0_1.stage (cfg0.slots t 1)) fullShare x1
        ∗ owns (c : Thread nD τ) (win0_2.stage (cfg0.slots t 2)) fullShare x2 ∗ owns (c : Thread nD τ) (win0_3.stage (cfg0.slots t 3)) fullShare x3
        ∗ owns (c : Thread nD τ) (win0_4.stage (cfg0.slots t 4)) fullShare x4
        ∗ owns (c : Thread nD τ) (win0_5.stage (cfg0.slots t 5)) fullShare (bodyS (rowB t) (i2_lt _) σ).o
        ∗ owns (c : Thread nD τ) (win0_6.stage (cfg0.slots t 6)) fullShare (bodyS (rowB t) (i2_lt _) σ).wg ∗ R) ⊢ K ⟨⟩) :
    iprop(Pipeline.scopedRest (Ix := Unit) (Name := ℕ) (U := UR sig nD τ) (Lvl := ℕ) (Val := Elt F) spec0 c
        ∗ owns (c : Thread nD τ) (win0_0.stage (cfg0.slots t 0)) fullShare x0 ∗ owns (c : Thread nD τ) (win0_1.stage (cfg0.slots t 1)) fullShare x1
        ∗ owns (c : Thread nD τ) (win0_2.stage (cfg0.slots t 2)) fullShare x2 ∗ owns (c : Thread nD τ) (win0_3.stage (cfg0.slots t 3)) fullShare x3
        ∗ owns (c : Thread nD τ) (win0_4.stage (cfg0.slots t 4)) fullShare x4
        ∗ (∃ d, owns (c : Thread nD τ) (win0_5.stage (cfg0.slots t 5)) fullShare d)
        ∗ (∃ d, owns (c : Thread nD τ) (win0_6.stage (cfg0.slots t 6)) fullShare d) ∗ R)
      ⊢ wp frame (wpE (defs₀ (F := F)) Variants.none (c : Thread nD τ) none) Set.univ (bodyAt0 t) K := by
  rw [scopedRest0_eq] at h ⊢
  iintro ⟨⟨⟨%f0, S0⟩, ⟨%f1, S1⟩, ⟨%f2, S2⟩, ⟨%f3, S3⟩, ⟨%f4, S4⟩, ⟨%f5, S5⟩⟩, H0, H1, H2, H3, H4, ⟨%d5, H5⟩, ⟨%d6, H6⟩, HR⟩
  iapply (body_run c t ⟨x0, x1, x2, x3, x4, d5, d6, f0, f1, f2, f3, f4, f5⟩ K)
  unfold Res
  simp only [owns_whole]
  isplitl [S0 S1 S2 S3 S4 S5 H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    iexact S5
  rw [bodyS_q, bodyS_k, bodyS_v, bodyS_b, bodyS_w]
  iintro ⟨H0, H1, H2, H3, H4, H5, H6, S0, S1, S2, S3, S4, S5⟩
  iapply (h ⟨x0, x1, x2, x3, x4, d5, d6, f0, f1, f2, f3, f4, f5⟩ rfl rfl rfl rfl rfl)
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HR

/-! ## The proof data with the results left unsaid -/

/-- The results' windows, of whose contents nothing is said. -/
def fgt0 : Fin 7 → Bool := fun | 5 => true | 6 => true | _ => false

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  iintro ⟨⟨HS, Hg⟩, Ho, ⟨%d0, H0⟩, ⟨%d1, H1⟩, ⟨%d2, H2⟩, ⟨%d3, H3⟩, ⟨%d4, H4⟩, H5, H6⟩
  iapply (body_point c t (iblk m c 0 t) (iblk m c 1 t) (iblk m c 2 t) (iblk m c 3 t) (iblk m c 4 t)
    iprop((∃ r, prngReg c r) ∗ (dats m 0 c).owesAt () t.castSucc) _ (fun σ _ _ _ _ _ => by
      iintro ⟨HS, H0, H1, H2, H3, H4, H5, H6, Hg, Ho⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6))
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hg]; · iexact Hg
  iexact Ho

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget fgt0) (V m) r ∧ r.2.sem = fun _ => 0) :=
  Pipeline.θ_run_frame_forget_shared (Q' := _) cfgs (dats m) (0 : Fin 1) launch₀0 defs₀ Variants.none fgt0 m ρ main
    (hbody := fun c => (body_obligation m c).loose) (hq := fun _ _ _ => rfl)
    (howed := fun _ _ => rfl) (V := V m) (hmain := hmain m Variants.none) (hA := A_eq m) (hΦ := fun _ _ => rfl)

/-- The frame: the argument arrays end unchanged and every semaphore counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 4 rfl).trans ((A_eq m c 4).trans (V_main_arg2 m c))⟩, h.2⟩) (run_main m ρ)

end Cert.Proof

end
-- ==== Proof.KBridge.lean ====
/-
  For the kernel as printed.
  Two programs that begin with the same operation are equal when what follows is.
-/
module

public import proofs.«01_k».proof.Proof.KTile

@[expose] public section

set_option maxRecDepth 16384

noncomputable section

namespace Cert.Proof.Printed

open Cert.Kernel Cert.Kernel.Gen
open Idealize.ShloMosaic Idealize.SL.Sem

theorem have_cg {α β : Sort _} {a a' : α} {f f' : α → β} (h₁ : a = a') (h₂ : ∀ x, f x = f' x) :
    (have x := a; f x) = (have x := a'; f' x) := by subst h₁; exact h₂ a

theorem op_cg {F : FTy → Type} {α β : Type} {e : TpuEff nD τ sig (Elt F) Λ₀ .tc β} {k k' : β → PG F α} (h : ∀ v, k v = k' v) :
    (Prog.op e k : PG F α) = Prog.op e k' := by rw [funext h]

theorem bind_congr' {F : FTy → Type} {α β : Type} {p p' : PG F α} {k k' : α → PG F β} (hp : p = p') (hk : ∀ x, k x = k' x) :
    (p >>= k) = (p' >>= k') := by
  subst hp; rw [funext hk]

theorem for_congr' {F : FTy → Type} {w : Nat} {l : Scf.Loop w} {ok : l.OK} {f g : Fin l.trips → PUnit → PG F PUnit} (h : ∀ t x, f t x = g t x) :
    Scf.Loop.for l ok ⟨⟩ f = Scf.Loop.for l ok ⟨⟩ g := by
  rw [funext fun t => funext (h t)]

theorem dite_congr' {F : FTy → Type} {c : Prop} {inst : Decidable c} {α : Type} {a a' : c → PG F α} {b b' : ¬ c → PG F α} (ha : ∀ h, a h = a' h) (hb : ∀ h, b h = b' h) :
    (if h : c then a h else b h) = (if h : c then a' h else b' h) := by
  rw [funext ha, funext hb]

end Cert.Proof.Printed

end
-- ==== Proof.KB1.lean ====
/-
  For the kernel as printed.
-/
module

public import proofs.«01_k».proof.Proof.KBridge

@[expose] public section

set_option maxRecDepth 16384

noncomputable section

namespace Cert.Proof.Printed

open Cert.Kernel Cert.Kernel.Gen
open Idealize.ShloMosaic Idealize.SL.Sem

variable {F : FTy → Type} [FloatOps F]

/-- The start of a grid point. -/
theorem start_eq (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) {α : Type} (X : BitVec 32 → PG F α) :
    (k0_part225 (F := F) i arg3 harg3 arg4 harg4 arg5 harg5 arg6 harg6 arg7 harg7 arg8 harg8 arg9 harg9 arg10 harg10 arg11 harg11 arg12 harg12 arg13 harg13 arg14 harg14 arg15 harg15 >>= fun x => k0_part226 i arg3 harg3 arg4 harg4 arg5 harg5 arg6 harg6 arg7 harg7 arg8 harg8 arg9 harg9 arg10 harg10 arg11 harg11 arg12 harg12 arg13 harg13 arg14 harg14 arg15 harg15 x.2 >>= fun v47 =>
      ldp arg10 ![3, 0, 128] ![1, 512, 128] (inb3 (by omega) (by decide) (by decide)) (pos3 (by decide) (by decide)) >>= fun _ =>
      stp arg10 ![3, 0, 128] ![1, 512, 128] (inb3 (by omega) (by decide) (by decide)) (shapeCast (R1 512 128) v47 (sc13 512 128))
        (st_bf16 arg10 harg10 _ (pos3 (by decide) (by decide)) (packed3 _ (by decide) (by decide))) >>= fun _ => X x.1)
    = (init ⟨arg3, harg3, arg4, harg4, arg5, harg5, arg6, harg6, arg7, harg7, arg8, harg8, arg9, harg9, arg10, harg10, arg11, harg11, arg12, harg12, arg13, harg13, arg14, harg14, arg15, harg15⟩ >>= fun _ => X (BitVec.ofNat 32 (i 2).val)) := by
  rfl

end Cert.Proof.Printed

end
-- ==== Proof.KB2.lean ====
/-
  For the kernel as printed.
-/
module

public import proofs.«01_k».proof.Proof.KBridge

@[expose] public section

set_option maxRecDepth 16384

noncomputable section

namespace Cert.Proof.Printed

open Cert.Kernel Cert.Kernel.Gen
open Idealize.ShloMosaic Idealize.SL.Sem

variable {F : FTy → Type} [FloatOps F]

/-- The last store of the start, with the tiles below the diagonal group after it. -/
theorem part227_eq (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (arg2 : BitVec 32) (v47 : FVec F S512x128 .bf16) :
    (k0_part227 (F := F) i arg3 harg3 arg4 harg4 arg5 harg5 arg6 harg6 arg7 harg7 arg8 harg8 arg9 harg9 arg10 harg10 arg11 harg11 arg12 harg12 arg13 harg13 arg14 harg14 arg15 harg15 arg2 v47) = (do
      let _ ← ldp arg10 ![3, 0, 128] ![1, 512, 128] (inb3 (by omega) (by decide) (by decide)) (pos3 (by decide) (by decide))
      stp arg10 ![3, 0, 128] ![1, 512, 128] (inb3 (by omega) (by decide) (by decide)) (shapeCast (R1 512 128) v47 (sc13 512 128))
        (st_bf16 arg10 harg10 _ (pos3 (by decide) (by decide)) (packed3 _ (by decide) (by decide)))
      mid1 ⟨arg3, harg3, arg4, harg4, arg5, harg5, arg6, harg6, arg7, harg7, arg8, harg8, arg9, harg9, arg10, harg10, arg11, harg11, arg12, harg12, arg13, harg13, arg14, harg14, arg15, harg15⟩ i arg2) := by
  unfold k0_part227 mid1
  refine bind_congr' rfl fun v => bind_congr' rfl fun _ => bind_congr' (for_congr' fun t x => ?_) fun _ => bind_congr' (for_congr' fun t x => ?_) fun _ => ?_
  · rfl
  · rfl
  · rfl

end Cert.Proof.Printed

end
-- ==== Proof.KB3.lean ====
/-
  For the kernel as printed.
-/
module

public import proofs.«01_k».proof.Proof.KBridge

@[expose] public section

set_option maxRecDepth 16384

noncomputable section

namespace Cert.Proof.Printed

open Cert.Kernel Cert.Kernel.Gen
open Idealize.ShloMosaic Idealize.SL.Sem

variable {F : FTy → Type} [FloatOps F]

set_option maxHeartbeats 1000000 in
theorem part228_case2 (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (arg2 v67 v84 : BitVec 32) (h1 : ¬ k0_cond1 i = 1#1) (h2 : k0_cond2 i = 1#1) (h3 : ¬ k0_cond3 i = 1#1) :
    ∃ x, (k0_part228 (F := F) i arg3 harg3 arg4 harg4 arg5 harg5 arg6 harg6 arg7 harg7 arg8 harg8 arg9 harg9 arg10 harg10 arg11 harg11 arg12 harg12 arg13 harg13 arg14 harg14 arg15 harg15 arg2 v67 v84) = (tileDiag ⟨arg3, harg3, arg4, harg4, arg5, harg5, arg6, harg6, arg7, harg7, arg8, harg8, arg9, harg9, arg10, harg10, arg11, harg11, arg12, harg12, arg13, harg13, arg14, harg14, arg15, harg15⟩ 512 4 (by decide) (by decide) (by decide) (Scalar.muli (Scalar.muli v67 4#32) 512#32) (k0_off4 i) (k0_off4_inb i h2) h_S1024x128 >>= fun _ => pure x) := by
  apply Exists.intro
  unfold k0_part228
  simp only [dif_neg h1, dif_pos h2, dif_neg h3]
  repeat refine op_cg fun _ => ?_
  rfl

set_option maxHeartbeats 1000000 in
theorem part228_case3 (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (arg2 v67 v84 : BitVec 32) (h1 : ¬ k0_cond1 i = 1#1) (h2 : ¬ k0_cond2 i = 1#1) (h3 : k0_cond3 i = 1#1) :
    ∃ x, (k0_part228 (F := F) i arg3 harg3 arg4 harg4 arg5 harg5 arg6 harg6 arg7 harg7 arg8 harg8 arg9 harg9 arg10 harg10 arg11 harg11 arg12 harg12 arg13 harg13 arg14 harg14 arg15 harg15 arg2 v67 v84) = (tileDiag ⟨arg3, harg3, arg4, harg4, arg5, harg5, arg6, harg6, arg7, harg7, arg8, harg8, arg9, harg9, arg10, harg10, arg11, harg11, arg12, harg12, arg13, harg13, arg14, harg14, arg15, harg15⟩ 1024 8 (by decide) (by decide) (by decide) (Scalar.muli (Scalar.muli v67 4#32) 512#32) (k0_off5 i) (k0_off5_inb i h3) h_S1536x128 >>= fun _ => pure x) := by
  apply Exists.intro
  unfold k0_part228
  simp only [dif_neg h1, dif_neg h2, dif_pos h3]
  repeat refine op_cg fun _ => ?_
  rfl

set_option maxHeartbeats 1000000 in
theorem part228_case4 (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (arg2 v67 v84 : BitVec 32) (h1 : ¬ k0_cond1 i = 1#1) (h2 : ¬ k0_cond2 i = 1#1) (h3 : ¬ k0_cond3 i = 1#1) :
    ∃ x, (k0_part228 (F := F) i arg3 harg3 arg4 harg4 arg5 harg5 arg6 harg6 arg7 harg7 arg8 harg8 arg9 harg9 arg10 harg10 arg11 harg11 arg12 harg12 arg13 harg13 arg14 harg14 arg15 harg15 arg2 v67 v84) = ((pure PUnit.unit : PG F PUnit) >>= fun _ => pure x) := by
  apply Exists.intro
  unfold k0_part228
  simp only [dif_neg h1, dif_neg h2, dif_neg h3]
  repeat refine op_cg fun _ => ?_
  rfl

end Cert.Proof.Printed

end
-- ==== Proof.KB4.lean ====
/-
  For the kernel as printed.
-/
module

public import proofs.«01_k».proof.Proof.KBridge

@[expose] public section

set_option maxRecDepth 16384

noncomputable section

namespace Cert.Proof.Printed

open Cert.Kernel Cert.Kernel.Gen
open Idealize.ShloMosaic Idealize.SL.Sem

variable {F : FTy → Type} [FloatOps F]

set_option maxHeartbeats 4000000 in
theorem part229_eq (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (v67 v113 v114 : BitVec 32) (v115 v118 : BitVec 1) :
    (k0_part229 (F := F) i arg3 harg3 arg4 harg4 arg5 harg5 arg6 harg6 arg7 harg7 arg8 harg8 arg9 harg9 arg10 harg10 arg11 harg11 arg12 harg12 arg13 harg13 arg14 harg14 arg15 harg15 v67 v113 v114 v115 v118) = mid3 ⟨arg3, harg3, arg4, harg4, arg5, harg5, arg6, harg6, arg7, harg7, arg8, harg8, arg9, harg9, arg10, harg10, arg11, harg11, arg12, harg12, arg13, harg13, arg14, harg14, arg15, harg15⟩ i v67 v113 v114 v115 v118 := by
  unfold k0_part229 mid3
  refine have_cg rfl fun _ => have_cg rfl fun _ => have_cg rfl fun _ => have_cg rfl fun _ => have_cg rfl fun _ => have_cg rfl fun _ => have_cg rfl fun _ => have_cg rfl fun _ => have_cg ?_ fun jp => dite_congr' (fun h => ?_) fun _ => rfl
  · rfl
  · repeat refine op_cg fun _ => ?_
    rfl

end Cert.Proof.Printed

end
-- ==== Proof.KB5.lean ====
/-
  For the kernel as printed.
-/
module

public import proofs.«01_k».proof.Proof.KBridge

@[expose] public section

set_option maxRecDepth 200000

noncomputable section

namespace Cert.Proof.Printed

open Cert.Kernel Cert.Kernel.Gen
open Idealize.ShloMosaic Idealize.SL.Sem

variable {F : FTy → Type} [FloatOps F]

set_option maxHeartbeats 8000000 in
theorem part228_case1 (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x512x128 .bf16) (harg6 : arg6.IsWhole) (arg7 : Memref sig .tc .vmem S64x4096 .f32) (harg7 : arg7.IsWhole) (arg8 : Memref sig .tc .vmem S512x512 .f32) (harg8 : arg8.IsWhole) (arg9 : Memref sig .tc .vmem S64x4096 .bf16) (harg9 : arg9.IsWhole) (arg10 : Memref sig .tc .vmem S4x512x256 .bf16) (harg10 : arg10.IsWhole) (arg11 : Memref sig .tc .vmem S4x512x128 .f32) (harg11 : arg11.IsWhole) (arg12 : Memref sig .tc .vmem S4x512x256 .f32) (harg12 : arg12.IsWhole) (arg13 : Memref sig .tc .vmem S4x512x2048 .f32) (harg13 : arg13.IsWhole) (arg14 : Memref sig .tc .vmem S4x512x2048 .bf16) (harg14 : arg14.IsWhole) (arg15 : Memref sig .tc .vmem S4x512x128 .f32) (harg15 : arg15.IsWhole) (arg2 v67 v84 : BitVec 32) (h1 : k0_cond1 i = 1#1) (h2 : ¬ k0_cond2 i = 1#1) (h3 : ¬ k0_cond3 i = 1#1) :
    ∃ x, (k0_part228 (F := F) i arg3 harg3 arg4 harg4 arg5 harg5 arg6 harg6 arg7 harg7 arg8 harg8 arg9 harg9 arg10 harg10 arg11 harg11 arg12 harg12 arg13 harg13 arg14 harg14 arg15 harg15 arg2 v67 v84) = (tileDiag1 ⟨arg3, harg3, arg4, harg4, arg5, harg5, arg6, harg6, arg7, harg7, arg8, harg8, arg9, harg9, arg10, harg10, arg11, harg11, arg12, harg12, arg13, harg13, arg14, harg14, arg15, harg15⟩ (Scalar.muli (Scalar.muli v67 4#32) 512#32) (k0_off3 i) (k0_off3_inb i h1) h_S512x128 >>= fun _ => pure x) := by
  apply Exists.intro
  unfold k0_part228
  simp only [dif_pos h1, dif_neg h2, dif_neg h3]
  iterate 170 refine op_cg fun _ => ?_
  repeat (refine op_cg fun _ => ?_; (try dsimp only))

end Cert.Proof.Printed

end
-- ==== Proof.Spec.lean ====
/-
  The value both programs compute, over real numbers: attention over the picked blocks of keys, plainly.
-/
module

public import Idealize.ShloMosaic.Lib.Pointwise

@[expose] public section

noncomputable section

namespace Cert.Proof

open Idealize.ShloMosaic

/-- The real number at row `r`, column `c` of the projections. -/
def rX (x : (⟨2, ![16384, 4096]⟩ : Shape).Idx → EReal) (r c : Nat) : ℝ :=
  if h : r < 16384 ∧ c < 4096 then (x (ix2 ⟨r, h.1⟩ ⟨c, h.2⟩)).toReal else 0

/-- Whether block `l` of keys is picked for query `t` of group `g` in batch `b`. -/
def pk (p : (⟨4, ![4, 4, 4096, 64]⟩ : Shape).Idx → BitVec 32) (b g t l : Nat) : Prop :=
  ∃ h : b < 4 ∧ g < 4 ∧ t < 4096 ∧ l < 64, p (ix4 ⟨b, h.1⟩ ⟨g, h.2.1⟩ ⟨t, h.2.2.1⟩ ⟨l, h.2.2.2⟩) ≠ 0#32

/-- The keys a query looks at. -/
def okK (p : (⟨4, ![4, 4, 4096, 64]⟩ : Shape).Idx → BitVec 32) (b g t k : Nat) : Prop := k ≤ t ∧ pk p b g t (k / 64)

instance (p : (⟨4, ![4, 4, 4096, 64]⟩ : Shape).Idx → BitVec 32) (b g t : Nat) : DecidablePred (okK p b g t) := fun _ => Classical.propDecidable _

/-- The product of a query and a key. -/
def dotX (x : (⟨2, ![16384, 4096]⟩ : Shape).Idx → EReal) (b g h t k : Nat) : ℝ :=
  ∑ d ∈ Finset.range 128, rX x (b * 4096 + k) (2048 + (g * 128 + d)) * rX x (b * 4096 + t) (g * 512 + h * 128 + d)

/-- The weight of a key. -/
def wK (x : (⟨2, ![16384, 4096]⟩ : Shape).Idx → EReal) (b g h t k : Nat) : ℝ := Real.exp (dotX x b g h t k / √128)

/-- The attention's result at batch `b`, group `g`, head `h`, query `t`, lane `d`. -/
def attn (x : (⟨2, ![16384, 4096]⟩ : Shape).Idx → EReal) (p : (⟨4, ![4, 4, 4096, 64]⟩ : Shape).Idx → BitVec 32) (b g h t d : Nat) : ℝ :=
  (∑ k ∈ Finset.range 4096, if okK p b g t k then wK x b g h t k * rX x (b * 4096 + k) (2560 + (g * 128 + d)) else 0)
    / (∑ k ∈ Finset.range 4096, if okK p b g t k then wK x b g h t k else 0)

/-- The first result, whole. -/
def attnArr (x : (⟨2, ![16384, 4096]⟩ : Shape).Idx → EReal) (p : (⟨4, ![4, 4, 4096, 64]⟩ : Shape).Idx → BitVec 32) (r l : Nat) : EReal :=
  (attn x p (r / 4096) (l / 512) (l / 128 % 4) (r % 4096) (l % 128) : EReal)

theorem rX_eq {x : (⟨2, ![16384, 4096]⟩ : Shape).Idx → EReal} (hx : ∀ i, x i ≠ ⊤ ∧ x i ≠ ⊥) (r : Fin 16384) (c : Fin 4096) :
    x (ix2 r c) = (rX x r.val c.val : EReal) := by
  unfold rX
  rw [dif_pos ⟨r.isLt, c.isLt⟩]
  exact (EReal.coe_toReal (hx _).1 (hx _).2).symm

theorem bits_128 : Ideal.ofBits .f32 0x43000000#32 = ((128 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_negInf : Ideal.ofBits .f32 0xFF800000#32 = ⊥ := by
  simp [Ideal.ofBits, Ideal.ieee]

theorem bits_posInf : Ideal.ofBits .f32 0x7F800000#32 = ⊤ := by
  simp [Ideal.ofBits, Ideal.ieee]

theorem sqrt_128 : Ideal.sqrt (Ideal.ofBits .f32 0x43000000#32) = ((√128 : ℝ) : EReal) := by
  rw [bits_128, Ideal.sqrt_coe, if_neg (by norm_num)]

theorem coe_div {y : ℝ} (x : ℝ) (hy : y ≠ 0) : Ideal.div (x : EReal) (y : EReal) = ((x / y : ℝ) : EReal) := by
  rw [Ideal.div, if_neg (by exact_mod_cast hy), ← EReal.coe_inv, ← EReal.coe_mul, div_eq_mul_inv]

theorem sqrt_128_ne : (√128 : ℝ) ≠ 0 := (Real.sqrt_pos.2 (by norm_num)).ne'

end Cert.Proof

end
-- ==== Proof.Pre.lean ====
/-
  What the precondition says of the argument arrays.
-/
module

public import proofs.«01_k».proof.Proof.Gen.Pre_usable
public import proofs.«01_k».proof.Proof.Spec
public import Idealize.ShloMosaic.Lib.ReduceAll
public import Idealize.ShloMosaic.Lib.WordCmp

@[expose] public section

set_option maxRecDepth 16384

noncomputable section

namespace Cert.Proof.Pre

open Cert.Pre_usable Cert.Pre_usable.Gen
open Idealize.ShloMosaic

instance : Subsingleton S_.Idx := ⟨fun a b => funext fun i => i.elim0⟩

/-- The own block of a query. -/
def own : IVec S4096x64 1 :=
  andi (cmpi .sle (broadcastInDim S4096x64 ![0, 1] bcast_S1x64_S4096x64_0_1 (muli (broadcastInDim S1x64 ![] bcast_S_S1x64 (constantI S_ 32 64#32)) (broadcastInDim S1x64 ![1] bcast_S64_S1x64_1 (iotaInDim S64 32 0))))
      (broadcastInDim S4096x64 ![0, 1] bcast_S4096x1_S4096x64_0_1 (broadcastInDim S4096x1 ![0] bcast_S4096_S4096x1_0 (iotaInDim S4096 32 0))))
    (cmpi .slt (broadcastInDim S4096x64 ![0, 1] bcast_S4096x1_S4096x64_0_1 (broadcastInDim S4096x1 ![0] bcast_S4096_S4096x1_0 (iotaInDim S4096 32 0)))
      (broadcastInDim S4096x64 ![0, 1] bcast_S1x64_S4096x64_0_1 (addi (muli (broadcastInDim S1x64 ![] bcast_S_S1x64 (constantI S_ 32 64#32)) (broadcastInDim S1x64 ![1] bcast_S64_S1x64_1 (iotaInDim S64 32 0))) (broadcastInDim S1x64 ![] bcast_S_S1x64 (constantI S_ 32 64#32)))))

theorem own_apply (t : Fin 4096) : own (ix2 t ⟨t.val / 64, by omega⟩) = 1#1 := by
  have e : own (ix2 t ⟨t.val / 64, by omega⟩) = IntOp.andi (IntOp.cmpi .sle (BitVec.ofNat 32 (64 * (t.val / 64))) (BitVec.ofNat 32 t.val))
      (IntOp.cmpi .slt (BitVec.ofNat 32 t.val) (BitVec.ofNat 32 (64 * (t.val / 64) + 64))) := by
    pointwise [own]
    rw [BitVec.ofNat_add, BitVec.ofNat_mul]
    rfl
  rw [e, IntOp.andi_eq_one, WordCmp.cmpi_sle_ofNat_eq_one_iff (by omega) (by omega), WordCmp.cmpi_slt_ofNat_eq_one_iff (by omega) (by omega)]
  omega

theorem mask_apply (p : IVec S4x4x4096x64 32) (b g : Fin 4) (t : Fin 4096) (l : Fin 64) :
    ori (cmpi .ne p (broadcastInDim S4x4x4096x64 ![] bcast_S_S4x4x4096x64 (constantI S_ 32 0#32)))
      (broadcastInDim S4x4x4096x64 ![0, 1, 2, 3] bcast_S1x1x4096x64_S4x4x4096x64_0_1_2_3 (broadcastInDim S1x1x4096x64 ![2, 3] bcast_S4096x64_S1x1x4096x64_2_3 (noti own))) (ix4 b g t l)
      = IntOp.ori (IntOp.cmpi .ne (p (ix4 b g t l)) 0#32) (~~~(own (ix2 t l))) := by
  pointwise

theorem fin_apply (x : FVec Ideal S16384x4096 .f32) (i : S16384x4096.Idx) :
    cmpf .olt (Host.absf x) (broadcastInDim S16384x4096 ![] bcast_S_S16384x4096 (constant S_ .f32 0x7F800000#32)) i
      = Ideal.cmp .olt (max (x i) (-(x i))) (Ideal.ofBits .f32 0x7F800000#32) := by
  pointwise
  rfl

theorem usable {x : FVec Ideal S16384x4096 .f32} {p : IVec S4x4x4096x64 32} {w : FVec Ideal S15408x4096 .f32}
    (h : Cert.Pre_usable.fn (F := Ideal) x p w = fun _ => 1#1) :
    (∀ i, x i ≠ ⊤ ∧ x i ≠ ⊥) ∧ ∀ b g t, b < 4 → g < 4 → t < 4096 → pk p b g t (t / 64) := by
  have h0 := congrFun h ix0
  unfold Cert.Pre_usable.fn Cert.Pre_usable.fn_part1 at h0
  obtain ⟨h1, h2⟩ := IntOp.andi_eq_one.1 h0
  constructor
  · intro i
    have q := Host.reduce_andi_all _ _ _ _ _ h1 i
    rw [fin_apply, bits_posInf] at q
    constructor
    · intro e; rw [e] at q; simp [Ideal.cmp] at q
    · intro e; rw [e] at q; simp [Ideal.cmp] at q
  · intro b g t hb hg ht
    have q := Host.reduce_andi_all _ _ _ _ _ h2 (ix4 ⟨b, hb⟩ ⟨g, hg⟩ ⟨t, ht⟩ ⟨t / 64, by omega⟩)
    have q' := (mask_apply p ⟨b, hb⟩ ⟨g, hg⟩ ⟨t, ht⟩ ⟨t / 64, by omega⟩).symm.trans q
    rw [own_apply ⟨t, ht⟩] at q'
    refine ⟨⟨hb, hg, ht, by omega⟩, fun e => ?_⟩
    rw [e] at q'
    revert q'
    decide

end Cert.Proof.Pre

end
-- ==== Proof.ReadAt.lean ====
/-
  The kernel's vector operations read element by element at the extended reals, arrays read at natural numbers.
-/
module

public import proofs.«01_k».proof.Proof.Keep
public import Idealize.ShloMosaic.Lib.WordCmp
public import Idealize.ShloMosaic.Lib.IdealHost
public import Idealize.ShloMosaic.Lib.MatmulPlain
public import Idealize.ShloMosaic.Lib.ValueLayout
public import Idealize.ShloMosaic.Lib.ValueLayoutCasts
public import Idealize.ShloMosaic.Lib.Pipeline.Value

@[expose] public section

set_option maxRecDepth 16384

noncomputable section

namespace Cert.Proof

open Cert.KernelIdeal Cert.KernelIdeal.Gen
open Idealize.ShloMosaic Idealize.ShloMosaic.ValueIdx
open VecWindow (window put)

/-- A matrix at two numbers, zero outside. -/
def rd2 {n0 n1 : Nat} (x : (⟨2, ![n0, n1]⟩ : Shape).Idx → EReal) (i j : Nat) : EReal :=
  if h : i < n0 ∧ j < n1 then x (ix2 ⟨i, h.1⟩ ⟨j, h.2⟩) else 0
/-- A rank-three array at three numbers, zero outside. -/
def rd3 {n0 n1 n2 : Nat} (x : (⟨3, ![n0, n1, n2]⟩ : Shape).Idx → EReal) (h i j : Nat) : EReal :=
  if hh : h < n0 ∧ i < n1 ∧ j < n2 then x (ix3 ⟨h, hh.1⟩ ⟨i, hh.2.1⟩ ⟨j, hh.2.2⟩) else 0

theorem rd2_of {n0 n1 : Nat} (x : (⟨2, ![n0, n1]⟩ : Shape).Idx → EReal) {i j : Nat} (hi : i < n0) (hj : j < n1) :
    rd2 x i j = x (ix2 ⟨i, hi⟩ ⟨j, hj⟩) := dif_pos ⟨hi, hj⟩
theorem rd3_of {n0 n1 n2 : Nat} (x : (⟨3, ![n0, n1, n2]⟩ : Shape).Idx → EReal) {h i j : Nat} (hh : h < n0) (hi : i < n1) (hj : j < n2) :
    rd3 x h i j = x (ix3 ⟨h, hh⟩ ⟨i, hi⟩ ⟨j, hj⟩) := dif_pos ⟨hh, hi, hj⟩

/-- A block of rows read out of a rank-three array. -/
theorem rd2_win {n0 n1 n2 a b h r d : Nat} (x : (⟨3, ![n0, n1, n2]⟩ : Shape).Idx → EReal)
    (inb : ∀ y, (![h, r, d] : Fin 3 → Nat) y + (![1, a, b] : Fin 3 → Nat) y ≤ (⟨3, ![n0, n1, n2]⟩ : Shape).size y)
    (sc : (R1 a b).ShapeCasts (R2 a b)) {i j : Nat} (hi : i < a) (hj : j < b) :
    rd2 (shapeCast (R2 a b) (window x ![h, r, d] ![1, a, b] inb) sc) i j = rd3 x h (r + i) (d + j) := by
  have h0 : h + 1 ≤ n0 := inb 0
  have h1 : r + a ≤ n1 := inb 1
  have h2 : d + b ≤ n2 := inb 2
  rw [rd2_of _ hi hj, rd3_of x (by omega) (by omega) (by omega)]
  rw [shapeCast_1ab_ab_apply]
  refine congrArg x (funext fun y => Fin.ext ?_)
  match y with
  | ⟨0, _⟩ => show h + 1 * 0 = h; omega
  | ⟨1, _⟩ => show r + 1 * i = r + i; omega
  | ⟨2, _⟩ => show d + 1 * j = d + j; omega

/-- A block of rows put into a rank-three array. -/
theorem rd3_put {n0 n1 n2 a b h r d : Nat} (x : (⟨3, ![n0, n1, n2]⟩ : Shape).Idx → EReal) (w : (R2 a b).Idx → EReal)
    (sc : (R2 a b).ShapeCasts (R1 a b)) {H I j : Nat} (hH : H < n0) (hI : I < n1) (hj : j < n2) :
    rd3 (put x ![h, r, d] ![1, a, b] (shapeCast (R1 a b) w sc)) H I j
      = if H = h ∧ (r ≤ I ∧ I < r + a) ∧ (d ≤ j ∧ j < d + b) then rd2 w (I - r) (j - d) else rd3 x H I j := by
  rw [rd3_of _ hH hI hj, rd3_of _ hH hI hj]
  by_cases c : H = h ∧ (r ≤ I ∧ I < r + a) ∧ (d ≤ j ∧ j < d + b)
  · rw [if_pos c]
    have hc : ∀ y : Fin 3, (![h, r, d] : Fin 3 → Nat) y ≤ ((ix3 (⟨H, hH⟩ : Fin n0) (⟨I, hI⟩ : Fin n1) (⟨j, hj⟩ : Fin n2)) y).val ∧
        ((ix3 (⟨H, hH⟩ : Fin n0) (⟨I, hI⟩ : Fin n1) (⟨j, hj⟩ : Fin n2)) y).val < (![h, r, d] : Fin 3 → Nat) y + (![1, a, b] : Fin 3 → Nat) y := by
      intro y
      match y with
      | ⟨0, _⟩ => show h ≤ H ∧ H < h + 1; omega
      | ⟨1, _⟩ => exact c.2.1
      | ⟨2, _⟩ => exact c.2.2
    refine (dif_pos hc).trans ?_
    rw [rd2_of w (by omega) (by omega), ← shapeCast_ab_1ab_apply w sc (0 : Fin 1)]
    refine congrArg _ (funext fun y => Fin.ext ?_)
    match y with
    | ⟨0, _⟩ => show H - h = 0; omega
    | ⟨1, _⟩ => rfl
    | ⟨2, _⟩ => rfl
  · rw [if_neg c]
    refine dif_neg fun hc => c ?_
    have c0 : h ≤ H ∧ H < h + 1 := hc 0
    exact ⟨by omega, hc 1, hc 2⟩

/-- The greatest of the first `n` values of `f`. -/
abbrev mx (n : Nat) (f : Nat → EReal) : EReal := (Finset.range n).sup f

theorem sup_fin (n : Nat) (f : Nat → EReal) : (Finset.univ : Finset (Fin n)).sup (fun k => f k.val) = mx n f := by
  apply le_antisymm
  · exact Finset.sup_le fun k _ => Finset.le_sup (f := f) (Finset.mem_range.2 k.isLt)
  · exact Finset.sup_le fun k hk => Finset.le_sup (f := fun k : Fin n => f k.val) (Finset.mem_univ (⟨k, Finset.mem_range.1 hk⟩ : Fin n))

theorem zeroBits : Ideal.ofBits .f32 0x00000000#32 = 0 := IdealRules.sign_bit.ideal_zero .f32

theorem negInf : (FloatOps.ofBits .f32 0xFF800000#32 : Ideal .f32) = (⊥ : EReal) := by
  show Ideal.ofBits .f32 0xFF800000#32 = ⊥
  simp [Ideal.ofBits, Ideal.ieee]

theorem sum_fin (n : Nat) (f : Nat → EReal) : ∑ k : Fin n, f k.val = ∑ k ∈ Finset.range n, f k :=
  (Finset.sum_range f).symm

/-- The new maximum, at a row and a lane. -/
theorem rd2_mNext {w n : Nat} (ev : WEv (F := Ideal) w n) (mp : FVec Ideal S64x128 .f32) (s : FVec Ideal (R2 64 w) .f32)
    {i l : Nat} (hi : i < 64) (hl : l < 128) :
    rd2 (mNext w n ev mp s) i l = max (rd2 mp i l) (mx w (rd2 s i)) := by
  rw [rd2_of _ hi hl, rd2_of mp hi hl]
  show max (mp _) _ = _
  congr 1
  rw [broadcastTo_apply _ _ _ (ix2 (⟨i, hi⟩ : Fin 64) (0 : Fin 1)) (fun ax => by
    match ax with
    | ⟨0, _⟩ => rfl
    | ⟨1, _⟩ => rfl)]
  rw [shapeCast_a_a1_apply]
  refine (Ideal.multiReduction_maximumf_single (a := 1) s 0xFF800000#32 ev.red (.inl rfl) rfl (ix1 ⟨i, hi⟩)).trans ?_
  rw [show (FloatOps.ofBits .f32 0xFF800000#32 : Ideal .f32) = (⊥ : EReal) from negInf]
  refine Eq.trans ?_ (sup_fin w (rd2 s i))
  refine congrArg (Finset.sup Finset.univ) (funext fun k => ?_)
  rw [rd2_of s hi k.isLt]
  refine congrArg s (funext fun y => Fin.ext ?_)
  match y with
  | ⟨0, _⟩ => rfl
  | ⟨1, _⟩ => rfl

/-- The weights of a piece, at a row and a key. -/
theorem rd2_wExp {w n : Nat} (ev : WEv (F := Ideal) w n) (s : FVec Ideal (R2 64 w) .f32) (mn : FVec Ideal S64x128 .f32)
    {i j : Nat} (hi : i < 64) (hj : j < w) :
    rd2 (wExp w n ev s mn) i j = Ideal.exp2 (rd2 s i j - rd2 mn i (j % 128)) := by
  have hl : j % 128 < 128 := Nat.mod_lt _ (by decide)
  rw [rd2_of _ hi hj, rd2_of s hi hj, rd2_of mn hi hl]
  show Ideal.exp2 (s _ - laneTile w n ev mn _) = _
  congr 2
  refine concatenate_replicate_apply (t := R2 64 w) (s₁ := S64x128) 1 n mn _ rfl _ _ rfl fun y hy => ?_
  match y with
  | ⟨0, _⟩ => rfl
  | ⟨1, _⟩ => exact absurd rfl hy

theorem maskBot : (Named.named κ "mask" 0xF149F2CA#32 : Ideal .f32) = (⊥ : EReal) := rfl

/-- The scores with the keys after the row's own position masked. -/
theorem rd2_causal {w n : Nat} (hw : w ≤ 2048) (ev : WEv (F := Ideal) w n) (r : Nat) (hr : r < 8) (s : FVec Ideal (R2 64 w) .f32)
    {i j : Nat} (hi : i < 64) (hj : j < w) :
    rd2 (causal w n ev r s) i j = if j ≤ 64 * r + i then rd2 s i j else ⊥ := by
  rw [rd2_of _ hi hj, rd2_of s hi hj]
  show Scalar.select (IntOp.cmpi .sle (BitVec.ofNat 32 (0 * w + j)) (BitVec.ofNat 32 (0 * 64 + i) + BitVec.ofNat 32 (64 * r))) (s _)
    (Named.named κ "mask" 0xF149F2CA#32 : Ideal .f32) = _
  rw [maskBot, ← BitVec.ofNat_add]
  have e := WordCmp.cmpi_sle_ofNat_eq_one_iff (w := 32) (a := 0 * w + j) (b := 0 * 64 + i + 64 * r) (by norm_num; omega) (by norm_num; omega)
  have e' : 0 * w + j ≤ 0 * 64 + i + 64 * r ↔ j ≤ 64 * r + i := by omega
  by_cases h : j ≤ 64 * r + i
  · rw [if_pos h]; exact if_pos (e.2 (e'.2 h))
  · rw [if_neg h]; exact if_neg fun c => h (e'.1 (e.1 c))

/-! ## Products -/

theorem rd2_nt {rr nk : Nat} (a : FVec Ideal (R2 rr 256) .bf16) (ka : FVec Ideal (R2 nk 256) .bf16) {i j : Nat} (hi : i < rr) (hj : j < nk) :
    rd2 (matmul (DotDims.transposedRhs rr 256 nk) none a ka (constant (R2 rr nk) .f32 0x00000000#32)) i j
      = ∑ d ∈ Finset.range 256, rd2 a i d * rd2 ka j d := by
  rw [rd2_of _ hi hj]
  refine (Ideal.matmul_transposedRhs_apply none a ka _ _ _).trans ?_
  rw [← sum_fin 256 (fun d => rd2 a i d * rd2 ka j d)]
  have z : (constant (R2 rr nk) .f32 0x00000000#32 : FVec Ideal (R2 rr nk) .f32) (ix2 ⟨i, hi⟩ ⟨j, hj⟩) = 0 := zeroBits
  rw [z, zero_add]
  exact Finset.sum_congr rfl fun k _ => by rw [rd2_of a hi k.isLt, rd2_of ka hj k.isLt]

theorem rd2_nn {rr nk : Nat} (p : FVec Ideal (R2 rr nk) .bf16) (va : FVec Ideal (R2 nk 256) .bf16) {i d : Nat} (hi : i < rr) (hd : d < 256) :
    rd2 (matmul (DotDims.plain rr nk 256) none p va (constant (R2 rr 256) .f32 0x00000000#32)) i d
      = ∑ j ∈ Finset.range nk, rd2 p i j * rd2 va j d := by
  rw [rd2_of _ hi hd]
  refine (Ideal.matmul_plain_apply none p va _ _ _).trans ?_
  rw [← sum_fin nk (fun j => rd2 p i j * rd2 va j d)]
  have z : (constant (R2 rr 256) .f32 0x00000000#32 : FVec Ideal (R2 rr 256) .f32) (ix2 ⟨i, hi⟩ ⟨d, hd⟩) = 0 := zeroBits
  rw [z, zero_add]
  exact Finset.sum_congr rfl fun k _ => by rw [rd2_of p hi k.isLt, rd2_of va k.isLt hd]

/-! ## Keys and values -/

/-- The block of a key as the kernel computes it from its lane. -/
abbrev blkWord (x : BitVec 32) : BitVec 32 :=
  Scalar.select (Scalar.andi (Scalar.cmpi .ne (Scalar.subi (Scalar.extui (Scalar.cmpi .sgt x 0#32) : BitVec 32) (Scalar.extui (Scalar.cmpi .slt x 0#32)))
      (Scalar.subi (Scalar.extui (Scalar.cmpi .sgt 64#32 0#32)) (Scalar.extui (Scalar.cmpi .slt 64#32 0#32))))
    (Scalar.cmpi .ne (Scalar.remsi x 64#32) 0#32)) (Scalar.subi (Scalar.divsi x 64#32) 1#32) (Scalar.divsi x 64#32)

theorem blkWord_eq : ∀ j : Fin 2048, blkWord (BitVec.ofNat 32 j.val) = BitVec.ofNat 32 (j.val / 64) := by decide +kernel
theorem blkOf_eq : ∀ j : Fin 2, blkOf (BitVec.ofNat 32 (2048 * j.val)) = BitVec.ofNat 32 (32 * j.val) := by decide +kernel

theorem rd2_kAug_lo {nk : Nat} (ev : KEv (F := Ideal) nk) (kb : BitVec 32) (k : FVec Ideal (R2 nk 128) .bf16) {j d : Nat} (hj : j < nk) (hd : d < 128) :
    rd2 (kAug nk ev kb k) j d = rd2 k j d := by
  rw [rd2_of _ hj (by omega), rd2_of k hj hd]
  refine (concatenate_pair_apply_left (t := R2 nk 256) (s₁ := R2 nk 128) (s₂ := R2 nk 128) 1 _ _ _ _ rfl (ix2 ⟨j, hj⟩ ⟨d, hd⟩) fun b => ?_).trans ?_
  · match b with
    | ⟨0, _⟩ => rfl
    | ⟨1, _⟩ => rfl
  · exact congrFun (shapeCast_self _ _) _

theorem rd2_kAug_hi {nk b0 : Nat} (h0 : nk ≤ 2048) (hb : b0 ≤ 1000) (ev : KEv (F := Ideal) nk) (k : FVec Ideal (R2 nk 128) .bf16) {j d : Nat} (hj : j < nk) (hd : d < 128) :
    rd2 (kAug nk ev (BitVec.ofNat 32 b0) k) j (128 + d) = if d = b0 + j / 64 then 1 else 0 := by
  rw [rd2_of _ hj (by omega)]
  refine (concatenate_pair_apply_right (t := R2 nk 256) (s₁ := R2 nk 128) (s₂ := R2 nk 128) 1 _ _ _ _ rfl rfl (ix2 ⟨j, hj⟩ ⟨d, hd⟩) (fun b hb => ?_) ?_).trans ?_
  · match b with
    | ⟨0, _⟩ => rfl
    | ⟨1, _⟩ => exact absurd rfl hb
  · show d + 128 = 128 + d; omega
  · show Scalar.select (IntOp.cmpi .eq (BitVec.ofNat 32 (0 * 128 + d)) (BitVec.ofNat 32 b0 + blkWord (BitVec.ofNat 32 (0 * nk + j))))
      (Ideal.ofBits .f32 0x3F800000#32) (Ideal.ofBits .f32 0x00000000#32) = _
    rw [show 0 * nk + j = j by omega, blkWord_eq ⟨j, by omega⟩, ← BitVec.ofNat_add, Ideal.ofBits_one_f32, zeroBits]
    have e := WordCmp.cmpi_eq_ofNat_eq_one_iff (w := 32) (a := 0 * 128 + d) (b := b0 + j / 64) (by norm_num; omega) (by norm_num; omega)
    have e' : 0 * 128 + d = b0 + j / 64 ↔ d = b0 + j / 64 := by omega
    by_cases h : d = b0 + j / 64
    · rw [if_pos h]; exact if_pos (e.2 (e'.2 h))
    · rw [if_neg h]; exact if_neg fun c => h (e'.1 (e.1 c))

theorem rd2_vAug {nk : Nat} (ev : KEv (F := Ideal) nk) (v : FVec Ideal (R2 nk 128) .bf16) {j d : Nat} (hj : j < nk) (hd : d < 256) :
    rd2 (vAug nk ev v) j d = if d < 128 then rd2 v j d else 1 := by
  by_cases h : d < 128
  · rw [if_pos h, rd2_of _ hj hd, rd2_of v hj h]
    refine (concatenate_pair_apply_left (t := R2 nk 256) (s₁ := R2 nk 128) (s₂ := R2 nk 128) 1 _ _ _ _ rfl (ix2 ⟨j, hj⟩ ⟨d, h⟩) fun b => ?_).trans ?_
    · match b with
      | ⟨0, _⟩ => rfl
      | ⟨1, _⟩ => rfl
    · exact congrFun (shapeCast_self _ _) _
  · rw [if_neg h, rd2_of _ hj hd]
    refine (concatenate_pair_apply_right (t := R2 nk 256) (s₁ := R2 nk 128) (s₂ := R2 nk 128) 1 _ _ _ _ rfl rfl (ix2 ⟨j, hj⟩ ⟨d - 128, by omega⟩) (fun b hb => ?_) ?_).trans ?_
    · match b with
      | ⟨0, _⟩ => rfl
      | ⟨1, _⟩ => exact absurd rfl hb
    · show d - 128 + 128 = d; omega
    · exact Ideal.ofBits_one_bf16

theorem rd2_firstRows {m nk : Nat} (h : nk ≤ m) (x : FVec Ideal (R2 m 256) .bf16) {j d : Nat} (hj : j < nk) (hd : d < 256) :
    rd2 (firstRows m nk (slc m nk h) x) j d = rd2 x j d := by
  rw [rd2_of _ hj hd, rd2_of x (by omega) hd]
  refine extractStridedSlice_apply _ x _ _ _ fun a => ?_
  match a with
  | ⟨0, _⟩ => show j = 0 + j; omega
  | ⟨1, _⟩ => show d = 0 + d; omega

/-- A lane row beside itself. -/
theorem rd2_twice {rr : Nat} (ev : Shape.Concatenates [R2 rr 128, R2 rr 128] (R2 rr 256) 1) (x : FVec Ideal (R2 rr 128) .f32) {i d : Nat} (hi : i < rr) (hd : d < 256) :
    rd2 (concatenate (R2 rr 256) 1 [⟨R2 rr 128, x⟩, ⟨R2 rr 128, x⟩] ev) i d = rd2 x i (d % 128) := by
  have hl : d % 128 < 128 := Nat.mod_lt _ (by decide)
  rw [rd2_of _ hi hd, rd2_of x hi hl]
  exact concatenate_replicate_apply (t := R2 rr 256) (s₁ := R2 rr 128) 1 2 x ev rfl _ _ rfl fun y hy => by
    match y with
    | ⟨0, _⟩ => rfl
    | ⟨1, _⟩ => exact absurd rfl hy

end Cert.Proof

end
-- ==== Proof.RowSteps.lean ====
/-
  The kernel's work read row by row: each of its blocks takes one row of the buffers to one row.
-/
module

public import proofs.«01_k».proof.Proof.ReadAt

@[expose] public section

set_option maxRecDepth 16384

noncomputable section

namespace Cert.Proof

open Cert.KernelIdeal Cert.KernelIdeal.Gen
open Idealize.ShloMosaic Idealize.ShloMosaic.ValueIdx
open VecWindow (window put)

theorem rd3_put' {n0 n1 n2 a b h r d : Nat} (x : (⟨3, ![n0, n1, n2]⟩ : Shape).Idx → EReal) (w : (R2 a b).Idx → EReal)
    (sc : (R2 a b).ShapeCasts (R1 a b)) {H I : Nat} (hH : H < n0) (hI : I < n1) (hd : d + b ≤ n2) (j : Nat) :
    rd3 (put x ![h, r, d] ![1, a, b] (shapeCast (R1 a b) w sc)) H I j
      = if H = h ∧ (r ≤ I ∧ I < r + a) ∧ (d ≤ j ∧ j < d + b) then rd2 w (I - r) (j - d) else rd3 x H I j := by
  by_cases hj : j < n2
  · exact rd3_put x w sc hH hI hj
  · rw [if_neg (by omega)]
    unfold rd3
    rw [dif_neg (by omega), dif_neg (by omega)]

/-- A put elsewhere leaves the row. -/
theorem row_put {n0 n1 n2 a b h r d : Nat} (x : (⟨3, ![n0, n1, n2]⟩ : Shape).Idx → EReal) (w : (R2 a b).Idx → EReal)
    (sc : (R2 a b).ShapeCasts (R1 a b)) {H I : Nat} (hH : H < n0) (hI : I < n1) (hd : d + b ≤ n2) (hn : ¬(H = h ∧ r ≤ I ∧ I < r + a)) :
    rd3 (put x ![h, r, d] ![1, a, b] (shapeCast (R1 a b) w sc)) H I = rd3 x H I := by
  funext j
  rw [rd3_put' x w sc hH hI hd, if_neg (by omega)]

/-- One row of the buffers. -/
structure Rw where
  qa : Nat → EReal
  m : Nat → EReal
  acc : Nat → EReal
  s : Nat → EReal
  p : Nat → EReal
  al : Nat → EReal

/-- Row `I` of head `H`. -/
def row (σ : St Ideal) (H I : Nat) : Rw :=
  ⟨rd3 σ.qa H I, rd3 σ.m H I, rd3 σ.acc H I, rd3 σ.s H I, rd3 σ.p H I, rd3 σ.al H I⟩

/-- `f` takes the rows in `P` by `g` and leaves the others. -/
def Acts (f : St Ideal → St Ideal) (P : Nat → Nat → Prop) (g : Nat → Rw → Rw → Prop) : Prop :=
  ∀ σ H I, H < 4 → I < 512 → (P H I → g I (row σ H I) (row (f σ) H I)) ∧ (¬ P H I → row (f σ) H I = row σ H I)

variable {g : Nat → Rw → Rw → Prop}

theorem Acts.of_iff {f : St Ideal → St Ideal} {P P' : Nat → Nat → Prop} (h : Acts f P g) (e : ∀ H I, H < 4 → I < 512 → (P' H I ↔ P H I)) : Acts f P' g :=
  fun σ H I hH hI => ⟨fun p => (h σ H I hH hI).1 ((e H I hH hI).1 p), fun p => (h σ H I hH hI).2 fun q => p ((e H I hH hI).2 q)⟩

theorem Acts.weaken {f : St Ideal → St Ideal} {P : Nat → Nat → Prop} {g' : Nat → Rw → Rw → Prop} (h : Acts f P g)
    (e : ∀ H I R R', H < 4 → I < 512 → P H I → g I R R' → g' I R R') : Acts f P g' :=
  fun σ H I hH hI => ⟨fun p => e H I _ _ hH hI p ((h σ H I hH hI).1 p), fun p => (h σ H I hH hI).2 p⟩

theorem Acts.or {f f' : St Ideal → St Ideal} {P P' : Nat → Nat → Prop} (h' : Acts f' P' g) (h : Acts f P g)
    (d : ∀ H I, P H I → ¬ P' H I) : Acts (fun σ => f' (f σ)) (fun H I => P H I ∨ P' H I) g := fun σ H I hH hI => by
  constructor
  · rintro (p | p)
    · rw [(h' (f σ) H I hH hI).2 (d H I p)]
      exact (h σ H I hH hI).1 p
    · have := (h' (f σ) H I hH hI).1 p
      rwa [(h σ H I hH hI).2 fun q => d H I q p] at this
  · intro p
    rw [(h' (f σ) H I hH hI).2 fun q => p (.inr q), (h σ H I hH hI).2 fun q => p (.inl q)]

theorem acts_four {f0 f1 f2 f3 : St Ideal → St Ideal} {P0 P1 P2 P3 : Nat → Nat → Prop} (h0 : Acts f0 P0 g) (h1 : Acts f1 P1 g)
    (h2 : Acts f2 P2 g) (h3 : Acts f3 P3 g) (d1 : ∀ H I, P0 H I → ¬ P1 H I) (d2 : ∀ H I, P0 H I ∨ P1 H I → ¬ P2 H I)
    (d3 : ∀ H I, (P0 H I ∨ P1 H I) ∨ P2 H I → ¬ P3 H I) :
    Acts (fun σ => f3 (f2 (f1 (f0 σ)))) (fun H I => ((P0 H I ∨ P1 H I) ∨ P2 H I) ∨ P3 H I) g :=
  h3.or (h2.or (h1.or h0 d1) d2) d3

theorem acts_heads {f : (h : Nat) → h < 4 → St Ideal → St Ideal} {Q : Nat → Prop} (H : ∀ h hh, Acts (f h hh) (fun H I => H = h ∧ Q I) g) :
    Acts (headsS f) (fun _ I => Q I) g :=
  (acts_four (H 0 _) (H 1 _) (H 2 _) (H 3 _) (by omega) (by omega) (by omega)).of_iff fun H I hH hI => by
    constructor
    · intro q
      have : H = 0 ∨ H = 1 ∨ H = 2 ∨ H = 3 := by omega
      tauto
    · tauto

theorem acts_rowsLo {h : Nat} {f : (r : Nat) → r < 8 → St Ideal → St Ideal} (H : ∀ r hr, Acts (f r hr) (fun H I => H = h ∧ 64 * r ≤ I ∧ I < 64 * r + 64) g) :
    Acts (rowsLoS f) (fun H I => H = h ∧ I < 256) g :=
  (acts_four (H 0 _) (H 1 _) (H 2 _) (H 3 _) (by omega) (by omega) (by omega)).of_iff fun H I hH hI => by omega

theorem acts_rowsHi {h : Nat} {f : (r : Nat) → r < 8 → St Ideal → St Ideal} (H : ∀ r hr, Acts (f r hr) (fun H I => H = h ∧ 64 * r ≤ I ∧ I < 64 * r + 64) g) :
    Acts (rowsHiS f) (fun H I => H = h ∧ 256 ≤ I) g :=
  (acts_four (H 4 _) (H 5 _) (H 6 _) (H 7 _) (by omega) (by omega) (by omega)).of_iff fun H I hH hI => by omega

/-! ## What a row becomes -/

/-- The scores of a row with those more than `d0` past it masked. -/
abbrev sMask (d0 I : Nat) (s : Nat → EReal) (j : Nat) : EReal := if j ≤ d0 + I then s j else ⊥

/-- The weights of `n` scores, those more than `d0` past the row masked, and the maximum brought up. -/
structure SoftRel (n d0 I : Nat) (R R' : Rw) : Prop where
  qa : R'.qa = R.qa
  acc : R'.acc = R.acc
  m : ∀ l, l < 128 → R'.m l = max (R.m l) (mx n (sMask d0 I R.s))
  p : ∀ j, j < n → R'.p j = Ideal.exp2 (sMask d0 I R.s j - R'.m (j % 128))
  al : ∀ l, l < 128 → R'.al l = Ideal.exp2 (R.m l - R'.m l)

structure ScoresRel (n : Nat) (ka : Nat → Nat → EReal) (R R' : Rw) : Prop where
  qa : R'.qa = R.qa
  m : R'.m = R.m
  acc : R'.acc = R.acc
  s : ∀ j, j < n → R'.s j = ∑ d ∈ Finset.range 256, R.qa d * ka j d

structure ValuesRel (n : Nat) (va : Nat → Nat → EReal) (R R' : Rw) : Prop where
  qa : R'.qa = R.qa
  m : R'.m = R.m
  acc : ∀ d, d < 256 → R'.acc d = R.al (d % 128) * R.acc d + ∑ j ∈ Finset.range n, R.p j * va j d

theorem mx_congr {n : Nat} {f f' : Nat → EReal} (h : ∀ j, j < n → f j = f' j) : mx n f = mx n f' :=
  Finset.sup_congr rfl fun j hj => h j (Finset.mem_range.1 hj)

theorem mx_add (a b : Nat) (f : Nat → EReal) : mx (a + b) f = max (mx a f) (mx b fun j => f (a + j)) := by
  apply le_antisymm
  · refine Finset.sup_le fun j hj => ?_
    have hj := Finset.mem_range.1 hj
    by_cases h : j < a
    · exact le_max_of_le_left (Finset.le_sup (f := f) (Finset.mem_range.2 h))
    · refine le_max_of_le_right ?_
      have := Finset.le_sup (f := fun j => f (a + j)) (Finset.mem_range.2 (by omega : j - a < b))
      simpa [Nat.add_sub_cancel' (Nat.not_lt.1 h)] using this
  · refine max_le (Finset.sup_le fun j hj => ?_) (Finset.sup_le fun j hj => ?_)
    · exact Finset.le_sup (f := f) (Finset.mem_range.2 (by have := Finset.mem_range.1 hj; omega))
    · exact Finset.le_sup (f := f) (Finset.mem_range.2 (by have := Finset.mem_range.1 hj; omega))

theorem al_row {h r : Nat} (xm xal : S4x512x128.Idx → EReal) (inb : ∀ y, (![h, 64 * r, 0] : Fin 3 → Nat) y + (![1, 64, 128] : Fin 3 → Nat) y ≤ S4x512x128.size y)
    (mn : FVec Ideal S64x128 .f32) {I : Nat} (hh : h < 4) (hI : I < 512) (h1 : 64 * r ≤ I) (h2 : I < 64 * r + 64) {l : Nat} (hl : l < 128) :
    rd3 (put xal ![h, 64 * r, 0] ![1, 64, 128] (shapeCast (R1 64 128)
        (exp2 (subf (shapeCast S64x128 (window xm ![h, 64 * r, 0] ![1, 64, 128] inb) (sc31 64 128)) mn) : FVec Ideal (R2 64 128) .f32) (sc13 64 128))) h I l
      = Ideal.exp2 (rd3 xm h I l - rd3 (put xm ![h, 64 * r, 0] ![1, 64, 128] (shapeCast (R1 64 128) mn (sc13 64 128))) h I l) := by
  rw [rd3_put' _ _ _ hh hI (by omega), if_pos ⟨rfl, ⟨h1, h2⟩, by omega, by omega⟩]
  rw [rd3_put' _ _ _ hh hI (by omega), if_pos ⟨rfl, ⟨h1, h2⟩, by omega, by omega⟩]
  have e : rd3 xm h I l = rd2 (shapeCast (R2 64 128) (window xm ![h, 64 * r, 0] ![1, 64, 128] inb) (sc31 64 128)) (I - 64 * r) (l - 0) := by
    rw [rd2_win _ _ _ (by omega) (by omega), Nat.add_sub_cancel' h1]; congr 1; omega
  rw [e, rd2_of _ (by omega) (by omega), rd2_of _ (by omega) (by omega), rd2_of _ (by omega) (by omega)]
  rfl

theorem p_row {h r d w n : Nat} (x : S4x512x2048.Idx → EReal) (xm : S4x512x128.Idx → EReal) (ev : WEv (F := Ideal) w n) (s : FVec Ideal (R2 64 w) .f32)
    (mn : FVec Ideal S64x128 .f32) {I : Nat} (hh : h < 4) (hI : I < 512) (h1 : 64 * r ≤ I) (h2 : I < 64 * r + 64) (hd : d + w ≤ 2048) (hm : d % 128 = 0)
    {j : Nat} (hj : d ≤ j) (hj' : j < d + w) :
    rd3 (put x ![h, 64 * r, d] ![1, 64, w] (shapeCast (R1 64 w) (wExp w n ev s mn) (sc13 64 w))) h I j
      = Ideal.exp2 (rd2 s (I - 64 * r) (j - d) - rd3 (put xm ![h, 64 * r, 0] ![1, 64, 128] (shapeCast (R1 64 128) mn (sc13 64 128))) h I (j % 128)) := by
  have := Nat.mod_lt j (by decide : 0 < 128)
  rw [rd3_put' _ _ _ hh hI hd, if_pos ⟨rfl, ⟨h1, h2⟩, by omega, by omega⟩]
  rw [rd3_put' _ _ _ hh hI (by omega), if_pos ⟨rfl, ⟨h1, h2⟩, by omega, by omega⟩]
  rw [rd2_wExp ev _ _ (by omega) (by omega)]
  rw [show (j - d) % 128 = j % 128 - 0 by omega]

theorem m_row {h r w n : Nat} (xm : S4x512x128.Idx → EReal) (inb : ∀ y, (![h, 64 * r, 0] : Fin 3 → Nat) y + (![1, 64, 128] : Fin 3 → Nat) y ≤ S4x512x128.size y)
    (ev : WEv (F := Ideal) w n) (s : FVec Ideal (R2 64 w) .f32) {I : Nat} (hh : h < 4) (hI : I < 512) (h1 : 64 * r ≤ I) (h2 : I < 64 * r + 64) {l : Nat} (hl : l < 128) :
    rd3 (put xm ![h, 64 * r, 0] ![1, 64, 128] (shapeCast (R1 64 128) (mNext w n ev (shapeCast S64x128 (window xm ![h, 64 * r, 0] ![1, 64, 128] inb) (sc31 64 128)) s) (sc13 64 128))) h I l
      = max (rd3 xm h I l) (mx w (rd2 s (I - 64 * r))) := by
  rw [rd3_put' _ _ _ hh hI (by omega), if_pos ⟨rfl, ⟨h1, h2⟩, by omega, by omega⟩]
  rw [rd2_mNext ev _ _ (by omega) (by omega), rd2_win _ _ _ (by omega) (by omega), Nat.add_sub_cancel' h1]
  congr 1; congr 1; omega

theorem s_row {h r d w : Nat} (x : S4x512x2048.Idx → EReal) (inb : ∀ y, (![h, 64 * r, d] : Fin 3 → Nat) y + (![1, 64, w] : Fin 3 → Nat) y ≤ S4x512x2048.size y)
    {I : Nat} (h1 : 64 * r ≤ I) (h2 : I < 64 * r + 64) {j : Nat} (hj : j < w) :
    rd2 (shapeCast (R2 64 w) (window x ![h, 64 * r, d] ![1, 64, w] inb) (sc31 64 w)) (I - 64 * r) j = rd3 x h I (d + j) := by
  rw [rd2_win _ _ _ (by omega) hj, Nat.add_sub_cancel' h1]

theorem smFullS_acts (h r w n : Nat) (hh : h < 4) (hr : r < 8) (hd : 0 + w ≤ 2048) (ev : WEv (F := Ideal) w n) :
    Acts (smFullS h r w n hh hr hd ev) (fun H I => H = h ∧ 64 * r ≤ I ∧ I < 64 * r + 64) (SoftRel w w) := fun σ H I hH hI => by
  constructor
  · rintro ⟨rfl, h1, h2⟩
    refine ⟨rfl, rfl, fun l hl => ?_, fun j hj => ?_, fun l hl => ?_⟩
    · refine (m_row σ.m _ ev _ hH hI h1 h2 hl).trans (congrArg _ (mx_congr fun j hj => ?_))
      rw [s_row _ _ h1 h2 hj, Nat.zero_add]; exact (if_pos (by omega)).symm
    · refine (p_row σ.p σ.m ev _ _ hH hI h1 h2 (by omega) rfl (by omega) (by omega)).trans (congrArg Ideal.exp2 (congrArg₂ _ ?_ rfl))
      rw [s_row _ _ h1 h2 (by omega), Nat.zero_add]; exact (if_pos (by omega)).symm
    · exact al_row σ.m σ.al _ _ hH hI h1 h2 hl
  · intro hn
    show Rw.mk _ _ _ _ _ _ = Rw.mk _ _ _ _ _ _
    congr 1
    · exact row_put _ _ _ hH hI (by omega) hn
    · exact row_put _ _ _ hH hI (by omega) hn
    · exact row_put _ _ _ hH hI (by omega) hn

theorem smMaskS_acts (h r w n : Nat) (hh : h < 4) (hr : r < 8) (hd : 0 + w ≤ 2048) (ev : WEv (F := Ideal) w n) :
    Acts (smMaskS h r w n hh hr hd ev) (fun H I => H = h ∧ 64 * r ≤ I ∧ I < 64 * r + 64) (SoftRel w 0) := fun σ H I hH hI => by
  constructor
  · rintro ⟨rfl, h1, h2⟩
    have S : ∀ j, j < w → rd2 (causal w n ev r (shapeCast (R2 64 w) (window σ.s ![H, 64 * r, 0] ![1, 64, w] (inb3 (by omega) (by omega) hd)) (sc31 64 w))) (I - 64 * r) j
        = sMask 0 I (rd3 σ.s H I) j := fun j hj => by
      rw [rd2_causal (by omega) ev r hr _ (by omega) hj, s_row _ _ h1 h2 hj, Nat.zero_add, Nat.add_sub_cancel' h1, sMask, Nat.zero_add]
    refine ⟨rfl, rfl, fun l hl => ?_, fun j hj => ?_, fun l hl => ?_⟩
    · exact (m_row σ.m _ ev _ hH hI h1 h2 hl).trans (congrArg _ (mx_congr S))
    · refine (p_row σ.p σ.m ev _ _ hH hI h1 h2 (by omega) rfl (by omega) (by omega)).trans (congrArg Ideal.exp2 (congrArg₂ _ ?_ rfl))
      exact S _ hj
    · exact al_row σ.m σ.al _ _ hH hI h1 h2 hl
  · intro hn
    show Rw.mk _ _ _ _ _ _ = Rw.mk _ _ _ _ _ _
    congr 1
    · exact row_put _ _ _ hH hI (by omega) hn
    · exact row_put _ _ _ hH hI (by omega) hn
    · exact row_put _ _ _ hH hI (by omega) hn

theorem smTwoS_acts (h r w' n' w n : Nat) (hh : h < 4) (hr : r < 8) (hd : w' + w ≤ 2048) (ev' : WEv (F := Ideal) w' n') (ev : WEv (F := Ideal) w n)
    (hm : w' % 128 = 0) :
    Acts (smTwoS h r w' n' w n hh hr hd ev' ev) (fun H I => H = h ∧ 64 * r ≤ I ∧ I < 64 * r + 64) (SoftRel (w' + w) w') := fun σ H I hH hI => by
  constructor
  · rintro ⟨rfl, h1, h2⟩
    have S' : ∀ j, j < w' → rd2 (shapeCast (R2 64 w') (window σ.s ![H, 64 * r, 0] ![1, 64, w'] (inb3 (by omega) (by omega) (by omega))) (sc31 64 w')) (I - 64 * r) j
        = sMask w' I (rd3 σ.s H I) j := fun j hj => by
      rw [s_row _ _ h1 h2 hj, Nat.zero_add]; exact (if_pos (by omega)).symm
    have S : ∀ j, j < w → rd2 (causal w n ev r (shapeCast (R2 64 w) (window σ.s ![H, 64 * r, w'] ![1, 64, w] (inb3 (by omega) (by omega) hd)) (sc31 64 w))) (I - 64 * r) j
        = sMask w' I (rd3 σ.s H I) (w' + j) := fun j hj => by
      rw [rd2_causal (by omega) ev r hr _ (by omega) hj, s_row _ _ h1 h2 hj, Nat.add_sub_cancel' h1, sMask]
      by_cases c : j ≤ I
      · rw [if_pos c, if_pos (by omega)]
      · rw [if_neg c, if_neg (by omega)]
    refine ⟨rfl, rfl, fun l hl => ?_, fun j hj => ?_, fun l hl => ?_⟩
    · show rd3 (put σ.m ![H, 64 * r, 0] ![1, 64, 128] _) H I l = _
      rw [rd3_put' _ _ _ hH hI (by omega), if_pos ⟨rfl, ⟨h1, h2⟩, by omega, by omega⟩]
      rw [rd2_mNext ev _ _ (by omega) (by omega), rd2_mNext ev' _ _ (by omega) (by omega), rd2_win _ _ _ (by omega) (by omega), Nat.add_sub_cancel' h1,
        mx_congr S', mx_congr S, mx_add, max_assoc]
      congr 1; congr 1; omega
    · show rd3 (put (put σ.p ![H, 64 * r, 0] ![1, 64, w'] _) ![H, 64 * r, w'] ![1, 64, w] _) H I j = _
      by_cases c : j < w'
      · rw [rd3_put' _ _ _ hH hI (by omega), if_neg (by omega)]
        refine (p_row σ.p σ.m ev' _ _ hH hI h1 h2 (by omega) rfl (by omega) (by omega)).trans (congrArg Ideal.exp2 (congrArg₂ _ ?_ rfl))
        exact S' _ c
      · refine (p_row _ σ.m ev _ _ hH hI h1 h2 (by omega) hm (by omega) (by omega)).trans (congrArg Ideal.exp2 (congrArg₂ _ ?_ rfl))
        rw [S _ (by omega)]; show sMask w' I (rd3 σ.s H I) _ = sMask w' I (rd3 σ.s H I) _; congr 1 <;> omega
    · exact al_row σ.m σ.al _ _ hH hI h1 h2 hl
  · intro hn
    show Rw.mk _ _ _ _ _ _ = Rw.mk _ _ _ _ _ _
    congr 1
    · exact row_put _ _ _ hH hI (by omega) hn
    · exact (row_put _ _ _ hH hI (by omega) hn).trans (row_put _ _ _ hH hI (by omega) hn)
    · exact row_put _ _ _ hH hI (by omega) hn

theorem scoresS_acts (h r0 rr nk : Nat) (hh : h < 4) (hr : r0 + rr ≤ 512) (hk : 0 + nk ≤ 2048) (ev : DEv (F := Ideal) rr nk)
    (ka : FVec Ideal (R2 nk 256) .bf16) :
    Acts (scoresS h r0 rr nk hh hr hk ev ka) (fun H I => H = h ∧ r0 ≤ I ∧ I < r0 + rr) (fun _ => ScoresRel nk (rd2 ka)) := fun σ H I hH hI => by
  constructor
  · rintro ⟨rfl, h1, h2⟩
    refine ⟨rfl, rfl, rfl, fun j hj => ?_⟩
    show rd3 (put σ.s ![H, r0, 0] ![1, rr, nk] _) H I j = _
    rw [rd3_put' _ _ _ hH hI (by omega), if_pos ⟨rfl, ⟨h1, h2⟩, by omega, by omega⟩, rd2_nt _ _ (by omega) (by omega)]
    refine Finset.sum_congr rfl fun d hd => ?_
    have hd := Finset.mem_range.1 hd
    rw [rd2_win _ _ _ (by omega) hd, Nat.add_sub_cancel' h1, Nat.zero_add, Nat.sub_zero]
    rfl
  · intro hn
    show Rw.mk _ _ _ _ _ _ = Rw.mk _ _ _ _ _ _
    congr 1
    exact row_put _ _ _ hH hI (by omega) hn

theorem valuesS_acts (h r0 rr nk : Nat) (hh : h < 4) (hr : r0 + rr ≤ 512) (hk : 0 + nk ≤ 2048) (ev : DEv (F := Ideal) rr nk)
    (va : FVec Ideal (R2 nk 256) .bf16) :
    Acts (valuesS h r0 rr nk hh hr hk ev va) (fun H I => H = h ∧ r0 ≤ I ∧ I < r0 + rr) (fun _ => ValuesRel nk (rd2 va)) := fun σ H I hH hI => by
  constructor
  · rintro ⟨rfl, h1, h2⟩
    refine ⟨rfl, rfl, fun d hd => ?_⟩
    have hl := Nat.mod_lt d (by decide : 0 < 128)
    show rd3 (put σ.acc ![H, r0, 0] ![1, rr, 256] _) H I d = _
    rw [rd3_put' _ _ _ hH hI (by omega), if_pos ⟨rfl, ⟨h1, h2⟩, by omega, by omega⟩]
    have split : ∀ (a b c : FVec Ideal (R2 rr 256) .f32), rd2 (addf (mulf a b) c) (I - r0) (d - 0) = rd2 a (I - r0) d * rd2 b (I - r0) d + rd2 c (I - r0) d := fun a b c => by
      rw [rd2_of _ (by omega) (by omega), rd2_of _ (by omega) (by omega), rd2_of _ (by omega) (by omega), rd2_of _ (by omega) (by omega)]
      rfl
    rw [split, rd2_twice _ _ (by omega) hd, rd2_win _ _ _ (by omega) hl, rd2_win _ _ _ (by omega) hd, rd2_nn _ _ (by omega) hd,
      Nat.add_sub_cancel' h1, Nat.zero_add, Nat.zero_add]
    refine congrArg₂ _ rfl (Finset.sum_congr rfl fun j hj => ?_)
    have hj := Finset.mem_range.1 hj
    rw [rd2_win _ _ _ (by omega) hj, Nat.add_sub_cancel' h1, Nat.zero_add]
    rfl
  · intro hn
    show Rw.mk _ _ _ _ _ _ = Rw.mk _ _ _ _ _ _
    congr 1
    exact row_put _ _ _ hH hI (by omega) hn

end Cert.Proof

end
-- ==== Proof.Softmax.lean ====
/-
  The arithmetic of a softmax taken piece by piece, over the extended reals: the sums kept under a running maximum, what
  a further piece makes of them, and the quotient at the end.
-/
module

public import proofs.«01_k».proof.Proof.RowSteps

@[expose] public section

set_option maxRecDepth 16384

noncomputable section

namespace Cert.Proof

open Idealize.ShloMosaic

/-- The weight of a score `s` under the maximum `M`. -/
def wt (M s : EReal) : ℝ := (Ideal.exp2 (s - M)).toReal

theorem exp2_real (r : ℝ) : Ideal.exp2 (r : EReal) = (((2 : ℝ) ^ r : ℝ) : EReal) := rfl

theorem exp2_of_ne_top {x : EReal} (h : x ≠ ⊤) : Ideal.exp2 x = ((Ideal.exp2 x).toReal : EReal) := by
  induction x with
  | bot => simp
  | top => exact absurd rfl h
  | coe r => rw [exp2_real]; rfl

theorem sub_ne_top {M s : EReal} (hs : s ≤ M) (hM : M ≠ ⊤) : s - M ≠ ⊤ := by
  induction M with
  | bot =>
    have : s = ⊥ := le_bot_iff.1 hs
    subst this; simp
  | top => exact absurd rfl hM
  | coe r =>
    induction s with
    | bot => simp
    | top => exact absurd (top_le_iff.1 hs) (EReal.coe_ne_top r)
    | coe q => rw [← EReal.coe_sub]; exact EReal.coe_ne_top _

theorem exp2_wt {M s : EReal} (hs : s ≤ M) (hM : M ≠ ⊤) : Ideal.exp2 (s - M) = (wt M s : EReal) :=
  exp2_of_ne_top (sub_ne_top hs hM)

theorem wt_bot (M : EReal) (hM : M ≠ ⊤) : wt M ⊥ = 0 := by
  unfold wt
  have : (⊥ : EReal) - M = ⊥ := by
    rw [sub_eq_add_neg, EReal.bot_add]
  rw [this]; simp

theorem wt_coe (M s : ℝ) : wt (M : EReal) (s : EReal) = 2 ^ (s - M) := by
  unfold wt
  rw [← EReal.coe_sub, exp2_real]; rfl

/-- Weights under an old maximum, rescaled, are the weights under the new one. -/
theorem wt_mul {M M' s : EReal} (hs : s ≤ M) (hM : M ≤ M') (hM' : M' ≠ ⊤) : wt M' M * wt M s = wt M' s := by
  have hMt : M ≠ ⊤ := fun h => hM' (top_le_iff.1 (h ▸ hM))
  induction s with
  | bot => rw [wt_bot M hMt, wt_bot M' hM', mul_zero]
  | top => exact absurd (top_le_iff.1 hs) hMt
  | coe s =>
    induction M with
    | bot => exact absurd (le_bot_iff.1 hs) (EReal.coe_ne_bot s)
    | top => exact absurd rfl hMt
    | coe M =>
      induction M' with
      | bot => exact absurd (le_bot_iff.1 hM) (EReal.coe_ne_bot M)
      | top => exact absurd rfl hM'
      | coe M' =>
        rw [wt_coe, wt_coe, wt_coe, ← Real.rpow_add (by norm_num)]
        congr 1; ring

theorem coe_sum {n : Nat} (f : Nat → ℝ) : ((∑ k ∈ Finset.range n, f k : ℝ) : EReal) = ∑ k ∈ Finset.range n, (f k : EReal) := by
  induction n with
  | zero => simp
  | succ n ih => rw [Finset.sum_range_succ, Finset.sum_range_succ, EReal.coe_add, ih]

theorem mx_ne_top {n : Nat} {f : Nat → EReal} (h : ∀ j, j < n → f j ≠ ⊤) : mx n f ≠ ⊤ := by
  refine ne_of_lt ((Finset.sup_lt_iff (bot_lt_top)).2 fun j hj => lt_top_iff_ne_top.2 (h j (Finset.mem_range.1 hj)))

/-- A row after its first `K` keys: `st` the scores, `v` the values beside ones, `qa` the queries. -/
def Inv (qa : Nat → EReal) (st : Nat → EReal) (v : Nat → Nat → ℝ) (K : Nat) (R : Rw) : Prop :=
  R.qa = qa ∧ ∃ M : EReal, M ≠ ⊤ ∧ (∀ l, l < 128 → R.m l = M) ∧ (∀ k, k < K → st k ≤ M) ∧
    ∀ d, d < 256 → R.acc d = ((∑ k ∈ Finset.range K, wt M (st k) * v k d : ℝ) : EReal)

/-- A tile of keys: scores, weights, values. -/
def TileRel (n d0 I : Nat) (ka va : Nat → Nat → EReal) (R R' : Rw) : Prop :=
  ∃ R1 R2, ScoresRel n ka R R1 ∧ SoftRel n d0 I R1 R2 ∧ ValuesRel n va R2 R'

theorem Inv.step {qa st : Nat → EReal} {v : Nat → Nat → ℝ} {K n d0 I : Nat} {ka va : Nat → Nat → EReal} {R R' : Rw}
    (h : Inv qa st v K R) (ht : TileRel n d0 I ka va R R') (hst : ∀ k, st k ≠ ⊤)
    (hs : ∀ j, j < n → (if j ≤ d0 + I then ∑ d ∈ Finset.range 256, qa d * ka j d else ⊥) = st (K + j))
    (hv : ∀ j d, j < n → d < 256 → va j d = (v (K + j) d : EReal)) : Inv qa st v (K + n) R' := by
  obtain ⟨hq, M, hM, hm, hle, hacc⟩ := h
  obtain ⟨R1, R2, h1, h2, h3⟩ := ht
  have hS : ∀ j, j < n → sMask d0 I R1.s j = st (K + j) := fun j hj => by
    rw [← hs j hj, sMask, h1.s j hj, hq]
  refine ⟨by rw [h3.qa, h2.qa, h1.qa, hq], max M (mx n fun j => st (K + j)), ?_, fun l hl => ?_, fun k hk => ?_, fun d hd => ?_⟩
  · rcases max_choice M (mx n fun j => st (K + j)) with e | e <;> rw [e]
    · exact hM
    · exact mx_ne_top fun j _ => hst _
  · rw [h3.m, h2.m l hl, h1.m, hm l hl, mx_congr hS]
  · by_cases c : k < K
    · exact le_max_of_le_left (hle k c)
    · refine le_max_of_le_right ?_
      have := Finset.le_sup (f := fun j => st (K + j)) (Finset.mem_range.2 (by omega : k - K < n))
      simpa [Nat.add_sub_cancel' (Nat.not_lt.1 c)] using this
  · have hl : d % 128 < 128 := Nat.mod_lt _ (by decide)
    have hM' : max M (mx n fun j => st (K + j)) ≠ ⊤ := by
      rcases max_choice M (mx n fun j => st (K + j)) with e | e <;> rw [e]
      · exact hM
      · exact mx_ne_top fun j _ => hst _
    have hm2 : ∀ l, l < 128 → R2.m l = max M (mx n fun j => st (K + j)) := fun l hl => by
      rw [h2.m l hl, h1.m, hm l hl, mx_congr hS]
    rw [h3.acc d hd, h2.al _ hl, h1.m, hm _ hl, hm2 _ hl, h2.acc, h1.acc, hacc d hd, exp2_wt (le_max_left _ _) hM']
    have e2 : ∑ j ∈ Finset.range n, R2.p j * va j d
        = ((∑ j ∈ Finset.range n, wt (max M (mx n fun j => st (K + j))) (st (K + j)) * v (K + j) d : ℝ) : EReal) := by
      rw [coe_sum]
      refine Finset.sum_congr rfl fun j hj => ?_
      have hj := Finset.mem_range.1 hj
      have hjl : j % 128 < 128 := Nat.mod_lt _ (by decide)
      have : st (K + j) ≤ mx n fun j => st (K + j) := Finset.le_sup (f := fun j => st (K + j)) (Finset.mem_range.2 hj)
      rw [h2.p j hj, hS j hj, hm2 _ hjl, hv j d hj hd, exp2_wt (le_max_of_le_right this) hM', EReal.coe_mul]
    rw [e2, ← EReal.coe_mul, ← EReal.coe_add, Finset.sum_range_add, Finset.mul_sum]
    congr 2
    refine Finset.sum_congr rfl fun k hk => ?_
    rw [← mul_assoc, wt_mul (hle k (Finset.mem_range.1 hk)) (le_max_left _ _) hM']

theorem div_coe {x y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The quotient at the end: the softmax-weighted sum of the values. -/
theorem Inv.quot {qa st : Nat → EReal} {v : Nat → Nat → ℝ} {K N t : Nat} {R : Rw} (h : Inv qa st v K R) (ok : Nat → Prop) [DecidablePred ok] (a : Nat → ℝ)
    (hst : ∀ k, st k = if ok k then (a k : EReal) else ⊥) (hK : ∀ k, ok k → k < K) (hN : ∀ k, ok k → k < N) (ht : ok t)
    (hone : ∀ k d, 128 ≤ d → v k d = 1) {d : Nat} (hd : d < 128) :
    Ideal.div (R.acc d) (R.acc (128 + d))
      = (((∑ k ∈ Finset.range N, if ok k then (2 : ℝ) ^ (a k) * v k d else 0) / (∑ k ∈ Finset.range N, if ok k then (2 : ℝ) ^ (a k) else 0) : ℝ) : EReal) := by
  obtain ⟨hq, M, hM, hm, hle, hacc⟩ := h
  have htM : (a t : EReal) ≤ M := by have := hle t (hK t ht); rwa [hst, if_pos ht] at this
  obtain ⟨r, rfl⟩ : ∃ r : ℝ, M = (r : EReal) := by
    induction M with
    | bot => exact absurd (le_bot_iff.1 htM) (EReal.coe_ne_bot _)
    | top => exact absurd rfl hM
    | coe r => exact ⟨r, rfl⟩
  have hsum : ∀ f : Nat → ℝ, ∑ k ∈ Finset.range K, wt (r : EReal) (st k) * f k = (∑ k ∈ Finset.range N, if ok k then (2 : ℝ) ^ (a k) * f k else 0) * 2 ^ (-r) := fun f => by
    have e1 : ∀ n, (∀ k, ok k → k < n) → ∑ k ∈ Finset.range n, wt (r : EReal) (st k) * f k = ∑ k ∈ (Finset.range (K + N)), wt (r : EReal) (st k) * f k := fun n hn => by
      by_cases hle : n ≤ K + N
      · refine Finset.sum_subset (Finset.range_mono hle) fun k _ hk => ?_
        have : ¬ ok k := fun o => hk (Finset.mem_range.2 (hn k o))
        rw [hst, if_neg this, wt_bot _ (EReal.coe_ne_top r), zero_mul]
      · refine (Finset.sum_subset (Finset.range_mono (by omega)) fun k _ hk => ?_).symm
        have : ¬ ok k := fun o => hk (Finset.mem_range.2 (by have := hK k o; omega))
        rw [hst, if_neg this, wt_bot _ (EReal.coe_ne_top r), zero_mul]
    rw [e1 K hK, ← e1 N hN, Finset.sum_mul]
    refine Finset.sum_congr rfl fun k _ => ?_
    rw [hst]
    by_cases c : ok k
    · rw [if_pos c, if_pos c, wt_coe, sub_eq_add_neg, Real.rpow_add (by norm_num)]; ring
    · rw [if_neg c, if_neg c, wt_bot _ (EReal.coe_ne_top r)]; ring
  have h2 : (2 : ℝ) ^ (-r) ≠ 0 := (Real.rpow_pos_of_pos (by norm_num) _).ne'
  have hpos : 0 < ∑ k ∈ Finset.range N, if ok k then (2 : ℝ) ^ (a k) else 0 := by
    refine Finset.sum_pos' (fun k _ => ?_) ⟨t, Finset.mem_range.2 (hN t ht), ?_⟩
    · by_cases c : ok k
      · rw [if_pos c]; positivity
      · rw [if_neg c]
    · rw [if_pos ht]; positivity
  have hden : ∑ k ∈ Finset.range K, wt (r : EReal) (st k) * v k (128 + d) = (∑ k ∈ Finset.range N, if ok k then (2 : ℝ) ^ (a k) else 0) * 2 ^ (-r) := by
    rw [hsum fun k => v k (128 + d)]
    congr 1
    exact Finset.sum_congr rfl fun k _ => by rw [hone k _ (by omega), mul_one]
  rw [hacc d (by omega), hacc (128 + d) (by omega), hden, hsum fun k => v k d, div_coe (mul_ne_zero hpos.ne' h2), mul_div_mul_right _ _ h2]

end Cert.Proof

end
-- ==== Proof.TileRows.lean ====
/-
  The tiles row by row.
-/
module

public import proofs.«01_k».proof.Proof.Softmax
public import proofs.«01_k».proof.Proof.Keep

@[expose] public section

set_option maxRecDepth 16384

noncomputable section

namespace Cert.Proof

open Cert.KernelIdeal Cert.KernelIdeal.Gen
open Idealize.ShloMosaic Idealize.ShloMosaic.ValueIdx
open VecWindow (window put)

/-- The keys a row of a diagonal tile is taken against. -/
abbrev nD (nl nk I : Nat) : Nat := if I < 256 then nl else nk

theorem halves {F f f' : St Ideal → St Ideal} {g : Nat → Rw → Rw → Prop} {h : Nat} (e : ∀ σ, F σ = f' (f σ)) (h' : Acts f' (fun H I => H = h ∧ 256 ≤ I) g)
    (hl : Acts f (fun H I => H = h ∧ I < 256) g) : Acts F (fun H I => H = h ∧ True) g := by
  obtain rfl : F = fun σ => f' (f σ) := funext e
  exact (h'.or hl (by omega)).of_iff fun H I _ _ => by simp only [and_true]; omega

theorem scoresF_acts (nk : Nat) (hk : 0 + nk ≤ 2048) (evd : DEv (F := Ideal) 512 nk) (ka : FVec Ideal (R2 nk 256) .bf16) :
    Acts (headsS (scoresF nk hk evd ka)) (fun _ _ => True) (fun _ => ScoresRel nk (rd2 ka)) :=
  acts_heads fun h hh => (scoresS_acts h 0 512 nk hh (by decide) hk evd ka).of_iff fun H I _ hI => by simp only [and_true]; omega

theorem softF_acts (nk n : Nat) (hk : 0 + nk ≤ 2048) (evw : WEv (F := Ideal) nk n) :
    Acts (headsS (softF nk n hk evw)) (fun _ _ => True) (SoftRel nk nk) :=
  acts_heads fun h hh => halves (f' := rowsHiS fun r hr => smFullS h r nk n hh hr hk evw) (f := rowsLoS fun r hr => smFullS h r nk n hh hr hk evw) (fun σ => rfl)
    (acts_rowsHi fun r hr => smFullS_acts h r nk n hh hr hk evw) (acts_rowsLo fun r hr => smFullS_acts h r nk n hh hr hk evw)

theorem valuesF_acts (nk : Nat) (hk : 0 + nk ≤ 2048) (evd : DEv (F := Ideal) 512 nk) (va : FVec Ideal (R2 nk 256) .bf16) :
    Acts (headsS (valuesF nk hk evd va)) (fun _ _ => True) (fun _ => ValuesRel nk (rd2 va)) :=
  acts_heads fun h hh => (valuesS_acts h 0 512 nk hh (by decide) hk evd va).of_iff fun H I _ hI => by simp only [and_true]; omega

theorem scoresD_acts (nl nk : Nat) (hl : nl ≤ nk) (hk : nk ≤ 2048) (hp : 0 < nl) (ka : FVec Ideal (R2 nk 256) .bf16) :
    Acts (headsS (scoresD nl nk hl hk hp ka)) (fun _ _ => True) (fun I => ScoresRel (nD nl nk I) (rd2 ka)) :=
  acts_heads fun h hh => halves
    (f' := scoresS h 256 256 nk hh (by decide) (by omega) (dev 256 nk (by decide) (by omega) (by decide)) ka)
    (f := scoresS h 0 256 nl hh (by decide) (by omega) (dev 256 nl (by decide) (by omega) (by decide)) (firstRows nk nl (slc nk nl hl) ka)) (fun σ => rfl)
    (((scoresS_acts h 256 256 nk hh (by decide) (by omega) _ ka).of_iff fun H I _ hI => by omega).weaken fun H I R R' _ _ hP r => by
      rw [nD, if_neg (by omega)]; exact r)
    (((scoresS_acts h 0 256 nl hh (by decide) (by omega) _ _).of_iff fun H I _ hI => by omega).weaken fun H I R R' _ _ hP r => by
      rw [nD, if_pos (by omega)]
      refine ⟨r.qa, r.m, r.acc, fun j hj => (r.s j hj).trans (Finset.sum_congr rfl fun d hd => ?_)⟩
      rw [rd2_firstRows hl ka hj (Finset.mem_range.1 hd)])

theorem valuesD_acts (nl nk : Nat) (hl : nl ≤ nk) (hk : nk ≤ 2048) (hp : 0 < nl) (va : FVec Ideal (R2 nk 256) .bf16) :
    Acts (headsS (valuesD nl nk hl hk hp va)) (fun _ _ => True) (fun I => ValuesRel (nD nl nk I) (rd2 va)) :=
  acts_heads fun h hh => halves
    (f' := valuesS h 256 256 nk hh (by decide) (by omega) (dev 256 nk (by decide) (by omega) (by decide)) va)
    (f := valuesS h 0 256 nl hh (by decide) (by omega) (dev 256 nl (by decide) (by omega) (by decide)) (firstRows nk nl (slc nk nl hl) va)) (fun σ => rfl)
    (((valuesS_acts h 256 256 nk hh (by decide) (by omega) _ va).of_iff fun H I _ hI => by omega).weaken fun H I R R' _ _ hP r => by
      rw [nD, if_neg (by omega)]; exact r)
    (((valuesS_acts h 0 256 nl hh (by decide) (by omega) _ _).of_iff fun H I _ hI => by omega).weaken fun H I R R' _ _ hP r => by
      rw [nD, if_pos (by omega)]
      refine ⟨r.qa, r.m, fun d hd => (r.acc d hd).trans (congrArg _ (Finset.sum_congr rfl fun j hj => ?_))⟩
      rw [rd2_firstRows hl va (Finset.mem_range.1 hj) hd])

theorem softD1_acts : Acts (headsS softD1) (fun _ _ => True) (fun I => SoftRel (nD 256 512 I) 0 I) :=
  acts_heads fun h hh => halves
    (f' := rowsHiS fun r hr => smMaskS h r 512 4 hh hr (by decide) (wev 512 4 (by decide) (by decide)))
    (f := rowsLoS fun r hr => smMaskS h r 256 2 hh hr (by decide) (wev 256 2 (by decide) (by decide))) (fun σ => rfl)
    ((acts_rowsHi fun r hr => smMaskS_acts h r 512 4 hh hr (by decide) _).weaken fun H I R R' _ _ hP r => by
      rw [nD, if_neg (by omega)]; exact r)
    ((acts_rowsLo fun r hr => smMaskS_acts h r 256 2 hh hr (by decide) _).weaken fun H I R R' _ _ hP r => by
      rw [nD, if_pos (by omega)]; exact r)

theorem softD_acts (d0 n0 : Nat) (h1 : 2 ≤ n0) (h2 : 128 * n0 = d0) (h3 : d0 ≤ 1536) :
    Acts (headsS (softD d0 n0 h1 h2 h3)) (fun _ _ => True) (fun I => SoftRel (nD (d0 + 256) (d0 + 512) I) d0 I) :=
  acts_heads fun h hh => halves
    (f' := rowsHiS fun r hr => smTwoS h r d0 n0 512 4 hh hr (by omega) (wev d0 n0 h1 h2) (wev 512 4 (by decide) (by decide)))
    (f := rowsLoS fun r hr => smTwoS h r d0 n0 256 2 hh hr (by omega) (wev d0 n0 h1 h2) (wev 256 2 (by decide) (by decide))) (fun σ => rfl)
    ((acts_rowsHi fun r hr => smTwoS_acts h r d0 n0 512 4 hh hr (by omega) _ _ (by omega)).weaken fun H I R R' _ _ hP r => by
      rw [nD, if_neg (by omega)]; exact r)
    ((acts_rowsLo fun r hr => smTwoS_acts h r d0 n0 256 2 hh hr (by omega) _ _ (by omega)).weaken fun H I R R' _ _ hP r => by
      rw [nD, if_pos (by omega)]; exact r)

/-- The keys of a tile beside their blocks' one-hots, at two numbers; its values beside ones. -/
abbrev kT (nk : Nat) (ev : KEv (F := Ideal) nk) (kb : BitVec 32) (x : FVec Ideal (R2 nk 128) .bf16) : Nat → Nat → EReal := rd2 (n0 := nk) (n1 := 256) (kAug nk ev kb x)
abbrev vT (nk : Nat) (ev : KEv (F := Ideal) nk) (x : FVec Ideal (R2 nk 128) .bf16) : Nat → Nat → EReal := rd2 (n0 := nk) (n1 := 256) (vAug nk ev x)

theorem kT_lo {nk : Nat} (ev : KEv (F := Ideal) nk) (kb : BitVec 32) (x : FVec Ideal (R2 nk 128) .bf16) {j d : Nat} (hj : j < nk) (hd : d < 128) :
    kT nk ev kb x j d = rd2 (n0 := nk) (n1 := 128) x j d := rd2_kAug_lo ev kb x hj hd
theorem kT_hi {nk b0 : Nat} (h0 : nk ≤ 2048) (hb : b0 ≤ 1000) (ev : KEv (F := Ideal) nk) (x : FVec Ideal (R2 nk 128) .bf16) {j d : Nat} (hj : j < nk) (hd : d < 128) :
    kT nk ev (BitVec.ofNat 32 b0) x j (128 + d) = if d = b0 + j / 64 then 1 else 0 := rd2_kAug_hi h0 hb ev x hj hd
theorem vT_eq {nk : Nat} (ev : KEv (F := Ideal) nk) (x : FVec Ideal (R2 nk 128) .bf16) {j d : Nat} (hj : j < nk) (hd : d < 256) :
    vT nk ev x j d = if d < 128 then rd2 (n0 := nk) (n1 := 128) x j d else 1 := rd2_vAug ev x hj hd

theorem tile_row {f1 f2 f3 : St Ideal → St Ideal} {n : Nat → Nat} {d0 : Nat → Nat} {ka va : Nat → Nat → EReal}
    (h3 : Acts f3 (fun _ _ => True) (fun I => ValuesRel (n I) va)) (h2 : Acts f2 (fun _ _ => True) (fun I => SoftRel (n I) (d0 I) I))
    (h1 : Acts f1 (fun _ _ => True) (fun I => ScoresRel (n I) ka)) (σ : St Ideal) {H I : Nat} (hH : H < 4) (hI : I < 512) :
    TileRel (n I) (d0 I) I ka va (row σ H I) (row (f3 (f2 (f1 σ))) H I) :=
  ⟨_, _, (h1 σ H I hH hI).1 trivial, (h2 (f1 σ) H I hH hI).1 trivial, (h3 (f2 (f1 σ)) H I hH hI).1 trivial⟩

theorem acts_softF' (nk n : Nat) (hk : 0 + nk ≤ 2048) (evw : WEv (F := Ideal) nk n) :
    Acts (headsS (softF nk n hk evw)) (fun _ _ => True) (fun I => SoftRel nk nk I) := softF_acts nk n hk evw

theorem tileFullS_row (nk n : Nat) (hk : 0 + nk ≤ 2048) (evw : WEv (F := Ideal) nk n) (evk : KEv (F := Ideal) nk) (evd : DEv (F := Ideal) 512 nk)
    (k0 : BitVec 32) (off : Fin 2 → Nat) (inb : ∀ a, off a + (![nk, 128] : Fin 2 → Nat) a ≤ S4096x128.size a) (σ : St Ideal) {H I : Nat} (hH : H < 4) (hI : I < 512) :
    TileRel nk nk I (kT nk evk (blkOf k0) (window σ.k off ![nk, 128] inb : Vec Ideal (R2 nk 128) .bf16))
      (vT nk evk (window σ.v off ![nk, 128] inb : Vec Ideal (R2 nk 128) .bf16)) (row σ H I)
      (row (tileFullS nk n hk evw evk evd k0 off inb σ) H I) :=
  tile_row (n := fun _ => nk) (d0 := fun _ => nk) (valuesF_acts nk hk evd _) (acts_softF' nk n hk evw) (scoresF_acts nk hk evd _) σ hH hI

theorem tileDiag1S_row (k0 : BitVec 32) (off : Fin 2 → Nat) (inb : ∀ a, off a + (![512, 128] : Fin 2 → Nat) a ≤ S4096x128.size a) (σ : St Ideal) {H I : Nat} (hH : H < 4) (hI : I < 512) :
    TileRel (nD (0 + 256) (0 + 512) I) 0 I (kT 512 (kev 512 (by decide)) (blkOf k0) (window σ.k off ![512, 128] inb : Vec Ideal (R2 512 128) .bf16))
      (vT 512 (kev 512 (by decide)) (window σ.v off ![512, 128] inb : Vec Ideal (R2 512 128) .bf16)) (row σ H I)
      (row (tileDiag1S k0 off inb σ) H I) :=
  tile_row (n := nD (0 + 256) (0 + 512)) (d0 := fun _ => 0) (valuesD_acts 256 512 _ _ _ _) softD1_acts (scoresD_acts 256 512 _ _ _ _) σ hH hI

theorem tileDiagS_row (d0 n0 : Nat) (h1 : 2 ≤ n0) (h2 : 128 * n0 = d0) (h3 : d0 ≤ 1536) (k0 : BitVec 32) (off : Fin 2 → Nat)
    (inb : ∀ a, off a + (![d0 + 512, 128] : Fin 2 → Nat) a ≤ S4096x128.size a) (σ : St Ideal) {H I : Nat} (hH : H < 4) (hI : I < 512) :
    TileRel (nD (d0 + 256) (d0 + 512) I) d0 I (kT (d0 + 512) (kev (d0 + 512) (by omega)) (blkOf k0) (window σ.k off ![d0 + 512, 128] inb : Vec Ideal (R2 (d0 + 512) 128) .bf16))
      (vT (d0 + 512) (kev (d0 + 512) (by omega)) (window σ.v off ![d0 + 512, 128] inb : Vec Ideal (R2 (d0 + 512) 128) .bf16)) (row σ H I)
      (row (tileDiagS d0 n0 h1 h2 h3 k0 off inb σ) H I) :=
  tile_row (n := nD (d0 + 256) (d0 + 512)) (d0 := fun _ => d0) (valuesD_acts _ _ _ _ _ _) (softD_acts d0 n0 h1 h2 h3) (scoresD_acts _ _ _ _ _ _) σ hH hI

/-- A window of the rows of a matrix. -/
theorem rd2_rows {n0 n1 a d : Nat} (x : (⟨2, ![n0, n1]⟩ : Shape).Idx → EReal) (inb : ∀ y, (![d, 0] : Fin 2 → Nat) y + (![a, n1] : Fin 2 → Nat) y ≤ (⟨2, ![n0, n1]⟩ : Shape).size y)
    {i j : Nat} (hi : i < a) (hj : j < n1) : rd2 (window x ![d, 0] ![a, n1] inb : (R2 a n1).Idx → EReal) i j = rd2 x (d + i) j := by
  have h0 : d + a ≤ n0 := inb 0
  rw [rd2_of _ hi hj, rd2_of x (by omega) hj]
  show x _ = x _
  congr 1
  funext y
  apply Fin.ext
  match y with
  | ⟨0, _⟩ => show d + 1 * i = d + i; omega
  | ⟨1, _⟩ => show 0 + 1 * j = j; omega

/-- The score of a key: the inner product, and its block's bias. -/
def scr (qa : Nat → EReal) (k : Nat → Nat → EReal) (j : Nat) : EReal :=
  (∑ d ∈ Finset.range 128, qa d * k j d) + qa (128 + j / 64)

/-- The same with the keys after the position `t` masked. -/
def scrT (qa : Nat → EReal) (k : Nat → Nat → EReal) (t j : Nat) : EReal := if j ≤ t then scr qa k j else ⊥

def vOne (v : Nat → Nat → ℝ) (j d : Nat) : ℝ := if d < 128 then v j d else 1

theorem kAug_score {nk b : Nat} (h0 : nk ≤ 2048) (hb : 64 * b + nk ≤ 4096) (ev : KEv (F := Ideal) nk) (x : S4096x128.Idx → EReal)
    (inb : ∀ y, (![64 * b, 0] : Fin 2 → Nat) y + (![nk, 128] : Fin 2 → Nat) y ≤ S4096x128.size y) (qa : Nat → EReal) {j : Nat} (hj : j < nk) :
    ∑ d ∈ Finset.range 256, qa d * kT nk ev (BitVec.ofNat 32 b) (window x ![64 * b, 0] ![nk, 128] inb : Vec Ideal (R2 nk 128) .bf16) j d
      = scr qa (rd2 x) (64 * b + j) := by
  refine (Finset.sum_range_add _ 128 128).trans ?_
  rw [scr]
  refine congrArg₂ _ (Finset.sum_congr rfl fun d hd => ?_) ?_
  · have hd := Finset.mem_range.1 hd
    rw [kT_lo ev _ _ hj hd]
    exact congrArg _ (rd2_rows (n0 := 4096) (n1 := 128) x inb hj hd)
  · have hlt : (64 * b + j) / 64 < 128 := by omega
    rw [Finset.sum_eq_single_of_mem ((64 * b + j) / 64) (Finset.mem_range.2 hlt) fun d hd hne => ?_]
    · rw [kT_hi h0 (by omega : b ≤ 1000) ev _ hj hlt, if_pos (by omega), mul_one]
    · rw [kT_hi h0 (by omega : b ≤ 1000) ev _ hj (Finset.mem_range.1 hd), if_neg (by omega), mul_zero]

theorem vAug_val {nk b : Nat} (hb : b + nk ≤ 4096) (ev : KEv (F := Ideal) nk) (x : S4096x128.Idx → EReal)
    (inb : ∀ y, (![b, 0] : Fin 2 → Nat) y + (![nk, 128] : Fin 2 → Nat) y ≤ S4096x128.size y) (v : Nat → Nat → ℝ)
    (hv : ∀ j d, j < 4096 → d < 128 → rd2 x j d = (v j d : EReal)) (j d : Nat) (hj : j < nk) (hd : d < 256) :
    vT nk ev (window x ![b, 0] ![nk, 128] inb : Vec Ideal (R2 nk 128) .bf16) j d = (vOne v (b + j) d : EReal) := by
  rw [vT_eq ev _ hj hd, vOne]
  by_cases c : d < 128
  · rw [if_pos c, if_pos c, ← hv _ _ (by omega) c]
    exact rd2_rows (n0 := 4096) (n1 := 128) x inb hj c
  · rw [if_neg c, if_neg c]; rfl

/-- What the running softmax of a row keeps through one tile. -/
theorem tile_inv {nk n d0 b t I : Nat} (h0 : nk ≤ 2048) (hn : n ≤ nk) (hb : 64 * b + nk ≤ 4096) (hm : ∀ j, j < n → (j ≤ d0 + I ↔ 64 * b + j ≤ t))
    (ev : KEv (F := Ideal) nk) (xk xv : S4096x128.Idx → EReal)
    (inb : ∀ y, (![64 * b, 0] : Fin 2 → Nat) y + (![nk, 128] : Fin 2 → Nat) y ≤ S4096x128.size y) {qa : Nat → EReal} {v : Nat → Nat → ℝ}
    (hv : ∀ j d, j < 4096 → d < 128 → rd2 xv j d = (v j d : EReal)) (hst : ∀ k, scrT qa (rd2 xk) t k ≠ ⊤) {R R' : Rw}
    (h : Inv qa (scrT qa (rd2 xk) t) (vOne v) (64 * b) R)
    (ht : TileRel n d0 I (kT nk ev (BitVec.ofNat 32 b) (window xk ![64 * b, 0] ![nk, 128] inb : Vec Ideal (R2 nk 128) .bf16))
      (vT nk ev (window xv ![64 * b, 0] ![nk, 128] inb : Vec Ideal (R2 nk 128) .bf16)) R R') :
    Inv qa (scrT qa (rd2 xk) t) (vOne v) (64 * b + n) R' := by
  refine h.step ht hst (fun j hj => ?_) fun j d hj hd => vAug_val hb ev xv inb v hv j d (by omega) hd
  rw [kAug_score h0 hb ev xk inb qa (by omega), scrT]
  by_cases c : j ≤ d0 + I
  · rw [if_pos c, if_pos ((hm j hj).1 c)]
  · rw [if_neg c, if_neg fun q => c ((hm j hj).2 q)]

end Cert.Proof

end
-- ==== Proof.BodyValue.lean ====
/-
  What the kernel's body leaves in its result block: every row's softmax-weighted sum of the values.
-/
module

public import proofs.«01_k».proof.Proof.TileRows

@[expose] public section

set_option maxRecDepth 16384

noncomputable section

namespace Cert.Proof

open Cert.KernelIdeal Cert.KernelIdeal.Gen
open Idealize.ShloMosaic Idealize.ShloMosaic.ValueIdx
open VecWindow (window put)

/-- A bias block at a row and a lane. -/
def rdb (x : S1x1x512x128.Idx → EReal) (i j : Nat) : EReal :=
  if h : i < 512 ∧ j < 128 then x (ix4 (0 : Fin 1) (0 : Fin 1) ⟨i, h.1⟩ ⟨j, h.2⟩) else 0

/-- The queries of head `h` beside the biases. -/
def qaug (q : S512x512.Idx → EReal) (b : S1x1x512x128.Idx → EReal) (h i d : Nat) : EReal :=
  if d < 128 then rd2 (n0 := 512) (n1 := 512) q i (128 * h + d) else rdb b i (d - 128)

theorem rd2_cols {n0 n1 a d : Nat} (x : (⟨2, ![n0, n1]⟩ : Shape).Idx → EReal) (inb : ∀ y, (![0, d] : Fin 2 → Nat) y + (![n0, a] : Fin 2 → Nat) y ≤ (⟨2, ![n0, n1]⟩ : Shape).size y)
    {i j : Nat} (hi : i < n0) (hj : j < a) : rd2 (window x ![0, d] ![n0, a] inb : (R2 n0 a).Idx → EReal) i j = rd2 x i (d + j) := by
  have h0 : d + a ≤ n1 := inb 1
  rw [rd2_of _ hi hj, rd2_of x hi (by omega)]
  show x _ = x _
  congr 1
  funext y
  apply Fin.ext
  match y with
  | ⟨0, _⟩ => show 0 + 1 * i = i; omega
  | ⟨1, _⟩ => show d + 1 * j = d + j; omega

theorem rd2_bias (x : S1x1x512x128.Idx → EReal) (inb : ∀ y, (![0, 0, 0, 0] : Fin 4 → Nat) y + S1x1x512x128.size y ≤ S1x1x512x128.size y)
    (sc : S1x1x512x128.ShapeCasts S512x128) {i j : Nat} (hi : i < 512) (hj : j < 128) :
    rd2 (n0 := 512) (n1 := 128) (shapeCast S512x128 (window x ![0, 0, 0, 0] S1x1x512x128.size inb : S1x1x512x128.Idx → EReal) sc) i j = rdb x i j := by
  rw [rd2_of _ hi hj, rdb, dif_pos ⟨hi, hj⟩]
  refine (shapeCast_apply _ _ _ (ix4 (0 : Fin 1) (0 : Fin 1) (⟨i, hi⟩ : Fin 512) (⟨j, hj⟩ : Fin 128)) ?_).trans ?_
  · refine (Shape.rowMajor_val_four (ix4 (0 : Fin 1) (0 : Fin 1) (⟨i, hi⟩ : Fin 512) (⟨j, hj⟩ : Fin 128))).trans
      (Eq.trans ?_ (Shape.rowMajor_val_two (ix2 (⟨i, hi⟩ : Fin 512) (⟨j, hj⟩ : Fin 128))).symm)
    show _ = i * 128 + j
    simp [ix4]
  · show x _ = x _
    congr 1
    funext y
    apply Fin.ext
    match y with
    | ⟨0, _⟩ => rfl
    | ⟨1, _⟩ => rfl
    | ⟨2, _⟩ => show 0 + 1 * i = i; omega
    | ⟨3, _⟩ => show 0 + 1 * j = j; omega

theorem initHS_qa (h : Nat) (hh : h < 4) (σ : St Ideal) {H I : Nat} (hH : H < 4) (hI : I < 512) {d : Nat} (hd : d < 256) :
    rd3 (initHS h hh σ).qa H I d = if H = h then qaug σ.q σ.b h I d else rd3 σ.qa H I d := by
  show rd3 (put (put σ.qa ![h, 0, 0] ![1, 512, 128] _) ![h, 0, 128] ![1, 512, 128] _) H I d = _
  rw [rd3_put' _ _ _ hH hI (by omega), rd3_put' _ _ _ hH hI (by omega)]
  by_cases c : H = h
  · rw [if_pos c, qaug]
    by_cases e : d < 128
    · rw [if_neg (by omega), if_pos (by omega), if_pos e]
      exact (congrArg (fun y => rd2 (n0 := 512) (n1 := 128) y _ _) (shapeCast_self (s := S512x128) _ _)).trans (rd2_cols (n0 := 512) (n1 := 512) _ _ (by omega) (by omega))
    · rw [if_pos (by omega), if_neg e]
      exact rd2_bias σ.b _ _ (by omega) (by omega)
  · rw [if_neg c, if_neg (by omega), if_neg (by omega)]

theorem initS_qa (σ : St Ideal) {H I : Nat} (hH : H < 4) (hI : I < 512) {d : Nat} (hd : d < 256) :
    rd3 (initS σ).qa H I d = qaug σ.q σ.b H I d := by
  show rd3 (initHS 3 (by decide) (initHS 2 (by decide) (initHS 1 (by decide) (initHS 0 (by decide) (init0S σ))))).qa H I d = _
  rw [initHS_qa _ _ _ hH hI hd, initHS_qa _ _ _ hH hI hd, initHS_qa _ _ _ hH hI hd, initHS_qa _ _ _ hH hI hd]
  by_cases c3 : H = 3
  · rw [if_pos c3, c3]; rfl
  rw [if_neg c3]
  by_cases c2 : H = 2
  · rw [if_pos c2, c2]; rfl
  rw [if_neg c2]
  by_cases c1 : H = 1
  · rw [if_pos c1, c1]; rfl
  rw [if_neg c1, if_pos (by omega), show H = 0 by omega]
  rfl

theorem initS_m (σ : St Ideal) : (initS σ).m = (init0S σ).m := rfl
theorem initS_acc (σ : St Ideal) : (initS σ).acc = (init0S σ).acc := rfl

theorem put_full {α : Type} {s : Shape} (x : s.Idx → α) (off : Fin s.rank → Nat) (h0 : ∀ y, off y = 0) (w : s.Idx → α) :
    put x off s.size w = w := by
  funext y
  unfold VecWindow.put
  rw [dif_pos fun a => by rw [h0 a]; exact ⟨Nat.zero_le _, by rw [Nat.zero_add]; exact (y a).isLt⟩]
  congr 1
  funext a
  apply Fin.ext
  show (y a).val - off a = _
  rw [h0 a, Nat.sub_zero]

theorem window_full {α : Type} {s : Shape} (x : s.Idx → α) (off : Fin s.rank → Nat) (h0 : ∀ y, off y = 0) (inb : ∀ a, off a + s.size a ≤ s.size a) :
    (window x off s.size inb : s.Idx → α) = x := by
  funext y
  show x _ = x _
  congr 1
  funext a
  apply Fin.ext
  show off a + 1 * (y a).val = _
  rw [h0 a]; omega

theorem zero3 : ∀ y : Fin 3, (![0, 0, 0] : Fin 3 → Nat) y = 0 := by decide
theorem zero2 : ∀ y : Fin 2, (![0, 0] : Fin 2 → Nat) y = 0 := by decide

theorem initS_m_row (σ : St Ideal) {H I : Nat} (hH : H < 4) (hI : I < 512) {l : Nat} (hl : l < 128) : rd3 (initS σ).m H I l = ⊥ := by
  rw [initS_m, rd3_of _ hH hI hl]
  show put σ.m ![0, 0, 0] S4x512x128.size _ _ = _
  rw [put_full _ _ zero3, shapeCast_self]
  rfl

theorem initS_acc_row (σ : St Ideal) {H I : Nat} (hH : H < 4) (hI : I < 512) {l : Nat} (hl : l < 256) : rd3 (initS σ).acc H I l = 0 := by
  rw [initS_acc, rd3_of _ hH hI hl]
  show put σ.acc ![0, 0, 0] S4x512x256.size _ _ = _
  rw [put_full _ _ zero3, shapeCast_self]
  exact zeroBits

theorem initS_wg (σ : St Ideal) : (initS σ).wg = σ.w := by
  show put σ.wg ![0, 0] S64x4096.size _ = _
  rw [put_full _ _ zero2]
  exact window_full σ.w ![0, 0] zero2 _

/-- A block of columns put into a matrix. -/
theorem rd2_put {n0 n1 a d : Nat} (x : (⟨2, ![n0, n1]⟩ : Shape).Idx → EReal) (w : (R2 n0 a).Idx → EReal) {i j : Nat} (hi : i < n0) (hj : j < n1) :
    rd2 (put x ![0, d] ![n0, a] w) i j = if d ≤ j ∧ j < d + a then rd2 w i (j - d) else rd2 x i j := by
  rw [rd2_of _ hi hj]
  unfold VecWindow.put
  by_cases c : d ≤ j ∧ j < d + a
  · rw [if_pos c, rd2_of _ hi (by omega), dif_pos fun y => ?_]
    · congr 1
      funext y
      apply Fin.ext
      match y with
      | ⟨0, _⟩ => show i - 0 = i; omega
      | ⟨1, _⟩ => rfl
    · match y with
      | ⟨0, _⟩ => show 0 ≤ i ∧ i < 0 + n0; omega
      | ⟨1, _⟩ => exact c
  · rw [if_neg c, rd2_of x hi hj, dif_neg fun h => c (h (1 : Fin 2))]

theorem finS_o (h : Nat) (hh : h < 4) (σ : St Ideal) {I j : Nat} (hI : I < 512) (hj : j < 512) :
    rd2 (n0 := 512) (n1 := 512) (finS h hh σ).o I j = if 128 * h ≤ j ∧ j < 128 * h + 128
      then Ideal.div (rd3 σ.acc h I (j - 128 * h)) (rd3 σ.acc h I (128 + (j - 128 * h))) else rd2 (n0 := 512) (n1 := 512) σ.o I j := by
  refine (rd2_put (n0 := 512) (n1 := 512) (a := 128) (d := 128 * h) σ.o _ hI hj).trans ?_
  by_cases c : 128 * h ≤ j ∧ j < 128 * h + 128
  · rw [if_pos c, if_pos c]
    have hl : j - 128 * h < 128 := by omega
    have e : ∀ a b : FVec Ideal (R2 512 128) .f32, rd2 (n0 := 512) (n1 := 128) (divf a b) I (j - 128 * h)
        = Ideal.div (rd2 (n0 := 512) (n1 := 128) a I (j - 128 * h)) (rd2 (n0 := 512) (n1 := 128) b I (j - 128 * h)) := fun a b => by
      rw [rd2_of _ hI hl, rd2_of _ hI hl, rd2_of _ hI hl]; rfl
    refine (e _ _).trans (congrArg₂ _ ?_ ?_)
    · exact (rd2_win σ.acc _ _ hI hl).trans (by rw [Nat.zero_add, Nat.zero_add])
    · exact (rd2_win σ.acc _ _ hI hl).trans (by rw [Nat.zero_add])
  · rw [if_neg c, if_neg c]

theorem fins_o (σ : St Ideal) {H I d : Nat} (hH : H < 4) (hI : I < 512) (hd : d < 128) :
    rd2 (n0 := 512) (n1 := 512) (headsS (fun h hh => finS h hh) σ).o I (128 * H + d) = Ideal.div (rd3 σ.acc H I d) (rd3 σ.acc H I (128 + d)) := by
  show rd2 (n0 := 512) (n1 := 512) (finS 3 (by decide) (finS 2 (by decide) (finS 1 (by decide) (finS 0 (by decide) σ)))).o I (128 * H + d) = _
  have fa : ∀ h hh (σ : St Ideal), (finS h hh σ).acc = σ.acc := fun _ _ _ => rfl
  rw [finS_o _ _ _ hI (by omega), finS_o _ _ _ hI (by omega), finS_o _ _ _ hI (by omega), finS_o _ _ _ hI (by omega), fa, fa, fa]
  have : H = 0 ∨ H = 1 ∨ H = 2 ∨ H = 3 := by omega
  rcases this with rfl | rfl | rfl | rfl
  · rw [if_neg (by omega), if_neg (by omega), if_neg (by omega), if_pos (by omega)]; congr 2 <;> omega
  · rw [if_neg (by omega), if_neg (by omega), if_pos (by omega)]; congr 2 <;> omega
  · rw [if_neg (by omega), if_pos (by omega)]; congr 2 <;> omega
  · rw [if_pos (by omega)]; congr 2 <;> omega

theorem bodyS_wg (x : Nat) (hx : x < 8) (σ : St Ideal) : (bodyS x hx σ).wg = σ.w := by
  have e1 : ∀ σ : St Ideal, (headsS (fun h hh => finS h hh) σ).wg = σ.wg := fun σ => rfl
  have k : ∀ {f : St Ideal → St Ideal}, Keeps kept f → ∀ σ, (f σ).wg = σ.wg := fun h σ => congrArg (fun x => x.2.1) (h σ)
  unfold bodyS
  rw [e1, k (diagS_keeps x hx)]
  split
  · exact initS_wg σ
  · rw [k fullS_keeps]; exact initS_wg σ

/-! ## The tiles of a grid point -/

/-- The block's word of a tile's first key. -/
theorem blkOf_at {x : Nat} (hx : x < 8) : blkOf (BitVec.ofNat 32 (2048 * (x / 4))) = BitVec.ofNat 32 (32 * (x / 4)) :=
  blkOf_eq ⟨x / 4, by omega⟩

theorem initS_inv (σ : St Ideal) {H I : Nat} (hH : H < 4) (hI : I < 512) (st : Nat → EReal) (v : Nat → Nat → ℝ) :
    Inv (row (initS σ) H I).qa st v 0 (row (initS σ) H I) := by
  refine ⟨rfl, ⊥, bot_ne_top, fun l hl => initS_m_row σ hH hI hl, fun k hk => absurd hk (by omega), fun d hd => ?_⟩
  rw [Finset.range_zero, Finset.sum_empty]
  exact initS_acc_row σ hH hI hd

/-- After the tiles below the diagonal group, -/
theorem full_inv (σ : St Ideal) {x : Nat} (hx : x < 8) (h4 : ¬x < 4) {H I : Nat} (hH : H < 4) (hI : I < 512) {v : Nat → Nat → ℝ}
    (hv : ∀ j d, j < 4096 → d < 128 → rd2 (n0 := 4096) (n1 := 128) σ.v j d = (v j d : EReal)) {qa : Nat → EReal}
    (hst : ∀ k, scrT qa (rd2 (n0 := 4096) (n1 := 128) σ.k) (512 * x + I) k ≠ ⊤)
    (h : Inv qa (scrT qa (rd2 (n0 := 4096) (n1 := 128) σ.k) (512 * x + I)) (vOne v) 0 (row σ H I)) :
    Inv qa (scrT qa (rd2 (n0 := 4096) (n1 := 128) σ.k) (512 * x + I)) (vOne v) 2048 (row (fullS σ) H I) := by
  have ht := tileFullS_row 2048 16 (by decide) (wev 2048 16 (by decide) (by decide)) (kev 2048 (by decide)) (dev 512 2048 (by decide) (by decide) (by decide))
    0#32 ![0, 0] (inbG (x := 0) (by decide) (by decide)) σ hH hI
  have := tile_inv (nk := 2048) (n := 2048) (d0 := 2048) (b := 0) (t := 512 * x + I) (I := I) (by decide) (by decide) (by decide) (fun j hj => by omega)
    (kev 2048 (by decide)) σ.k σ.v (inbG (x := 0) (by decide) (by decide)) hv hst h ht
  exact this

theorem tile_inv_at {nk n d0 b K0 t I : Nat} (hK : K0 = 64 * b) (h0 : nk ≤ 2048) (hn : n ≤ nk) (hb : K0 + nk ≤ 4096) (hm : ∀ j, j < n → (j ≤ d0 + I ↔ K0 + j ≤ t))
    (ev : KEv (F := Ideal) nk) (xk xv : S4096x128.Idx → EReal)
    (inb : ∀ y, (![K0, 0] : Fin 2 → Nat) y + (![nk, 128] : Fin 2 → Nat) y ≤ S4096x128.size y) {qa : Nat → EReal} {v : Nat → Nat → ℝ}
    (hv : ∀ j d, j < 4096 → d < 128 → rd2 (n0 := 4096) (n1 := 128) xv j d = (v j d : EReal)) (hst : ∀ k, scrT qa (rd2 (n0 := 4096) (n1 := 128) xk) t k ≠ ⊤) {R R' : Rw}
    (h : Inv qa (scrT qa (rd2 (n0 := 4096) (n1 := 128) xk) t) (vOne v) K0 R)
    (ht : TileRel n d0 I (kT nk ev (BitVec.ofNat 32 b) (window xk ![K0, 0] ![nk, 128] inb : Vec Ideal (R2 nk 128) .bf16))
      (vT nk ev (window xv ![K0, 0] ![nk, 128] inb : Vec Ideal (R2 nk 128) .bf16)) R R') :
    Inv qa (scrT qa (rd2 (n0 := 4096) (n1 := 128) xk) t) (vOne v) (K0 + n) R' := by
  subst hK
  exact tile_inv h0 hn hb hm ev xk xv inb hv hst h ht

theorem diag_at (σ : St Ideal) {x : Nat} (hx : x < 8) {H I : Nat} (hH : H < 4) (hI : I < 512) {v : Nat → Nat → ℝ}
    (hv : ∀ j d, j < 4096 → d < 128 → rd2 (n0 := 4096) (n1 := 128) σ.v j d = (v j d : EReal)) {qa : Nat → EReal}
    (hst : ∀ k, scrT qa (rd2 (n0 := 4096) (n1 := 128) σ.k) (512 * x + I) k ≠ ⊤)
    (h : Inv qa (scrT qa (rd2 (n0 := 4096) (n1 := 128) σ.k) (512 * x + I)) (vOne v) (2048 * (x / 4)) (row σ H I)) {d0 : Nat} (hd : 512 * (x % 4) = d0) (d3 : d0 ≤ 1536)
    {f : St Ideal → St Ideal}
    (ht : TileRel (nD (d0 + 256) (d0 + 512) I) d0 I (kT (d0 + 512) (kev (d0 + 512) (by omega)) (blkOf (BitVec.ofNat 32 (2048 * (x / 4)))) (window σ.k ![2048 * (x / 4), 0] ![d0 + 512, 128] (inbG hx (by omega)) : Vec Ideal (R2 (d0 + 512) 128) .bf16))
      (vT (d0 + 512) (kev (d0 + 512) (by omega)) (window σ.v ![2048 * (x / 4), 0] ![d0 + 512, 128] (inbG hx (by omega)) : Vec Ideal (R2 (d0 + 512) 128) .bf16)) (row σ H I)
      (row (f σ) H I)) :
    ∃ K, 512 * x + I < K ∧ K ≤ 4096 ∧ Inv qa (scrT qa (rd2 (n0 := 4096) (n1 := 128) σ.k) (512 * x + I)) (vOne v) K (row (f σ) H I) := by
  have hn : nD (d0 + 256) (d0 + 512) I ≤ d0 + 512 := by unfold nD; split <;> omega
  have hI' : I < nD (d0 + 256) (d0 + 512) I - d0 := by unfold nD; split <;> omega
  rw [blkOf_at hx] at ht
  have key := tile_inv_at (nk := d0 + 512) (n := nD (d0 + 256) (d0 + 512) I) (d0 := d0) (b := 32 * (x / 4)) (K0 := 2048 * (x / 4)) (t := 512 * x + I) (I := I) (by omega)
    (by omega) hn (by omega) (fun j hj => by omega) (kev (d0 + 512) (by omega)) σ.k σ.v (inbG hx (by omega)) hv hst h ht
  exact ⟨_, by omega, by omega, key⟩

theorem diag_inv (σ : St Ideal) {x : Nat} (hx : x < 8) {H I : Nat} (hH : H < 4) (hI : I < 512) {v : Nat → Nat → ℝ}
    (hv : ∀ j d, j < 4096 → d < 128 → rd2 (n0 := 4096) (n1 := 128) σ.v j d = (v j d : EReal)) {qa : Nat → EReal}
    (hst : ∀ k, scrT qa (rd2 (n0 := 4096) (n1 := 128) σ.k) (512 * x + I) k ≠ ⊤)
    (h : Inv qa (scrT qa (rd2 (n0 := 4096) (n1 := 128) σ.k) (512 * x + I)) (vOne v) (2048 * (x / 4)) (row σ H I)) :
    ∃ K, 512 * x + I < K ∧ K ≤ 4096 ∧ Inv qa (scrT qa (rd2 (n0 := 4096) (n1 := 128) σ.k) (512 * x + I)) (vOne v) K (row (diagS x hx σ) H I) := by
  unfold diagS
  split
  · exact diag_at σ hx hH hI hv hst h (d0 := 0) (by omega) (by decide) (f := tileDiag1S _ _ _) (tileDiag1S_row _ _ _ σ hH hI)
  split
  · exact diag_at σ hx hH hI hv hst h (d0 := 512) (by omega) (by decide) (f := tileDiagS 512 4 _ _ _ _ _ _) (tileDiagS_row 512 4 _ _ _ _ _ _ σ hH hI)
  split
  · exact diag_at σ hx hH hI hv hst h (d0 := 1024) (by omega) (by decide) (f := tileDiagS 1024 8 _ _ _ _ _ _) (tileDiagS_row 1024 8 _ _ _ _ _ _ σ hH hI)
  · exact diag_at σ hx hH hI hv hst h (d0 := 1536) (by omega) (by decide) (f := tileDiagS 1536 12 _ _ _ _ _ _) (tileDiagS_row 1536 12 _ _ _ _ _ _ σ hH hI)

theorem scr_congr {qa qa' : Nat → EReal} (h : ∀ d, d < 256 → qa d = qa' d) (k : Nat → Nat → EReal) {j : Nat} (hj : j < 8192) : scr qa k j = scr qa' k j := by
  unfold scr
  rw [h _ (by omega)]
  congr 1
  exact Finset.sum_congr rfl fun d hd => by rw [h d (by have := Finset.mem_range.1 hd; omega)]

/-- The result of a row. -/
theorem bodyS_o {x : Nat} (hx : x < 8) (σ : St Ideal) {H I d : Nat} (hH : H < 4) (hI : I < 512) (hd : d < 128) {v : Nat → Nat → ℝ}
    (hv : ∀ j d, j < 4096 → d < 128 → rd2 (n0 := 4096) (n1 := 128) σ.v j d = (v j d : EReal)) (ok : Nat → Prop) [DecidablePred ok] (a : Nat → ℝ)
    (hs : ∀ k, k ≤ 512 * x + I → scr (qaug σ.q σ.b H I) (rd2 (n0 := 4096) (n1 := 128) σ.k) k = if ok k then (a k : EReal) else ⊥)
    (hok : ∀ k, ok k → k ≤ 512 * x + I) (hown : ok (512 * x + I)) :
    rd2 (n0 := 512) (n1 := 512) (bodyS x hx σ).o I (128 * H + d)
      = (((∑ k ∈ Finset.range 4096, if ok k then (2 : ℝ) ^ (a k) * v k d else 0) / (∑ k ∈ Finset.range 4096, if ok k then (2 : ℝ) ^ (a k) else 0) : ℝ) : EReal) := by
  unfold bodyS
  rw [fins_o _ hH hI hd]
  have hqa : ∀ d, d < 256 → (row (initS σ) H I).qa d = qaug σ.q σ.b H I d := fun d hd => initS_qa σ hH hI hd
  have hscr : ∀ k, scrT (row (initS σ) H I).qa (rd2 (n0 := 4096) (n1 := 128) σ.k) (512 * x + I) k = if ok k then (a k : EReal) else ⊥ := fun k => by
    unfold scrT
    by_cases c : k ≤ 512 * x + I
    · rw [if_pos c, scr_congr hqa _ (by omega), hs k c]
    · rw [if_neg c, if_neg fun o => c (hok k o)]
  have hst : ∀ k, scrT (row (initS σ) H I).qa (rd2 (n0 := 4096) (n1 := 128) σ.k) (512 * x + I) k ≠ ⊤ := fun k => by
    rw [hscr]; split
    · exact EReal.coe_ne_top _
    · exact bot_ne_top
  have i0 := initS_inv σ hH hI (scrT (row (initS σ) H I).qa (rd2 (n0 := 4096) (n1 := 128) σ.k) (512 * x + I)) (vOne v)
  have hk : (initS σ).k = σ.k := congrArg (fun x => x.2.1) (initS_keeps σ)
  have hvv : (initS σ).v = σ.v := congrArg (fun x => x.2.2.1) (initS_keeps σ)
  have fk : (fullS (initS σ)).k = σ.k := (congrArg (fun x => x.2.1) (ins_kept fullS_keeps (initS σ))).trans hk
  have fv : (fullS (initS σ)).v = σ.v := (congrArg (fun x => x.2.2.1) (ins_kept fullS_keeps (initS σ))).trans hvv
  have fin : ∃ K, 512 * x + I < K ∧ K ≤ 4096 ∧ Inv (row (initS σ) H I).qa (scrT (row (initS σ) H I).qa (rd2 (n0 := 4096) (n1 := 128) σ.k) (512 * x + I)) (vOne v) K
      (row (diagS x hx (if x < 4 then initS σ else fullS (initS σ))) H I) := by
    by_cases c : x < 4
    · rw [if_pos c]
      have := diag_inv (initS σ) hx hH hI (v := v) (by rw [hvv]; exact hv) (qa := (row (initS σ) H I).qa) (by rw [hk]; exact hst)
        (by rw [hk, show 2048 * (x / 4) = 0 by omega]; exact i0)
      rwa [hk] at this
    · rw [if_neg c]
      have f := full_inv (initS σ) hx c hH hI (v := v) (by rw [hvv]; exact hv) (qa := (row (initS σ) H I).qa) (by rw [hk]; exact hst) (by rw [hk]; exact i0)
      rw [hk] at f
      have := diag_inv (fullS (initS σ)) hx hH hI (v := v) (by rw [fv]; exact hv) (qa := (row (initS σ) H I).qa) (by rw [fk]; exact hst)
        (by rw [fk, show 2048 * (x / 4) = 2048 by omega]; exact f)
      rwa [fk] at this
  obtain ⟨K, hK, hK', hinv⟩ := fin
  have q := hinv.quot (N := 4096) (t := 512 * x + I) ok a hscr (fun k o => by have := hok k o; omega) (fun k o => by have := hok k o; omega) hown
    (fun k d hd => by rw [vOne, if_neg (by omega)]) hd
  refine q.trans ?_
  congr 2
  exact Finset.sum_congr rfl fun k _ => by rw [vOne, if_pos hd]

end Cert.Proof

end
-- ==== Proof.HostArrays.lean ====
/-
  The arrays the call's windows read, at an index.
-/
module

public import proofs.«01_k».proof.Proof.Gen.KernelIdeal.Frame
public import proofs.«01_k».proof.Proof.Spec
public import Idealize.ShloMosaic.Lib.WordCmp
public import Idealize.ShloMosaic.Lib.Affine

@[expose] public section

set_option maxRecDepth 16384

noncomputable section

namespace Cert.Proof.Host

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (c : Dev nD)

/-- The projections with the queries scaled. -/
def proj (x : FVec Ideal S16384x4096 .f32) : FVec Ideal S16384x4096 .bf16 :=
  truncf .bf16 (mulf x (broadcastInDim S16384x4096 ![0, 1] bcast_S1x4096_S16384x4096_0_1
    (select (cmpi .slt (iotaInDim S1x4096 32 1) (broadcastInDim S1x4096 ![] bcast_S_S1x4096 (constantI S_ 32 2048#32)))
      (broadcastInDim S1x4096 ![] bcast_S_S1x4096 (Host.divf (constant S_ .f32 0x3F800000#32) (mulf (Host.sqrt (constant S_ .f32 0x43000000#32)) (Host.log (constant S_ .f32 0x40000000#32)))))
      (broadcastInDim S1x4096 ![] bcast_S_S1x4096 (id (constant S_ .f32 0x3F800000#32)))))) bitsLt_bf16_f32

/-- The bias of the blocks. -/
def bias (p : IVec S4x4x4096x64 32) : FVec Ideal S4x4x4096x128 .bf16 :=
  pad S4x4x4096x128 ![0, 0, 0, 0] ![0, 0, 0, 64] ![0, 0, 0, 0]
    (truncf .bf16 (select (cmpi .ne p (broadcastInDim S4x4x4096x64 ![] bcast_S_S4x4x4096x64 (constantI S_ 32 0#32)))
      (broadcastInDim S4x4x4096x64 ![] bcast_S_S4x4x4096x64 (constant S_ .f32 0x00000000#32))
      (broadcastInDim S4x4x4096x64 ![] bcast_S_S4x4x4096x64 (constant S_ .f32 0xFF800000#32))) bitsLt_bf16_f32 : FVec Ideal S4x4x4096x64 .bf16)
    (sitofp .bf16 (constantI S_ 32 0#32) : FVec Ideal S_ .bf16) pads_S4x4x4096x64_S4x4x4096x128_000_000_000_0640 h_S_

set_option maxHeartbeats 2000000 in
theorem V_v10 : V m c main_v10 = proj (m ((c.tc : Thread nD τ).loc main_arg0)) := by
  simp only [V, hostOps0, hostOps0_1, hostOps0_2, hostOps0_3, hostOps0_4, hostOps0_5, List.flatten_cons, List.flatten_nil, List.append_nil, List.cons_append, List.nil_append,
    TRef.ternary, TRef.unary, TRef.binary, TRef.toBuf, TRef.ofBuf, cast_eq]
  after_results_simp <;> rfl

set_option maxHeartbeats 2000000 in
theorem V_v15 : V m c main_v15 = bias (m ((c.tc : Thread nD τ).loc main_arg1)) := by
  simp only [V, hostOps0, hostOps0_1, hostOps0_2, hostOps0_3, hostOps0_4, hostOps0_5, List.flatten_cons, List.flatten_nil, List.append_nil, List.cons_append, List.nil_append,
    TRef.ternary, TRef.unary, TRef.binary, TRef.toBuf, TRef.ofBuf, cast_eq]
  after_results_simp <;> rfl

/-- The scale of the queries. -/
theorem scale_eq : Ideal.div 1 (Ideal.sqrt (Ideal.ofBits .f32 0x43000000#32) * Ideal.log (Ideal.ofBits .f32 0x40000000#32)) = ((1 / (√128 * Real.log 2) : ℝ) : EReal) := by
  have h : Ideal.log (Ideal.ofBits .f32 0x40000000#32) = ((Real.log 2 : ℝ) : EReal) := by
    rw [bits_two, Ideal.log_coe, if_neg (by norm_num)]
  rw [sqrt_128, h, ← EReal.coe_mul, ← EReal.coe_one]
  exact coe_div 1 (mul_ne_zero sqrt_128_ne (Real.log_pos (by norm_num)).ne')

/-- The projections at a row and a lane: the queries' lanes are scaled. -/
theorem proj_apply {x : FVec Ideal S16384x4096 .f32} (hx : ∀ i, x i ≠ ⊤ ∧ x i ≠ ⊥) (r : Fin 16384) (l : Fin 4096) :
    proj x (ix2 r l) = ((rX x r.val l.val * (if l.val < 2048 then 1 / (√128 * Real.log 2) else 1) : ℝ) : EReal) := by
  have h : proj x (ix2 r l) = x (ix2 r l) * Scalar.select (IntOp.cmpi .slt (BitVec.ofNat 32 l.val) 2048#32) (Ideal.div 1 (Ideal.sqrt (Ideal.ofBits .f32 0x43000000#32) * Ideal.log (Ideal.ofBits .f32 0x40000000#32))) (1 : EReal) := by
    pointwise [proj]
    rw [show (id (constant S_ .f32 0x3F800000#32 : FVec Ideal S_ .f32)) ix0 = (1 : EReal) from Ideal.ofBits_one_f32]
  rw [h, rX_eq hx, scale_eq, EReal.coe_mul]
  refine congrArg _ ?_
  by_cases c : l.val < 2048
  · rw [if_pos c, Scalar.select, if_pos (show _ = (1 : BitVec 1) from (WordCmp.cmpi_slt_ofNat_eq_one_iff (w := 32) (by omega) (by omega)).2 c)]
  · rw [if_neg c, Scalar.select, if_neg fun o : _ = (1 : BitVec 1) => c ((WordCmp.cmpi_slt_ofNat_eq_one_iff (w := 32) (by omega) (by omega)).1 o)]
    rfl

/-- The bias of a picked block is zero, of another minus infinity. -/
theorem bias_apply (p : IVec S4x4x4096x64 32) (b g : Fin 4) (t : Fin 4096) (l : Fin 128) (hl : l.val < 64) [Decidable (pk p b.val g.val t.val l.val)] :
    bias p (ix4 b g t l) = if pk p b.val g.val t.val l.val then (0 : EReal) else ⊥ := by
  have h : bias p (ix4 b g t l) = Scalar.select (IntOp.cmpi .ne (p (ix4 b g t ⟨l.val, hl⟩)) 0#32) (0 : EReal) (Ideal.ofBits .f32 0xFF800000#32) := by
    pointwise [bias]
    rw [dif_pos hl]
  rw [h, bits_negInf]
  by_cases c : p (ix4 b g t ⟨l.val, hl⟩) = 0#32
  · rw [Scalar.select, if_neg fun o : _ = (1 : BitVec 1) => (IntOp.cmpi_ne.1 o) c, if_neg]
    rintro ⟨_, o⟩
    exact o c
  · rw [Scalar.select, if_pos (show _ = (1 : BitVec 1) from IntOp.cmpi_ne.2 c), if_pos]
    exact ⟨⟨b.isLt, g.isLt, t.isLt, hl⟩, c⟩

end Cert.Proof.Host

end
-- ==== Proof.Windows.lean ====
/-
  The windows' blocks at coordinates.
-/
module

public import proofs.«01_k».proof.Proof.Gen.KernelIdeal.Frame
public import Idealize.ShloMosaic.Lib.Pipeline.ValueKit

@[expose] public section

set_option maxRecDepth 16384

noncomputable section

namespace Cert.Proof.Win

open Cert.KernelIdeal Cert.KernelIdeal.Gen
open Idealize.ShloMosaic Idealize.ShloMosaic.TcCoe
open Idealize.SL.Sem

/-- The blocks' indices at a point. -/
theorem idx : ∀ t : Fin cfg0.N, win0_0.index t = ![t.val / 32 * 8 + t.val % 8, t.val / 8 % 4] ∧ win0_1.index t = ![t.val / 32, 16 + t.val / 8 % 4]
    ∧ win0_2.index t = ![t.val / 32, 20 + t.val / 8 % 4] ∧ win0_3.index t = ![t.val / 32, t.val / 8 % 4, t.val % 8, 0]
    ∧ win0_4.index t = ![7216 + 64 * t.val, 0] ∧ win0_5.index t = ![t.val / 32 * 8 + t.val % 8, t.val / 8 % 4] ∧ win0_6.index t = ![t.val, 0] :=
  (by decide +kernel : ∀ t : Fin grid0.N, _)

theorem row : ∀ t : Fin cfg0.N, ((grid0.coords t) 2).val = t.val % 8 := (by decide +kernel : ∀ t : Fin grid0.N, _)

theorem lt (t : Fin cfg0.N) : t.val < 128 := t.isLt

variable (m : (ℓ : Loc nD τ sig) → Buf (Elt Ideal) ℓ) (c : Dev nD)

theorem iblk0 (t : Fin cfg0.N) (I J : Fin 512) :
    iblk m c 0 t (ix2 I J) = V m c main_v10 (ix2 ⟨(t.val / 32 * 8 + t.val % 8) * 512 + I.val, by have := lt t; omega⟩ ⟨t.val / 8 % 4 * 512 + J.val, by omega⟩) := by
  have := lt t
  blk_ext [iblk, idx t]

theorem iblk1 (t : Fin cfg0.N) (j : Fin 4096) (d : Fin 128) :
    iblk m c 1 t (ix2 j d) = V m c main_v10 (ix2 ⟨t.val / 32 * 4096 + j.val, by have := lt t; omega⟩ ⟨(16 + t.val / 8 % 4) * 128 + d.val, by omega⟩) := by
  have := lt t
  blk_ext [iblk, idx t]

theorem iblk2 (t : Fin cfg0.N) (j : Fin 4096) (d : Fin 128) :
    iblk m c 2 t (ix2 j d) = V m c main_v10 (ix2 ⟨t.val / 32 * 4096 + j.val, by have := lt t; omega⟩ ⟨(20 + t.val / 8 % 4) * 128 + d.val, by omega⟩) := by
  have := lt t
  blk_ext [iblk, idx t]

theorem iblk3 (t : Fin cfg0.N) (I : Fin 512) (l : Fin 128) :
    iblk m c 3 t (ix4 0 0 I l) = V m c main_v15 (ix4 ⟨t.val / 32, by have := lt t; omega⟩ ⟨t.val / 8 % 4, by omega⟩ ⟨t.val % 8 * 512 + I.val, by omega⟩ l) := by
  have := lt t
  blk_ext [iblk, idx t]

theorem iblk4 (t : Fin cfg0.N) (I : Fin 64) (l : Fin 4096) :
    iblk m c 4 t (ix2 I l) = m ((c.tc : Thread nD τ).loc main_arg2) (ix2 ⟨7216 + 64 * t.val + I.val, by have := lt t; omega⟩ l) := by
  have := lt t
  have e : ∀ a, (((win0_4.rect t).emb (ix2 I l : S64x4096.Idx) a : Fin _) : Nat) = _ := fun a => win0_4.rect_emb_val_off t (ix2 I l : S64x4096.Idx) a
  blk_ext [iblk, V, idx t]
  · exact (e 0).trans (by rw [(idx t).2.2.2.2.1]; rfl)
  · exact (e 1).trans (by rw [(idx t).2.2.2.2.1]; exact Nat.zero_add _)

end Cert.Proof.Win

end
-- ==== Proof.PointValue.lean ====
/-
  One grid point's attention block is the reference's.
-/
module

public import proofs.«01_k».proof.Proof.BodyValue
public import proofs.«01_k».proof.Proof.HostArrays
public import proofs.«01_k».proof.Proof.Windows

@[expose] public section

set_option maxRecDepth 16384

noncomputable section

namespace Cert.Proof.Exact

open Cert.KernelIdeal Cert.KernelIdeal.Gen
open Idealize.ShloMosaic Idealize.ShloMosaic.TcCoe
open Idealize.SL.Sem

variable (m : (ℓ : Loc Cert.KernelIdeal.nD τ sig) → Buf (Elt Ideal) ℓ) (c : Dev Cert.KernelIdeal.nD)

/-- The projections and the picked blocks of a device. -/
abbrev X : FVec Ideal S16384x4096 .f32 := m ((c.tc : Thread Cert.KernelIdeal.nD τ).loc main_arg0)
abbrev P : IVec S4x4x4096x64 32 := m ((c.tc : Thread Cert.KernelIdeal.nD τ).loc main_arg1)

/-- The queries' scale. -/
abbrev qs : ℝ := 1 / (√128 * Real.log 2)

variable {m c} (hx : ∀ i, X m c i ≠ ⊤ ∧ X m c i ≠ ⊥)

include hx in
theorem q_at (t : Fin cfg0.N) {I J : Nat} (hI : I < 512) (hJ : J < 512) :
    rd2 (n0 := 512) (n1 := 512) (iblk m c 0 t) I J = ((rX (X m c) (t.val / 32 * 4096 + (t.val % 8 * 512 + I)) (t.val / 8 % 4 * 512 + J) * qs : ℝ) : EReal) := by
  have ht := Win.lt t
  refine (rd2_of (n0 := 512) (n1 := 512) (iblk m c 0 t) hI hJ).trans ((Win.iblk0 m c t ⟨I, hI⟩ ⟨J, hJ⟩).trans ?_)
  refine (congrFun (Host.V_v10 m c) _).trans ((Host.proj_apply hx _ _).trans ?_)
  rw [if_pos (show t.val / 8 % 4 * 512 + J < 2048 by omega)]
  dsimp only
  rw [show (t.val / 32 * 8 + t.val % 8) * 512 + I = t.val / 32 * 4096 + (t.val % 8 * 512 + I) by omega]

include hx in
theorem k_at (t : Fin cfg0.N) {j d : Nat} (hj : j < 4096) (hd : d < 128) :
    rd2 (n0 := 4096) (n1 := 128) (iblk m c 1 t) j d = ((rX (X m c) (t.val / 32 * 4096 + j) (2048 + (t.val / 8 % 4 * 128 + d)) : ℝ) : EReal) := by
  have ht := Win.lt t
  refine (rd2_of (n0 := 4096) (n1 := 128) (iblk m c 1 t) hj hd).trans ((Win.iblk1 m c t ⟨j, hj⟩ ⟨d, hd⟩).trans ?_)
  refine (congrFun (Host.V_v10 m c) _).trans ((Host.proj_apply hx _ _).trans ?_)
  rw [if_neg (show ¬ (16 + t.val / 8 % 4) * 128 + d < 2048 by omega), mul_one]
  dsimp only
  rw [show (16 + t.val / 8 % 4) * 128 + d = 2048 + (t.val / 8 % 4 * 128 + d) by omega]

include hx in
theorem v_at (t : Fin cfg0.N) {j d : Nat} (hj : j < 4096) (hd : d < 128) :
    rd2 (n0 := 4096) (n1 := 128) (iblk m c 2 t) j d = ((rX (X m c) (t.val / 32 * 4096 + j) (2560 + (t.val / 8 % 4 * 128 + d)) : ℝ) : EReal) := by
  have ht := Win.lt t
  refine (rd2_of (n0 := 4096) (n1 := 128) (iblk m c 2 t) hj hd).trans ((Win.iblk2 m c t ⟨j, hj⟩ ⟨d, hd⟩).trans ?_)
  refine (congrFun (Host.V_v10 m c) _).trans ((Host.proj_apply hx _ _).trans ?_)
  rw [if_neg (show ¬ (20 + t.val / 8 % 4) * 128 + d < 2048 by omega), mul_one]
  dsimp only
  rw [show (20 + t.val / 8 % 4) * 128 + d = 2560 + (t.val / 8 % 4 * 128 + d) by omega]

theorem b_at (t : Fin cfg0.N) {I l : Nat} (hI : I < 512) (hl : l < 64) [Decidable (pk (P m c) (t.val / 32) (t.val / 8 % 4) (t.val % 8 * 512 + I) l)] :
    rdb (iblk m c 3 t) I l = if pk (P m c) (t.val / 32) (t.val / 8 % 4) (t.val % 8 * 512 + I) l then (0 : EReal) else ⊥ := by
  have ht := Win.lt t
  unfold rdb
  rw [dif_pos ⟨hI, show l < 128 by omega⟩]
  refine (Win.iblk3 m c t ⟨I, hI⟩ ⟨l, by omega⟩).trans ?_
  exact (congrFun (Host.V_v15 m c) _).trans (Host.bias_apply (P m c) ⟨t.val / 32, by omega⟩ ⟨t.val / 8 % 4, by omega⟩ ⟨t.val % 8 * 512 + I, by omega⟩ ⟨l, by omega⟩ hl)

include hx in
/-- A query's score for a key: its product with the key, scaled, and minus infinity where the key's block isn't picked. -/
theorem score_at (t : Fin cfg0.N) {H I k : Nat} (hH : H < 4) (hI : I < 512) (hk : k ≤ t.val % 8 * 512 + I) :
    scr (qaug (iblk m c 0 t) (iblk m c 3 t) H I) (rd2 (n0 := 4096) (n1 := 128) (iblk m c 1 t)) k
      = if okK (P m c) (t.val / 32) (t.val / 8 % 4) (t.val % 8 * 512 + I) k
        then ((dotX (X m c) (t.val / 32) (t.val / 8 % 4) H (t.val % 8 * 512 + I) k * qs : ℝ) : EReal) else ⊥ := by
  classical
  have ht := Win.lt t
  have e1 : ∑ d ∈ Finset.range 128, qaug (iblk m c 0 t) (iblk m c 3 t) H I d * rd2 (n0 := 4096) (n1 := 128) (iblk m c 1 t) k d
      = ((dotX (X m c) (t.val / 32) (t.val / 8 % 4) H (t.val % 8 * 512 + I) k * qs : ℝ) : EReal) := by
    unfold dotX
    rw [Finset.sum_mul, coe_sum]
    refine Finset.sum_congr rfl fun d hd => ?_
    have hd := Finset.mem_range.1 hd
    rw [k_at hx t (by omega) hd]
    unfold qaug
    rw [if_pos hd, q_at hx t hI (by omega), ← EReal.coe_mul]
    rw [show t.val / 8 % 4 * 512 + (128 * H + d) = t.val / 8 % 4 * 512 + H * 128 + d by omega]
    refine congrArg _ ?_
    ring
  have e2 : qaug (iblk m c 0 t) (iblk m c 3 t) H I (128 + k / 64) = if pk (P m c) (t.val / 32) (t.val / 8 % 4) (t.val % 8 * 512 + I) (k / 64) then (0 : EReal) else ⊥ := by
    unfold qaug
    rw [if_neg (by omega), Nat.add_sub_cancel_left]
    exact b_at t hI (by omega)
  unfold scr
  rw [e1, e2]
  by_cases c0 : pk (P m c) (t.val / 32) (t.val / 8 % 4) (t.val % 8 * 512 + I) (k / 64)
  · rw [if_pos c0, if_pos (show okK _ _ _ _ _ from ⟨hk, c0⟩), add_zero]
  · rw [if_neg c0, if_neg (fun o => c0 o.2), EReal.add_bot]

/-- The weight of a key as a power of two. -/
theorem two_pow (x : FVec Ideal S16384x4096 .f32) (b g h t k : Nat) : (2 : ℝ) ^ (dotX x b g h t k * qs) = wK x b g h t k := by
  unfold wK
  rw [Real.rpow_def_of_pos (by norm_num)]
  refine congrArg _ ?_
  have := sqrt_128_ne
  have : Real.log 2 ≠ 0 := (Real.log_pos (by norm_num)).ne'
  field_simp

variable (hp : ∀ b g t, b < 4 → g < 4 → t < 4096 → pk (P m c) b g t (t / 64))

/-- The block a point writes: the attention's result at its place. -/
def o5 (m : (ℓ : Loc Cert.KernelIdeal.nD τ sig) → Buf (Elt Ideal) ℓ) (c : Dev Cert.KernelIdeal.nD) (t : Fin cfg0.N) : FVec Ideal S512x512 .f32 := fun y =>
  attnArr (X m c) (P m c) ((t.val / 32 * 8 + t.val % 8) * 512 + (y 0).val) (t.val / 8 % 4 * 512 + (y 1).val)

include hx hp in
theorem o_at (t : Fin cfg0.N) (h8 : t.val % 8 < 8) (σ : St Ideal) (hq : σ.q = iblk m c 0 t) (hk : σ.k = iblk m c 1 t) (hv : σ.v = iblk m c 2 t) (hb : σ.b = iblk m c 3 t)
    (I J : Fin 512) : (bodyS (t.val % 8) h8 σ).o (ix2 I J) = o5 m c t (ix2 I J) := by
  have ht := Win.lt t
  have hI := I.isLt
  have hJ := J.isLt
  have h := bodyS_o h8 σ (H := J.val / 128) (I := I.val) (d := J.val % 128) (by omega) hI (by omega)
    (v := fun k d => rX (X m c) (t.val / 32 * 4096 + k) (2560 + (t.val / 8 % 4 * 128 + d)))
    (fun j d hj hd => by rw [hv]; exact v_at hx t hj hd)
    (okK (P m c) (t.val / 32) (t.val / 8 % 4) (t.val % 8 * 512 + I.val)) (fun k => dotX (X m c) (t.val / 32) (t.val / 8 % 4) (J.val / 128) (t.val % 8 * 512 + I.val) k * qs)
    (fun k hk' => by rw [hq, hb, hk]; exact score_at hx t (by omega) hI (by omega))
    (fun k o => by have := o.1; omega)
    (by rw [Nat.mul_comm 512]; exact ⟨le_rfl, hp _ _ _ (by omega) (by omega) (by omega)⟩)
  rw [show 128 * (J.val / 128) + J.val % 128 = J.val by omega, rd2_of _ hI hJ] at h
  refine Eq.trans h ?_
  simp only [two_pow]
  show _ = attnArr (X m c) (P m c) ((t.val / 32 * 8 + t.val % 8) * 512 + I.val) (t.val / 8 % 4 * 512 + J.val)
  unfold attnArr attn
  rw [show ((t.val / 32 * 8 + t.val % 8) * 512 + I.val) / 4096 = t.val / 32 by omega, show ((t.val / 32 * 8 + t.val % 8) * 512 + I.val) % 4096 = t.val % 8 * 512 + I.val by omega,
    show (t.val / 8 % 4 * 512 + J.val) / 512 = t.val / 8 % 4 by omega, show (t.val / 8 % 4 * 512 + J.val) / 128 % 4 = J.val / 128 by omega,
    show (t.val / 8 % 4 * 512 + J.val) % 128 = J.val % 128 by omega]

end Cert.Proof.Exact

end
-- ==== Proof.ExactRun.lean ====
/-
  The ideal kernel's run with both results said: the attention, and the copied weight.
-/
module

public import proofs.«01_k».proof.Proof.Run
public import proofs.«01_k».proof.Proof.PointValue

@[expose] public section

set_option maxRecDepth 16384

noncomputable section

namespace Cert.Exact

open Cert.KernelIdeal Cert.KernelIdeal.Gen
open Cert.Proof (St bodyS rowB body_point)
open Cert.Proof.Exact (X P o5 o_at)
open Cert.Proof (pk attnArr)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The weight's rows a point copies. -/
def o6 (c : Dev nD) (t : Fin cfg0.N) : FVec Ideal S64x4096 .bf16 := iblk m c 4 t

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o5 m c t
    | ⟨6, _⟩ => o6 m c t
  Φ _ := Pipeline.ΦA spec0 c
  q w := Pipeline.shareOf spec0 w
  owed _ := 0

section
variable {m} {c : Dev nD} (hx : ∀ i, X m c i ≠ ⊤ ∧ X m c i ≠ ⊥) (hp : ∀ b g t, b < 4 → g < 4 → t < 4096 → pk (P m c) b g t (t / 64))

include hx hp in
theorem out5 (t : Fin cfg0.N) (σ : St Ideal) (hq : σ.q = iblk m c 0 t) (hk : σ.k = iblk m c 1 t) (hv : σ.v = iblk m c 2 t) (hb : σ.b = iblk m c 3 t) :
    (bodyS (rowB t) (Proof.i2_lt _) σ).o = o5 m c t := by
  have h : ∀ (x : Nat) (h8 : x < 8), x = t.val % 8 → (bodyS x h8 σ).o = o5 m c t := fun x h8 e => by
    subst e
    funext y
    refine (congrArg _ (ix2_eta (n0 := 512) (n1 := 512) y).symm).trans (Eq.trans ?_ (congrArg _ (ix2_eta (n0 := 512) (n1 := 512) y)))
    exact o_at hx hp t h8 σ hq hk hv hb (y 0) (y 1)
  exact h _ _ (Proof.Win.row t)

theorem out6 (t : Fin cfg0.N) (σ : St Ideal) (hw : σ.w = iblk m c 4 t) : (bodyS (rowB t) (Proof.i2_lt _) σ).wg = o6 m c t :=
  (Proof.bodyS_wg _ _ σ).trans hw

end

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = o5 m c t := by dsimp only [dats]
theorem after0_6 (c : Dev nD) (t : Fin cfg0.N) : (dats m 0 c).after 6 t = o6 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (hx : ∀ i, X m c i ≠ ⊤ ∧ X m c i ≠ ⊥) (hp : ∀ b g t, b < 4 → g < 4 → t < 4096 → pk (P m c) b g t (t / 64)) (t : Fin cfg0.N) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (body_point c t (iblk m c 0 t) (iblk m c 1 t) (iblk m c 2 t) (iblk m c 3 t) (iblk m c 4 t)
    iprop((∃ r, prngReg c r) ∗ (dats m 0 c).owesAt () t.castSucc) _ (fun σ hq hk hv hb hw => by
      rw [out5 hx hp t σ hq hk hv hb, out6 t σ hw]
      iintro ⟨HS, H0, H1, H2, H3, H4, H5, H6, Hg, Ho⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6))
  isplitl [HS]; · iexact HS
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [Hg]; · iexact Hg
  iexact Ho

theorem body_obligation (c : Dev nD) (hx : ∀ i, X m c i ≠ ⊤ ∧ X m c i ≠ ⊥) (hp : ∀ b g t, b < 4 → g < 4 → t < 4096 → pk (P m c) b g t (t / 64)) :
    BodyObligation (dats m 0 c) (defs₀ (F := Ideal)) Variants.none () Set.univ := fun t => by
  rw [bigSep_W0, bigSep_W0, Proof.defs₀_row]
  exact triple_restated (sound_body m c hx hp t) rfl .rfl fun _ => .rfl

set_option backward.isDefEq.respectTransparency.types false in
theorem run_main (hx : ∀ c i, X m c i ≠ ⊤ ∧ X m c i ≠ ⊥) (hp : ∀ c b g t, b < 4 → g < 4 → t < 4096 → pk (P m c) b g t (t / 64)) :
    θ_run defs (onTc (τ := τ) (main (F := Ideal))) (s₀ m ρ) (Pipeline.FramePost cfgs (dats m) 0 (V m)) :=
  Pipeline.θ_run_frame_shared cfgs (dats m) (0 : Fin 1) launch₀0 defs₀ Variants.none m ρ main
    (hbody := fun c => (body_obligation m c (hx c) (hp c)).loose) (hq := fun _ _ _ => rfl)
    (howed := fun _ _ => rfl) (V := V m) (hmain := hmain m Variants.none) (hA := A_eq m) (hΦ := fun _ _ => rfl)

/-- The attention, whole. -/
def res0 (c : Dev nD) : FVec Ideal S16384x2048 .f32 := fun i => attnArr (X m c) (P m c) (i 0).val (i 1).val

/-- The copied rows of the weight, whole. -/
def res1 (c : Dev nD) : FVec Ideal S8192x4096 .bf16 := fun i =>
  m ((c.tc : Thread nD τ).loc main_arg2) (ix2 ⟨7216 + (i 0).val, by have : (i 0).val < 8192 := (i 0).isLt; omega⟩ (i 1))

theorem final5 (c : Dev nD) : (dats m 0 c).arrAt 5 (cfgs 0).N = res0 m c := by
  refine (dats m 0 c).arrAt_eq_of_covers 5 _ (by decide +kernel) fun t _ y => ?_
  blk_simp
  rw [after0_5]
  unfold o5 res0
  blk_simp [Proof.Win.idx t]

theorem final6 (c : Dev nD) : (dats m 0 c).arrAt 6 (cfgs 0).N = res1 m c := by
  refine (dats m 0 c).arrAt_eq_of_covers 6 _ (by decide +kernel) fun t _ y => ?_
  blk_simp
  rw [after0_6]
  unfold o6 res1
  refine (congrArg (iblk m c 4 t) (ix2_eta (n0 := 64) (n1 := 4096) y).symm).trans ((Proof.Win.iblk4 m c t (y 0) (y 1)).trans ?_)
  blk_ext [Proof.Win.idx t]

theorem run (hx : ∀ c i, X m c i ≠ ⊤ ∧ X m c i ≠ ⊥) (hp : ∀ c b g t, b < 4 → g < 4 → t < 4096 → pk (P m c) b g t (t / 64)) :
    θ_run defs (onTc (τ := τ) (main (F := Ideal))) ⟨m, fun _ => 0, ρ⟩ (fun r => ∀ c : Dev nD,
      r.2.mem ((c.tc : Thread nD τ).loc main_v16_0) = res0 m c ∧ r.2.mem ((c.tc : Thread nD τ).loc main_v16_1) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 5).trans (final5 m c), ((h c).1 6).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c)))⟩) (run_main m ρ hx hp)

end Cert.Exact

end
-- ==== Proof.RefValue.lean ====
/-
  The reference's first result read at an index.
-/
module

public import proofs.«01_k».proof.Proof.Gen.ReferenceIdeal.Run
public import proofs.«01_k».proof.Proof.Spec
public import Idealize.ShloMosaic.Lib.Affine
public import Idealize.ShloMosaic.Lib.WordCmp

@[expose] public section

set_option maxRecDepth 16384

noncomputable section

namespace Cert.Proof.Ref

open Cert.ReferenceIdeal Cert.ReferenceIdeal.Gen
open Idealize.ShloMosaic Idealize.ShloMosaic.TcCoe

/-- The masked scores. -/
def scores (x : FVec Ideal S16384x4096 .f32) (p : IVec S4x4x4096x64 32) : FVec Ideal S4x4x4x4096x4096 .f32 :=
  select (broadcastInDim S4x4x4x4096x4096 ![0, 1, 2, 3, 4] bcast_S4x4x1x4096x4096_S4x4x4x4096x4096_0_1_2_3_4 (broadcastInDim S4x4x1x4096x4096 ![0, 1, 3, 4] bcast_S4x4x4096x4096_S4x4x1x4096x4096_0_1_3_4 (andi (broadcastInDim S4x4x4096x4096 ![0, 1, 2, 3] bcast_S1x1x4096x4096_S4x4x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (cmpi .ne (shapeCast _ (broadcastInDim S4x4x4096x64x64 ![0, 1, 2, 3] bcast_S4x4x4096x64_S4x4x4096x64x64_0_1_2_3 p) shapeCasts_S4x4x4096x64x64_S4x4x4096x4096) (broadcastInDim S4x4x4096x4096 ![] bcast_S_S4x4x4096x4096 (constantI S_ 32 0#32))))))
    (transpose S4x4x4x4096x4096 [0, 1, 4, 3, 2] (Host.dotGeneral dot_S4x4096x4x128_S4x4096x4x4x128_S4x4x4096x4096x4_3_4_1_13_02_02 none (shapeCast _ (extractStridedSlice S4x4096x512 ![0, 0, 2048] (shapeCast _ x shapeCasts_S16384x4096_S4x4096x4096) slices_S4x4096x4096_S4x4096x512_0_0_2048) shapeCasts_S4x4096x512_S4x4096x4x128) (Host.divf (shapeCast _ (extractStridedSlice S4x4096x2048 ![0, 0, 0] (shapeCast _ x shapeCasts_S16384x4096_S4x4096x4096) slices_S4x4096x4096_S4x4096x2048_0_0_0) shapeCasts_S4x4096x2048_S4x4096x4x4x128) (broadcastInDim S4x4096x4x4x128 ![] bcast_S_S4x4096x4x4x128 (Host.sqrt (constant S_ .f32 0x43000000#32))))) transposes_S4x4x4096x4096x4_S4x4x4x4096x4096_0_1_4_3_2)
    (broadcastInDim S4x4x4x4096x4096 ![] bcast_S_S4x4x4x4096x4096 (id (constant S_ .f32 0xFF800000#32)))

/-- Each row's largest score. -/
def mxS (s : FVec Ideal S4x4x4x4096x4096 .f32) : FVec Ideal S4x4x4x4096 .f32 :=
  Host.reduce FloatOps.maximumf s (constant S_ .f32 0xFF800000#32) reducesTo_S4x4x4x4096x4096_S4x4x4x4096_d4 h_S_

/-- The exponentials of the scores less `M`. -/
def expS (s : FVec Ideal S4x4x4x4096x4096 .f32) (M : FVec Ideal S4x4x4x4096 .f32) : FVec Ideal S4x4x4x4096x4096 .f32 :=
  Host.exp (subf s (broadcastInDim S4x4x4x4096x4096 ![0, 1, 2, 3, 4] bcast_S4x4x4x4096x1_S4x4x4x4096x4096_0_1_2_3_4 (broadcastInDim S4x4x4x4096x1 ![0, 1, 2, 3] bcast_S4x4x4x4096_S4x4x4x4096x1_0_1_2_3 (maximumf (broadcastInDim S4x4x4x4096 ![] bcast_S_S4x4x4x4096 (constant S_ .f32 0xFF800000#32)) M))))

/-- The weights. -/
def probs (e : FVec Ideal S4x4x4x4096x4096 .f32) : FVec Ideal S4x4x4x4096x4096 .f32 :=
  Host.divf e (broadcastInDim S4x4x4x4096x4096 ![0, 1, 2, 3, 4] bcast_S4x4x4x4096x1_S4x4x4x4096x4096_0_1_2_3_4 (broadcastInDim S4x4x4x4096x1 ![0, 1, 2, 3] bcast_S4x4x4x4096_S4x4x4x4096x1_0_1_2_3 (Host.reduceAdd e (constant S_ .f32 0x00000000#32) reducesTo_S4x4x4x4096x4096_S4x4x4x4096_d4 h_S_)))

/-- The weighted sum of the values. -/
def outS (x : FVec Ideal S16384x4096 .f32) (w : FVec Ideal S4x4x4x4096x4096 .f32) : FVec Ideal S16384x2048 .f32 :=
  shapeCast _ (transpose S4x4096x4x4x128 [0, 4, 1, 3, 2] (Host.dotGeneral dot_S4x4096x4x128_S4x4x4x4096x4096_S4x4x128x4x4096_1_4_3_23_02_01 none (shapeCast _ (extractStridedSlice S4x4096x512 ![0, 0, 2560] (shapeCast _ x shapeCasts_S16384x4096_S4x4096x4096) slices_S4x4096x4096_S4x4096x512_0_0_2560) shapeCasts_S4x4096x512_S4x4096x4x128) w) transposes_S4x4x128x4x4096_S4x4096x4x4x128_0_4_1_3_2) shapeCasts_S4x4096x4x4x128_S16384x2048

/-- The whole result. -/
def res (x : FVec Ideal S16384x4096 .f32) (p : IVec S4x4x4096x64 32) : FVec Ideal S16384x2048 .f32 :=
  outS x (probs (expS (scores x p) (mxS (scores x p))))

theorem res_eq (m : (ℓ : Loc nD τ sig) → Buf (Elt Ideal) ℓ) (c : Dev nD) :
    Value.res_main_v42 m c = res (m ((c.tc : Thread nD τ).loc main_arg0)) (m ((c.tc : Thread nD τ).loc main_arg1)) := by
  unfold Value.res_main_v42 res outS probs expS mxS scores
  rfl

theorem reduce_max {n0 n1 n2 n3 n4 : Nat} {u : Shape} (v : FVec Ideal (⟨5, ![n0, n1, n2, n3, n4]⟩ : Shape) .f32) (init : FVec Ideal u .f32)
    (h : (⟨5, ![n0, n1, n2, n3, n4]⟩ : Shape).ReducesTo [4] (⟨4, ![n0, n1, n2, n3]⟩ : Shape)) (hu : 0 < u.numel) (a : Fin n0) (b : Fin n1) (c : Fin n2) (d : Fin n3) :
    Host.reduce (FloatOps.maximumf (F := Ideal) (φ := .f32)) v init h hu (ix4 a b c d) = (Finset.univ : Finset (Fin n4)).fold max (init (Shape.Idx.first hu)) fun k => v (ix5 a b c d k) := by
  pointwise

theorem mxS_apply (s : FVec Ideal S4x4x4x4096x4096 .f32) (b g h : Fin 4) (t : Fin 4096) :
    mxS s (ix4 b g h t) = (Finset.univ : Finset (Fin 4096)).fold max ((constant S_ .f32 0xFF800000#32 : FVec Ideal S_ .f32) (Shape.Idx.first h_S_)) fun k => s (ix5 b g h t k) := by
  unfold mxS
  exact reduce_max s (constant S_ .f32 0xFF800000#32) reducesTo_S4x4x4x4096x4096_S4x4x4x4096_d4 h_S_ b g h t

theorem expS_apply (e : FVec Ideal S4x4x4x4096x4096 .f32) (M : FVec Ideal S4x4x4x4096 .f32) (b g h : Fin 4) (t j : Fin 4096) :
    expS e M (ix5 b g h t j) = Ideal.exp (e (ix5 b g h t j) - max (Ideal.ofBits .f32 0xFF800000#32) (M (ix4 b g h t))) := by
  pointwise [expS]

theorem outS_apply (x : FVec Ideal S16384x4096 .f32) (w : FVec Ideal S4x4x4x4096x4096 .f32) (r : Fin 16384) (l : Fin 2048) :
    outS x w (ix2 r l) = ∑ j : Fin 4096, x (ix2 ⟨r.val / 4096 * 4096 + j.val, by omega⟩ ⟨2560 + (l.val / 512 * 128 + l.val % 128), by omega⟩)
      * w (ix5 ⟨r.val / 4096, by omega⟩ ⟨l.val / 512, by omega⟩ ⟨l.val / 128 % 4, by omega⟩ ⟨r.val % 4096, by omega⟩ j) := by
  pointwise [outS]

theorem probs_apply (e : FVec Ideal S4x4x4x4096x4096 .f32) (b g h : Fin 4) (t j : Fin 4096) :
    probs e (ix5 b g h t j) = Ideal.div (e (ix5 b g h t j)) (∑ k : Fin 4096, e (ix5 b g h t k)) := by
  pointwise [probs]

theorem scores_apply (x : FVec Ideal S16384x4096 .f32) (p : IVec S4x4x4096x64 32) (b g h : Fin 4) (t j : Fin 4096) :
    scores x p (ix5 b g h t j) = Scalar.select
      (IntOp.andi (IntOp.cmpi CmpIPredicate.sle (BitVec.ofNat 32 j.val) (BitVec.ofNat 32 t.val))
        (IntOp.cmpi CmpIPredicate.ne (p (ix4 b g t ⟨j.val / 64, by omega⟩)) 0#32))
      (∑ d : Fin 128, x (ix2 ⟨b.val * 4096 + j.val, by omega⟩ ⟨2048 + (g.val * 128 + d.val), by omega⟩)
        * Ideal.div (x (ix2 ⟨b.val * 4096 + t.val, by omega⟩ ⟨g.val * 512 + h.val * 128 + d.val, by omega⟩)) (Ideal.sqrt (Ideal.ofBits .f32 0x43000000#32)))
      (Ideal.ofBits .f32 0xFF800000#32) := by
  pointwise [scores]
  rfl

theorem coe_sum' {n : Nat} (f : Fin n → ℝ) : ((∑ k, f k : ℝ) : EReal) = ∑ k, (f k : EReal) := by
  induction n with
  | zero => simp
  | succ n ih => rw [Fin.sum_univ_succ, Fin.sum_univ_succ, EReal.coe_add, ih]

/-- A row's weights from its scores: `ok` keys have score `a`, the others none. -/
theorem row_quot {n : Nat} (s : Fin n → EReal) (v : Fin n → ℝ) (ok : Fin n → Prop) [DecidablePred ok] (a : Fin n → ℝ)
    (hs : ∀ k, s k = if ok k then (a k : EReal) else ⊥) (k0 : Fin n) (hk : ok k0) (M : EReal) (hM : M = (Finset.univ : Finset (Fin n)).fold max ⊥ s) :
    ∑ j, (v j : EReal) * Ideal.div (Ideal.exp (s j - max ⊥ M)) (∑ k, Ideal.exp (s k - max ⊥ M))
      = (((∑ k, if ok k then Real.exp (a k) * v k else 0) / (∑ k, if ok k then Real.exp (a k) else 0) : ℝ) : EReal) := by
  have hle : s k0 ≤ M := by rw [hM]; exact (Finset.le_fold_max _).2 (Or.inr ⟨k0, Finset.mem_univ _, le_rfl⟩)
  have hlt : M < ⊤ := by
    rw [hM]
    refine (Finset.fold_max_lt _).2 ⟨bot_lt_top, fun k _ => ?_⟩
    rw [hs]
    split
    exacts [EReal.coe_lt_top _, bot_lt_top]
  have hbot : M ≠ ⊥ := by
    rintro rfl
    rw [hs, if_pos hk] at hle
    exact absurd (le_bot_iff.1 hle) (EReal.coe_ne_bot _)
  obtain ⟨c, rfl⟩ : ∃ c : ℝ, M = (c : EReal) := ⟨M.toReal, (EReal.coe_toReal hlt.ne hbot).symm⟩
  have he : ∀ k, Ideal.exp (s k - max ⊥ (c : EReal)) = ((if ok k then Real.exp (a k - c) else 0 : ℝ) : EReal) := fun k => by
    rw [hs, max_eq_right bot_le]
    by_cases o : ok k
    · rw [if_pos o, if_pos o, ← EReal.coe_sub, Ideal.exp_coe]
    · rw [if_neg o, if_neg o, sub_eq_add_neg, EReal.bot_add, Ideal.exp_bot, EReal.coe_zero]
  have hpos : 0 < ∑ k, (if ok k then Real.exp (a k - c) else 0) :=
    lt_of_lt_of_le (by rw [if_pos hk]; exact Real.exp_pos _) (Finset.single_le_sum (f := fun k => if ok k then Real.exp (a k - c) else 0)
      (fun k _ => by split; exacts [(Real.exp_pos _).le, le_rfl]) (Finset.mem_univ k0))
  have e1 : (∑ k, if ok k then Real.exp (a k - c) else 0) = Real.exp (-c) * ∑ k, (if ok k then Real.exp (a k) else 0) := by
    rw [Finset.mul_sum]
    refine Finset.sum_congr rfl fun k _ => ?_
    split
    · rw [← Real.exp_add]; congr 1; ring
    · ring
  simp only [he, ← coe_sum']
  have hd : ∀ j, (v j : EReal) * Ideal.div ((if ok j then Real.exp (a j - c) else 0 : ℝ) : EReal) ((∑ k, (if ok k then Real.exp (a k - c) else 0) : ℝ) : EReal)
      = ((v j * ((if ok j then Real.exp (a j - c) else 0) / ∑ k, (if ok k then Real.exp (a k - c) else 0)) : ℝ) : EReal) := fun j => by
    rw [Ideal.div, if_neg (by exact_mod_cast hpos.ne'), ← EReal.coe_inv, ← EReal.coe_mul, ← EReal.coe_mul, div_eq_mul_inv]
  simp only [hd, ← coe_sum']
  congr 1
  rw [e1] at hpos ⊢
  have hS : (∑ k, (if ok k then Real.exp (a k) else 0)) ≠ 0 := fun h => by rw [h, mul_zero] at hpos; exact lt_irrefl _ hpos
  rw [eq_div_iff hS, Finset.sum_mul]
  refine Finset.sum_congr rfl fun k _ => ?_
  have hc := (Real.exp_pos (-c)).ne'
  split
  · rw [sub_eq_add_neg, Real.exp_add]; field_simp
  · simp

/-- A masked score. -/
theorem scores_real {x : FVec Ideal S16384x4096 .f32} (hx : ∀ i, x i ≠ ⊤ ∧ x i ≠ ⊥) (p : IVec S4x4x4096x64 32) (b g h : Fin 4) (t j : Fin 4096) :
    scores x p (ix5 b g h t j) = if okK p b g t j then ((dotX x b g h t j / √128 : ℝ) : EReal) else ⊥ := by
  rw [scores_apply, bits_negInf, sqrt_128]
  have e1 : (∑ d : Fin 128, x (ix2 ⟨b.val * 4096 + j.val, by omega⟩ ⟨2048 + (g.val * 128 + d.val), by omega⟩)
      * Ideal.div (x (ix2 ⟨b.val * 4096 + t.val, by omega⟩ ⟨g.val * 512 + h.val * 128 + d.val, by omega⟩)) ((√128 : ℝ) : EReal))
      = ((dotX x b g h t j / √128 : ℝ) : EReal) := by
    rw [dotX, Finset.sum_range fun d => rX x (b.val * 4096 + j.val) (2048 + (g.val * 128 + d)) * rX x (b.val * 4096 + t.val) (g.val * 512 + h.val * 128 + d),
      Finset.sum_div, coe_sum']
    refine Finset.sum_congr rfl fun d _ => ?_
    rw [rX_eq hx, rX_eq hx, coe_div _ sqrt_128_ne, ← EReal.coe_mul, mul_div_assoc]
  rw [e1]
  have e2 : IntOp.andi (IntOp.cmpi CmpIPredicate.sle (BitVec.ofNat 32 j.val) (BitVec.ofNat 32 t.val))
      (IntOp.cmpi CmpIPredicate.ne (p (ix4 b g t ⟨j.val / 64, by omega⟩)) 0#32) = 1#1 ↔ okK p b g t j := by
    rw [IntOp.andi_eq_one, WordCmp.cmpi_sle_ofNat_eq_one_iff (by omega) (by omega), IntOp.cmpi_ne]
    exact and_congr_right fun _ => ⟨fun q => ⟨⟨b.isLt, g.isLt, t.isLt, by omega⟩, q⟩, fun ⟨_, q⟩ => q⟩
  unfold Scalar.select
  by_cases o : okK p b g t j
  · rw [if_pos (show _ = (1 : BitVec 1) from e2.2 o), if_pos o]
  · rw [if_neg (show ¬ _ = (1 : BitVec 1) from fun q => o (e2.1 q)), if_neg o]

/-- The reference's first result. -/
theorem res_apply {x : FVec Ideal S16384x4096 .f32} (hx : ∀ i, x i ≠ ⊤ ∧ x i ≠ ⊥) {p : IVec S4x4x4096x64 32}
    (hp : ∀ b g t, b < 4 → g < 4 → t < 4096 → pk p b g t (t / 64)) (r : Fin 16384) (l : Fin 2048) :
    res x p (ix2 r l) = attnArr x p r.val l.val := by
  unfold res
  rw [outS_apply]
  have hb : r.val / 4096 < 4 := by omega
  have hg : l.val / 512 < 4 := by omega
  have hh : l.val / 128 % 4 < 4 := by omega
  have ht : r.val % 4096 < 4096 := by omega
  have key := row_quot (fun k : Fin 4096 => scores x p (ix5 ⟨r.val / 4096, hb⟩ ⟨l.val / 512, hg⟩ ⟨l.val / 128 % 4, hh⟩ ⟨r.val % 4096, ht⟩ k))
    (fun k : Fin 4096 => rX x (r.val / 4096 * 4096 + k.val) (2560 + (l.val / 512 * 128 + l.val % 128)))
    (fun k : Fin 4096 => okK p (r.val / 4096) (l.val / 512) (r.val % 4096) k.val)
    (fun k : Fin 4096 => dotX x (r.val / 4096) (l.val / 512) (l.val / 128 % 4) (r.val % 4096) k.val / √128)
    (fun k => scores_real hx p ⟨r.val / 4096, hb⟩ ⟨l.val / 512, hg⟩ ⟨l.val / 128 % 4, hh⟩ ⟨r.val % 4096, ht⟩ k)
    ⟨r.val % 4096, ht⟩ ⟨le_rfl, hp _ _ _ hb hg ht⟩
    (mxS (scores x p) (ix4 ⟨r.val / 4096, hb⟩ ⟨l.val / 512, hg⟩ ⟨l.val / 128 % 4, hh⟩ ⟨r.val % 4096, ht⟩))
    (by rw [mxS_apply]; rw [show (constant S_ .f32 0xFF800000#32 : FVec Ideal S_ .f32) (Shape.Idx.first h_S_) = (⊥ : EReal) from bits_negInf])
  refine Eq.trans (Finset.sum_congr rfl fun k _ => ?_) (key.trans ?_)
  · rw [probs_apply, rX_eq hx]
    simp only [expS_apply, bits_negInf]
  · unfold attnArr attn
    rw [← Finset.sum_range fun k => if okK p (r.val / 4096) (l.val / 512) (r.val % 4096) k then
        Real.exp (dotX x (r.val / 4096) (l.val / 512) (l.val / 128 % 4) (r.val % 4096) k / √128) * rX x (r.val / 4096 * 4096 + k) (2560 + (l.val / 512 * 128 + l.val % 128)) else 0,
      ← Finset.sum_range fun k => if okK p (r.val / 4096) (l.val / 512) (r.val % 4096) k then
        Real.exp (dotX x (r.val / 4096) (l.val / 512) (l.val / 128 % 4) (r.val % 4096) k / √128) else 0]
    rfl

end Cert.Proof.Ref

end
-- ==== Proof.Claims.lean ====
/-
  The claims about the selected-block attention call.
-/
module

public import proofs.«01_k».proof.Defs
public import proofs.«01_k».proof.Proof.Run
public import proofs.«01_k».proof.Proof.KRun
public import proofs.«01_k».proof.Proof.Gen.ReferenceIdeal.Run
public import proofs.«01_k».proof.Proof.Pre
public import proofs.«01_k».proof.Proof.ExactRun
public import proofs.«01_k».proof.Proof.RefValue

@[expose] public section

set_option maxRecDepth 16384

noncomputable section

namespace Cert.Proof

open Idealize.ShloMosaic Idealize.SL.Sem

theorem frame_p : Cert.quiescent_Kernel := fun m ρ _ => Printed.frame_run (F := Bits) m ρ

theorem frame_pi : Cert.quiescent_KernelIdeal := fun m ρ _ => frame_run (F := Ideal) m ρ

theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_pi_pre : Cert.quiescent_KernelIdeal_pre_usable := fun m ρ _ => frame_run (F := Ideal) m ρ

theorem frame_ri_pre : Cert.quiescent_ReferenceIdeal_pre_usable := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

/-- The reference's copied rows of the weight. -/
theorem rows_eq (w : FVec Ideal Cert.ReferenceIdeal.S15408x4096 .f32) :
    (truncf .bf16 (extractStridedSlice Cert.ReferenceIdeal.S8192x4096 ![7216, 0] w Cert.ReferenceIdeal.Gen.slices_S15408x4096_S8192x4096_7216_0) Cert.ReferenceIdeal.Gen.bitsLt_bf16_f32 : FVec Ideal Cert.ReferenceIdeal.S8192x4096 .bf16)
      = fun i => w (ix2 ⟨7216 + (i 0).val, by have : (i 0).val < 8192 := (i 0).isLt; omega⟩ (i 1)) := by
  funext i
  refine (congrArg _ (ix2_eta (n0 := 8192) (n1 := 4096) i).symm).trans ?_
  pointwise

/-- The kernel's results are the reference's: the attention, and the copied weight. -/
theorem algebraic : Cert.algebraic_KernelIdeal_ReferenceIdeal_pre_usable := by
  intro m g m' g' hpre hagree
  have hu := fun c => Pre.usable (hpre c)
  refine ⟨Cert.Exact.res0 m, Cert.Exact.res1 m, Cert.Exact.run m g (fun c => (hu c).1) (fun c => (hu c).2), ?_⟩
  refine (θ_run Cert.ReferenceIdeal.defs _ _).mono (fun r h c => ⟨(h c).1.trans ?_, (h c).2.1.trans ?_, (h c).2.2⟩)
    (Cert.ReferenceIdeal.Value.run (F := Ideal) m' g')
  · rw [Ref.res_eq, (hagree c).1, (hagree c).2.1]
    funext i
    refine (congrArg _ (ix2_eta (n0 := 16384) (n1 := 2048) i).symm).trans ?_
    exact Ref.res_apply (hu c).1 (hu c).2 (i 0) (i 1)
  · rw [(hagree c).2.2]
    exact rows_eq _

end Cert.Proof

end
-- ==== Proof.Swiglu.lean ====
/-
  The feed-forward's first products with their gate compute the reference's.
-/
module

public import proofs.«01_k».proof.Defs
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Exact.Swiglu

open Cert.Kernel2Ideal Cert.Kernel2Ideal.Gen
open Idealize.ShloMosaic Idealize.ShloMosaic.TcCoe
open Idealize.SL.Sem
open Idealize.ShloMosaic.Pipeline (Dat)

/-- The reference's result over the call's arguments. -/
abbrev REF (X0 : FVec Ideal S16384x4096 .f32) (X1 : FVec Ideal S4096x11008 .f32) (X2 : FVec Ideal S4096x11008 .f32) : FVec Ideal S16384x11008 .bf16 :=
  truncf .bf16 (mulf (mulf (Host.dotGeneral Cert.Reference2Ideal.dot_S16384x4096_S4096x11008_S16384x11008_1_0_0_1_n_n none X0 X1) (Host.divf (broadcastInDim Cert.Reference2Ideal.S16384x11008 ![] Cert.Reference2Ideal.Gen.bcast_S_S16384x11008 (constant Cert.Reference2Ideal.S_ .f32 0x3F800000#32)) (addf (broadcastInDim Cert.Reference2Ideal.S16384x11008 ![] Cert.Reference2Ideal.Gen.bcast_S_S16384x11008 (constant Cert.Reference2Ideal.S_ .f32 0x3F800000#32)) (Host.exp (Host.negf (Host.dotGeneral Cert.Reference2Ideal.dot_S16384x4096_S4096x11008_S16384x11008_1_0_0_1_n_n none X0 X1)))))) (Host.dotGeneral Cert.Reference2Ideal.dot_S16384x4096_S4096x11008_S16384x11008_1_0_0_1_n_n none X0 X2)) Cert.Reference2Ideal.Gen.bitsLt_bf16_f32

/-- The reference's second result: the weight itself. -/
abbrev REF5 (X3 : FVec Ideal S11008x4096 .f32) : FVec Ideal S11008x4096 .bf16 :=
  truncf .bf16 X3 Cert.Reference2Ideal.Gen.bitsLt_bf16_f32

/-- The windows' blocks at a point. -/
theorem idx : ∀ t : Fin cfg0.N, win0_0.index t = ![t.val % 8, 0] ∧ win0_1.index t = ![0, t.val / 8] ∧ win0_2.index t = ![0, t.val / 8] ∧ win0_3.index t = ![t.val, 0] ∧ win0_4.index t = ![t.val % 8, t.val / 8] ∧ win0_5.index t = ![t.val, 0] :=
  (by decide +kernel : ∀ t : Fin grid0.N, _)

variable (m : (ℓ : Loc nD τ sig) → Buf (Elt Ideal) ℓ)

/-- The reference's result at the launch's arguments. -/
abbrev RES (c : Dev nD) : FVec Ideal S16384x11008 .bf16 := REF (m ((c : Thread nD τ).loc main_arg0)) (m ((c : Thread nD τ).loc main_arg1)) (m ((c : Thread nD τ).loc main_arg2))

/-- The second at the launch's arguments. -/
abbrev RES5 (c : Dev nD) : FVec Ideal S11008x4096 .bf16 := REF5 (m ((c : Thread nD τ).loc main_arg3))

theorem lt (t : Fin cfg0.N) : t.val < 344 := t.isLt

/-- Points of one run read one block of the weight. -/
theorem same0 (c : Dev nD) (t s : Fin cfg0.N) (h : t.val / 8 = s.val / 8) : iblk m c 1 t = iblk m c 1 s := by
  blk_ext! [iblk, idx t, idx s]

/-- The scratch holds the run's block of the weight after every point. -/
theorem kept0 (c : Dev nD) : ∀ (n : ℕ) (h : n < cfg0.N), (outsAt0 m c n h).2.2.1 = k0_pay1 (F := Ideal) (iblk m c 1 ⟨n, h⟩) := by
  intro n
  induction n with
  | zero =>
    intro h
    rw [outsAt0_A m c ⟨0, h⟩ rfl]; frame_out
  | succ n ih =>
    intro h
    by_cases h8 : (n + 1) % 8 = 0
    · rw [outsAt0_A m c ⟨n + 1, h⟩ h8]; frame_out
    · rw [outsAt0_B m c ⟨n + 1, h⟩ h8]; frame_out
      exact (ih (Nat.lt_of_succ_lt h)).trans (by rw [same0 m c ⟨n, Nat.lt_of_succ_lt h⟩ ⟨n + 1, h⟩ (by dsimp only; omega)])

/-- Points of one run read one block of the weight. -/
theorem same1 (c : Dev nD) (t s : Fin cfg0.N) (h : t.val / 8 = s.val / 8) : iblk m c 2 t = iblk m c 2 s := by
  blk_ext! [iblk, idx t, idx s]

/-- The scratch holds the run's block of the weight after every point. -/
theorem kept1 (c : Dev nD) : ∀ (n : ℕ) (h : n < cfg0.N), (outsAt0 m c n h).2.2.2 = k0_pay2 (F := Ideal) (iblk m c 2 ⟨n, h⟩) := by
  intro n
  induction n with
  | zero =>
    intro h
    rw [outsAt0_A m c ⟨0, h⟩ rfl]; frame_out
  | succ n ih =>
    intro h
    by_cases h8 : (n + 1) % 8 = 0
    · rw [outsAt0_A m c ⟨n + 1, h⟩ h8]; frame_out
    · rw [outsAt0_B m c ⟨n + 1, h⟩ h8]; frame_out
      exact (ih (Nat.lt_of_succ_lt h)).trans (by rw [same1 m c ⟨n, Nat.lt_of_succ_lt h⟩ ⟨n + 1, h⟩ (by dsimp only; omega)])

/-- What the body leaves in the first result's block at a point. -/
theorem out (c : Dev nD) (t : Fin cfg0.N) : (outsAt0 m c t.val t.isLt).1
    = k0_pay3 (F := Ideal) (iblk m c 0 t) (k0_pay1 (iblk m c 1 t)) (k0_pay2 (iblk m c 2 t)) := by
  by_cases h8 : t.val % 8 = 0
  · rw [outsAt0_A m c t h8]; frame_out
  · rw [outsAt0_B m c t h8]; frame_out
    rw [kept0 m c (t.val - 1) (Nat.lt_of_le_of_lt (Nat.sub_le _ _) t.isLt), kept1 m c (t.val - 1) (Nat.lt_of_le_of_lt (Nat.sub_le _ _) t.isLt),
      same0 m c ⟨t.val - 1, _⟩ t (by dsimp only; omega), same1 m c ⟨t.val - 1, _⟩ t (by dsimp only; omega)]
    exact congrArg₂ _ ((Memref.isWhole_whole cc0_scratch0).read_unread _) ((Memref.isWhole_whole cc0_scratch1).read_unread _)

/-- What it leaves in the second's. -/
theorem out5 (c : Dev nD) (t : Fin cfg0.N) : (outsAt0 m c t.val t.isLt).2.1 = k0_pay4 (F := Ideal) (iblk m c 3 t) := by
  by_cases h8 : t.val % 8 = 0
  · rw [outsAt0_A m c t h8]; frame_out
  · rw [outsAt0_B m c t h8]; frame_out

/-- It is the reference's result at the place it is written to. -/
theorem point (c : Dev nD) (t : Fin cfg0.N) (y) : k0_pay3 (iblk m c 0 t) (k0_pay1 (iblk m c 1 t)) (k0_pay2 (iblk m c 2 t)) y
    = RES m c (((cfg0.win 4).blk t).view.emb y) := by
  pointwise [k0_pay1, k0_pay2, k0_pay3, REF]
  simp only [Ideal.logistic]
  blk_point [iblk, V, idx t]

/-- The copy of the second weight, too. -/
theorem point5 (c : Dev nD) (t : Fin cfg0.N) (y) : k0_pay4 (iblk m c 3 t) y
    = RES5 m c (((cfg0.win 5).blk t).view.emb y) := by
  pointwise [k0_pay4, REF5]
  blk_point [iblk, V, idx t]

/-- The second result array after the run. -/
theorem final5 (c : Dev nD) : (dats m 0 c).arrAt 5 (cfgs 0).N = RES5 m c := by
  refine (dats m 0 c).arrAt_eq_of_covers 5 _ (by decide +kernel) fun t _ y => ?_
  blk_simp
  rw [after0_5, out5 m c t]
  exact point5 m c t y

/-- The result array after the run. -/
theorem final (c : Dev nD) : (dats m 0 c).arrAt 4 (cfgs 0).N = RES m c := by
  refine (dats m 0 c).arrAt_eq_of_covers 4 _ (by decide +kernel) fun t _ y => ?_
  blk_simp
  rw [after0_4, out m c t]
  exact point m c t y

/-- The kernel computes the reference's result. -/
theorem algebraic : Cert.algebraic_Kernel2Ideal_Reference2Ideal := by
  intro m g m' g' hpre hagree
  refine ⟨fun c => RES m c, fun c => RES5 m c,
    (θ_run Cert.Kernel2Ideal.defs _ _).mono (fun r h c => ⟨(h c).1.trans (final m c), (h c).2.1.trans (final5 m c), (h c).2.2⟩) (Cert.Kernel2Ideal.Value.run_blocks (F := Ideal) m g),
    (θ_run Cert.Reference2Ideal.defs _ _).mono (fun r h c => ⟨(h c).1.trans ?_, (h c).2.1.trans ?_, (h c).2.2⟩) (Cert.Reference2Ideal.Value.run (F := Ideal) m' g')⟩
  · rw [(hagree c).1, (hagree c).2.1, (hagree c).2.2.1]
  · rw [(hagree c).2.2.2]

end Cert.Exact.Swiglu

end
-- ==== Proof.Merge.lean ====
/-
  The merge of the two mixers computes the reference's.
-/
module

public import proofs.«01_k».proof.Defs
public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Exact.Merge

open Cert.Kernel3Ideal Cert.Kernel3Ideal.Gen
open Idealize.ShloMosaic Idealize.ShloMosaic.TcCoe
open Idealize.SL.Sem
open Idealize.ShloMosaic.Pipeline (Dat)

/-- The reference's result over the call's arguments. -/
abbrev REF (X0 : FVec Ideal S16384x4096 .f32) (X1 : FVec Ideal S16384x2048 .f32) (X2 : FVec Ideal S16384x2048 .f32) (X3 : FVec Ideal S4096x15408 .f32) (X4 : FVec Ideal S2048x4096 .f32) (X5 : FVec Ideal S2048x4096 .f32) : FVec Ideal S16384x4096 .bf16 :=
  truncf .bf16 (addf (mulf (Host.divf (broadcastInDim Cert.Reference3Ideal.S16384x4096 ![] Cert.Reference3Ideal.Gen.bcast_S_S16384x4096 (constant Cert.Reference3Ideal.S_ .f32 0x3F800000#32)) (addf (broadcastInDim Cert.Reference3Ideal.S16384x4096 ![] Cert.Reference3Ideal.Gen.bcast_S_S16384x4096 (constant Cert.Reference3Ideal.S_ .f32 0x3F800000#32)) (Host.exp (Host.negf (extractStridedSlice Cert.Reference3Ideal.S16384x4096 ![0, 0] (Host.dotGeneral Cert.Reference3Ideal.dot_S16384x4096_S4096x8192_S16384x8192_1_0_0_1_n_n none X0 (extractStridedSlice Cert.Reference3Ideal.S4096x8192 ![0, 7216] X3 Cert.Reference3Ideal.Gen.slices_S4096x15408_S4096x8192_0_7216)) Cert.Reference3Ideal.Gen.slices_S16384x8192_S16384x4096_0_0))))) (Host.dotGeneral Cert.Reference3Ideal.dot_S16384x2048_S2048x4096_S16384x4096_1_0_0_1_n_n none X1 X4)) (mulf (Host.divf (broadcastInDim Cert.Reference3Ideal.S16384x4096 ![] Cert.Reference3Ideal.Gen.bcast_S_S16384x4096 (constant Cert.Reference3Ideal.S_ .f32 0x3F800000#32)) (addf (broadcastInDim Cert.Reference3Ideal.S16384x4096 ![] Cert.Reference3Ideal.Gen.bcast_S_S16384x4096 (constant Cert.Reference3Ideal.S_ .f32 0x3F800000#32)) (Host.exp (Host.negf (extractStridedSlice Cert.Reference3Ideal.S16384x4096 ![0, 4096] (Host.dotGeneral Cert.Reference3Ideal.dot_S16384x4096_S4096x8192_S16384x8192_1_0_0_1_n_n none X0 (extractStridedSlice Cert.Reference3Ideal.S4096x8192 ![0, 7216] X3 Cert.Reference3Ideal.Gen.slices_S4096x15408_S4096x8192_0_7216)) Cert.Reference3Ideal.Gen.slices_S16384x8192_S16384x4096_0_4096))))) (Host.dotGeneral Cert.Reference3Ideal.dot_S16384x2048_S2048x4096_S16384x4096_1_0_0_1_n_n none X2 X5))) Cert.Reference3Ideal.Gen.bitsLt_bf16_f32

/-- The windows' blocks at a point. -/
theorem idx : ∀ t : Fin cfg0.N, win0_0.index t = ![(grid0.coords t 0).val, 0] ∧ win0_1.index t = ![(grid0.coords t 0).val, 0] ∧ win0_2.index t = ![(grid0.coords t 0).val, 0] ∧ win0_3.index t = ![(grid0.coords t 1).val, 0] ∧ win0_4.index t = ![(grid0.coords t 1).val + 8, 0] ∧ win0_5.index t = ![0, (grid0.coords t 1).val] ∧ win0_6.index t = ![0, (grid0.coords t 1).val] ∧ win0_7.index t = ![(grid0.coords t 0).val, (grid0.coords t 1).val] :=
  (by decide +kernel : ∀ t : Fin grid0.N, _)

variable (m : (ℓ : Loc nD τ sig) → Buf (Elt Ideal) ℓ)

/-- The reference's result at the launch's arguments. -/
abbrev RES (c : Dev nD) : FVec Ideal S16384x4096 .bf16 := REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What the body stores at a point is the reference's result at the place it is written to. -/
theorem point (c : Dev nD) (t : Fin cfg0.N) (y) : k0_pay1 (iblk m c 0 t) (iblk m c 3 t) (iblk m c 4 t) (iblk m c 1 t) (iblk m c 5 t) (iblk m c 2 t) (iblk m c 6 t) y
    = RES m c (((cfg0.win 7).blk t).view.emb y) := by
  pointwise [k0_pay1, REF]
  simp only [Ideal.logistic]
  blk_point [iblk, V, idx t]

/-- The result array after the run. -/
theorem final (c : Dev nD) : (dats m 0 c).arrAt 7 (cfgs 0).N = RES m c := by
  refine (dats m 0 c).arrAt_eq_of_covers 7 _ (by decide +kernel) fun t _ y => ?_
  blk_simp
  rw [after0_7]; frame_out
  exact point m c t y

/-- The kernel computes the reference's result. -/
theorem algebraic : Cert.algebraic_Kernel3Ideal_Reference3Ideal := by
  intro m g m' g' hpre hagree
  refine ⟨fun c => RES m c,
    (θ_run Cert.Kernel3Ideal.defs _ _).mono (fun r h c => ⟨(h c).1.trans (final m c), (h c).2⟩) (Cert.Kernel3Ideal.Value.run_blocks (F := Ideal) m g),
    (θ_run Cert.Reference3Ideal.defs _ _).mono (fun r h c => ⟨(h c).1.trans ?_, (h c).2⟩) (Cert.Reference3Ideal.Value.run (F := Ideal) m' g')⟩
  rw [(hagree c).1, (hagree c).2.1, (hagree c).2.2.1, (hagree c).2.2.2.1, (hagree c).2.2.2.2.1, (hagree c).2.2.2.2.2]

end Cert.Exact.Merge

end
-- ==== Proof.Down.lean ====
/-
  The feed-forward's last product computes the reference's.
-/
module

public import proofs.«01_k».proof.Defs
public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Exact.Down

open Cert.Kernel4Ideal Cert.Kernel4Ideal.Gen
open Idealize.ShloMosaic Idealize.ShloMosaic.TcCoe
open Idealize.SL.Sem
open Idealize.ShloMosaic.Pipeline (Dat)

/-- The reference's result over the call's arguments. -/
abbrev REF (X0 : FVec Ideal S16384x11008 .f32) (X1 : FVec Ideal S11008x4096 .f32) : FVec Ideal S16384x4096 .bf16 :=
  truncf .bf16 (Host.dotGeneral Cert.Reference4Ideal.dot_S16384x11008_S11008x4096_S16384x4096_1_0_0_1_n_n none X0 X1) Cert.Reference4Ideal.Gen.bitsLt_bf16_f32

/-- The windows' blocks at a point. -/
theorem idx : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

variable (m : (ℓ : Loc nD τ sig) → Buf (Elt Ideal) ℓ)

/-- The reference's result at the launch's arguments. -/
abbrev RES (c : Dev nD) : FVec Ideal S16384x4096 .bf16 := REF (m ((c : Thread nD τ).loc main_arg0)) (m ((c : Thread nD τ).loc main_arg1))

/-- What the body stores at a point is the reference's result at the place it is written to. -/
theorem point (c : Dev nD) (t : Fin cfg0.N) (y) : k0_pay1 (iblk m c 0 t) (iblk m c 1 t) y
    = RES m c (((cfg0.win 2).blk t).view.emb y) := by
  pointwise [k0_pay1, REF]
  blk_point [iblk, V, idx t]

/-- The result array after the run. -/
theorem final (c : Dev nD) : (dats m 0 c).arrAt 2 (cfgs 0).N = RES m c := by
  refine (dats m 0 c).arrAt_eq_of_covers 2 _ (by decide +kernel) fun t _ y => ?_
  blk_simp
  rw [after0_2]; frame_out
  exact point m c t y

/-- The kernel computes the reference's result. -/
theorem algebraic : Cert.algebraic_Kernel4Ideal_Reference4Ideal := by
  intro m g m' g' hpre hagree
  refine ⟨fun c => RES m c,
    (θ_run Cert.Kernel4Ideal.defs _ _).mono (fun r h c => ⟨(h c).1.trans (final m c), (h c).2⟩) (Cert.Kernel4Ideal.Value.run_blocks (F := Ideal) m g),
    (θ_run Cert.Reference4Ideal.defs _ _).mono (fun r h c => ⟨(h c).1.trans ?_, (h c).2⟩) (Cert.Reference4Ideal.Value.run (F := Ideal) m' g')⟩
  rw [(hagree c).1, (hagree c).2]

end Cert.Exact.Down

end
-- ==== Proof.LastNorm.lean ====
/-
  The last norm with its residual computes the reference's.
-/
module

public import proofs.«01_k».proof.Defs
public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.Exact.LastNorm

open Cert.Kernel5Ideal Cert.Kernel5Ideal.Gen
open Idealize.ShloMosaic Idealize.ShloMosaic.TcCoe
open Idealize.SL.Sem
open Idealize.ShloMosaic.Pipeline (Dat)

/-- The reference's result over the call's arguments. -/
abbrev REF (X0 : FVec Ideal S16384x4096 .f32) (X1 : FVec Ideal S16384x4096 .f32) (X2 : FVec Ideal S4096 .f32) : FVec Ideal S16384x4096 .f32 :=
  addf X1 (mulf (mulf X0 (broadcastInDim Cert.Reference5Ideal.S16384x4096 ![0, 1] Cert.Reference5Ideal.Gen.bcast_S16384x1_S16384x4096_0_1 (Host.rsqrt (addf (Host.divf (broadcastInDim Cert.Reference5Ideal.S16384x1 ![0] Cert.Reference5Ideal.Gen.bcast_S16384_S16384x1_0 (Host.reduceAdd (mulf X0 X0) (constant Cert.Reference5Ideal.S_ .f32 0x00000000#32) Cert.Reference5Ideal.Gen.reducesTo_S16384x4096_S16384_d1 Cert.Reference5Ideal.Gen.h_S_)) (broadcastInDim Cert.Reference5Ideal.S16384x1 ![] Cert.Reference5Ideal.Gen.bcast_S_S16384x1 (constant Cert.Reference5Ideal.S_ .f32 0x45800000#32))) (broadcastInDim Cert.Reference5Ideal.S16384x1 ![] Cert.Reference5Ideal.Gen.bcast_S_S16384x1 (constant Cert.Reference5Ideal.S_ .f32 0x358637BD#32)))))) (broadcastInDim Cert.Reference5Ideal.S16384x4096 ![0, 1] Cert.Reference5Ideal.Gen.bcast_S1x4096_S16384x4096_0_1 (broadcastInDim Cert.Reference5Ideal.S1x4096 ![1] Cert.Reference5Ideal.Gen.bcast_S4096_S1x4096_1 X2)))

/-- The windows' blocks at a point. -/
theorem idx : ∀ t : Fin cfg0.N, win0_0.index t = ![(grid0.coords t 0).val, 0] ∧ win0_1.index t = ![(grid0.coords t 0).val, 0] ∧ win0_2.index t = ![0, 0] ∧ win0_3.index t = ![(grid0.coords t 0).val, 0] :=
  (by decide +kernel : ∀ t : Fin grid0.N, _)

variable (m : (ℓ : Loc nD τ sig) → Buf (Elt Ideal) ℓ)

/-- The reference's result at the launch's arguments. -/
abbrev RES (c : Dev nD) : FVec Ideal S16384x4096 .f32 := REF (m ((c : Thread nD τ).loc main_arg0)) (m ((c : Thread nD τ).loc main_arg1)) (m ((c : Thread nD τ).loc main_arg2))

/-- What the body stores at a point is the reference's result at the place it is written to. -/
theorem point (c : Dev nD) (t : Fin cfg0.N) (y) : k0_pay1 (iblk m c 1 t) (iblk m c 0 t) (iblk m c 2 t) y
    = RES m c (((cfg0.win 3).blk t).view.emb y) := by
  pointwise [k0_pay1, REF]
  blk_point [iblk, V, idx t]

/-- The result array after the run. -/
theorem final (c : Dev nD) : (dats m 0 c).arrAt 3 (cfgs 0).N = RES m c := by
  refine (dats m 0 c).arrAt_eq_of_covers 3 _ (by decide +kernel) fun t _ y => ?_
  blk_simp
  rw [after0_3]; frame_out
  exact point m c t y

/-- The kernel computes the reference's result. -/
theorem algebraic : Cert.algebraic_Kernel5Ideal_Reference5Ideal := by
  intro m g m' g' hpre hagree
  refine ⟨fun c => RES m c,
    (θ_run Cert.Kernel5Ideal.defs _ _).mono (fun r h c => ⟨(h c).1.trans (final m c), (h c).2⟩) (Cert.Kernel5Ideal.Value.run_blocks (F := Ideal) m g),
    (θ_run Cert.Reference5Ideal.defs _ _).mono (fun r h c => ⟨(h c).1.trans ?_, (h c).2⟩) (Cert.Reference5Ideal.Value.run (F := Ideal) m' g')⟩
  rw [(hagree c).1, (hagree c).2.1, (hagree c).2.2]

end Cert.Exact.LastNorm

end
-- ==== Proof.OutProj.lean ====
/-
  The mixers' output product computes the reference's.
-/
module

public import proofs.«01_k».proof.Defs
public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.Exact.OutProj

open Cert.Kernel6Ideal Cert.Kernel6Ideal.Gen
open Idealize.ShloMosaic Idealize.ShloMosaic.TcCoe
open Idealize.SL.Sem
open Idealize.ShloMosaic.Pipeline (Dat)

/-- The reference's result over the call's arguments. -/
abbrev REF (X0 : FVec Ideal S16384x4096 .f32) (X1 : FVec Ideal S4096x4096 .f32) : FVec Ideal S16384x4096 .bf16 :=
  truncf .bf16 (Host.dotGeneral Cert.Reference6Ideal.dot_S16384x4096_S4096x4096_S16384x4096_1_0_0_1_n_n none X0 X1) Cert.Reference6Ideal.Gen.bitsLt_bf16_f32

/-- The windows' blocks at a point. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

variable (m : (ℓ : Loc nD τ sig) → Buf (Elt Ideal) ℓ)

/-- The reference's result at the launch's arguments. -/
abbrev RES (c : Dev nD) : FVec Ideal S16384x4096 .bf16 := REF (m ((c : Thread nD τ).loc main_arg0)) (m ((c : Thread nD τ).loc main_arg1))

theorem lt (t : Fin cfg0.N) : t.val < 64 := t.isLt

/-- Points of one run read one block of the weight. -/
theorem same (c : Dev nD) (t s : Fin cfg0.N) (h : t.val / 8 = s.val / 8) : iblk m c 1 t = iblk m c 1 s := by
  blk_ext! [iblk, idx t, idx s]

/-- The scratch holds the run's block of the weight after every point. -/
theorem kept (c : Dev nD) : ∀ (n : ℕ) (h : n < cfg0.N), (outsAt0 m c n h).2 = k0_pay1 (F := Ideal) (iblk m c 1 ⟨n, h⟩) := by
  intro n
  induction n with
  | zero =>
    intro h
    rw [outsAt0_A m c ⟨0, h⟩ rfl]; frame_out
  | succ n ih =>
    intro h
    by_cases h8 : (n + 1) % 8 = 0
    · rw [outsAt0_A m c ⟨n + 1, h⟩ h8]; frame_out
    · rw [outsAt0_B m c ⟨n + 1, h⟩ h8]; frame_out
      exact (ih (Nat.lt_of_succ_lt h)).trans (by rw [same m c ⟨n, Nat.lt_of_succ_lt h⟩ ⟨n + 1, h⟩ (by dsimp only; omega)])

/-- What the body leaves in the result's block at a point. -/
theorem out (c : Dev nD) (t : Fin cfg0.N) : (outsAt0 m c t.val t.isLt).1 = k0_pay2 (F := Ideal) (iblk m c 0 t) (k0_pay1 (iblk m c 1 t)) := by
  by_cases h8 : t.val % 8 = 0
  · rw [outsAt0_A m c t h8]; frame_out
  · rw [outsAt0_B m c t h8]; frame_out
    rw [kept m c (t.val - 1) (Nat.lt_of_le_of_lt (Nat.sub_le _ _) t.isLt), same m c ⟨t.val - 1, _⟩ t (by dsimp only; omega)]
    exact congrArg _ ((Memref.isWhole_whole cc0_scratch0).read_unread _)

/-- It is the reference's result at the place it is written to. -/
theorem point (c : Dev nD) (t : Fin cfg0.N) (y) : k0_pay2 (iblk m c 0 t) (k0_pay1 (iblk m c 1 t)) y
    = RES m c (((cfg0.win 2).blk t).view.emb y) := by
  pointwise [k0_pay1, k0_pay2, REF]
  blk_point [iblk, V, idx t]

/-- The result array after the run. -/
theorem final (c : Dev nD) : (dats m 0 c).arrAt 2 (cfgs 0).N = RES m c := by
  refine (dats m 0 c).arrAt_eq_of_covers 2 _ (by decide +kernel) fun t _ y => ?_
  blk_simp
  rw [after0_2, out m c t]
  exact point m c t y

/-- The kernel computes the reference's result. -/
theorem algebraic : Cert.algebraic_Kernel6Ideal_Reference6Ideal := by
  intro m g m' g' hpre hagree
  refine ⟨fun c => RES m c,
    (θ_run Cert.Kernel6Ideal.defs _ _).mono (fun r h c => ⟨(h c).1.trans (final m c), (h c).2⟩) (Cert.Kernel6Ideal.Value.run_blocks (F := Ideal) m g),
    (θ_run Cert.Reference6Ideal.defs _ _).mono (fun r h c => ⟨(h c).1.trans ?_, (h c).2⟩) (Cert.Reference6Ideal.Value.run (F := Ideal) m' g')⟩
  rw [(hagree c).1, (hagree c).2]

end Cert.Exact.OutProj

end
-- ==== Proof.MidNorm.lean ====
/-
  The norm between the mixers and the feed-forward, with its residual, computes the reference's.
-/
module

public import proofs.«01_k».proof.Defs
public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

namespace Cert.Exact.MidNorm

open Cert.Kernel7Ideal Cert.Kernel7Ideal.Gen
open Idealize.ShloMosaic Idealize.ShloMosaic.TcCoe
open Idealize.SL.Sem
open Idealize.ShloMosaic.Pipeline (Dat)

/-- The reference's result over the call's arguments. -/
abbrev REF (X0 : FVec Ideal S16384x4096 .f32) (X1 : FVec Ideal S16384x4096 .f32) (X2 : FVec Ideal S4096 .f32) : FVec Ideal S16384x4096 .f32 :=
  addf X1 (mulf (mulf X0 (broadcastInDim Cert.Reference7Ideal.S16384x4096 ![0, 1] Cert.Reference7Ideal.Gen.bcast_S16384x1_S16384x4096_0_1 (Host.rsqrt (addf (Host.divf (broadcastInDim Cert.Reference7Ideal.S16384x1 ![0] Cert.Reference7Ideal.Gen.bcast_S16384_S16384x1_0 (Host.reduceAdd (mulf X0 X0) (constant Cert.Reference7Ideal.S_ .f32 0x00000000#32) Cert.Reference7Ideal.Gen.reducesTo_S16384x4096_S16384_d1 Cert.Reference7Ideal.Gen.h_S_)) (broadcastInDim Cert.Reference7Ideal.S16384x1 ![] Cert.Reference7Ideal.Gen.bcast_S_S16384x1 (constant Cert.Reference7Ideal.S_ .f32 0x45800000#32))) (broadcastInDim Cert.Reference7Ideal.S16384x1 ![] Cert.Reference7Ideal.Gen.bcast_S_S16384x1 (constant Cert.Reference7Ideal.S_ .f32 0x358637BD#32)))))) (broadcastInDim Cert.Reference7Ideal.S16384x4096 ![0, 1] Cert.Reference7Ideal.Gen.bcast_S1x4096_S16384x4096_0_1 (broadcastInDim Cert.Reference7Ideal.S1x4096 ![1] Cert.Reference7Ideal.Gen.bcast_S4096_S1x4096_1 X2)))

/-- The reference's second result. -/
abbrev REFb (X0 : FVec Ideal S16384x4096 .f32) (X1 : FVec Ideal S16384x4096 .f32) (X2 : FVec Ideal S4096 .f32) (X3 : FVec Ideal S4096 .f32) : FVec Ideal S16384x4096 .bf16 :=
  truncf .bf16 (mulf (mulf (REF X0 X1 X2) (broadcastInDim Cert.Reference7Ideal.S16384x4096 ![0, 1] Cert.Reference7Ideal.Gen.bcast_S16384x1_S16384x4096_0_1 (Host.rsqrt (addf (Host.divf (broadcastInDim Cert.Reference7Ideal.S16384x1 ![0] Cert.Reference7Ideal.Gen.bcast_S16384_S16384x1_0 (Host.reduceAdd (mulf (REF X0 X1 X2) (REF X0 X1 X2)) (constant Cert.Reference7Ideal.S_ .f32 0x00000000#32) Cert.Reference7Ideal.Gen.reducesTo_S16384x4096_S16384_d1 Cert.Reference7Ideal.Gen.h_S_)) (broadcastInDim Cert.Reference7Ideal.S16384x1 ![] Cert.Reference7Ideal.Gen.bcast_S_S16384x1 (constant Cert.Reference7Ideal.S_ .f32 0x45800000#32))) (broadcastInDim Cert.Reference7Ideal.S16384x1 ![] Cert.Reference7Ideal.Gen.bcast_S_S16384x1 (constant Cert.Reference7Ideal.S_ .f32 0x358637BD#32)))))) (broadcastInDim Cert.Reference7Ideal.S16384x4096 ![0, 1] Cert.Reference7Ideal.Gen.bcast_S1x4096_S16384x4096_0_1 (broadcastInDim Cert.Reference7Ideal.S1x4096 ![1] Cert.Reference7Ideal.Gen.bcast_S4096_S1x4096_1 X3))) Cert.Reference7Ideal.Gen.bitsLt_bf16_f32

/-- The windows' blocks at a point. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ)

/-- The reference's result at the launch's arguments. -/
abbrev RES (c : Dev nD) : FVec Ideal S16384x4096 .f32 := REF (m ((c : Thread nD τ).loc main_arg0)) (m ((c : Thread nD τ).loc main_arg1)) (m ((c : Thread nD τ).loc main_arg2))

/-- The second at the launch's arguments. -/
abbrev RESb (c : Dev nD) : FVec Ideal S16384x4096 .bf16 := REFb (m ((c : Thread nD τ).loc main_arg0)) (m ((c : Thread nD τ).loc main_arg1)) (m ((c : Thread nD τ).loc main_arg2)) (m ((c : Thread nD τ).loc main_arg3))

/-- It is the reference's result at the place it is written to. -/
theorem point (c : Dev nD) (t : Fin cfg0.N) (y) : k0_pay1 (iblk m c 1 t) (iblk m c 0 t) (iblk m c 2 t) y
    = RES m c (((cfg0.win 4).blk t).view.emb y) := by
  pointwise [k0_pay1, REF]
  blk_point [iblk, V, idx t]

/-- It is the reference's result at the place it is written to. -/
theorem pointb (c : Dev nD) (t : Fin cfg0.N) (y) : k0_pay2 (iblk m c 1 t) (iblk m c 0 t) (iblk m c 2 t) (iblk m c 3 t) y
    = RESb m c (((cfg0.win 5).blk t).view.emb y) := by
  pointwise [k0_pay1, k0_pay2, REF, REFb]
  blk_point [iblk, V, idx t]

/-- The second result array after the run. -/
theorem finalb (c : Dev nD) : (dats m 0 c).arrAt 5 (cfgs 0).N = RESb m c := by
  refine (dats m 0 c).arrAt_eq_of_covers 5 _ (by decide +kernel) fun t _ y => ?_
  blk_simp
  rw [after0_5]; frame_out
  exact pointb m c t y

/-- The result array after the run. -/
theorem final (c : Dev nD) : (dats m 0 c).arrAt 4 (cfgs 0).N = RES m c := by
  refine (dats m 0 c).arrAt_eq_of_covers 4 _ (by decide +kernel) fun t _ y => ?_
  blk_simp
  rw [after0_4]; frame_out
  exact point m c t y

/-- The kernel computes the reference's result. -/
theorem algebraic : Cert.algebraic_Kernel7Ideal_Reference7Ideal := by
  intro m g m' g' hpre hagree
  refine ⟨fun c => RES m c, fun c => RESb m c,
    (θ_run Cert.Kernel7Ideal.defs _ _).mono (fun r h c => ⟨(h c).1.trans (final m c), (h c).2.1.trans (finalb m c), (h c).2.2⟩) (Cert.Kernel7Ideal.Value.run_blocks (F := Ideal) m g),
    (θ_run Cert.Reference7Ideal.defs _ _).mono (fun r h c => ⟨(h c).1.trans ?_, (h c).2.1.trans ?_, (h c).2.2⟩) (Cert.Reference7Ideal.Value.run (F := Ideal) m' g')⟩
  · rw [(hagree c).1, (hagree c).2.1, (hagree c).2.2.1]
  · rw [(hagree c).1, (hagree c).2.1, (hagree c).2.2.1, (hagree c).2.2.2]

end Cert.Exact.MidNorm

end
-- ==== Proof.InProj.lean ====
/-
  The input product's f32 columns are the reference's.
-/
module

public import proofs.«01_k».proof.Defs
public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.Exact.InProj

open Cert.Kernel8Ideal Cert.Kernel8Ideal.Gen
open Idealize.ShloMosaic Idealize.ShloMosaic.TcCoe
open Idealize.SL.Sem
open Idealize.ShloMosaic.Pipeline (Dat)

/-- The reference's result over the call's arguments. -/
abbrev REF (X0 : FVec Ideal S16384x4096 .f32) (X1 : FVec Ideal S4096x15408 .f32) : FVec Ideal S16384x3072 .f32 :=
  concatenate Cert.Reference8Ideal.S16384x3072 1 [⟨Cert.Reference8Ideal.S16384x2048, (Host.dotGeneral Cert.Reference8Ideal.dot_S16384x4096_S4096x2048_S16384x2048_1_0_0_1_n_n none X0 (extractStridedSlice Cert.Reference8Ideal.S4096x2048 ![0, 0] X1 Cert.Reference8Ideal.Gen.slices_S4096x15408_S4096x2048_0_0))⟩, ⟨Cert.Reference8Ideal.S16384x1024, (Host.dotGeneral Cert.Reference8Ideal.dot_S16384x4096_S4096x1024_S16384x1024_1_0_0_1_n_n none X0 (extractStridedSlice Cert.Reference8Ideal.S4096x1024 ![0, 4096] X1 Cert.Reference8Ideal.Gen.slices_S4096x15408_S4096x1024_0_4096))⟩] Cert.Reference8Ideal.Gen.concatenates_S16384x2048_S16384x1024_S16384x3072_d1

/-- The windows' blocks at a point. -/
theorem idx : ∀ t : Fin cfg0.N, win0_0.index t = ![t.val % 16, 0] ∧ win0_1.index t = ![if t.val / 16 < 4 then t.val / 16 else t.val / 16 + 4, 0] ∧ win0_2.index t = ![t.val % 16, t.val / 16] :=
  (by decide +kernel : ∀ t : Fin grid0.N, _)

variable (m : (ℓ : Loc nD τ sig) → Buf (Elt Ideal) ℓ)

/-- The reference's result at the launch's arguments. -/
abbrev RES (c : Dev nD) : FVec Ideal S16384x3072 .f32 := REF (m ((c : Thread nD τ).loc main_arg0)) (m ((c : Thread nD τ).loc main_arg1))

theorem lt (t : Fin cfg0.N) : t.val < 96 := t.isLt

theorem idx_lt : ∀ t : Fin cfg0.N, (if t.val / 16 < 4 then t.val / 16 else t.val / 16 + 4) * 512 + 512 ≤ 15408 :=
  (by decide +kernel : ∀ t : Fin grid0.N, _)

/-- The block of the transposed weight that a point reads: the array the host transposed, at its place. -/
def wb (c : Dev nD) (t : Fin cfg0.N) : FVec Ideal S512x4096 .f32 := fun y =>
  (m ((c : Thread nD τ).loc main_arg1) : FVec Ideal S4096x15408 .f32) (ix2 (n0 := 4096) (n1 := 15408) (y 1) ⟨(if t.val / 16 < 4 then t.val / 16 else t.val / 16 + 4) * 512 + (y 0).val, by
    have h : (y 0).val < 512 := (y 0).isLt
    have h' := idx_lt t
    omega⟩)

/-- It is what the window's buffer holds: no block is cut. -/
theorem wb_eq (c : Dev nD) (t : Fin cfg0.N) : X0_1 m c t = wb m c t := by
  funext y
  unfold X0_1 Pipeline.Window.fill
  rw [dif_pos (moved0_1 t y)]
  unfold wb
  blk_simp [iblk]
  entry_read
  pointwise
  blk_ext [idx t]

/-- Points of one run read one block of the weight. -/
theorem same (c : Dev nD) (t s : Fin cfg0.N) (h : t.val / 16 = s.val / 16) : X0_1 m c t = X0_1 m c s := by
  rw [wb_eq, wb_eq]
  unfold wb
  simp only [h]

/-- The scratch holds the run's block after every point. -/
theorem kept (c : Dev nD) : ∀ (n : ℕ) (h : n < cfg0.N), (outsAt0 m c n h).2 = k0_pay1 (F := Ideal) (X0_1 m c ⟨n, h⟩) := by
  intro n
  induction n with
  | zero =>
    intro h
    rw [outsAt0_A m c ⟨0, h⟩ rfl]; frame_out
  | succ n ih =>
    intro h
    by_cases h8 : (n + 1) % 16 = 0
    · rw [outsAt0_A m c ⟨n + 1, h⟩ h8]; frame_out
    · rw [outsAt0_B m c ⟨n + 1, h⟩ h8]; frame_out
      exact (ih (Nat.lt_of_succ_lt h)).trans (by rw [same m c ⟨n, Nat.lt_of_succ_lt h⟩ ⟨n + 1, h⟩ (by dsimp only; omega)])

/-- What the body leaves in the result's block at a point. -/
theorem out (c : Dev nD) (t : Fin cfg0.N) : (outsAt0 m c t.val t.isLt).1 = k0_pay2 (F := Ideal) (iblk m c 0 t) (k0_pay1 (F := Ideal) (wb m c t)) := by
  rw [← wb_eq]
  by_cases h8 : t.val % 16 = 0
  · rw [outsAt0_A m c t h8]; frame_out
  · rw [outsAt0_B m c t h8]; frame_out
    rw [kept m c (t.val - 1) (Nat.lt_of_le_of_lt (Nat.sub_le _ _) t.isLt), same m c ⟨t.val - 1, _⟩ t (by dsimp only; omega)]
    exact congrArg _ ((Memref.isWhole_whole cc0_scratch0).read_unread _)

/-- The columns a point writes. -/
theorem col (t : Fin cfg0.N) (y : ((cfg0.win 2).block).Idx) : ((((cfg0.win 2).blk t).view.emb y) 1 : ℕ) = t.val / 16 * 512 + (y 1).val := by
  blk_simp [idx t]

/-- It is the reference's result at the place it is written to. -/
theorem point (c : Dev nD) (t : Fin cfg0.N) (y) : k0_pay2 (iblk m c 0 t) (k0_pay1 (F := Ideal) (wb m c t)) y
    = RES m c (((cfg0.win 2).blk t).view.emb y) := by
  have hy : (y 1).val < 512 := (y 1).isLt
  have hc := col t y
  by_cases hj : t.val / 16 < 4
  · have hb : ((((cfg0.win 2).blk t).view.emb y) 1 : ℕ) < 2048 := by rw [hc]; omega
    pointwise [k0_pay1, k0_pay2, REF]
    blk_point [iblk, V, idx t, wb]
    all_goals first
      | exact absurd hb (by assumption)
      | (simp only [if_pos hj] <;> omega)
  · have hb : ¬((((cfg0.win 2).blk t).view.emb y) 1 : ℕ) < 2048 := by rw [hc]; omega
    pointwise [k0_pay1, k0_pay2, REF]
    blk_point [iblk, V, idx t, wb]
    all_goals first
      | exact absurd (by assumption) hb
      | (simp only [if_neg hj] <;> omega)

/-- The result array after the run. -/
theorem final (c : Dev nD) : (dats m 0 c).arrAt 2 (cfgs 0).N = RES m c := by
  refine (dats m 0 c).arrAt_eq_of_covers 2 _ (by decide +kernel) fun t _ y => ?_
  blk_simp
  rw [after0_2, out m c t]
  exact point m c t y

/-- The kernel computes the reference's result. -/
theorem algebraic : Cert.algebraic_Kernel8Ideal_Reference8Ideal := by
  intro m g m' g' hpre hagree
  refine ⟨fun c => RES m c,
    (θ_run Cert.Kernel8Ideal.defs _ _).mono (fun r h c => ⟨(h c).1.trans (final m c), (h c).2⟩) (Cert.Kernel8Ideal.Value.run_blocks (F := Ideal) m g),
    (θ_run Cert.Reference8Ideal.defs _ _).mono (fun r h c => ⟨(h c).1.trans ?_, (h c).2⟩) (Cert.Reference8Ideal.Value.run (F := Ideal) m' g')⟩
  rw [(hagree c).1, (hagree c).2]

end Cert.Exact.InProj

end
-- ==== Proof.InProjBf.lean ====
/-
  The input product's bf16 columns are the reference's.
-/
module

public import proofs.«01_k».proof.Defs
public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

namespace Cert.Exact.InProjBf

open Cert.Kernel9Ideal Cert.Kernel9Ideal.Gen
open Idealize.ShloMosaic Idealize.ShloMosaic.TcCoe
open Idealize.SL.Sem
open Idealize.ShloMosaic.Pipeline (Dat)

/-- The reference's result over the call's arguments. -/
abbrev REF (X0 : FVec Ideal S16384x4096 .f32) (X1 : FVec Ideal S4096x15408 .f32) : FVec Ideal S16384x4096 .bf16 :=
  truncf .bf16 (concatenate Cert.Reference9Ideal.S16384x4096 1 [⟨Cert.Reference9Ideal.S16384x2048, (mulf (Host.dotGeneral Cert.Reference9Ideal.dot_S16384x4096_S4096x2048_S16384x2048_1_0_0_1_n_n none X0 (extractStridedSlice Cert.Reference9Ideal.S4096x2048 ![0, 2048] X1 Cert.Reference9Ideal.Gen.slices_S4096x15408_S4096x2048_0_2048)) (broadcastInDim Cert.Reference9Ideal.S16384x2048 ![] Cert.Reference9Ideal.Gen.bcast_S_S16384x2048 (constant Cert.Reference9Ideal.S_ .f32 0x3E0293EE#32)))⟩, ⟨Cert.Reference9Ideal.S16384x2048, (Host.dotGeneral Cert.Reference9Ideal.dot_S16384x4096_S4096x2048_S16384x2048_1_0_0_1_n_n none X0 (extractStridedSlice Cert.Reference9Ideal.S4096x2048 ![0, 5120] X1 Cert.Reference9Ideal.Gen.slices_S4096x15408_S4096x2048_0_5120))⟩] Cert.Reference9Ideal.Gen.concatenates_S16384x2048_S16384x2048_S16384x4096_d1) Cert.Reference9Ideal.Gen.bitsLt_bf16_f32

/-- The windows' blocks at a point. -/
theorem idx : ∀ t : Fin cfg0.N, win0_0.index t = ![t.val % 8, 0] ∧ win0_1.index t = ![if t.val / 8 < 4 then t.val / 8 + 4 else t.val / 8 + 6, 0] ∧ win0_2.index t = ![t.val % 8, t.val / 8] :=
  (by decide +kernel : ∀ t : Fin grid0.N, _)

variable (m : (ℓ : Loc nD τ sig) → Buf (Elt Ideal) ℓ)

/-- The reference's result at the launch's arguments. -/
abbrev RES (c : Dev nD) : FVec Ideal S16384x4096 .bf16 := REF (m ((c : Thread nD τ).loc main_arg0)) (m ((c : Thread nD τ).loc main_arg1))

theorem lt (t : Fin cfg0.N) : t.val < 64 := t.isLt

theorem idx_lt : ∀ t : Fin cfg0.N, (if t.val / 8 < 4 then t.val / 8 + 4 else t.val / 8 + 6) * 512 + 512 ≤ 15408 :=
  (by decide +kernel : ∀ t : Fin grid0.N, _)

/-- The block of the transposed weight that a point reads: the array the host transposed, at its place. -/
def wb (c : Dev nD) (t : Fin cfg0.N) : FVec Ideal S512x4096 .f32 := fun y =>
  (m ((c : Thread nD τ).loc main_arg1) : FVec Ideal S4096x15408 .f32) (ix2 (n0 := 4096) (n1 := 15408) (y 1) ⟨(if t.val / 8 < 4 then t.val / 8 + 4 else t.val / 8 + 6) * 512 + (y 0).val, by
    have h : (y 0).val < 512 := (y 0).isLt
    have h' := idx_lt t
    omega⟩)

/-- It is what the window's buffer holds: no block is cut. -/
theorem wb_eq (c : Dev nD) (t : Fin cfg0.N) : X0_1 m c t = wb m c t := by
  funext y
  unfold X0_1 Pipeline.Window.fill
  rw [dif_pos (moved0_1 t y)]
  unfold wb
  blk_simp [iblk]
  entry_read
  pointwise
  blk_ext [idx t]

/-- Points of one run read one block of the weight. -/
theorem same (c : Dev nD) (t s : Fin cfg0.N) (h : t.val / 8 = s.val / 8) : X0_1 m c t = X0_1 m c s := by
  rw [wb_eq, wb_eq]
  unfold wb
  simp only [h]

/-- The scratch holds the run's block after every point. -/
theorem kept (c : Dev nD) : ∀ (n : ℕ) (h : n < cfg0.N), (outsAt0 m c n h).2 = k0_pay1 (F := Ideal) (X0_1 m c ⟨n, h⟩) := by
  intro n
  induction n with
  | zero =>
    intro h
    rw [outsAt0_A m c ⟨0, h⟩ rfl]; frame_out
  | succ n ih =>
    intro h
    by_cases h8 : (n + 1) % 8 = 0
    · rw [outsAt0_A m c ⟨n + 1, h⟩ h8]; frame_out
    · rw [outsAt0_B m c ⟨n + 1, h⟩ h8]; frame_out
      exact (ih (Nat.lt_of_succ_lt h)).trans (by rw [same m c ⟨n, Nat.lt_of_succ_lt h⟩ ⟨n + 1, h⟩ (by dsimp only; omega)])

/-- What the body leaves in the result's block at a point. -/
theorem out (c : Dev nD) (t : Fin cfg0.N) : (outsAt0 m c t.val t.isLt).1 = k0_pay2 (F := Ideal) (grid0.coords t) (iblk m c 0 t) (k0_pay1 (F := Ideal) (wb m c t)) := by
  rw [← wb_eq]
  by_cases h8 : t.val % 8 = 0
  · rw [outsAt0_A m c t h8]; frame_out
  · rw [outsAt0_B m c t h8]; frame_out
    rw [kept m c (t.val - 1) (Nat.lt_of_le_of_lt (Nat.sub_le _ _) t.isLt), same m c ⟨t.val - 1, _⟩ t (by dsimp only; omega)]
    exact congrArg _ ((Memref.isWhole_whole cc0_scratch0).read_unread _)

/-- The scale is the logits' on the first half of the columns. -/
theorem cond : ∀ t : Fin cfg0.N, Scalar.cmpi .slt (BitVec.ofNat 32 (grid0.coords t 0).val) 4#32 = if t.val / 8 < 4 then 1#1 else 0#1 :=
  (by decide +kernel : ∀ t : Fin grid0.N, Scalar.cmpi .slt (BitVec.ofNat 32 (grid0.coords t 0).val) 4#32 = if t.val / 8 < 4 then 1#1 else 0#1)

theorem sel (t : Fin cfg0.N) (a b : Ideal .f32) : Scalar.select (Scalar.cmpi .slt (BitVec.ofNat 32 (grid0.coords t 0).val) 4#32) a b = if t.val / 8 < 4 then a else b := by
  rw [cond t]
  split
  · exact if_pos rfl
  · exact if_neg (by decide)

/-- The columns a point writes. -/
theorem col (t : Fin cfg0.N) (y : ((cfg0.win 2).block).Idx) : ((((cfg0.win 2).blk t).view.emb y) 1 : ℕ) = t.val / 8 * 512 + (y 1).val := by
  blk_simp [idx t]

/-- It is the reference's result at the place it is written to. -/
theorem point (c : Dev nD) (t : Fin cfg0.N) (y) : k0_pay2 (grid0.coords t) (iblk m c 0 t) (k0_pay1 (F := Ideal) (wb m c t)) y
    = RES m c (((cfg0.win 2).blk t).view.emb y) := by
  have hy : (y 1).val < 512 := (y 1).isLt
  have hc := col t y
  by_cases hj : t.val / 8 < 4
  · have hb : ((((cfg0.win 2).blk t).view.emb y) 1 : ℕ) < 2048 := by rw [hc]; omega
    pointwise [k0_pay1, k0_pay2, REF]
    simp only [sel t, if_pos hj]
    blk_point [iblk, V, idx t, wb]
    all_goals first
      | exact absurd hb (by assumption)
      | (simp only [if_pos hj] <;> omega)
  · have hb : ¬((((cfg0.win 2).blk t).view.emb y) 1 : ℕ) < 2048 := by rw [hc]; omega
    pointwise [k0_pay1, k0_pay2, REF]
    simp only [sel t, if_neg hj, mul_one]
    blk_point [iblk, V, idx t, wb]
    all_goals first
      | exact absurd (by assumption) hb
      | (simp only [if_neg hj] <;> omega)

/-- The result array after the run. -/
theorem final (c : Dev nD) : (dats m 0 c).arrAt 2 (cfgs 0).N = RES m c := by
  refine (dats m 0 c).arrAt_eq_of_covers 2 _ (by decide +kernel) fun t _ y => ?_
  blk_simp
  rw [after0_2, out m c t]
  exact point m c t y

/-- The kernel computes the reference's result. -/
theorem algebraic : Cert.algebraic_Kernel9Ideal_Reference9Ideal := by
  intro m g m' g' hpre hagree
  refine ⟨fun c => RES m c,
    (θ_run Cert.Kernel9Ideal.defs _ _).mono (fun r h c => ⟨(h c).1.trans (final m c), (h c).2⟩) (Cert.Kernel9Ideal.Value.run_blocks (F := Ideal) m g),
    (θ_run Cert.Reference9Ideal.defs _ _).mono (fun r h c => ⟨(h c).1.trans ?_, (h c).2⟩) (Cert.Reference9Ideal.Value.run (F := Ideal) m' g')⟩
  rw [(hagree c).1, (hagree c).2]

end Cert.Exact.InProjBf

end
-- ==== Proof.FirstNorm.lean ====
/-
  The first norm and the gates' product compute the reference's.
-/
module

public import proofs.«01_k».proof.Defs
public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

namespace Cert.Exact.FirstNorm

open Cert.Kernel10Ideal Cert.Kernel10Ideal.Gen
open Idealize.ShloMosaic Idealize.ShloMosaic.TcCoe
open Idealize.SL.Sem
open Idealize.ShloMosaic.Pipeline (Dat)

/-- The reference's result over the call's arguments. -/
abbrev REF (X0 : FVec Ideal S16384x4096 .f32) (X1 : FVec Ideal S4096 .f32) : FVec Ideal S16384x4096 .bf16 :=
  truncf .bf16 (mulf (mulf X0 (broadcastInDim Cert.Reference10Ideal.S16384x4096 ![0, 1] Cert.Reference10Ideal.Gen.bcast_S16384x1_S16384x4096_0_1 (Host.rsqrt (addf (Host.divf (broadcastInDim Cert.Reference10Ideal.S16384x1 ![0] Cert.Reference10Ideal.Gen.bcast_S16384_S16384x1_0 (Host.reduceAdd (mulf X0 X0) (constant Cert.Reference10Ideal.S_ .f32 0x00000000#32) Cert.Reference10Ideal.Gen.reducesTo_S16384x4096_S16384_d1 Cert.Reference10Ideal.Gen.h_S_)) (broadcastInDim Cert.Reference10Ideal.S16384x1 ![] Cert.Reference10Ideal.Gen.bcast_S_S16384x1 (constant Cert.Reference10Ideal.S_ .f32 0x45800000#32))) (broadcastInDim Cert.Reference10Ideal.S16384x1 ![] Cert.Reference10Ideal.Gen.bcast_S_S16384x1 (constant Cert.Reference10Ideal.S_ .f32 0x358637BD#32)))))) (broadcastInDim Cert.Reference10Ideal.S16384x4096 ![0, 1] Cert.Reference10Ideal.Gen.bcast_S1x4096_S16384x4096_0_1 (broadcastInDim Cert.Reference10Ideal.S1x4096 ![1] Cert.Reference10Ideal.Gen.bcast_S4096_S1x4096_1 X1))) Cert.Reference10Ideal.Gen.bitsLt_bf16_f32

/-- The reference's second result. -/
abbrev REFb (X0 : FVec Ideal S16384x4096 .f32) (X1 : FVec Ideal S4096 .f32) (X2 : FVec Ideal S4096x15408 .f32) : FVec Ideal S16384x128 .f32 :=
  Host.dotGeneral Cert.Reference10Ideal.dot_S16384x4096_S4096x128_S16384x128_1_0_0_1_n_n none (mulf (mulf X0 (broadcastInDim Cert.Reference10Ideal.S16384x4096 ![0, 1] Cert.Reference10Ideal.Gen.bcast_S16384x1_S16384x4096_0_1 (Host.rsqrt (addf (Host.divf (broadcastInDim Cert.Reference10Ideal.S16384x1 ![0] Cert.Reference10Ideal.Gen.bcast_S16384_S16384x1_0 (Host.reduceAdd (mulf X0 X0) (constant Cert.Reference10Ideal.S_ .f32 0x00000000#32) Cert.Reference10Ideal.Gen.reducesTo_S16384x4096_S16384_d1 Cert.Reference10Ideal.Gen.h_S_)) (broadcastInDim Cert.Reference10Ideal.S16384x1 ![] Cert.Reference10Ideal.Gen.bcast_S_S16384x1 (constant Cert.Reference10Ideal.S_ .f32 0x45800000#32))) (broadcastInDim Cert.Reference10Ideal.S16384x1 ![] Cert.Reference10Ideal.Gen.bcast_S_S16384x1 (constant Cert.Reference10Ideal.S_ .f32 0x358637BD#32)))))) (broadcastInDim Cert.Reference10Ideal.S16384x4096 ![0, 1] Cert.Reference10Ideal.Gen.bcast_S1x4096_S16384x4096_0_1 (broadcastInDim Cert.Reference10Ideal.S1x4096 ![1] Cert.Reference10Ideal.Gen.bcast_S4096_S1x4096_1 X1))) (extractStridedSlice Cert.Reference10Ideal.S4096x128 ![0, 7168] X2 Cert.Reference10Ideal.Gen.slices_S4096x15408_S4096x128_0_7168)

/-- The windows' blocks at a point. -/
theorem idx : ∀ t : Fin cfg0.N, win0_0.index t = ![t.val, 0] ∧ win0_1.index t = ![0, 0] ∧ win0_2.index t = ![56, 0] ∧ win0_3.index t = ![t.val, 0] ∧ win0_4.index t = ![t.val, 0] :=
  (by decide +kernel : ∀ t : Fin grid0.N, _)

variable (m : (ℓ : Loc nD τ sig) → Buf (Elt Ideal) ℓ)

/-- The reference's result at the launch's arguments. -/
abbrev RES (c : Dev nD) : FVec Ideal S16384x4096 .bf16 := REF (m ((c : Thread nD τ).loc main_arg0)) (m ((c : Thread nD τ).loc main_arg1))

/-- The second at the launch's arguments. -/
abbrev RESb (c : Dev nD) : FVec Ideal S16384x128 .f32 := REFb (m ((c : Thread nD τ).loc main_arg0)) (m ((c : Thread nD τ).loc main_arg1)) (m ((c : Thread nD τ).loc main_arg2))

theorem lt (t : Fin cfg0.N) : t.val < 64 := t.isLt

theorem idx_lt : ∀ t : Fin cfg0.N, (56) * 128 + 128 ≤ 15408 :=
  (by decide +kernel : ∀ t : Fin grid0.N, _)

/-- The block of the transposed weight that a point reads: the array the host transposed, at its place. -/
def wb (c : Dev nD) (t : Fin cfg0.N) : FVec Ideal S128x4096 .f32 := fun y =>
  (m ((c : Thread nD τ).loc main_arg2) : FVec Ideal S4096x15408 .f32) (ix2 (n0 := 4096) (n1 := 15408) (y 1) ⟨(56) * 128 + (y 0).val, by
    have h : (y 0).val < 128 := (y 0).isLt
    have h' := idx_lt t
    omega⟩)

/-- It is what the window's buffer holds: no block is cut. -/
theorem wb_eq (c : Dev nD) (t : Fin cfg0.N) : X0_2 m c t = wb m c t := by
  funext y
  unfold X0_2 Pipeline.Window.fill
  rw [dif_pos (moved0_2 t y)]
  unfold wb
  blk_simp [iblk]
  entry_read
  pointwise
  blk_ext [idx t]

/-- Every point reads one block of the weight. -/
theorem same (c : Dev nD) (t s : Fin cfg0.N) (h : t.val / 64 = s.val / 64) : X0_2 m c t = X0_2 m c s := by
  rw [wb_eq, wb_eq]
  rfl

/-- The scratch holds the run's block after every point. -/
theorem kept (c : Dev nD) : ∀ (n : ℕ) (h : n < cfg0.N), (outsAt0 m c n h).2.2 = k0_pay1 (F := Ideal) (X0_2 m c ⟨n, h⟩) := by
  intro n
  induction n with
  | zero =>
    intro h
    rw [outsAt0_A m c ⟨0, h⟩ rfl]; frame_out
  | succ n ih =>
    intro h
    by_cases h8 : (n + 1) % 64 = 0
    · rw [outsAt0_A m c ⟨n + 1, h⟩ h8]; frame_out
    · rw [outsAt0_B m c ⟨n + 1, h⟩ h8]; frame_out
      exact (ih (Nat.lt_of_succ_lt h)).trans (by rw [same m c ⟨n, Nat.lt_of_succ_lt h⟩ ⟨n + 1, h⟩ (by dsimp only; omega)])

/-- What the body leaves in the result's block at a point. -/
theorem out (c : Dev nD) (t : Fin cfg0.N) : (outsAt0 m c t.val t.isLt).1 = k0_pay2 (F := Ideal) (iblk m c 0 t) (iblk m c 1 t) := by
  by_cases h8 : t.val % 64 = 0
  · rw [outsAt0_A m c t h8]; frame_out
  · rw [outsAt0_B m c t h8]; frame_out

/-- It is the reference's result at the place it is written to. -/
theorem point (c : Dev nD) (t : Fin cfg0.N) (y) : k0_pay2 (iblk m c 0 t) (iblk m c 1 t) y
    = RES m c (((cfg0.win 3).blk t).view.emb y) := by
  pointwise [k0_pay2, REF]
  blk_point [iblk, V, idx t]

/-- What it leaves in the second's. -/
theorem outb (c : Dev nD) (t : Fin cfg0.N) : (outsAt0 m c t.val t.isLt).2.1 = k0_pay3 (F := Ideal) (iblk m c 0 t) (iblk m c 1 t) (k0_pay1 (F := Ideal) (wb m c t)) := by
  rw [← wb_eq]
  by_cases h8 : t.val % 64 = 0
  · rw [outsAt0_A m c t h8]; frame_out
  · rw [outsAt0_B m c t h8]; frame_out
    rw [kept m c (t.val - 1) (Nat.lt_of_le_of_lt (Nat.sub_le _ _) t.isLt), same m c ⟨t.val - 1, _⟩ t (by dsimp only; omega)]
    exact congrArg _ ((Memref.isWhole_whole cc0_scratch0).read_unread _)

/-- It is the reference's result at the place it is written to. -/
theorem pointb (c : Dev nD) (t : Fin cfg0.N) (y) : k0_pay3 (iblk m c 0 t) (iblk m c 1 t) (k0_pay1 (F := Ideal) (wb m c t)) y
    = RESb m c (((cfg0.win 4).blk t).view.emb y) := by
  pointwise [k0_pay1, k0_pay2, k0_pay3, REFb]
  blk_point [iblk, V, idx t, wb]

/-- The second result array after the run. -/
theorem finalb (c : Dev nD) : (dats m 0 c).arrAt 4 (cfgs 0).N = RESb m c := by
  refine (dats m 0 c).arrAt_eq_of_covers 4 _ (by decide +kernel) fun t _ y => ?_
  blk_simp
  rw [after0_4, outb m c t]
  exact pointb m c t y

/-- The result array after the run. -/
theorem final (c : Dev nD) : (dats m 0 c).arrAt 3 (cfgs 0).N = RES m c := by
  refine (dats m 0 c).arrAt_eq_of_covers 3 _ (by decide +kernel) fun t _ y => ?_
  blk_simp
  rw [after0_3, out m c t]
  exact point m c t y

/-- The kernel computes the reference's result. -/
theorem algebraic : Cert.algebraic_Kernel10Ideal_Reference10Ideal := by
  intro m g m' g' hpre hagree
  refine ⟨fun c => RES m c, fun c => RESb m c,
    (θ_run Cert.Kernel10Ideal.defs _ _).mono (fun r h c => ⟨(h c).1.trans (final m c), (h c).2.1.trans (finalb m c), (h c).2.2⟩) (Cert.Kernel10Ideal.Value.run_blocks (F := Ideal) m g),
    (θ_run Cert.Reference10Ideal.defs _ _).mono (fun r h c => ⟨(h c).1.trans ?_, (h c).2.1.trans ?_, (h c).2.2⟩) (Cert.Reference10Ideal.Value.run (F := Ideal) m' g')⟩
  · rw [(hagree c).1, (hagree c).2.1]
  · rw [(hagree c).1, (hagree c).2.1, (hagree c).2.2]

end Cert.Exact.FirstNorm

end
-- ==== Proof.Glu.lean ====
/-
  The gated unit of the recurrent mixer computes the reference's.
-/
module

public import proofs.«01_k».proof.Defs
public import proofs.«01_k».proof.Proof.Gen.Kernel11Ideal.Value
public import proofs.«01_k».proof.Proof.Gen.Reference11Ideal.Run
public import Idealize.ShloMosaic.Lib.Pipeline.ValueKit

@[expose] public section

set_option maxRecDepth 16384

noncomputable section

namespace Cert.Exact.Glu

open Cert.Kernel11Ideal Cert.Kernel11Ideal.Gen
open Idealize.ShloMosaic Idealize.ShloMosaic.TcCoe
open Idealize.SL.Sem
open Idealize.ShloMosaic.Pipeline (Dat)

/-- The reference's result over the call's arguments. -/
abbrev REF (X0 : FVec Ideal S16384x2048 .f32) (X1 : FVec Ideal S2048x2048 .f32) (X2 : FVec Ideal S2048 .f32) : FVec Ideal S16384x2048 .bf16 :=
  truncf .bf16 (mulf X0 (Host.divf (broadcastInDim Cert.Reference11Ideal.S16384x2048 ![] Cert.Reference11Ideal.Gen.bcast_S_S16384x2048 (constant Cert.Reference11Ideal.S_ .f32 0x3F800000#32)) (addf (broadcastInDim Cert.Reference11Ideal.S16384x2048 ![] Cert.Reference11Ideal.Gen.bcast_S_S16384x2048 (constant Cert.Reference11Ideal.S_ .f32 0x3F800000#32)) (Host.exp (Host.negf (addf (Host.dotGeneral Cert.Reference11Ideal.dot_S16384x2048_S2048x2048_S16384x2048_1_0_0_1_n_n none X0 X1) (broadcastInDim Cert.Reference11Ideal.S16384x2048 ![0, 1] Cert.Reference11Ideal.Gen.bcast_S1x2048_S16384x2048_0_1 (broadcastInDim Cert.Reference11Ideal.S1x2048 ![1] Cert.Reference11Ideal.Gen.bcast_S2048_S1x2048_1 X2)))))))) Cert.Reference11Ideal.Gen.bitsLt_bf16_f32

/-- The windows' blocks at a point. -/
theorem idx : ∀ t : Fin cfg0.N, win0_0.index t = ![t.val / 2, 0] ∧ win0_1.index t = ![0, t.val % 2] ∧ win0_2.index t = ![0, t.val % 2] ∧ win0_3.index t = ![t.val / 2, t.val % 2] :=
  (by decide +kernel : ∀ t : Fin grid0.N, _)

variable (m : (ℓ : Loc nD τ sig) → Buf (Elt Ideal) ℓ)

/-- The reference's result at the launch's arguments. -/
abbrev RES (c : Dev nD) : FVec Ideal S16384x2048 .bf16 := REF (m ((c : Thread nD τ).loc main_arg0)) (m ((c : Thread nD τ).loc main_arg1)) (m ((c : Thread nD τ).loc main_arg2))

theorem lt (t : Fin cfg0.N) : t.val < 32 := t.isLt

/-- Points of one run read one block of rows. -/
theorem same (c : Dev nD) (t s : Fin cfg0.N) (h : t.val / 2 = s.val / 2) : iblk m c 0 t = iblk m c 0 s := by
  blk_ext! [iblk, idx t, idx s]

/-- The scratch holds the run's block after every point. -/
theorem kept (c : Dev nD) : ∀ (n : ℕ) (h : n < cfg0.N), (outsAt0 m c n h).2 = k0_pay1 (F := Ideal) (iblk m c 0 ⟨n, h⟩) := by
  intro n
  induction n with
  | zero =>
    intro h
    rw [outsAt0_A m c ⟨0, h⟩ rfl]; frame_out
  | succ n ih =>
    intro h
    by_cases h8 : (n + 1) % 2 = 0
    · rw [outsAt0_A m c ⟨n + 1, h⟩ h8]; frame_out
    · rw [outsAt0_B m c ⟨n + 1, h⟩ h8]; frame_out
      exact (ih (Nat.lt_of_succ_lt h)).trans (by rw [same m c ⟨n, Nat.lt_of_succ_lt h⟩ ⟨n + 1, h⟩ (by dsimp only; omega)])

/-- The columns of the rows that a point gates. -/
def rows (c : Dev nD) (t : Fin cfg0.N) : FVec Ideal S1024x1024 .f32 :=
  View.ld (Val := Elt Ideal) (S := S1024x2048) (e' := .f32) (iblk m c 0 t) (Rect.unit (s := S1024x2048) (k0_off1 (grid0.coords t)) S1024x1024.size (k0_off1_inb (grid0.coords t)))

theorem off : ∀ t : Fin cfg0.N, k0_off1 (grid0.coords t) = ![0, t.val % 2 * 1024] :=
  (by decide +kernel : ∀ t : Fin grid0.N, k0_off1 (grid0.coords t) = ![0, t.val % 2 * 1024])

/-- They are the argument's at the point's place. -/
theorem rows_eq (c : Dev nD) (t : Fin cfg0.N) (y : S1024x1024.Idx) : rows m c t y
    = (m ((c : Thread nD τ).loc main_arg0) : FVec Ideal S16384x2048 .f32) (((cfg0.win 3).blk t).view.emb y) := by
  refine (View.ld_unit_apply_of (S := S1024x2048) (Val := Elt Ideal) (e := .f32) (iblk m c 0 t) _ _ (k0_off1_inb _) y
    (ix2 (n0 := 1024) (n1 := 2048) (y 0) ⟨t.val % 2 * 1024 + (y 1).val, by
      have h : (y 1).val < 1024 := (y 1).isLt
      omega⟩) ?_).trans ?_
  · have e0 : k0_off1 (grid0.coords t) 0 = 0 := congrFun (off t) 0
    have e1 : k0_off1 (grid0.coords t) 1 = t.val % 2 * 1024 := congrFun (off t) 1
    refine Fin.forall_fin_two.mpr ⟨?_, ?_⟩
    · show (y 0).val = k0_off1 (grid0.coords t) 0 + (y 0).val
      rw [e0, Nat.zero_add]
    · show t.val % 2 * 1024 + (y 1).val = k0_off1 (grid0.coords t) 1 + (y 1).val
      rw [e1]
  · blk_ext [iblk, V, idx t]

/-- What the body leaves in the result's block at a point. -/
theorem out (c : Dev nD) (t : Fin cfg0.N) : (outsAt0 m c t.val t.isLt).1 = k0_pay2 (F := Ideal) (k0_pay1 (iblk m c 0 t)) (iblk m c 1 t) (iblk m c 2 t) (rows m c t) := by
  by_cases h8 : t.val % 2 = 0
  · rw [outsAt0_A m c t h8]; frame_out
    rfl
  · rw [outsAt0_B m c t h8]; frame_out
    rw [kept m c (t.val - 1) (Nat.lt_of_le_of_lt (Nat.sub_le _ _) t.isLt), same m c ⟨t.val - 1, _⟩ t (by dsimp only; omega)]
    exact congrArg (fun s => k0_pay2 (F := Ideal) s (iblk m c 1 t) (iblk m c 2 t) (rows m c t)) ((Memref.isWhole_whole cc0_scratch0).read_unread _)

/-- It is the reference's result at the place it is written to. -/
theorem point (c : Dev nD) (t : Fin cfg0.N) (y) : k0_pay2 (k0_pay1 (iblk m c 0 t)) (iblk m c 1 t) (iblk m c 2 t) (rows m c t) y
    = RES m c (((cfg0.win 3).blk t).view.emb y) := by
  pointwise [k0_pay1, k0_pay2, REF, REF]
  simp only [Ideal.logistic, rows_eq]
  blk_point [iblk, V, idx t]

/-- The result array after the run. -/
theorem final (c : Dev nD) : (dats m 0 c).arrAt 3 (cfgs 0).N = RES m c := by
  refine (dats m 0 c).arrAt_eq_of_covers 3 _ (by decide +kernel) fun t _ y => ?_
  blk_simp
  rw [after0_3, out m c t]
  exact point m c t y

/-- The kernel computes the reference's result. -/
theorem algebraic : Cert.algebraic_Kernel11Ideal_Reference11Ideal := by
  intro m g m' g' hpre hagree
  refine ⟨fun c => RES m c,
    (θ_run Cert.Kernel11Ideal.defs _ _).mono (fun r h c => ⟨(h c).1.trans (final m c), (h c).2⟩) (Cert.Kernel11Ideal.Value.run_blocks (F := Ideal) m g),
    (θ_run Cert.Reference11Ideal.defs _ _).mono (fun r h c => ⟨(h c).1.trans ?_, (h c).2⟩) (Cert.Reference11Ideal.Value.run (F := Ideal) m' g')⟩
  rw [(hagree c).1, (hagree c).2.1, (hagree c).2.2]

end Cert.Exact.Glu

end
-- ==== Proof.Calls.lean ====
/-
  The claims about the further calls: each runs and keeps its arguments, and computes its reference's results.
-/
module

public import proofs.«01_k».proof.Defs
public import proofs.«01_k».proof.Proof.Gen.Kernel2.Frame
public import proofs.«01_k».proof.Proof.Swiglu
public import proofs.«01_k».proof.Proof.Gen.Kernel3.Frame
public import proofs.«01_k».proof.Proof.Merge
public import proofs.«01_k».proof.Proof.Gen.Kernel4.Frame
public import proofs.«01_k».proof.Proof.Down
public import proofs.«01_k».proof.Proof.Gen.Kernel5.Frame
public import proofs.«01_k».proof.Proof.LastNorm
public import proofs.«01_k».proof.Proof.Gen.Kernel6.Frame
public import proofs.«01_k».proof.Proof.OutProj
public import proofs.«01_k».proof.Proof.Gen.Kernel7.Frame
public import proofs.«01_k».proof.Proof.MidNorm
public import proofs.«01_k».proof.Proof.Gen.Kernel8.Frame
public import proofs.«01_k».proof.Proof.InProj
public import proofs.«01_k».proof.Proof.Gen.Kernel9.Frame
public import proofs.«01_k».proof.Proof.InProjBf
public import proofs.«01_k».proof.Proof.Gen.Kernel10.Frame
public import proofs.«01_k».proof.Proof.FirstNorm
public import proofs.«01_k».proof.Proof.Gen.Kernel11.Frame
public import proofs.«01_k».proof.Proof.Glu

@[expose] public section

set_option maxRecDepth 16384

noncomputable section

namespace Cert.Calls

open Idealize.ShloMosaic Idealize.SL.Sem

theorem frame_p2 : Cert.quiescent_Kernel2 := fun m ρ _ => Cert.Kernel2.Gen.frame (F := Bits) m ρ

theorem frame_pi2 : Cert.quiescent_Kernel2Ideal := fun m ρ _ => Cert.Kernel2Ideal.Gen.frame (F := Ideal) m ρ

theorem frame_ri2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem preserves2 : Cert.preserves_Kernel2_Kernel2Ideal := trivial

theorem frame_p3 : Cert.quiescent_Kernel3 := fun m ρ _ => Cert.Kernel3.Gen.frame (F := Bits) m ρ

theorem frame_pi3 : Cert.quiescent_Kernel3Ideal := fun m ρ _ => Cert.Kernel3Ideal.Gen.frame (F := Ideal) m ρ

theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves3 : Cert.preserves_Kernel3_Kernel3Ideal := trivial

theorem frame_p4 : Cert.quiescent_Kernel4 := fun m ρ _ => Cert.Kernel4.Gen.frame (F := Bits) m ρ

theorem frame_pi4 : Cert.quiescent_Kernel4Ideal := fun m ρ _ => Cert.Kernel4Ideal.Gen.frame (F := Ideal) m ρ

theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves4 : Cert.preserves_Kernel4_Kernel4Ideal := trivial

theorem frame_p5 : Cert.quiescent_Kernel5 := fun m ρ _ => Cert.Kernel5.Gen.frame (F := Bits) m ρ

theorem frame_pi5 : Cert.quiescent_Kernel5Ideal := fun m ρ _ => Cert.Kernel5Ideal.Gen.frame (F := Ideal) m ρ

theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves5 : Cert.preserves_Kernel5_Kernel5Ideal := trivial

theorem frame_p6 : Cert.quiescent_Kernel6 := fun m ρ _ => Cert.Kernel6.Gen.frame (F := Bits) m ρ

theorem frame_pi6 : Cert.quiescent_Kernel6Ideal := fun m ρ _ => Cert.Kernel6Ideal.Gen.frame (F := Ideal) m ρ

theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves6 : Cert.preserves_Kernel6_Kernel6Ideal := trivial

theorem frame_p7 : Cert.quiescent_Kernel7 := fun m ρ _ => Cert.Kernel7.Gen.frame (F := Bits) m ρ

theorem frame_pi7 : Cert.quiescent_Kernel7Ideal := fun m ρ _ => Cert.Kernel7Ideal.Gen.frame (F := Ideal) m ρ

theorem frame_ri7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem preserves7 : Cert.preserves_Kernel7_Kernel7Ideal := trivial

theorem frame_p8 : Cert.quiescent_Kernel8 := fun m ρ _ => Cert.Kernel8.Gen.frame (F := Bits) m ρ

theorem frame_pi8 : Cert.quiescent_Kernel8Ideal := fun m ρ _ => Cert.Kernel8Ideal.Gen.frame (F := Ideal) m ρ

theorem frame_ri8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem preserves8 : Cert.preserves_Kernel8_Kernel8Ideal := trivial

theorem frame_p9 : Cert.quiescent_Kernel9 := fun m ρ _ => Cert.Kernel9.Gen.frame (F := Bits) m ρ

theorem frame_pi9 : Cert.quiescent_Kernel9Ideal := fun m ρ _ => Cert.Kernel9Ideal.Gen.frame (F := Ideal) m ρ

theorem frame_ri9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem preserves9 : Cert.preserves_Kernel9_Kernel9Ideal := trivial

theorem frame_p10 : Cert.quiescent_Kernel10 := fun m ρ _ => Cert.Kernel10.Gen.frame (F := Bits) m ρ

theorem frame_pi10 : Cert.quiescent_Kernel10Ideal := fun m ρ _ => Cert.Kernel10Ideal.Gen.frame (F := Ideal) m ρ

theorem frame_ri10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem preserves10 : Cert.preserves_Kernel10_Kernel10Ideal := trivial

theorem frame_p11 : Cert.quiescent_Kernel11 := fun m ρ _ => Cert.Kernel11.Gen.frame (F := Bits) m ρ

theorem frame_pi11 : Cert.quiescent_Kernel11Ideal := fun m ρ _ => Cert.Kernel11Ideal.Gen.frame (F := Ideal) m ρ

theorem frame_ri11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem preserves11 : Cert.preserves_Kernel11_Kernel11Ideal := trivial

end Cert.Calls

end
-- ==== Proof.WinSpec.lean ====
/-
  The value both programs of the sliding-window call compute: attention to the window's keys over real numbers, plainly, and
  the three branches times their gates.
-/
module

public import proofs.«01_k».proof.Proof.Spec

@[expose] public section

noncomputable section

namespace Cert.Proof.Slide

open Idealize.ShloMosaic

/-- The keys a query looks at: the 512 up to its own. -/
def okW (t k : Nat) : Prop := k ≤ t ∧ t < k + 512

instance (t : Nat) : DecidablePred (okW t) := fun _ => inferInstanceAs (Decidable (_ ∧ _))

/-- The product of a query and a key. -/
def dotW (x : (⟨2, ![16384, 4096]⟩ : Shape).Idx → EReal) (b g h t k : Nat) : ℝ :=
  ∑ d ∈ Finset.range 128, rX x (b * 4096 + k) (3072 + (g * 128 + d)) * rX x (b * 4096 + t) (g * 512 + h * 128 + d)

/-- The weight of a key. -/
def wW (x : (⟨2, ![16384, 4096]⟩ : Shape).Idx → EReal) (b g h t k : Nat) : ℝ := Real.exp (dotW x b g h t k / √128)

/-- The attention's result at batch `b`, group `g`, head `h`, query `t`, lane `d`. -/
def attnW (x : (⟨2, ![16384, 4096]⟩ : Shape).Idx → EReal) (b g h t d : Nat) : ℝ :=
  (∑ k ∈ Finset.range 4096, if okW t k then wW x b g h t k * rX x (b * 4096 + k) (3584 + (g * 128 + d)) else 0)
    / (∑ k ∈ Finset.range 4096, if okW t k then wW x b g h t k else 0)

/-- The whole result at a row and a lane: each branch times its gate. -/
def combA (x : (⟨2, ![16384, 4096]⟩ : Shape).Idx → EReal) (oc os : (⟨2, ![16384, 2048]⟩ : Shape).Idx → EReal)
    (ga : (⟨2, ![16384, 128]⟩ : Shape).Idx → EReal) (r : Fin 16384) (l : Fin 2048) : EReal :=
  Ideal.logistic (ga (ix2 r ⟨l.val / 128, by omega⟩)) * oc (ix2 r l)
    + Ideal.logistic (ga (ix2 r ⟨16 + l.val / 128, by omega⟩)) * os (ix2 r l)
    + Ideal.logistic (ga (ix2 r ⟨32 + l.val / 128, by omega⟩))
      * (attnW x (r.val / 4096) (l.val / 512) (l.val / 128 % 4) (r.val % 4096) (l.val % 128) : EReal)

end Cert.Proof.Slide

end
-- ==== Proof.WinBlocks.lean ====
/-
  The blocks of the sliding-window call at a point, at an index.
-/
module

public import proofs.«01_k».proof.Proof.Gen.Kernel12Ideal.Value
public import proofs.«01_k».proof.Proof.WinSpec
public import proofs.«01_k».proof.Proof.HostArrays
public import Idealize.ShloMosaic.Lib.Pipeline.ValueKit
public import Idealize.ShloMosaic.Lib.WordCmp

@[expose] public section

set_option maxRecDepth 16384

noncomputable section

namespace Cert.Proof.Slide

open Cert.Kernel12Ideal Cert.Kernel12Ideal.Gen
open Idealize.ShloMosaic Idealize.ShloMosaic.TcCoe Idealize.ShloMosaic.StableHlo
open Idealize.SL.Sem

theorem idx : ∀ t : Fin cfg0.N, win0_0.index t = ![t.val / 32 * 8 + t.val % 8, t.val / 8 % 4] ∧ win0_1.index t = ![t.val / 32 * 8 + t.val % 8, 24 + t.val / 8 % 4]
    ∧ win0_2.index t = ![t.val / 32 * 8 + (t.val % 8 - 1), 24 + t.val / 8 % 4] ∧ win0_3.index t = ![t.val / 32 * 8 + t.val % 8, 28 + t.val / 8 % 4]
    ∧ win0_4.index t = ![t.val / 32 * 8 + (t.val % 8 - 1), 28 + t.val / 8 % 4] ∧ win0_5.index t = ![t.val / 32 * 8 + t.val % 8, t.val / 8 % 4]
    ∧ win0_6.index t = ![t.val / 32 * 8 + t.val % 8, t.val / 8 % 4] ∧ win0_7.index t = ![t.val / 32 * 8 + t.val % 8, 0]
    ∧ win0_8.index t = ![t.val / 32 * 8 + t.val % 8, t.val / 8 % 4] :=
  (by decide +kernel : ∀ t : Fin grid0.N, _)

theorem crd : ∀ t : Fin cfg0.N, ((grid0.coords t) 1).val = t.val / 8 % 4 ∧ ((grid0.coords t) 2).val = t.val % 8 := (by decide +kernel : ∀ t : Fin grid0.N, _)

theorem lt (t : Fin cfg0.N) : t.val < 128 := t.isLt

variable (m : (ℓ : Loc nD τ sig) → Buf (Elt Ideal) ℓ) (c : Dev nD)

/-- The projections of a device. -/
abbrev X : FVec Ideal S16384x4096 .f32 := m ((c.tc : Thread nD τ).loc main_arg0)

set_option maxHeartbeats 2000000 in
theorem V_v10 : V m c main_v10 = Host.proj (X m c) := by
  simp only [V, hostOps0, hostOps0_1, hostOps0_2, List.flatten_cons, List.flatten_nil, List.append_nil, List.cons_append, List.nil_append,
    TRef.ternary, TRef.unary, TRef.binary, TRef.toBuf, TRef.ofBuf, cast_eq]
  after_results_simp <;> rfl

theorem iblk0 (t : Fin cfg0.N) (I J : Fin 512) :
    iblk m c 0 t (ix2 I J) = V m c main_v10 (ix2 ⟨(t.val / 32 * 8 + t.val % 8) * 512 + I.val, by have := lt t; omega⟩ ⟨t.val / 8 % 4 * 512 + J.val, by omega⟩) := by
  have := lt t
  blk_ext [iblk, idx t]

theorem iblk1 (t : Fin cfg0.N) (I : Fin 512) (d : Fin 128) :
    iblk m c 1 t (ix2 I d) = V m c main_v10 (ix2 ⟨(t.val / 32 * 8 + t.val % 8) * 512 + I.val, by have := lt t; omega⟩ ⟨(24 + t.val / 8 % 4) * 128 + d.val, by omega⟩) := by
  have := lt t
  blk_ext [iblk, idx t]

theorem iblk2 (t : Fin cfg0.N) (I : Fin 512) (d : Fin 128) :
    iblk m c 2 t (ix2 I d) = V m c main_v10 (ix2 ⟨(t.val / 32 * 8 + (t.val % 8 - 1)) * 512 + I.val, by have := lt t; omega⟩ ⟨(24 + t.val / 8 % 4) * 128 + d.val, by omega⟩) := by
  have := lt t
  blk_ext [iblk, idx t]

theorem iblk3 (t : Fin cfg0.N) (I : Fin 512) (d : Fin 128) :
    iblk m c 3 t (ix2 I d) = V m c main_v10 (ix2 ⟨(t.val / 32 * 8 + t.val % 8) * 512 + I.val, by have := lt t; omega⟩ ⟨(28 + t.val / 8 % 4) * 128 + d.val, by omega⟩) := by
  have := lt t
  blk_ext [iblk, idx t]

theorem iblk4 (t : Fin cfg0.N) (I : Fin 512) (d : Fin 128) :
    iblk m c 4 t (ix2 I d) = V m c main_v10 (ix2 ⟨(t.val / 32 * 8 + (t.val % 8 - 1)) * 512 + I.val, by have := lt t; omega⟩ ⟨(28 + t.val / 8 % 4) * 128 + d.val, by omega⟩) := by
  have := lt t
  blk_ext [iblk, idx t]

theorem iblk5 (t : Fin cfg0.N) (I J : Fin 512) :
    iblk m c 5 t (ix2 I J) = m ((c.tc : Thread nD τ).loc main_arg1) (ix2 ⟨(t.val / 32 * 8 + t.val % 8) * 512 + I.val, by have := lt t; omega⟩ ⟨t.val / 8 % 4 * 512 + J.val, by omega⟩) := by
  have := lt t
  blk_ext [iblk, V, idx t]

theorem iblk6 (t : Fin cfg0.N) (I J : Fin 512) :
    iblk m c 6 t (ix2 I J) = m ((c.tc : Thread nD τ).loc main_arg2) (ix2 ⟨(t.val / 32 * 8 + t.val % 8) * 512 + I.val, by have := lt t; omega⟩ ⟨t.val / 8 % 4 * 512 + J.val, by omega⟩) := by
  have := lt t
  blk_ext [iblk, V, idx t]

theorem iblk7 (t : Fin cfg0.N) (I : Fin 512) (l : Fin 128) :
    iblk m c 7 t (ix2 I l) = m ((c.tc : Thread nD τ).loc main_arg3) (ix2 ⟨(t.val / 32 * 8 + t.val % 8) * 512 + I.val, by have := lt t; omega⟩ l) := by
  have := lt t
  blk_ext [iblk, V, idx t]

/-- The queries' scale. -/
abbrev qs : ℝ := 1 / (√128 * Real.log 2)

variable {m c} (hx : ∀ i, X m c i ≠ ⊤ ∧ X m c i ≠ ⊥)

include hx

theorem q_at (t : Fin cfg0.N) (I J : Fin 512) :
    iblk m c 0 t (ix2 I J) = ((rX (X m c) (t.val / 32 * 4096 + (t.val % 8 * 512 + I.val)) (t.val / 8 % 4 * 512 + J.val) * qs : ℝ) : EReal) := by
  have ht := lt t
  refine (iblk0 m c t I J).trans ((congrFun (V_v10 m c) _).trans ((Host.proj_apply hx _ _).trans ?_))
  rw [if_pos (show t.val / 8 % 4 * 512 + J.val < 2048 by omega)]
  dsimp only
  rw [show (t.val / 32 * 8 + t.val % 8) * 512 + I.val = t.val / 32 * 4096 + (t.val % 8 * 512 + I.val) by omega]

theorem kc_at (t : Fin cfg0.N) (j : Fin 512) (d : Fin 128) :
    iblk m c 1 t (ix2 j d) = ((rX (X m c) (t.val / 32 * 4096 + (t.val % 8 * 512 + j.val)) (3072 + (t.val / 8 % 4 * 128 + d.val)) : ℝ) : EReal) := by
  have ht := lt t
  refine (iblk1 m c t j d).trans ((congrFun (V_v10 m c) _).trans ((Host.proj_apply hx _ _).trans ?_))
  rw [if_neg (show ¬ (24 + t.val / 8 % 4) * 128 + d.val < 2048 by omega), mul_one]
  dsimp only
  rw [show (t.val / 32 * 8 + t.val % 8) * 512 + j.val = t.val / 32 * 4096 + (t.val % 8 * 512 + j.val) by omega,
    show (24 + t.val / 8 % 4) * 128 + d.val = 3072 + (t.val / 8 % 4 * 128 + d.val) by omega]

theorem kp_at (t : Fin cfg0.N) (j : Fin 512) (d : Fin 128) :
    iblk m c 2 t (ix2 j d) = ((rX (X m c) (t.val / 32 * 4096 + ((t.val % 8 - 1) * 512 + j.val)) (3072 + (t.val / 8 % 4 * 128 + d.val)) : ℝ) : EReal) := by
  have ht := lt t
  refine (iblk2 m c t j d).trans ((congrFun (V_v10 m c) _).trans ((Host.proj_apply hx _ _).trans ?_))
  rw [if_neg (show ¬ (24 + t.val / 8 % 4) * 128 + d.val < 2048 by omega), mul_one]
  dsimp only
  rw [show (t.val / 32 * 8 + (t.val % 8 - 1)) * 512 + j.val = t.val / 32 * 4096 + ((t.val % 8 - 1) * 512 + j.val) by omega,
    show (24 + t.val / 8 % 4) * 128 + d.val = 3072 + (t.val / 8 % 4 * 128 + d.val) by omega]

theorem vc_at (t : Fin cfg0.N) (j : Fin 512) (d : Fin 128) :
    iblk m c 3 t (ix2 j d) = ((rX (X m c) (t.val / 32 * 4096 + (t.val % 8 * 512 + j.val)) (3584 + (t.val / 8 % 4 * 128 + d.val)) : ℝ) : EReal) := by
  have ht := lt t
  refine (iblk3 m c t j d).trans ((congrFun (V_v10 m c) _).trans ((Host.proj_apply hx _ _).trans ?_))
  rw [if_neg (show ¬ (28 + t.val / 8 % 4) * 128 + d.val < 2048 by omega), mul_one]
  dsimp only
  rw [show (t.val / 32 * 8 + t.val % 8) * 512 + j.val = t.val / 32 * 4096 + (t.val % 8 * 512 + j.val) by omega,
    show (28 + t.val / 8 % 4) * 128 + d.val = 3584 + (t.val / 8 % 4 * 128 + d.val) by omega]

theorem vp_at (t : Fin cfg0.N) (j : Fin 512) (d : Fin 128) :
    iblk m c 4 t (ix2 j d) = ((rX (X m c) (t.val / 32 * 4096 + ((t.val % 8 - 1) * 512 + j.val)) (3584 + (t.val / 8 % 4 * 128 + d.val)) : ℝ) : EReal) := by
  have ht := lt t
  refine (iblk4 m c t j d).trans ((congrFun (V_v10 m c) _).trans ((Host.proj_apply hx _ _).trans ?_))
  rw [if_neg (show ¬ (28 + t.val / 8 % 4) * 128 + d.val < 2048 by omega), mul_one]
  dsimp only
  rw [show (t.val / 32 * 8 + (t.val % 8 - 1)) * 512 + j.val = t.val / 32 * 4096 + ((t.val % 8 - 1) * 512 + j.val) by omega,
    show (28 + t.val / 8 % 4) * 128 + d.val = 3584 + (t.val / 8 % 4 * 128 + d.val) by omega]

end Cert.Proof.Slide

end
-- ==== Proof.WinPay.lean ====
/-
  The sliding-window call's stored pieces, read at an index over the blocks.
-/
module

public import proofs.«01_k».proof.Proof.WinBlocks

@[expose] public section

set_option maxRecDepth 16384

noncomputable section

namespace Cert.Proof.Slide

open Cert.Kernel12Ideal Cert.Kernel12Ideal.Gen
open Idealize.ShloMosaic Idealize.ShloMosaic.TcCoe

/-- The scores of a piece of keys, where it may look. -/
def sc {n : Nat} (ok : Fin n → BitVec 1) (q : Fin 128 → EReal) (k : Fin n → Fin 128 → EReal) (j : Fin n) : EReal :=
  Scalar.select (ok j) (∑ d, q d * k j d) ⊥

/-- The greatest of the scores of two pieces. -/
def mx2 {n1 n0 : Nat} (s1 : Fin n1 → EReal) (s0 : Fin n0 → EReal) : EReal :=
  max ((Finset.univ : Finset (Fin n1)).fold max ⊥ s1) ((Finset.univ : Finset (Fin n0)).fold max ⊥ s0)

/-- The quotient of the weighted sums of two pieces of keys. -/
def quo {n1 n0 : Nat} (s1 : Fin n1 → EReal) (s0 : Fin n0 → EReal) (v1 o1 : Fin n1 → EReal) (v0 o0 : Fin n0 → EReal) : EReal :=
  Ideal.div ((∑ k, Ideal.exp2 (s1 k - mx2 s1 s0) * v1 k) + ∑ k, Ideal.exp2 (s0 k - mx2 s1 s0) * v0 k)
    ((∑ k, Ideal.exp2 (s1 k - mx2 s1 s0) * o1 k) + ∑ k, Ideal.exp2 (s0 k - mx2 s1 s0) * o0 k)

theorem mask_bot : (Named.named κ "mask" 0xF149F2CA#32 : Ideal .f32) = (⊥ : EReal) := rfl

section
variable (v3 v6 : FVec Ideal S512x256 .bf16) (v11 : IVec S256x256 1) (v21 : IVec S256x512 1) (v229 : IVec S256x512 1) (v239 : IVec S256x256 1)
  (q kc : Vec Ideal S256x128 .bf16) (kp : Vec Ideal S512x128 .bf16) (kc' : Vec Ideal S512x128 .bf16) (kp' : Vec Ideal S256x128 .bf16)
  (v36 : FVec Ideal S256x128 .f32) (oc os : Vec Ideal S256x128 .f32)

/-- The softmax over the keys, first half of the queries' rows. -/
def W0 : FVec Ideal S256x128 .f32 := k0_pay8 v3 v6 v11 v21 q kc kp

/-- The softmax over the keys, second half. -/
def W1 : FVec Ideal S256x128 .f32 := divf (k0_pay32 v3 v6 v229 v239 q kc' kp') (k0_pay33 v3 v6 v229 v239 q kc' kp')

theorem W0_apply (I : Fin 256) (d : Fin 128) :
    W0 v3 v6 v11 v21 q kc kp (ix2 I d) =
      quo (sc (fun j => v11 (ix2 I j)) (fun e => q (ix2 I e)) (fun j e => kc (ix2 j e))) (sc (fun j => v21 (ix2 I j)) (fun e => q (ix2 I e)) (fun j e => kp (ix2 j e)))
        (fun k : Fin 256 => v3 (ix2 ⟨k.val, by omega⟩ ⟨d.val, by omega⟩)) (fun k : Fin 256 => v3 (ix2 ⟨k.val, by omega⟩ ⟨128 + d.val, by omega⟩))
        (fun k : Fin 512 => v6 (ix2 k ⟨d.val, by omega⟩)) (fun k : Fin 512 => v6 (ix2 k ⟨128 + d.val, by omega⟩)) := by
  pointwise [W0, k0_pay8]
  simp only [mask_bot, bits_negInf]
  rfl

theorem W1_apply (I : Fin 256) (d : Fin 128) :
    W1 v3 v6 v229 v239 q kc' kp' (ix2 I d) =
      quo (sc (fun j => v229 (ix2 I j)) (fun e => q (ix2 I e)) (fun j e => kc' (ix2 j e))) (sc (fun j => v239 (ix2 I j)) (fun e => q (ix2 I e)) (fun j e => kp' (ix2 j e)))
        (fun k : Fin 512 => v3 (ix2 k ⟨d.val, by omega⟩)) (fun k : Fin 512 => v3 (ix2 k ⟨128 + d.val, by omega⟩))
        (fun k : Fin 256 => v6 (ix2 ⟨256 + k.val, by omega⟩ ⟨d.val, by omega⟩)) (fun k : Fin 256 => v6 (ix2 ⟨256 + k.val, by omega⟩ ⟨128 + d.val, by omega⟩)) := by
  pointwise [W1, k0_pay32, k0_pay33, k0_pay31]
  simp only [mask_bot, bits_negInf]
  rfl

/-- The three branches, each times its column of gates. -/
def cmb (g1 g2 g3 : FVec Ideal S256x1 .f32) (oc os : Vec Ideal S256x128 .f32) (W : FVec Ideal S256x128 .f32) : FVec Ideal S256x128 .bf16 :=
  truncf .bf16 (addf (addf (mulf (broadcastTo S256x128 g1 broadcasts_S256x1_S256x128) oc) (mulf (broadcastTo S256x128 g2 broadcasts_S256x1_S256x128) os))
    (mulf (broadcastTo S256x128 g3 broadcasts_S256x1_S256x128) W)) bitsLt_bf16_f32

theorem cmb_apply (g1 g2 g3 : FVec Ideal S256x1 .f32) (W : FVec Ideal S256x128 .f32) (I : Fin 256) (d : Fin 128) :
    cmb g1 g2 g3 oc os W (ix2 I d) = g1 (ix2 I 0) * oc (ix2 I d) + g2 (ix2 I 0) * os (ix2 I d) + g3 (ix2 I 0) * W (ix2 I d) := by
  pointwise [cmb]

theorem piece2 (I : Fin 256) (d : Fin 128) :
    (k0_pay11 (k0_pay8 v3 v6 v11 v21 q kc kp) (k0_pay9 v36 oc os) (k0_pay10 v36)) (ix2 I d)
      = v36 (ix2 I ⟨0, by omega⟩) * oc (ix2 I d) + v36 (ix2 I ⟨16, by omega⟩) * os (ix2 I d) + v36 (ix2 I ⟨32, by omega⟩) * W0 v3 v6 v11 v21 q kc kp (ix2 I d) := by
  have e : k0_pay11 (k0_pay8 v3 v6 v11 v21 q kc kp) (k0_pay9 v36 oc os) (k0_pay10 v36)
      = cmb (extractStridedSlice S256x1 ![0, 0] v36 slices_S256x128_o0_0_S256x1) (extractStridedSlice S256x1 ![0, 16] v36 slices_S256x128_o0_16_S256x1)
          (extractStridedSlice S256x1 ![0, 32] v36 slices_S256x128_o0_32_S256x1) oc os (W0 v3 v6 v11 v21 q kc kp) := rfl
  rw [e, cmb_apply]
  pointwise []

theorem piece3 (I : Fin 256) (d : Fin 128) :
    (k0_pay16 (k0_pay12 v3 v6 v11 v21 q kc kp) (k0_pay13 v36) (k0_pay14 v36) oc (k0_pay15 v36) os) (ix2 I d)
      = v36 (ix2 I ⟨1, by omega⟩) * oc (ix2 I d) + v36 (ix2 I ⟨17, by omega⟩) * os (ix2 I d) + v36 (ix2 I ⟨33, by omega⟩) * W0 v3 v6 v11 v21 q kc kp (ix2 I d) := by
  have e : k0_pay16 (k0_pay12 v3 v6 v11 v21 q kc kp) (k0_pay13 v36) (k0_pay14 v36) oc (k0_pay15 v36) os
      = cmb (extractStridedSlice S256x1 ![0, 1] v36 slices_S256x128_o0_1_S256x1) (extractStridedSlice S256x1 ![0, 17] v36 slices_S256x128_o0_17_S256x1)
          (extractStridedSlice S256x1 ![0, 33] v36 slices_S256x128_o0_33_S256x1) oc os (W0 v3 v6 v11 v21 q kc kp) := rfl
  rw [e, cmb_apply]
  pointwise []

theorem piece4 (I : Fin 256) (d : Fin 128) :
    (k0_pay20 v36 (k0_pay18 v3 v6 v11 v21 q kc kp) (k0_pay19 v3 v6 v11 v21 q kc kp) oc os) (ix2 I d)
      = v36 (ix2 I ⟨2, by omega⟩) * oc (ix2 I d) + v36 (ix2 I ⟨18, by omega⟩) * os (ix2 I d) + v36 (ix2 I ⟨34, by omega⟩) * W0 v3 v6 v11 v21 q kc kp (ix2 I d) := by
  have e : k0_pay20 v36 (k0_pay18 v3 v6 v11 v21 q kc kp) (k0_pay19 v3 v6 v11 v21 q kc kp) oc os
      = cmb (extractStridedSlice S256x1 ![0, 2] v36 slices_S256x128_o0_2_S256x1) (extractStridedSlice S256x1 ![0, 18] v36 slices_S256x128_o0_18_S256x1)
          (extractStridedSlice S256x1 ![0, 34] v36 slices_S256x128_o0_34_S256x1) oc os (W0 v3 v6 v11 v21 q kc kp) := rfl
  rw [e, cmb_apply]
  pointwise []

theorem piece5 (I : Fin 256) (d : Fin 128) :
    (k0_pay27 v3 v6 v36 (k0_pay25 v11 v21 q kc kp) (k0_pay26 v11 v21 q kc kp) oc os) (ix2 I d)
      = v36 (ix2 I ⟨3, by omega⟩) * oc (ix2 I d) + v36 (ix2 I ⟨19, by omega⟩) * os (ix2 I d) + v36 (ix2 I ⟨35, by omega⟩) * W0 v3 v6 v11 v21 q kc kp (ix2 I d) := by
  have e : k0_pay27 v3 v6 v36 (k0_pay25 v11 v21 q kc kp) (k0_pay26 v11 v21 q kc kp) oc os
      = cmb (extractStridedSlice S256x1 ![0, 3] v36 slices_S256x128_o0_3_S256x1) (extractStridedSlice S256x1 ![0, 19] v36 slices_S256x128_o0_19_S256x1)
          (extractStridedSlice S256x1 ![0, 35] v36 slices_S256x128_o0_35_S256x1) oc os (W0 v3 v6 v11 v21 q kc kp) := rfl
  rw [e, cmb_apply]
  pointwise []

theorem piece7 (I : Fin 256) (d : Fin 128) :
    (k0_pay34 v36 (k0_pay32 v3 v6 v229 v239 q kc' kp') (k0_pay33 v3 v6 v229 v239 q kc' kp') oc os) (ix2 I d)
      = v36 (ix2 I ⟨0, by omega⟩) * oc (ix2 I d) + v36 (ix2 I ⟨16, by omega⟩) * os (ix2 I d) + v36 (ix2 I ⟨32, by omega⟩) * W1 v3 v6 v229 v239 q kc' kp' (ix2 I d) := by
  have e : k0_pay34 v36 (k0_pay32 v3 v6 v229 v239 q kc' kp') (k0_pay33 v3 v6 v229 v239 q kc' kp') oc os
      = cmb (extractStridedSlice S256x1 ![0, 0] v36 slices_S256x128_o0_0_S256x1) (extractStridedSlice S256x1 ![0, 16] v36 slices_S256x128_o0_16_S256x1)
          (extractStridedSlice S256x1 ![0, 32] v36 slices_S256x128_o0_32_S256x1) oc os (W1 v3 v6 v229 v239 q kc' kp') := rfl
  rw [e, cmb_apply]
  pointwise []

theorem piece8 (I : Fin 256) (d : Fin 128) :
    (k0_pay41 v3 v6 v36 (k0_pay39 v229 v239 q kc' kp') (k0_pay40 v229 v239 q kc' kp') oc os) (ix2 I d)
      = v36 (ix2 I ⟨1, by omega⟩) * oc (ix2 I d) + v36 (ix2 I ⟨17, by omega⟩) * os (ix2 I d) + v36 (ix2 I ⟨33, by omega⟩) * W1 v3 v6 v229 v239 q kc' kp' (ix2 I d) := by
  have e : k0_pay41 v3 v6 v36 (k0_pay39 v229 v239 q kc' kp') (k0_pay40 v229 v239 q kc' kp') oc os
      = cmb (extractStridedSlice S256x1 ![0, 1] v36 slices_S256x128_o0_1_S256x1) (extractStridedSlice S256x1 ![0, 17] v36 slices_S256x128_o0_17_S256x1)
          (extractStridedSlice S256x1 ![0, 33] v36 slices_S256x128_o0_33_S256x1) oc os (W1 v3 v6 v229 v239 q kc' kp') := rfl
  rw [e, cmb_apply]
  pointwise []

theorem piece9 (I : Fin 256) (d : Fin 128) :
    (k0_pay46 v3 v6 v36 (k0_pay43 v229 q kc') (k0_pay44 v239 q kp') (k0_pay45 v229 v239 q kc' kp') oc os) (ix2 I d)
      = v36 (ix2 I ⟨2, by omega⟩) * oc (ix2 I d) + v36 (ix2 I ⟨18, by omega⟩) * os (ix2 I d) + v36 (ix2 I ⟨34, by omega⟩) * W1 v3 v6 v229 v239 q kc' kp' (ix2 I d) := by
  have e : k0_pay46 v3 v6 v36 (k0_pay43 v229 q kc') (k0_pay44 v239 q kp') (k0_pay45 v229 v239 q kc' kp') oc os
      = cmb (extractStridedSlice S256x1 ![0, 2] v36 slices_S256x128_o0_2_S256x1) (extractStridedSlice S256x1 ![0, 18] v36 slices_S256x128_o0_18_S256x1)
          (extractStridedSlice S256x1 ![0, 34] v36 slices_S256x128_o0_34_S256x1) oc os (W1 v3 v6 v229 v239 q kc' kp') := rfl
  rw [e, cmb_apply]
  pointwise []

theorem piece10 (I : Fin 256) (d : Fin 128) :
    (k0_pay1 v3 v6 v239 v36 (k0_pay48 v229 q kc') (k0_pay49 q kp') (k0_pay50 (F := Ideal)) oc os) (ix2 I d)
      = v36 (ix2 I ⟨3, by omega⟩) * oc (ix2 I d) + v36 (ix2 I ⟨19, by omega⟩) * os (ix2 I d) + v36 (ix2 I ⟨35, by omega⟩) * W1 v3 v6 v229 v239 q kc' kp' (ix2 I d) := by
  have e : k0_pay1 v3 v6 v239 v36 (k0_pay48 v229 q kc') (k0_pay49 q kp') (k0_pay50 (F := Ideal)) oc os
      = cmb (extractStridedSlice S256x1 ![0, 3] v36 slices_S256x128_o0_3_S256x1) (extractStridedSlice S256x1 ![0, 19] v36 slices_S256x128_o0_19_S256x1)
          (extractStridedSlice S256x1 ![0, 35] v36 slices_S256x128_o0_35_S256x1) oc os (W1 v3 v6 v229 v239 q kc' kp') := rfl
  rw [e, cmb_apply]
  pointwise []

end

/-- The current values beside ones. -/
theorem vals_apply (x : Vec Ideal S512x128 .bf16) (k : Fin 512) (d : Fin 128) : k0_pay3 x (ix2 k ⟨d.val, by omega⟩) = x (ix2 k d) := by
  pointwise [k0_pay3]

theorem ones_apply (x : Vec Ideal S512x128 .bf16) (k : Fin 512) (d : Fin 128) : k0_pay3 x (ix2 k ⟨128 + d.val, by omega⟩) = (1 : EReal) := by
  pointwise [k0_pay3, k0_pay2]

theorem vals_apply' (x : Vec Ideal S512x128 .bf16) (k : Fin 512) (d : Fin 128) : k0_pay4 x (ix2 k ⟨d.val, by omega⟩) = x (ix2 k d) :=
  vals_apply x k d

theorem ones_apply' (x : Vec Ideal S512x128 .bf16) (k : Fin 512) (d : Fin 128) : k0_pay4 x (ix2 k ⟨128 + d.val, by omega⟩) = (1 : EReal) :=
  ones_apply x k d

/-- The rotation's amount. -/
theorem shift_eq : ∀ g : Fin 4, (Scalar.select
      (Scalar.andi
        (Scalar.xori
          (Scalar.cmpi .slt (Scalar.remsi (Scalar.subi (128#32) (Scalar.muli (4#32) (BitVec.ofNat 32 g.val))) (Scalar.select (Scalar.cmpi .eq 128#32 0#32) 1#32 128#32)) 0#32)
          (Scalar.cmpi .slt (Scalar.select (Scalar.cmpi .eq 128#32 0#32) 1#32 128#32) 0#32))
        (Scalar.cmpi .ne (Scalar.remsi (Scalar.subi (128#32) (Scalar.muli (4#32) (BitVec.ofNat 32 g.val))) (Scalar.select (Scalar.cmpi .eq 128#32 0#32) 1#32 128#32)) 0#32))
      (Scalar.addi (Scalar.remsi (Scalar.subi (128#32) (Scalar.muli (4#32) (BitVec.ofNat 32 g.val))) (Scalar.select (Scalar.cmpi .eq 128#32 0#32) 1#32 128#32))
        (Scalar.select (Scalar.cmpi .eq 128#32 0#32) 1#32 128#32))
      (Scalar.remsi (Scalar.subi (128#32) (Scalar.muli (4#32) (BitVec.ofNat 32 g.val))) (Scalar.select (Scalar.cmpi .eq 128#32 0#32) 1#32 128#32))).toNat % 128 = (128 - 4 * g.val) % 128 := by decide +kernel

theorem add_word {a b : Nat} (h : a + b < 2 ^ 31) : IntOp.addi (BitVec.ofNat 32 a) (BitVec.ofNat 32 b) = BitVec.ofNat 32 (a + b) := by
  rw [IntOp.addi, ← BitVec.ofNat_add]

theorem and_word : ∀ a b : BitVec 1, IntOp.andi a b = 1#1 ↔ a = 1#1 ∧ b = 1#1 := by decide +kernel

theorem pos_word (i : grid0.Coords) : Scalar.cmpi .sgt (BitVec.ofNat 32 (i 2).val) 0#32 = 1#1 ↔ 0 < (i 2).val := by
  have h : ∀ a : Fin 8, Scalar.cmpi .sgt (BitVec.ofNat 32 a.val) 0#32 = 1#1 ↔ 0 < a.val := by decide +kernel
  exact h (i 2)

theorem gate0 (i : grid0.Coords) (x : Vec Ideal S256x128 .f32) (I : Fin 256) (l : Fin 128) (hl : 4 * (i 1).val + l.val < 128) :
    k0_pay7 i x (ix2 I l) = Ideal.logistic (x (ix2 I ⟨4 * (i 1).val + l.val, hl⟩)) := by
  pointwise [k0_pay7]
  refine congrArg (fun z => Ideal.logistic (x (ix2 I z))) (Fin.ext ?_)
  have e := shift_eq (i 1)
  dsimp only at e ⊢
  rw [e]
  have hi := (i 1).isLt
  change _ < 4 at hi
  omega

theorem gate1 (i : grid0.Coords) (x : Vec Ideal S256x128 .f32) (I : Fin 256) (l : Fin 128) (hl : 4 * (i 1).val + l.val < 128) :
    k0_pay30 (Scalar.select (Scalar.cmpi .eq 128#32 0#32) 1#32 128#32) (Scalar.remsi (Scalar.subi 128#32 (Scalar.muli 4#32 (BitVec.ofNat 32 (i 1).val))) (Scalar.select (Scalar.cmpi .eq 128#32 0#32) 1#32 128#32)) x (ix2 I l)
      = Ideal.logistic (x (ix2 I ⟨4 * (i 1).val + l.val, hl⟩)) := gate0 i x I l hl

theorem select_iff {α : Type} (b : BitVec 1) (p : Prop) [Decidable p] (h : b = 1#1 ↔ p) (x y : α) : Scalar.select b x y = if p then x else y := by
  by_cases c : p
  · rw [if_pos c, Scalar.select, if_pos (show b = (1 : BitVec 1) from h.2 c)]
  · rw [if_neg c, Scalar.select, if_neg fun o : b = (1 : BitVec 1) => c (h.1 o)]

theorem m11 (I k : Fin 256) : k0_pay5 (ix2 I k) = 1#1 ↔ k.val ≤ I.val := by
  pointwise [k0_pay5]
  rw [add_word (show _ + 0 < 2 ^ 31 by omega)]
  exact WordCmp.cmpi_sle_ofNat_eq_one_iff (by omega) (by omega)

theorem m21 (i : grid0.Coords) (I : Fin 256) (k : Fin 512) : k0_pay6 i (ix2 I k) = 1#1 ↔ 0 + k.val > I.val ∧ 0 < (i 2).val := by
  pointwise [k0_pay6]
  rw [add_word (show k.val + 0 < 2 ^ 31 by omega), add_word (show I.val + 0 < 2 ^ 31 by omega), and_word]
  exact and_congr (WordCmp.cmpi_sgt_ofNat_eq_one_iff (by omega) (by omega)) (pos_word i)

theorem m229 (I : Fin 256) (k : Fin 512) : k0_pay28 (ix2 I k) = 1#1 ↔ k.val ≤ 256 + I.val := by
  pointwise [k0_pay28]
  rw [add_word (show I.val + 256 < 2 ^ 31 by omega), WordCmp.cmpi_sle_ofNat_eq_one_iff (by omega) (by omega)]
  omega

theorem m239 (i : grid0.Coords) (I k : Fin 256) : k0_pay29 (BitVec.ofNat 32 (i 2).val) (ix2 I k) = 1#1 ↔ 256 + k.val > 256 + I.val ∧ 0 < (i 2).val := by
  pointwise [k0_pay29]
  rw [add_word (show k.val + 256 < 2 ^ 31 by omega), add_word (show I.val + 256 < 2 ^ 31 by omega), and_word]
  refine and_congr ((WordCmp.cmpi_sgt_ofNat_eq_one_iff (by omega) (by omega)).trans ?_) (pos_word i)
  omega

end Cert.Proof.Slide

end
-- ==== Proof.WinSums.lean ====
/-
  The arithmetic of a softmax over two pieces of keys, in powers of two, and the sums over a window of keys.
-/
module

public import proofs.«01_k».proof.Proof.Softmax
public import proofs.«01_k».proof.Proof.WinSpec

@[expose] public section

set_option maxRecDepth 16384

noncomputable section

namespace Cert.Proof.Slide

open Idealize.ShloMosaic

theorem coe_sum_fin {ι : Type} [Fintype ι] (f : ι → ℝ) : ((∑ k, f k : ℝ) : EReal) = ∑ k, (f k : EReal) := by
  classical
  induction (Finset.univ : Finset ι) using Finset.induction_on with
  | empty => simp
  | insert a s h ih => rw [Finset.sum_insert h, Finset.sum_insert h, EReal.coe_add, ih]

/-- A row's quotient from its scores: `ok` keys have score `a`, the others none; `M` is above every score. -/
theorem pow_quot {ι : Type} [Fintype ι] (s : ι → EReal) (v : ι → ℝ) (ok : ι → Prop) [DecidablePred ok] (a : ι → ℝ)
    (hs : ∀ k, s k = if ok k then (a k : EReal) else ⊥) (k0 : ι) (hk : ok k0) (M : EReal) (hle : ∀ k, s k ≤ M) (hM : M ≠ ⊤) :
    Ideal.div (∑ k, Ideal.exp2 (s k - M) * (v k : EReal)) (∑ k, Ideal.exp2 (s k - M) * 1)
      = (((∑ k, if ok k then (2 : ℝ) ^ (a k) * v k else 0) / (∑ k, if ok k then (2 : ℝ) ^ (a k) else 0) : ℝ) : EReal) := by
  have htM : (a k0 : EReal) ≤ M := by have := hle k0; rwa [hs, if_pos hk] at this
  obtain ⟨r, rfl⟩ : ∃ r : ℝ, M = (r : EReal) := by
    induction M with
    | bot => exact absurd (le_bot_iff.1 htM) (EReal.coe_ne_bot _)
    | top => exact absurd rfl hM
    | coe r => exact ⟨r, rfl⟩
  have hw : ∀ k, Ideal.exp2 (s k - (r : EReal)) = (((if ok k then (2 : ℝ) ^ (a k) else 0) * 2 ^ (-r) : ℝ) : EReal) := fun k => by
    rw [exp2_wt (hle k) hM, hs]
    by_cases c : ok k
    · rw [if_pos c, if_pos c, wt_coe, sub_eq_add_neg, Real.rpow_add (by norm_num)]
    · rw [if_neg c, if_neg c, wt_bot _ hM, zero_mul]
  have h2 : (2 : ℝ) ^ (-r) ≠ 0 := (Real.rpow_pos_of_pos (by norm_num) _).ne'
  have hpos : 0 < ∑ k, if ok k then (2 : ℝ) ^ (a k) else 0 := by
    refine Finset.sum_pos' (fun k _ => ?_) ⟨k0, Finset.mem_univ _, ?_⟩
    · by_cases c : ok k
      · rw [if_pos c]; positivity
      · rw [if_neg c]
    · rw [if_pos hk]; positivity
  simp only [hw, mul_one, ← EReal.coe_mul, ← coe_sum_fin]
  have e1 : ∑ k, (if ok k then (2 : ℝ) ^ (a k) else 0) * 2 ^ (-r) * v k = (∑ k, if ok k then (2 : ℝ) ^ (a k) * v k else 0) * 2 ^ (-r) := by
    rw [Finset.sum_mul]
    refine Finset.sum_congr rfl fun k _ => ?_
    by_cases c : ok k
    · rw [if_pos c, if_pos c]; ring
    · rw [if_neg c, if_neg c]; ring
  rw [e1, ← Finset.sum_mul, div_coe (mul_ne_zero hpos.ne' h2), mul_div_mul_right _ _ h2]

/-- The same over two pieces, under the greater of their maxima. -/
theorem pow_quot₂ {n1 n0 : Nat} (s1 : Fin n1 → EReal) (s0 : Fin n0 → EReal) (v1 : Fin n1 → ℝ) (v0 : Fin n0 → ℝ)
    (ok1 : Fin n1 → Prop) (ok0 : Fin n0 → Prop) [DecidablePred ok1] [DecidablePred ok0] (a1 : Fin n1 → ℝ) (a0 : Fin n0 → ℝ)
    (hs1 : ∀ k, s1 k = if ok1 k then (a1 k : EReal) else ⊥) (hs0 : ∀ k, s0 k = if ok0 k then (a0 k : EReal) else ⊥)
    (k0 : Fin n1) (hk : ok1 k0) (M : EReal)
    (hM : M = max ((Finset.univ : Finset (Fin n1)).fold max ⊥ s1) ((Finset.univ : Finset (Fin n0)).fold max ⊥ s0)) :
    Ideal.div ((∑ k, Ideal.exp2 (s1 k - M) * (v1 k : EReal)) + ∑ k, Ideal.exp2 (s0 k - M) * (v0 k : EReal))
        ((∑ k, Ideal.exp2 (s1 k - M) * 1) + ∑ k, Ideal.exp2 (s0 k - M) * 1)
      = ((((∑ k, if ok1 k then (2 : ℝ) ^ (a1 k) * v1 k else 0) + ∑ k, if ok0 k then (2 : ℝ) ^ (a0 k) * v0 k else 0)
        / ((∑ k, if ok1 k then (2 : ℝ) ^ (a1 k) else 0) + ∑ k, if ok0 k then (2 : ℝ) ^ (a0 k) else 0) : ℝ) : EReal) := by
  have hne1 : ∀ k, s1 k < ⊤ := fun k => by rw [hs1]; split; exacts [EReal.coe_lt_top _, bot_lt_top]
  have hne0 : ∀ k, s0 k < ⊤ := fun k => by rw [hs0]; split; exacts [EReal.coe_lt_top _, bot_lt_top]
  have hlt : M < ⊤ := by
    rw [hM]
    exact max_lt ((Finset.fold_max_lt _).2 ⟨bot_lt_top, fun k _ => hne1 k⟩) ((Finset.fold_max_lt _).2 ⟨bot_lt_top, fun k _ => hne0 k⟩)
  letI : DecidablePred (Sum.elim ok1 ok0) := fun k => match k with
    | .inl k => (inferInstance : Decidable (ok1 k))
    | .inr k => (inferInstance : Decidable (ok0 k))
  have key := pow_quot (ι := Fin n1 ⊕ Fin n0) (Sum.elim s1 s0) (Sum.elim v1 v0) (Sum.elim ok1 ok0) (Sum.elim a1 a0)
    (fun k => by cases k with
      | inl k => exact hs1 k
      | inr k => exact hs0 k) (Sum.inl k0) hk M
    (fun k => by
      rw [hM]
      cases k with
      | inl k => exact le_max_of_le_left ((Finset.le_fold_max _).2 (Or.inr ⟨k, Finset.mem_univ _, le_rfl⟩))
      | inr k => exact le_max_of_le_right ((Finset.le_fold_max _).2 (Or.inr ⟨k, Finset.mem_univ _, le_rfl⟩))) hlt.ne
  simp only [Fintype.sum_sum_type, Sum.elim_inl, Sum.elim_inr] at key
  exact key

/-- A sum over the window of keys of query `B * 512 + R`, `R` below `n1`: the keys of its own tile, and those of the tile before it from `p` on. -/
theorem sum_window (f : Nat → ℝ) (B R n1 n0 p : Nat) (hB : B < 8) (hR : R < n1) (hn : n1 ≤ 512) (hp : p + n0 = 512) (hpR : p ≤ R) :
    (∑ k : Fin n1, if k.val ≤ R then f (B * 512 + k.val) else 0)
      + (∑ k : Fin n0, if p + k.val > R ∧ 0 < B then f ((B - 1) * 512 + (p + k.val)) else 0)
      = ∑ k ∈ Finset.range 4096, if okW (B * 512 + R) k then f k else 0 := by
  set g : Nat → ℝ := fun k => if okW (B * 512 + R) k then f k else 0 with hg
  have e1 : (∑ k : Fin n1, if k.val ≤ R then f (B * 512 + k.val) else 0) = ∑ k ∈ Finset.range n1, g (B * 512 + k) := by
    rw [Finset.sum_range]
    refine Finset.sum_congr rfl fun k _ => ?_
    have hk := k.isLt
    refine if_congr ?_ rfl rfl
    unfold okW
    omega
  by_cases c : 0 < B
  · have e0 : (∑ k : Fin n0, if p + k.val > R ∧ 0 < B then f ((B - 1) * 512 + (p + k.val)) else 0) = ∑ k ∈ Finset.range n0, g ((B - 1) * 512 + p + k) := by
      rw [Finset.sum_range]
      refine Finset.sum_congr rfl fun k _ => ?_
      have hk := k.isLt
      rw [hg, Nat.add_assoc]
      refine if_congr ?_ rfl rfl
      unfold okW
      omega
    have a1 := Finset.sum_Ico_eq_sum_range g (B * 512) (B * 512 + n1)
    have a0 := Finset.sum_Ico_eq_sum_range g ((B - 1) * 512 + p) (B * 512)
    rw [Nat.add_sub_cancel_left] at a1
    rw [show B * 512 - ((B - 1) * 512 + p) = n0 by omega] at a0
    rw [e1, e0, ← a1, ← a0, add_comm, Finset.sum_Ico_consecutive _ (by omega) (by omega)]
    refine Finset.sum_subset (fun k hk => ?_) fun k _ hk => ?_
    · rw [Finset.mem_Ico] at hk
      rw [Finset.mem_range]
      omega
    · rw [Finset.mem_Ico] at hk
      refine if_neg fun o => hk ?_
      unfold okW at o
      omega
  · have hB0 : B = 0 := by omega
    subst hB0
    have e0 : (∑ k : Fin n0, if p + k.val > R ∧ 0 < 0 then f ((0 - 1) * 512 + (p + k.val)) else 0) = 0 :=
      Finset.sum_eq_zero fun k _ => if_neg fun o => absurd o.2 (lt_irrefl _)
    rw [e1, e0, add_zero]
    simp only [Nat.zero_mul, Nat.zero_add]
    refine Finset.sum_subset (Finset.range_mono (by omega)) fun k _ hk => ?_
    rw [Finset.mem_range] at hk
    refine if_neg fun o => hk ?_
    unfold okW at o
    omega

end Cert.Proof.Slide

end
-- ==== Proof.WinPoint.lean ====
/-
  The sliding-window call's stored pieces are the result at their places.
-/
module

public import proofs.«01_k».proof.Proof.WinPay
public import proofs.«01_k».proof.Proof.WinSums

@[expose] public section

set_option maxRecDepth 16384

noncomputable section

namespace Cert.Proof.Slide

open Cert.Kernel12Ideal Cert.Kernel12Ideal.Gen
open Idealize.ShloMosaic Idealize.ShloMosaic.TcCoe
open Idealize.SL.Sem

/-- The weight of a key as a power of two. -/
theorem two_powW (x : FVec Ideal S16384x4096 .f32) (b g h t k : Nat) : (2 : ℝ) ^ (dotW x b g h t k * qs) = wW x b g h t k := by
  unfold wW
  rw [Real.rpow_def_of_pos (by norm_num)]
  refine congrArg _ ?_
  have := sqrt_128_ne
  have : Real.log 2 ≠ 0 := (Real.log_pos (by norm_num)).ne'
  unfold qs
  field_simp

/-- A score over real entries. -/
theorem sc_eq {n : Nat} (ok : Fin n → BitVec 1) (p : Fin n → Prop) [DecidablePred p] (hok : ∀ k, ok k = 1#1 ↔ p k)
    (x : FVec Ideal S16384x4096 .f32) (b g h t : Nat) (pos : Fin n → Nat) (q : Fin 128 → EReal) (k : Fin n → Fin 128 → EReal)
    (hq : ∀ e, q e = ((rX x (b * 4096 + t) (g * 512 + h * 128 + e.val) * qs : ℝ) : EReal))
    (hk : ∀ j e, k j e = ((rX x (b * 4096 + pos j) (3072 + (g * 128 + e.val)) : ℝ) : EReal)) (j : Fin n) :
    sc ok q k j = if p j then ((dotW x b g h t (pos j) * qs : ℝ) : EReal) else ⊥ := by
  unfold sc
  rw [select_iff _ _ (hok j)]
  refine if_congr Iff.rfl ?_ rfl
  simp only [hq, hk, ← EReal.coe_mul]
  rw [← coe_sum_fin]
  refine congrArg _ ?_
  unfold dotW
  rw [Finset.sum_range, Finset.sum_mul]
  exact Finset.sum_congr rfl fun e _ => by ring

/-- The quotient of two pieces of keys is the attention's result. -/
theorem quo_eq {n1 n0 : Nat} (ok1 : Fin n1 → BitVec 1) (ok0 : Fin n0 → BitVec 1) (x : FVec Ideal S16384x4096 .f32) (b g h B R p d : Nat)
    (hB : B < 8) (hR : R < n1) (hn : n1 ≤ 512) (hp : p + n0 = 512) (hpR : p ≤ R)
    (h1 : ∀ k, ok1 k = 1#1 ↔ k.val ≤ R) (h0 : ∀ k, ok0 k = 1#1 ↔ p + k.val > R ∧ 0 < B)
    (q : Fin 128 → EReal) (k1 : Fin n1 → Fin 128 → EReal) (k0 : Fin n0 → Fin 128 → EReal) (v1 o1 : Fin n1 → EReal) (v0 o0 : Fin n0 → EReal)
    (hq : ∀ e, q e = ((rX x (b * 4096 + (B * 512 + R)) (g * 512 + h * 128 + e.val) * qs : ℝ) : EReal))
    (hk1 : ∀ j e, k1 j e = ((rX x (b * 4096 + (B * 512 + j.val)) (3072 + (g * 128 + e.val)) : ℝ) : EReal))
    (hk0 : ∀ j e, k0 j e = ((rX x (b * 4096 + ((B - 1) * 512 + (p + j.val))) (3072 + (g * 128 + e.val)) : ℝ) : EReal))
    (hv1 : ∀ j, v1 j = ((rX x (b * 4096 + (B * 512 + j.val)) (3584 + (g * 128 + d)) : ℝ) : EReal))
    (hv0 : ∀ j, v0 j = ((rX x (b * 4096 + ((B - 1) * 512 + (p + j.val))) (3584 + (g * 128 + d)) : ℝ) : EReal))
    (ho1 : ∀ j, o1 j = 1) (ho0 : ∀ j, o0 j = 1) :
    quo (sc ok1 q k1) (sc ok0 q k0) v1 o1 v0 o0 = ((attnW x b g h (B * 512 + R) d : ℝ) : EReal) := by
  have key := pow_quot₂ (sc ok1 q k1) (sc ok0 q k0) (fun j => rX x (b * 4096 + (B * 512 + j.val)) (3584 + (g * 128 + d)))
    (fun j => rX x (b * 4096 + ((B - 1) * 512 + (p + j.val))) (3584 + (g * 128 + d)))
    (fun k => k.val ≤ R) (fun k => p + k.val > R ∧ 0 < B)
    (fun k => dotW x b g h (B * 512 + R) (B * 512 + k.val) * qs) (fun k => dotW x b g h (B * 512 + R) ((B - 1) * 512 + (p + k.val)) * qs)
    (sc_eq ok1 _ h1 x b g h (B * 512 + R) (fun k => B * 512 + k.val) q k1 hq hk1)
    (sc_eq ok0 _ h0 x b g h (B * 512 + R) (fun k => (B - 1) * 512 + (p + k.val)) q k0 hq hk0)
    ⟨R, hR⟩ le_rfl _ rfl
  unfold quo
  simp only [hv1, hv0, ho1, ho0]
  refine Eq.trans key (congrArg _ ?_)
  simp only [two_powW]
  rw [sum_window (fun k => wW x b g h (B * 512 + R) k * rX x (b * 4096 + k) (3584 + (g * 128 + d))) B R n1 n0 p hB hR hn hp hpR,
    sum_window (fun k => wW x b g h (B * 512 + R) k) B R n1 n0 p hB hR hn hp hpR]
  rfl

variable {m : (ℓ : Loc nD τ sig) → Buf (Elt Ideal) ℓ} {c : Dev nD}

/-- The result at a place of a point's block. -/
def cell (m : (ℓ : Loc nD τ sig) → Buf (Elt Ideal) ℓ) (c : Dev nD) (t : Fin cfg0.N) (R J : Fin 512) : EReal :=
  combA (X m c) (m ((c.tc : Thread nD τ).loc main_arg1)) (m ((c.tc : Thread nD τ).loc main_arg2)) (m ((c.tc : Thread nD τ).loc main_arg3))
    ⟨(t.val / 32 * 8 + t.val % 8) * 512 + R.val, by have := lt t; omega⟩ ⟨t.val / 8 % 4 * 512 + J.val, by omega⟩

theorem cell_eq (t : Fin cfg0.N) (R : Fin 512) (h : Nat) (hh : h < 4) (d : Fin 128) (g1 g2 g3 a b w : EReal)
    (e1 : g1 = Ideal.logistic (iblk m c 7 t (ix2 R ⟨4 * (t.val / 8 % 4) + h, by omega⟩)))
    (e2 : g2 = Ideal.logistic (iblk m c 7 t (ix2 R ⟨4 * (t.val / 8 % 4) + (16 + h), by omega⟩)))
    (e3 : g3 = Ideal.logistic (iblk m c 7 t (ix2 R ⟨4 * (t.val / 8 % 4) + (32 + h), by omega⟩)))
    (ea : a = iblk m c 5 t (ix2 R ⟨h * 128 + d.val, by omega⟩)) (eb : b = iblk m c 6 t (ix2 R ⟨h * 128 + d.val, by omega⟩))
    (ew : w = ((attnW (X m c) (t.val / 32) (t.val / 8 % 4) h (t.val % 8 * 512 + R.val) d.val : ℝ) : EReal)) :
    g1 * a + g2 * b + g3 * w = cell m c t R ⟨h * 128 + d.val, by omega⟩ := by
  have ht := lt t
  rw [e1, e2, e3, ea, eb, ew, iblk5, iblk6, iblk7, iblk7, iblk7]
  unfold cell combA
  dsimp only
  have a1 : (t.val / 8 % 4 * 512 + (h * 128 + d.val)) / 128 = 4 * (t.val / 8 % 4) + h := by omega
  have a2 : (t.val / 8 % 4 * 512 + (h * 128 + d.val)) / 512 = t.val / 8 % 4 := by omega
  have a3 : (4 * (t.val / 8 % 4) + h) % 4 = h := by omega
  have a4 : (t.val / 8 % 4 * 512 + (h * 128 + d.val)) % 128 = d.val := by omega
  have a5 : ((t.val / 32 * 8 + t.val % 8) * 512 + R.val) / 4096 = t.val / 32 := by omega
  have a6 : ((t.val / 32 * 8 + t.val % 8) * 512 + R.val) % 4096 = t.val % 8 * 512 + R.val := by omega
  have a7 : 4 * (t.val / 8 % 4) + (16 + h) = 16 + (4 * (t.val / 8 % 4) + h) := by omega
  have a8 : 4 * (t.val / 8 % 4) + (32 + h) = 32 + (4 * (t.val / 8 % 4) + h) := by omega
  simp only [a1, a2, a3, a4, a5, a6, a7, a8]

theorem ld_whole (x : Vec Ideal S512x128 .bf16) (I : Fin 512) (d : Fin 128) : View.ld x r0_0 (ix2 I d) = x (ix2 I d) := by pointwise []

theorem ld_up (x : Vec Ideal S512x128 .bf16) (I : Fin 256) (d : Fin 128) : View.ld x r0_1 (ix2 I d) = x (ix2 ⟨I.val, by omega⟩ d) := by pointwise []

theorem ld_low (x : Vec Ideal S512x128 .bf16) (I : Fin 256) (d : Fin 128) : View.ld x r0_6 (ix2 I d) = x (ix2 ⟨256 + I.val, by omega⟩ d) := by pointwise []

theorem ld_up' (x : Vec Ideal S512x128 .f32) (I : Fin 256) (d : Fin 128) : View.ld x r0_1 (ix2 I d) = x (ix2 ⟨I.val, by omega⟩ d) := by pointwise []

theorem ld_low' (x : Vec Ideal S512x128 .f32) (I : Fin 256) (d : Fin 128) : View.ld x r0_6 (ix2 I d) = x (ix2 ⟨256 + I.val, by omega⟩ d) := by pointwise []

variable (hx : ∀ i, X m c i ≠ ⊤ ∧ X m c i ≠ ⊥)

include hx

theorem W0_at (t : Fin cfg0.N) (h : Nat) (hh : h < 4) (q : Vec Ideal S256x128 .bf16) (I : Fin 256) (d : Fin 128)
    (hq : ∀ e : Fin 128, q (ix2 I e) = iblk m c 0 t (ix2 ⟨I.val, by omega⟩ ⟨h * 128 + e.val, by omega⟩)) :
    W0 (k0_pay3 (View.ld (iblk m c 3 t) r0_0)) (k0_pay4 (View.ld (iblk m c 4 t) r0_0)) k0_pay5 (k0_pay6 (grid0.coords t)) q
      (View.ld (iblk m c 1 t) r0_1) (View.ld (iblk m c 2 t) r0_0) (ix2 I d)
      = ((attnW (X m c) (t.val / 32) (t.val / 8 % 4) h (t.val % 8 * 512 + I.val) d.val : ℝ) : EReal) := by
  have hc := (crd t).2
  rw [W0_apply]
  refine quo_eq _ _ (X m c) (t.val / 32) (t.val / 8 % 4) h (t.val % 8) I.val 0 d.val (by omega) I.isLt (by norm_num) (by norm_num) (by omega)
    (fun k => m11 I k) (fun k => (m21 (grid0.coords t) I k).trans (by rw [hc])) _ _ _ _ _ _ _ (fun e => ?_) (fun j e => ?_) (fun j e => ?_) (fun j => ?_) (fun j => ?_) (fun j => ?_) (fun j => ?_)
  · rw [hq, q_at hx]
    dsimp only
    rw [Nat.add_assoc]
  · rw [ld_up, kc_at hx]
  · rw [ld_whole, kp_at hx, Nat.zero_add]
  · rw [vals_apply _ ⟨j.val, by omega⟩ d, ld_whole, vc_at hx]
  · rw [vals_apply', ld_whole, vp_at hx, Nat.zero_add]
  · exact ones_apply _ ⟨j.val, by omega⟩ d
  · exact ones_apply' _ j d

theorem W1_at (t : Fin cfg0.N) (h : Nat) (hh : h < 4) (q : Vec Ideal S256x128 .bf16) (I : Fin 256) (d : Fin 128)
    (hq : ∀ e : Fin 128, q (ix2 I e) = iblk m c 0 t (ix2 ⟨256 + I.val, by omega⟩ ⟨h * 128 + e.val, by omega⟩)) :
    W1 (k0_pay3 (View.ld (iblk m c 3 t) r0_0)) (k0_pay4 (View.ld (iblk m c 4 t) r0_0)) k0_pay28 (k0_pay29 (BitVec.ofNat 32 ((grid0.coords t) 2).val)) q
      (View.ld (iblk m c 1 t) r0_0) (View.ld (iblk m c 2 t) r0_6) (ix2 I d)
      = ((attnW (X m c) (t.val / 32) (t.val / 8 % 4) h (t.val % 8 * 512 + (256 + I.val)) d.val : ℝ) : EReal) := by
  have hc := (crd t).2
  rw [W1_apply]
  refine quo_eq _ _ (X m c) (t.val / 32) (t.val / 8 % 4) h (t.val % 8) (256 + I.val) 256 d.val (by omega) (by omega) (by norm_num) (by norm_num) (by omega)
    (fun k => m229 I k) (fun k => (m239 (grid0.coords t) I k).trans (by rw [hc])) _ _ _ _ _ _ _ (fun e => ?_) (fun j e => ?_) (fun j e => ?_) (fun j => ?_) (fun j => ?_) (fun j => ?_) (fun j => ?_)
  · rw [hq, q_at hx]
    dsimp only
    rw [Nat.add_assoc (_ * 512)]
  · rw [ld_whole, kc_at hx]
  · rw [ld_low, kp_at hx]
  · rw [vals_apply, ld_whole, vc_at hx]
  · rw [vals_apply' _ ⟨256 + j.val, by omega⟩ d, ld_whole, vp_at hx]
  · exact ones_apply _ j d
  · exact ones_apply' _ ⟨256 + j.val, by omega⟩ d

theorem half0 (t : Fin cfg0.N) (h : Nat) (hh : h < 4) (q : Vec Ideal S256x128 .bf16) (oc os : Vec Ideal S256x128 .f32) (I : Fin 256) (d : Fin 128)
    (hq : ∀ e : Fin 128, q (ix2 I e) = iblk m c 0 t (ix2 ⟨I.val, by omega⟩ ⟨h * 128 + e.val, by omega⟩))
    (hc : oc (ix2 I d) = iblk m c 5 t (ix2 ⟨I.val, by omega⟩ ⟨h * 128 + d.val, by omega⟩))
    (hs : os (ix2 I d) = iblk m c 6 t (ix2 ⟨I.val, by omega⟩ ⟨h * 128 + d.val, by omega⟩)) :
    k0_pay7 (grid0.coords t) (View.ld (iblk m c 7 t) r0_1) (ix2 I ⟨h, by omega⟩) * oc (ix2 I d)
      + k0_pay7 (grid0.coords t) (View.ld (iblk m c 7 t) r0_1) (ix2 I ⟨16 + h, by omega⟩) * os (ix2 I d)
      + k0_pay7 (grid0.coords t) (View.ld (iblk m c 7 t) r0_1) (ix2 I ⟨32 + h, by omega⟩)
        * W0 (k0_pay3 (View.ld (iblk m c 3 t) r0_0)) (k0_pay4 (View.ld (iblk m c 4 t) r0_0)) k0_pay5 (k0_pay6 (grid0.coords t)) q
            (View.ld (iblk m c 1 t) r0_1) (View.ld (iblk m c 2 t) r0_0) (ix2 I d)
      = cell m c t ⟨I.val, by omega⟩ ⟨h * 128 + d.val, by omega⟩ := by
  have h1 := (crd t).1
  refine cell_eq t ⟨I.val, by omega⟩ h hh d _ _ _ _ _ _ ?_ ?_ ?_ hc hs (W0_at hx t h hh q I d hq)
  all_goals
    rw [gate0 _ _ _ _ (by dsimp only; omega), ld_up']
    simp only [h1]

theorem half1 (t : Fin cfg0.N) (h : Nat) (hh : h < 4) (q : Vec Ideal S256x128 .bf16) (oc os : Vec Ideal S256x128 .f32) (I : Fin 256) (d : Fin 128)
    (v254 : FVec Ideal S256x128 .f32)
    (hv : v254 = k0_pay30 (Scalar.select (Scalar.cmpi .eq 128#32 0#32) 1#32 128#32) (Scalar.remsi (Scalar.subi 128#32 (Scalar.muli 4#32 (BitVec.ofNat 32 ((grid0.coords t) 1).val))) (Scalar.select (Scalar.cmpi .eq 128#32 0#32) 1#32 128#32)) (View.ld (iblk m c 7 t) r0_6))
    (hq : ∀ e : Fin 128, q (ix2 I e) = iblk m c 0 t (ix2 ⟨256 + I.val, by omega⟩ ⟨h * 128 + e.val, by omega⟩))
    (hc : oc (ix2 I d) = iblk m c 5 t (ix2 ⟨256 + I.val, by omega⟩ ⟨h * 128 + d.val, by omega⟩))
    (hs : os (ix2 I d) = iblk m c 6 t (ix2 ⟨256 + I.val, by omega⟩ ⟨h * 128 + d.val, by omega⟩)) :
    v254 (ix2 I ⟨h, by omega⟩) * oc (ix2 I d) + v254 (ix2 I ⟨16 + h, by omega⟩) * os (ix2 I d)
      + v254 (ix2 I ⟨32 + h, by omega⟩)
        * W1 (k0_pay3 (View.ld (iblk m c 3 t) r0_0)) (k0_pay4 (View.ld (iblk m c 4 t) r0_0)) k0_pay28 (k0_pay29 (BitVec.ofNat 32 ((grid0.coords t) 2).val)) q
            (View.ld (iblk m c 1 t) r0_0) (View.ld (iblk m c 2 t) r0_6) (ix2 I d)
      = cell m c t ⟨256 + I.val, by omega⟩ ⟨h * 128 + d.val, by omega⟩ := by
  have h1 := (crd t).1
  refine cell_eq t ⟨256 + I.val, by omega⟩ h hh d _ _ _ _ _ _ ?_ ?_ ?_ hc hs (W1_at hx t h hh q I d hq)
  all_goals
    rw [hv, gate1 _ _ _ _ (by dsimp only; omega), ld_low']
    simp only [h1]

/-- What the body leaves in the output's block is the result at its place. -/
theorem out_at (t : Fin cfg0.N) (y : S512x512.Idx) :
    out0_8 (grid0.coords t) (iblk m c 0 t) (iblk m c 1 t) (iblk m c 2 t) (iblk m c 3 t) (iblk m c 4 t) (iblk m c 5 t) (iblk m c 6 t) (iblk m c 7 t) y
      = cell m c t (y 0) (y 1) := by
  unfold_out out0_8
  canon_tiles x h
  all_goals
    obtain ⟨I, d, rfl⟩ : ∃ (I : Fin 256) (d : Fin 128), x = ix2 I d := ⟨x 0, x 1, (ix2_eta x).symm⟩
  case piece0 =>
    refine (piece10 _ _ _ _ _ _ _ _ _ _ I d).trans ((half1 hx t 3 (by norm_num) _ _ _ I d _ rfl (fun e => ?_) ?_ ?_).trans ?_)
    · pointwise []
    · pointwise []
    · pointwise []
    · exact congrArg₂ (cell m c t) (Fin.ext (by rw [h0]; rfl)) (Fin.ext (by rw [h1]; first | rfl | exact (by omega : 0 * 128 + d.val = d.val)))
  case piece1 =>
    refine (piece9 _ _ _ _ _ _ _ _ _ _ I d).trans ((half1 hx t 2 (by norm_num) _ _ _ I d _ rfl (fun e => ?_) ?_ ?_).trans ?_)
    · pointwise []
    · pointwise []
    · pointwise []
    · exact congrArg₂ (cell m c t) (Fin.ext (by rw [h0]; rfl)) (Fin.ext (by rw [h1]; first | rfl | exact (by omega : 0 * 128 + d.val = d.val)))
  case piece2 =>
    refine (piece8 _ _ _ _ _ _ _ _ _ _ I d).trans ((half1 hx t 1 (by norm_num) _ _ _ I d _ rfl (fun e => ?_) ?_ ?_).trans ?_)
    · pointwise []
    · pointwise []
    · pointwise []
    · exact congrArg₂ (cell m c t) (Fin.ext (by rw [h0]; rfl)) (Fin.ext (by rw [h1]; first | rfl | exact (by omega : 0 * 128 + d.val = d.val)))
  case piece3 =>
    refine (piece7 _ _ _ _ _ _ _ _ _ _ I d).trans ((half1 hx t 0 (by norm_num) _ _ _ I d _ rfl (fun e => ?_) ?_ ?_).trans ?_)
    · pointwise []
    · pointwise []
    · pointwise []
    · exact congrArg₂ (cell m c t) (Fin.ext (by rw [h0]; rfl)) (Fin.ext (by rw [h1]; first | rfl | exact (by omega : 0 * 128 + d.val = d.val)))
  case piece4 =>
    refine (piece5 _ _ _ _ _ _ _ _ _ _ I d).trans ((half0 hx t 3 (by norm_num) _ _ _ I d (fun e => ?_) ?_ ?_).trans ?_)
    · pointwise []
    · pointwise []
    · pointwise []
    · exact congrArg₂ (cell m c t) (Fin.ext (by rw [h0]; rfl)) (Fin.ext (by rw [h1]; first | rfl | exact (by omega : 0 * 128 + d.val = d.val)))
  case piece5 =>
    refine (piece4 _ _ _ _ _ _ _ _ _ _ I d).trans ((half0 hx t 2 (by norm_num) _ _ _ I d (fun e => ?_) ?_ ?_).trans ?_)
    · pointwise []
    · pointwise []
    · pointwise []
    · exact congrArg₂ (cell m c t) (Fin.ext (by rw [h0]; rfl)) (Fin.ext (by rw [h1]; first | rfl | exact (by omega : 0 * 128 + d.val = d.val)))
  case piece6 =>
    refine (piece3 _ _ _ _ _ _ _ _ _ _ I d).trans ((half0 hx t 1 (by norm_num) _ _ _ I d (fun e => ?_) ?_ ?_).trans ?_)
    · pointwise []
    · pointwise []
    · pointwise []
    · exact congrArg₂ (cell m c t) (Fin.ext (by rw [h0]; rfl)) (Fin.ext (by rw [h1]; first | rfl | exact (by omega : 0 * 128 + d.val = d.val)))
  case piece7 =>
    refine (piece2 _ _ _ _ _ _ _ _ _ _ I d).trans ((half0 hx t 0 (by norm_num) _ _ _ I d (fun e => ?_) ?_ ?_).trans ?_)
    · pointwise []
    · pointwise []
    · pointwise []
    · exact congrArg₂ (cell m c t) (Fin.ext (by rw [h0]; rfl)) (Fin.ext (by rw [h1]; first | rfl | exact (by omega : 0 * 128 + d.val = d.val)))

end Cert.Proof.Slide

end
-- ==== Proof.WinRef.lean ====
/-
  The sliding-window reference's result read at an index.
-/
module

public import proofs.«01_k».proof.Proof.Gen.Reference12Ideal.Run
public import proofs.«01_k».proof.Proof.WinSpec
public import proofs.«01_k».proof.Proof.RefValue
public import Idealize.ShloMosaic.Lib.Affine
public import Idealize.ShloMosaic.Lib.WordCmp

@[expose] public section

set_option maxRecDepth 16384

noncomputable section

namespace Cert.Proof.Slide.Ref

open Cert.Reference12Ideal Cert.Reference12Ideal.Gen
open Cert.Proof.Ref (reduce_max row_quot coe_sum')
open Idealize.ShloMosaic Idealize.ShloMosaic.TcCoe

/-- The masked scores. -/
def scores (x : FVec Ideal S16384x4096 .f32) : FVec Ideal S4x4x4x4096x4096 .f32 :=
  select (broadcastInDim S4x4x4x4096x4096 ![0, 1, 2, 3, 4] bcast_S1x1x1x4096x4096_S4x4x4x4096x4096_0_1_2_3_4 (broadcastInDim S1x1x1x4096x4096 ![3, 4] bcast_S4096x4096_S1x1x1x4096x4096_3_4 (andi (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))) (cmpi .slt (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (addi (broadcastInDim S1x4096 ![1] bcast_S4096_S1x4096_1 (iotaInDim S4096 32 0)) (broadcastInDim S1x4096 ![] bcast_S_S1x4096 (constantI S_ 32 512#32)))))))) (transpose S4x4x4x4096x4096 [0, 1, 4, 3, 2] (Host.dotGeneral dot_S4x4096x4x128_S4x4096x4x4x128_S4x4x4096x4096x4_3_4_1_13_02_02 none (shapeCast _ (extractStridedSlice S4x4096x512 ![0, 0, 3072] (shapeCast _ x shapeCasts_S16384x4096_S4x4096x4096) slices_S4x4096x4096_S4x4096x512_0_0_3072) shapeCasts_S4x4096x512_S4x4096x4x128) (Host.divf (shapeCast _ (extractStridedSlice S4x4096x2048 ![0, 0, 0] (shapeCast _ x shapeCasts_S16384x4096_S4x4096x4096) slices_S4x4096x4096_S4x4096x2048_0_0_0) shapeCasts_S4x4096x2048_S4x4096x4x4x128) (broadcastInDim S4x4096x4x4x128 ![] bcast_S_S4x4096x4x4x128 (Host.sqrt (constant S_ .f32 0x43000000#32))))) transposes_S4x4x4096x4096x4_S4x4x4x4096x4096_0_1_4_3_2) (broadcastInDim S4x4x4x4096x4096 ![] bcast_S_S4x4x4x4096x4096 (id (constant S_ .f32 0xFF800000#32)))

/-- Each row's largest score. -/
def mxS (s : FVec Ideal S4x4x4x4096x4096 .f32) : FVec Ideal S4x4x4x4096 .f32 :=
  Host.reduce FloatOps.maximumf s (constant S_ .f32 0xFF800000#32) reducesTo_S4x4x4x4096x4096_S4x4x4x4096_d4 h_S_

/-- The exponentials of the scores less `M`. -/
def expS (s : FVec Ideal S4x4x4x4096x4096 .f32) (M : FVec Ideal S4x4x4x4096 .f32) : FVec Ideal S4x4x4x4096x4096 .f32 :=
  Host.exp (subf s (broadcastInDim S4x4x4x4096x4096 ![0, 1, 2, 3, 4] bcast_S4x4x4x4096x1_S4x4x4x4096x4096_0_1_2_3_4 (broadcastInDim S4x4x4x4096x1 ![0, 1, 2, 3] bcast_S4x4x4x4096_S4x4x4x4096x1_0_1_2_3 (maximumf (broadcastInDim S4x4x4x4096 ![] bcast_S_S4x4x4x4096 (constant S_ .f32 0xFF800000#32)) M))))

/-- The weights. -/
def probs (e : FVec Ideal S4x4x4x4096x4096 .f32) : FVec Ideal S4x4x4x4096x4096 .f32 :=
  Host.divf e (broadcastInDim S4x4x4x4096x4096 ![0, 1, 2, 3, 4] bcast_S4x4x4x4096x1_S4x4x4x4096x4096_0_1_2_3_4 (broadcastInDim S4x4x4x4096x1 ![0, 1, 2, 3] bcast_S4x4x4x4096_S4x4x4x4096x1_0_1_2_3 (Host.reduceAdd e (constant S_ .f32 0x00000000#32) reducesTo_S4x4x4x4096x4096_S4x4x4x4096_d4 h_S_)))

/-- The weighted sum of the values. -/
def outS (x : FVec Ideal S16384x4096 .f32) (w : FVec Ideal S4x4x4x4096x4096 .f32) : FVec Ideal S4x4096x4x4x128 .f32 :=
  transpose S4x4096x4x4x128 [0, 4, 1, 3, 2] (Host.dotGeneral dot_S4x4096x4x128_S4x4x4x4096x4096_S4x4x128x4x4096_1_4_3_23_02_01 none (shapeCast _ (extractStridedSlice S4x4096x512 ![0, 0, 3584] (shapeCast _ x shapeCasts_S16384x4096_S4x4096x4096) slices_S4x4096x4096_S4x4096x512_0_0_3584) shapeCasts_S4x4096x512_S4x4096x4x128) w) transposes_S4x4x128x4x4096_S4x4096x4x4x128_0_4_1_3_2

/-- The branches times their gates. -/
def combS (oc os : FVec Ideal S16384x2048 .f32) (ga : FVec Ideal S16384x128 .f32) (o : FVec Ideal S4x4096x4x4x128 .f32) : FVec Ideal S16384x2048 .bf16 :=
  truncf .bf16 (shapeCast _ (addf (addf (mulf (broadcastInDim S4x4096x4x4x128 ![0, 1, 2, 3, 4] bcast_S4x4096x4x4x1_S4x4096x4x4x128_0_1_2_3_4 (shapeCast _ (extractStridedSlice S4x4096x1x4x4x1 ![0, 0, 0, 0, 0, 0] (shapeCast _ (Host.divf (broadcastInDim S16384x48 ![] bcast_S_S16384x48 (constant S_ .f32 0x3F800000#32)) (addf (broadcastInDim S16384x48 ![] bcast_S_S16384x48 (constant S_ .f32 0x3F800000#32)) (Host.exp (Host.negf (extractStridedSlice S16384x48 ![0, 0] ga slices_S16384x128_S16384x48_0_0))))) shapeCasts_S16384x48_S4x4096x3x4x4x1) slices_S4x4096x3x4x4x1_S4x4096x1x4x4x1_0_0_0_0_0_0) shapeCasts_S4x4096x1x4x4x1_S4x4096x4x4x1)) (shapeCast _ oc shapeCasts_S16384x2048_S4x4096x4x4x128)) (mulf (broadcastInDim S4x4096x4x4x128 ![0, 1, 2, 3, 4] bcast_S4x4096x4x4x1_S4x4096x4x4x128_0_1_2_3_4 (shapeCast _ (extractStridedSlice S4x4096x1x4x4x1 ![0, 0, 1, 0, 0, 0] (shapeCast _ (Host.divf (broadcastInDim S16384x48 ![] bcast_S_S16384x48 (constant S_ .f32 0x3F800000#32)) (addf (broadcastInDim S16384x48 ![] bcast_S_S16384x48 (constant S_ .f32 0x3F800000#32)) (Host.exp (Host.negf (extractStridedSlice S16384x48 ![0, 0] ga slices_S16384x128_S16384x48_0_0))))) shapeCasts_S16384x48_S4x4096x3x4x4x1) slices_S4x4096x3x4x4x1_S4x4096x1x4x4x1_0_0_1_0_0_0) shapeCasts_S4x4096x1x4x4x1_S4x4096x4x4x1)) (shapeCast _ os shapeCasts_S16384x2048_S4x4096x4x4x128))) (mulf (broadcastInDim S4x4096x4x4x128 ![0, 1, 2, 3, 4] bcast_S4x4096x4x4x1_S4x4096x4x4x128_0_1_2_3_4 (shapeCast _ (extractStridedSlice S4x4096x1x4x4x1 ![0, 0, 2, 0, 0, 0] (shapeCast _ (Host.divf (broadcastInDim S16384x48 ![] bcast_S_S16384x48 (constant S_ .f32 0x3F800000#32)) (addf (broadcastInDim S16384x48 ![] bcast_S_S16384x48 (constant S_ .f32 0x3F800000#32)) (Host.exp (Host.negf (extractStridedSlice S16384x48 ![0, 0] ga slices_S16384x128_S16384x48_0_0))))) shapeCasts_S16384x48_S4x4096x3x4x4x1) slices_S4x4096x3x4x4x1_S4x4096x1x4x4x1_0_0_2_0_0_0) shapeCasts_S4x4096x1x4x4x1_S4x4096x4x4x1)) o)) shapeCasts_S4x4096x4x4x128_S16384x2048) bitsLt_bf16_f32

/-- The whole result. -/
def res (x : FVec Ideal S16384x4096 .f32) (oc os : FVec Ideal S16384x2048 .f32) (ga : FVec Ideal S16384x128 .f32) : FVec Ideal S16384x2048 .bf16 :=
  combS oc os ga (outS x (probs (expS (scores x) (mxS (scores x)))))

theorem res_eq (m : (ℓ : Loc nD τ sig) → Buf (Elt Ideal) ℓ) (c : Dev nD) :
    Value.res_main_v68 m c = res (m ((c.tc : Thread nD τ).loc main_arg0)) (m ((c.tc : Thread nD τ).loc main_arg1)) (m ((c.tc : Thread nD τ).loc main_arg2)) (m ((c.tc : Thread nD τ).loc main_arg3)) := by
  unfold Value.res_main_v68 res combS outS probs expS mxS scores
  rfl

theorem mxS_apply (s : FVec Ideal S4x4x4x4096x4096 .f32) (b g h : Fin 4) (t : Fin 4096) :
    mxS s (ix4 b g h t) = (Finset.univ : Finset (Fin 4096)).fold max ((constant S_ .f32 0xFF800000#32 : FVec Ideal S_ .f32) (Shape.Idx.first h_S_)) fun k => s (ix5 b g h t k) := by
  unfold mxS
  exact reduce_max s (constant S_ .f32 0xFF800000#32) reducesTo_S4x4x4x4096x4096_S4x4x4x4096_d4 h_S_ b g h t

theorem expS_apply (e : FVec Ideal S4x4x4x4096x4096 .f32) (M : FVec Ideal S4x4x4x4096 .f32) (b g h : Fin 4) (t j : Fin 4096) :
    expS e M (ix5 b g h t j) = Ideal.exp (e (ix5 b g h t j) - max (Ideal.ofBits .f32 0xFF800000#32) (M (ix4 b g h t))) := by
  pointwise [expS]

theorem outS_apply (x : FVec Ideal S16384x4096 .f32) (w : FVec Ideal S4x4x4x4096x4096 .f32) (b : Fin 4) (t : Fin 4096) (g h : Fin 4) (d : Fin 128) :
    outS x w (ix5 b t g h d) = ∑ j : Fin 4096, x (ix2 ⟨b.val * 4096 + j.val, by omega⟩ ⟨3584 + (g.val * 128 + d.val), by omega⟩)
      * w (ix5 b g h t j) := by
  pointwise [outS]

theorem probs_apply (e : FVec Ideal S4x4x4x4096x4096 .f32) (b g h : Fin 4) (t j : Fin 4096) :
    probs e (ix5 b g h t j) = Ideal.div (e (ix5 b g h t j)) (∑ k : Fin 4096, e (ix5 b g h t k)) := by
  pointwise [probs]

theorem combS_apply (oc os : FVec Ideal S16384x2048 .f32) (ga : FVec Ideal S16384x128 .f32) (o : FVec Ideal S4x4096x4x4x128 .f32) (r : Fin 16384) (l : Fin 2048) :
    combS oc os ga o (ix2 r l) = Ideal.logistic (ga (ix2 r ⟨l.val / 128, by omega⟩)) * oc (ix2 r l)
      + Ideal.logistic (ga (ix2 r ⟨16 + l.val / 128, by omega⟩)) * os (ix2 r l)
      + Ideal.logistic (ga (ix2 r ⟨32 + l.val / 128, by omega⟩))
        * o (ix5 ⟨r.val / 4096, by omega⟩ ⟨r.val % 4096, by omega⟩ ⟨l.val / 512, by omega⟩ ⟨l.val / 128 % 4, by omega⟩ ⟨l.val % 128, by omega⟩) := by
  pointwise [combS]
  have e0 : l.val / 512 * 4 + l.val / 128 % 4 = l.val / 128 := by omega
  have e1 : 16 + l.val / 512 * 4 + l.val / 128 % 4 = 16 + l.val / 128 := by omega
  have e2 : 32 + l.val / 512 * 4 + l.val / 128 % 4 = 32 + l.val / 128 := by omega
  simp only [Ideal.logistic, e0, e1, e2]

theorem scores_apply (x : FVec Ideal S16384x4096 .f32) (b g h : Fin 4) (t j : Fin 4096) :
    scores x (ix5 b g h t j) = Scalar.select
      (IntOp.andi (IntOp.cmpi CmpIPredicate.sle (BitVec.ofNat 32 j.val) (BitVec.ofNat 32 t.val))
        (IntOp.cmpi CmpIPredicate.slt (BitVec.ofNat 32 t.val) (BitVec.ofNat 32 (j.val + 512))))
      (∑ d : Fin 128, x (ix2 ⟨b.val * 4096 + j.val, by omega⟩ ⟨3072 + (g.val * 128 + d.val), by omega⟩)
        * Ideal.div (x (ix2 ⟨b.val * 4096 + t.val, by omega⟩ ⟨g.val * 512 + h.val * 128 + d.val, by omega⟩)) (Ideal.sqrt (Ideal.ofBits .f32 0x43000000#32)))
      (Ideal.ofBits .f32 0xFF800000#32) := by
  pointwise [scores]
  rw [BitVec.ofNat_add]
  rfl

/-- A masked score. -/
theorem scores_real {x : FVec Ideal S16384x4096 .f32} (hx : ∀ i, x i ≠ ⊤ ∧ x i ≠ ⊥) (b g h : Fin 4) (t j : Fin 4096) :
    scores x (ix5 b g h t j) = if okW t j then ((dotW x b g h t j / √128 : ℝ) : EReal) else ⊥ := by
  rw [scores_apply, bits_negInf, sqrt_128]
  have e1 : (∑ d : Fin 128, x (ix2 ⟨b.val * 4096 + j.val, by omega⟩ ⟨3072 + (g.val * 128 + d.val), by omega⟩)
      * Ideal.div (x (ix2 ⟨b.val * 4096 + t.val, by omega⟩ ⟨g.val * 512 + h.val * 128 + d.val, by omega⟩)) ((√128 : ℝ) : EReal))
      = ((dotW x b g h t j / √128 : ℝ) : EReal) := by
    rw [dotW, Finset.sum_range fun d => rX x (b.val * 4096 + j.val) (3072 + (g.val * 128 + d)) * rX x (b.val * 4096 + t.val) (g.val * 512 + h.val * 128 + d),
      Finset.sum_div, coe_sum']
    refine Finset.sum_congr rfl fun d _ => ?_
    rw [rX_eq hx, rX_eq hx, coe_div _ sqrt_128_ne, ← EReal.coe_mul, mul_div_assoc]
  rw [e1]
  have e2 : IntOp.andi (IntOp.cmpi CmpIPredicate.sle (BitVec.ofNat 32 j.val) (BitVec.ofNat 32 t.val))
      (IntOp.cmpi CmpIPredicate.slt (BitVec.ofNat 32 t.val) (BitVec.ofNat 32 (j.val + 512))) = 1#1 ↔ okW t j := by
    rw [IntOp.andi_eq_one, WordCmp.cmpi_sle_ofNat_eq_one_iff (by omega) (by omega), WordCmp.cmpi_slt_ofNat_eq_one_iff (by omega) (by omega)]
    rfl
  unfold Scalar.select
  by_cases o : okW t j
  · rw [if_pos (show _ = (1 : BitVec 1) from e2.2 o), if_pos o]
  · rw [if_neg (show ¬ _ = (1 : BitVec 1) from fun q => o (e2.1 q)), if_neg o]

/-- The reference's result. -/
theorem res_apply {x : FVec Ideal S16384x4096 .f32} (hx : ∀ i, x i ≠ ⊤ ∧ x i ≠ ⊥) (oc os : FVec Ideal S16384x2048 .f32) (ga : FVec Ideal S16384x128 .f32)
    (r : Fin 16384) (l : Fin 2048) : res x oc os ga (ix2 r l) = combA x oc os ga r l := by
  unfold res combA
  rw [combS_apply, outS_apply]
  refine congrArg _ (congrArg _ ?_)
  have hb : r.val / 4096 < 4 := by omega
  have hg : l.val / 512 < 4 := by omega
  have hh : l.val / 128 % 4 < 4 := by omega
  have ht : r.val % 4096 < 4096 := by omega
  have key := row_quot (fun k : Fin 4096 => scores x (ix5 ⟨r.val / 4096, hb⟩ ⟨l.val / 512, hg⟩ ⟨l.val / 128 % 4, hh⟩ ⟨r.val % 4096, ht⟩ k))
    (fun k : Fin 4096 => rX x (r.val / 4096 * 4096 + k.val) (3584 + (l.val / 512 * 128 + l.val % 128)))
    (fun k : Fin 4096 => okW (r.val % 4096) k.val)
    (fun k : Fin 4096 => dotW x (r.val / 4096) (l.val / 512) (l.val / 128 % 4) (r.val % 4096) k.val / √128)
    (fun k => scores_real hx ⟨r.val / 4096, hb⟩ ⟨l.val / 512, hg⟩ ⟨l.val / 128 % 4, hh⟩ ⟨r.val % 4096, ht⟩ k)
    ⟨r.val % 4096, ht⟩ ⟨le_rfl, Nat.lt_add_of_pos_right (by norm_num)⟩
    (mxS (scores x) (ix4 ⟨r.val / 4096, hb⟩ ⟨l.val / 512, hg⟩ ⟨l.val / 128 % 4, hh⟩ ⟨r.val % 4096, ht⟩))
    (by rw [mxS_apply]; rw [show (constant S_ .f32 0xFF800000#32 : FVec Ideal S_ .f32) (Shape.Idx.first h_S_) = (⊥ : EReal) from bits_negInf])
  refine Eq.trans (Finset.sum_congr rfl fun k _ => ?_) (key.trans ?_)
  · rw [probs_apply, rX_eq hx]
    simp only [expS_apply, bits_negInf]
  · unfold attnW
    rw [← Finset.sum_range fun k => if okW (r.val % 4096) k then
        Real.exp (dotW x (r.val / 4096) (l.val / 512) (l.val / 128 % 4) (r.val % 4096) k / √128) * rX x (r.val / 4096 * 4096 + k) (3584 + (l.val / 512 * 128 + l.val % 128)) else 0,
      ← Finset.sum_range fun k => if okW (r.val % 4096) k then
        Real.exp (dotW x (r.val / 4096) (l.val / 512) (l.val / 128 % 4) (r.val % 4096) k / √128) else 0]
    rfl

end Cert.Proof.Slide.Ref

end
-- ==== Proof.WinClaims.lean ====
/-
  The claims about the sliding-window call.
-/
module

public import proofs.«01_k».proof.Defs
public import proofs.«01_k».proof.Proof.WinPoint
public import proofs.«01_k».proof.Proof.WinRef
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Pre_finite
public import Idealize.ShloMosaic.Lib.ReduceAll
public import Idealize.ShloMosaic.Lib.Pipeline.ValueKit

@[expose] public section

set_option maxRecDepth 16384

noncomputable section

namespace Cert.Proof.Slide

open Idealize.ShloMosaic Idealize.SL.Sem

section Pre

open Cert.Pre_finite Cert.Pre_finite.Gen

instance : Subsingleton S_.Idx := ⟨fun a b => funext fun i => i.elim0⟩

theorem fin_apply (x : FVec Ideal S16384x4096 .f32) (i : S16384x4096.Idx) :
    cmpf .olt (Host.absf x) (broadcastInDim S16384x4096 ![] bcast_S_S16384x4096 (constant S_ .f32 0x7F800000#32)) i
      = Ideal.cmp .olt (max (x i) (-(x i))) (Ideal.ofBits .f32 0x7F800000#32) := by
  pointwise
  rfl

/-- The precondition: every entry of the projections is finite. -/
theorem finite {x : FVec Ideal S16384x4096 .f32} {oc os : FVec Ideal S16384x2048 .f32} {ga : FVec Ideal S16384x128 .f32}
    (h : Cert.Pre_finite.fn (F := Ideal) x oc os ga = fun _ => 1#1) : ∀ i, x i ≠ ⊤ ∧ x i ≠ ⊥ := by
  have h0 := congrFun h ix0
  unfold Cert.Pre_finite.fn at h0
  intro i
  have q := Host.reduce_andi_all _ _ _ _ _ h0 i
  rw [fin_apply, bits_posInf] at q
  constructor
  · intro e; rw [e] at q; simp [Ideal.cmp] at q
  · intro e; rw [e] at q; simp [Ideal.cmp] at q

end Pre

section Run

open Cert.Kernel12Ideal Cert.Kernel12Ideal.Gen

variable (m : (ℓ : Loc nD τ sig) → Buf (Elt Ideal) ℓ) (c : Dev nD)

/-- The result, whole. -/
def whole : FVec Ideal S16384x2048 .bf16 := fun i =>
  combA (X m c) (m ((c.tc : Thread nD τ).loc main_arg1)) (m ((c.tc : Thread nD τ).loc main_arg2)) (m ((c.tc : Thread nD τ).loc main_arg3)) (i 0) (i 1)

/-- A point's block lies at its place. -/
theorem place (t : Fin cfg0.N) (y : S512x512.Idx) : whole m c (((cfg0.win 8).blk t).view.emb y) = cell m c t (y 0) (y 1) := by
  have e0 : ((((cfg0.win 8).blk t).view.emb y) 0 : ℕ) = (t.val / 32 * 8 + t.val % 8) * 512 + (y 0).val := by blk_simp [idx t]
  have e1 : ((((cfg0.win 8).blk t).view.emb y) 1 : ℕ) = t.val / 8 % 4 * 512 + (y 1).val := by blk_simp [idx t]
  exact congrArg₂ (combA (X m c) _ _ _) (Fin.ext e0) (Fin.ext e1)

/-- The result array after the run. -/
theorem final (hx : ∀ i, X m c i ≠ ⊤ ∧ X m c i ≠ ⊥) : (dats m 0 c).arrAt 8 (cfgs 0).N = whole m c := by
  refine (dats m 0 c).arrAt_eq_of_covers 8 _ (by decide +kernel) fun t _ y => ?_
  blk_simp
  rw [after0_8]
  exact (out_at hx t y).trans (place m c t y).symm

end Run

/-- The kernel computes the reference's result. -/
theorem algebraic : Cert.algebraic_Kernel12Ideal_Reference12Ideal_pre_finite := by
  intro m g m' g' hpre hagree
  have hx : ∀ c, ∀ i, X m c i ≠ ⊤ ∧ X m c i ≠ ⊥ := fun c => finite (hpre c)
  refine ⟨fun c => whole m c,
    (θ_run Cert.Kernel12Ideal.defs _ _).mono (fun r h c => ⟨(h c).1.trans (final m c (hx c)), (h c).2⟩) (Cert.Kernel12Ideal.Value.run_blocks (F := Ideal) m g),
    (θ_run Cert.Reference12Ideal.defs _ _).mono (fun r h c => ⟨(h c).1.trans ?_, (h c).2⟩) (Cert.Reference12Ideal.Value.run (F := Ideal) m' g')⟩
  rw [Ref.res_eq, (hagree c).1, (hagree c).2.1, (hagree c).2.2.1, (hagree c).2.2.2]
  funext i
  exact (congrArg _ (ix2_eta i).symm).trans (Ref.res_apply (hx c) _ _ _ (i 0) (i 1))

theorem frame_p : Cert.quiescent_Kernel12 := fun m ρ _ => Cert.Kernel12.Gen.frame (F := Bits) m ρ

theorem frame_pi : Cert.quiescent_Kernel12Ideal := fun m ρ _ => Cert.Kernel12Ideal.Gen.frame (F := Ideal) m ρ

theorem frame_pi_pre : Cert.quiescent_Kernel12Ideal_pre_finite := fun m ρ _ => Cert.Kernel12Ideal.Gen.frame (F := Ideal) m ρ

theorem frame_ri : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem frame_ri_pre : Cert.quiescent_Reference12Ideal_pre_finite := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem preserves : Cert.preserves_Kernel12_Kernel12Ideal :=
  IdealRules.named_const.statement Cert.Kernel12Ideal.κ "mask" .f32 0xF149F2CA#32 ⊥ rfl

end Cert.Proof.Slide

end
-- ==== Proof.lean ====
/-
  The proof of the claims about the layer's calls. The selected-block attention call's are in Proof/Claims.lean, over the run in
  Proof/Run.lean (and its copy for the kernel as printed, whose mask is the constant itself); the sliding-window call's are in
  Proof/WinClaims.lean; the further calls' are in Proof/Calls.lean and in a module for each call's results.
-/
module

public import proofs.«01_k».proof.Defs
public import proofs.«01_k».proof.Proof.Claims
public import proofs.«01_k».proof.Proof.Calls
public import proofs.«01_k».proof.Proof.WinClaims
public import proofs.«01_k».proof.Proof.Gen.Kernel
public import proofs.«01_k».proof.Proof.Gen.KernelIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Pre_usable.Gen.facts,
    Cert.Pre_finite.Gen.facts,
    frame_p, frame_pi, frame_pi_pre, frame_ri, frame_ri_pre,
    Calls.frame_p2, Calls.frame_pi2, Calls.frame_ri2,
    Calls.frame_p3, Calls.frame_pi3, Calls.frame_ri3,
    Calls.frame_p4, Calls.frame_pi4, Calls.frame_ri4,
    Calls.frame_p5, Calls.frame_pi5, Calls.frame_ri5,
    Calls.frame_p6, Calls.frame_pi6, Calls.frame_ri6,
    Calls.frame_p7, Calls.frame_pi7, Calls.frame_ri7,
    Calls.frame_p8, Calls.frame_pi8, Calls.frame_ri8,
    Calls.frame_p9, Calls.frame_pi9, Calls.frame_ri9,
    Calls.frame_p10, Calls.frame_pi10, Calls.frame_ri10,
    Calls.frame_p11, Calls.frame_pi11, Calls.frame_ri11,
    Slide.frame_p, Slide.frame_pi, Slide.frame_pi_pre, Slide.frame_ri, Slide.frame_ri_pre,
    preserves, algebraic,
    Calls.preserves2, Exact.Swiglu.algebraic,
    Calls.preserves3, Exact.Merge.algebraic,
    Calls.preserves4, Exact.Down.algebraic,
    Calls.preserves5, Exact.LastNorm.algebraic,
    Calls.preserves6, Exact.OutProj.algebraic,
    Calls.preserves7, Exact.MidNorm.algebraic,
    Calls.preserves8, Exact.InProj.algebraic,
    Calls.preserves9, Exact.InProjBf.algebraic,
    Calls.preserves10, Exact.FirstNorm.algebraic,
    Calls.preserves11, Exact.Glu.algebraic,
    Slide.preserves, Slide.algebraic⟩

end Cert.Proof

end
